-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_WKernel (m : (ℓ : Loc Cert.WKernel.nD Cert.WKernel.τ Cert.WKernel.sig) → Buf (Elt Bits) ℓ) : Prop :=
  True

def Pre_WKernelIdeal (m : (ℓ : Loc Cert.WKernelIdeal.nD Cert.WKernelIdeal.τ Cert.WKernelIdeal.sig) → Buf (Elt Ideal) ℓ) : Prop :=
  True

def Pre_WReferenceIdeal (m : (ℓ : Loc Cert.WReferenceIdeal.nD Cert.WReferenceIdeal.τ Cert.WReferenceIdeal.sig) → Buf (Elt Ideal) ℓ) : Prop :=
  True

def Pre_NKernel (m : (ℓ : Loc Cert.NKernel.nD Cert.NKernel.τ Cert.NKernel.sig) → Buf (Elt Bits) ℓ) : Prop :=
  True

def Pre_NKernelIdeal (m : (ℓ : Loc Cert.NKernelIdeal.nD Cert.NKernelIdeal.τ Cert.NKernelIdeal.sig) → Buf (Elt Ideal) ℓ) : Prop :=
  True

def Pre_NKernelIdeal_finite_norm [hPre_finite_norm : Cert.Pre_finite_norm.Facts] (m : (ℓ : Loc Cert.NKernelIdeal.nD Cert.NKernelIdeal.τ Cert.NKernelIdeal.sig) → Buf (Elt Ideal) ℓ) : Prop :=
  ∀ c : Dev Cert.NKernelIdeal.nD,
    (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.2.2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.2.2.2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.2.2.2.2.1 = (fun _ => 1#1)
    ∧ (Cert.Pre_finite_norm.fn (F := Ideal) (m ((c.tc : Thread Cert.NKernelIdeal.nD Cert.NKernelIdeal.τ).loc Cert.NKernelIdeal.main_arg0)) (m ((c.tc : Thread Cert.NKernelIdeal.nD Cert.NKernelIdeal.τ).loc Cert.NKernelIdeal.main_arg1)) (m ((c.tc : Thread Cert.NKernelIdeal.nD Cert.NKernelIdeal.τ).loc Cert.NKernelIdeal.main_arg2)) (m ((c.tc : Thread Cert.NKernelIdeal.nD Cert.NKernelIdeal.τ).loc Cert.NKernelIdeal.main_arg3)) (m ((c.tc : Thread Cert.NKernelIdeal.nD Cert.NKernelIdeal.τ).loc Cert.NKernelIdeal.main_arg4)) (m ((c.tc : Thread Cert.NKernelIdeal.nD Cert.NKernelIdeal.τ).loc Cert.NKernelIdeal.main_arg5)) (m ((c.tc : Thread Cert.NKernelIdeal.nD Cert.NKernelIdeal.τ).loc Cert.NKernelIdeal.main_arg6)) (m ((c.tc : Thread Cert.NKernelIdeal.nD Cert.NKernelIdeal.τ).loc Cert.NKernelIdeal.main_arg7))).2.2.2.2.2.2.2 = (fun _ => 1#1)

def Pre_NReferenceIdeal (m : (ℓ : Loc Cert.NReferenceIdeal.nD Cert.NReferenceIdeal.τ Cert.NReferenceIdeal.sig) → Buf (Elt Ideal) ℓ) : Prop :=
  True

def Pre_NReferenceIdeal_finite_norm [hPre_finite_norm : Cert.Pre_finite_norm.Facts] (m : (ℓ : Loc Cert.NReferenceIdeal.nD Cert.NReferenceIdeal.τ Cert.NReferenceIdeal.sig) → Buf (Elt Ideal) ℓ) : Prop :=
  ∀ c : Dev Cert.NReferenceIdeal.nD,
    (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.2.2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.2.2.2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.2.2.2.2.1 = (fun _ => 1#1)
    ∧ (Cert.Pre_finite_norm.fn (F := Ideal) (m ((c.tc : Thread Cert.NReferenceIdeal.nD Cert.NReferenceIdeal.τ).loc Cert.NReferenceIdeal.main_arg0)) (m ((c.tc : Thread Cert.NReferenceIdeal.nD Cert.NReferenceIdeal.τ).loc Cert.NReferenceIdeal.main_arg1)) (m ((c.tc : Thread Cert.NReferenceIdeal.nD Cert.NReferenceIdeal.τ).loc Cert.NReferenceIdeal.main_arg2)) (m ((c.tc : Thread Cert.NReferenceIdeal.nD Cert.NReferenceIdeal.τ).loc Cert.NReferenceIdeal.main_arg3)) (m ((c.tc : Thread Cert.NReferenceIdeal.nD Cert.NReferenceIdeal.τ).loc Cert.NReferenceIdeal.main_arg4)) (m ((c.tc : Thread Cert.NReferenceIdeal.nD Cert.NReferenceIdeal.τ).loc Cert.NReferenceIdeal.main_arg5)) (m ((c.tc : Thread Cert.NReferenceIdeal.nD Cert.NReferenceIdeal.τ).loc Cert.NReferenceIdeal.main_arg6)) (m ((c.tc : Thread Cert.NReferenceIdeal.nD Cert.NReferenceIdeal.τ).loc Cert.NReferenceIdeal.main_arg7))).2.2.2.2.2.2.2 = (fun _ => 1#1)

def Pre_UKernel (m : (ℓ : Loc Cert.UKernel.nD Cert.UKernel.τ Cert.UKernel.sig) → Buf (Elt Bits) ℓ) : Prop :=
  True

def Pre_UKernelIdeal (m : (ℓ : Loc Cert.UKernelIdeal.nD Cert.UKernelIdeal.τ Cert.UKernelIdeal.sig) → Buf (Elt Ideal) ℓ) : Prop :=
  True

def Pre_UKernelIdeal_finite_up [hPre_finite_up : Cert.Pre_finite_up.Facts] (m : (ℓ : Loc Cert.UKernelIdeal.nD Cert.UKernelIdeal.τ Cert.UKernelIdeal.sig) → Buf (Elt Ideal) ℓ) : Prop :=
  ∀ c : Dev Cert.UKernelIdeal.nD,
    (Cert.Pre_finite_up.fn (F := Ideal) (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)) (m ((c.tc : Thread Cert.UKernelIdeal.nD Cert.UKernelIdeal.τ).loc Cert.UKernelIdeal.main_arg3)) (m ((c.tc : Thread Cert.UKernelIdeal.nD Cert.UKernelIdeal.τ).loc Cert.UKernelIdeal.main_arg4))).1 = (fun _ => 1#1)
    ∧ (Cert.Pre_finite_up.fn (F := Ideal) (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)) (m ((c.tc : Thread Cert.UKernelIdeal.nD Cert.UKernelIdeal.τ).loc Cert.UKernelIdeal.main_arg3)) (m ((c.tc : Thread Cert.UKernelIdeal.nD Cert.UKernelIdeal.τ).loc Cert.UKernelIdeal.main_arg4))).2.1 = (fun _ => 1#1)
    ∧ (Cert.Pre_finite_up.fn (F := Ideal) (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)) (m ((c.tc : Thread Cert.UKernelIdeal.nD Cert.UKernelIdeal.τ).loc Cert.UKernelIdeal.main_arg3)) (m ((c.tc : Thread Cert.UKernelIdeal.nD Cert.UKernelIdeal.τ).loc Cert.UKernelIdeal.main_arg4))).2.2.1 = (fun _ => 1#1)
    ∧ (Cert.Pre_finite_up.fn (F := Ideal) (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)) (m ((c.tc : Thread Cert.UKernelIdeal.nD Cert.UKernelIdeal.τ).loc Cert.UKernelIdeal.main_arg3)) (m ((c.tc : Thread Cert.UKernelIdeal.nD Cert.UKernelIdeal.τ).loc Cert.UKernelIdeal.main_arg4))).2.2.2.1 = (fun _ => 1#1)
    ∧ (Cert.Pre_finite_up.fn (F := Ideal) (m ((c.tc : Thread Cert.UKernelIdeal.nD Cert.UKernelIdeal.τ).loc Cert.UKernelIdeal.main_arg0)) (m ((c.tc : Thread Cert.UKernelIdeal.nD Cert.UKernelIdeal.τ).loc Cert.UKernelIdeal.main_arg1)) (m ((c.tc : Thread Cert.UKernelIdeal.nD Cert.UKernelIdeal.τ).loc Cert.UKernelIdeal.main_arg2)) (m ((c.tc : Thread Cert.UKernelIdeal.nD Cert.UKernelIdeal.τ).loc Cert.UKernelIdeal.main_arg3)) (m ((c.tc : Thread Cert.UKernelIdeal.nD Cert.UKernelIdeal.τ).loc Cert.UKernelIdeal.main_arg4))).2.2.2.2 = (fun _ => 1#1)

def Pre_UReferenceIdeal (m : (ℓ : Loc Cert.UReferenceIdeal.nD Cert.UReferenceIdeal.τ Cert.UReferenceIdeal.sig) → Buf (Elt Ideal) ℓ) : Prop :=
  True

def Pre_UReferenceIdeal_finite_up [hPre_finite_up : Cert.Pre_finite_up.Facts] (m : (ℓ : Loc Cert.UReferenceIdeal.nD Cert.UReferenceIdeal.τ Cert.UReferenceIdeal.sig) → Buf (Elt Ideal) ℓ) : Prop :=
  ∀ c : Dev Cert.UReferenceIdeal.nD,
    (Cert.Pre_finite_up.fn (F := Ideal) (m ((c.tc : Thread Cert.UReferenceIdeal.nD Cert.UReferenceIdeal.τ).loc Cert.UReferenceIdeal.main_arg0)) (m ((c.tc : Thread Cert.UReferenceIdeal.nD Cert.UReferenceIdeal.τ).loc Cert.UReferenceIdeal.main_arg1)) (m ((c.tc : Thread Cert.UReferenceIdeal.nD Cert.UReferenceIdeal.τ).loc Cert.UReferenceIdeal.main_arg2)) (m ((c.tc : Thread Cert.UReferenceIdeal.nD Cert.UReferenceIdeal.τ).loc Cert.UReferenceIdeal.main_arg3)) (m ((c.tc : Thread Cert.UReferenceIdeal.nD Cert.UReferenceIdeal.τ).loc Cert.UReferenceIdeal.main_arg4))).1 = (fun _ => 1#1)
    ∧ (Cert.Pre_finite_up.fn (F := Ideal) (m ((c.tc : Thread Cert.UReferenceIdeal.nD Cert.UReferenceIdeal.τ).loc Cert.UReferenceIdeal.main_arg0)) (m ((c.tc : Thread Cert.UReferenceIdeal.nD Cert.UReferenceIdeal.τ).loc Cert.UReferenceIdeal.main_arg1)) (m ((c.tc : Thread Cert.UReferenceIdeal.nD Cert.UReferenceIdeal.τ).loc Cert.UReferenceIdeal.main_arg2)) (m ((c.tc : Thread Cert.UReferenceIdeal.nD Cert.UReferenceIdeal.τ).loc Cert.UReferenceIdeal.main_arg3)) (m ((c.tc : Thread Cert.UReferenceIdeal.nD Cert.UReferenceIdeal.τ).loc Cert.UReferenceIdeal.main_arg4))).2.1 = (fun _ => 1#1)
    ∧ (Cert.Pre_finite_up.fn (F := Ideal) (m ((c.tc : Thread Cert.UReferenceIdeal.nD Cert.UReferenceIdeal.τ).loc Cert.UReferenceIdeal.main_arg0)) (m ((c.tc : Thread Cert.UReferenceIdeal.nD Cert.UReferenceIdeal.τ).loc Cert.UReferenceIdeal.main_arg1)) (m ((c.tc : Thread Cert.UReferenceIdeal.nD Cert.UReferenceIdeal.τ).loc Cert.UReferenceIdeal.main_arg2)) (m ((c.tc : Thread Cert.UReferenceIdeal.nD Cert.UReferenceIdeal.τ).loc Cert.UReferenceIdeal.main_arg3)) (m ((c.tc : Thread Cert.UReferenceIdeal.nD Cert.UReferenceIdeal.τ).loc Cert.UReferenceIdeal.main_arg4))).2.2.1 = (fun _ => 1#1)
    ∧ (Cert.Pre_finite_up.fn (F := Ideal) (m ((c.tc : Thread Cert.UReferenceIdeal.nD Cert.UReferenceIdeal.τ).loc Cert.UReferenceIdeal.main_arg0)) (m ((c.tc : Thread Cert.UReferenceIdeal.nD Cert.UReferenceIdeal.τ).loc Cert.UReferenceIdeal.main_arg1)) (m ((c.tc : Thread Cert.UReferenceIdeal.nD Cert.UReferenceIdeal.τ).loc Cert.UReferenceIdeal.main_arg2)) (m ((c.tc : Thread Cert.UReferenceIdeal.nD Cert.UReferenceIdeal.τ).loc Cert.UReferenceIdeal.main_arg3)) (m ((c.tc : Thread Cert.UReferenceIdeal.nD Cert.UReferenceIdeal.τ).loc Cert.UReferenceIdeal.main_arg4))).2.2.2.1 = (fun _ => 1#1)
    ∧ (Cert.Pre_finite_up.fn (F := Ideal) (m ((c.tc : Thread Cert.UReferenceIdeal.nD Cert.UReferenceIdeal.τ).loc Cert.UReferenceIdeal.main_arg0)) (m ((c.tc : Thread Cert.UReferenceIdeal.nD Cert.UReferenceIdeal.τ).loc Cert.UReferenceIdeal.main_arg1)) (m ((c.tc : Thread Cert.UReferenceIdeal.nD Cert.UReferenceIdeal.τ).loc Cert.UReferenceIdeal.main_arg2)) (m ((c.tc : Thread Cert.UReferenceIdeal.nD Cert.UReferenceIdeal.τ).loc Cert.UReferenceIdeal.main_arg3)) (m ((c.tc : Thread Cert.UReferenceIdeal.nD Cert.UReferenceIdeal.τ).loc Cert.UReferenceIdeal.main_arg4))).2.2.2.2 = (fun _ => 1#1)

def Pre_DKernel (m : (ℓ : Loc Cert.DKernel.nD Cert.DKernel.τ Cert.DKernel.sig) → Buf (Elt Bits) ℓ) : Prop :=
  True

def Pre_DKernelIdeal (m : (ℓ : Loc Cert.DKernelIdeal.nD Cert.DKernelIdeal.τ Cert.DKernelIdeal.sig) → Buf (Elt Ideal) ℓ) : Prop :=
  True

def Pre_DReferenceIdeal (m : (ℓ : Loc Cert.DReferenceIdeal.nD Cert.DReferenceIdeal.τ Cert.DReferenceIdeal.sig) → Buf (Elt Ideal) ℓ) : Prop :=
  True

def Pre_OKernel (m : (ℓ : Loc Cert.OKernel.nD Cert.OKernel.τ Cert.OKernel.sig) → Buf (Elt Bits) ℓ) : Prop :=
  True

def Pre_OKernelIdeal (m : (ℓ : Loc Cert.OKernelIdeal.nD Cert.OKernelIdeal.τ Cert.OKernelIdeal.sig) → Buf (Elt Ideal) ℓ) : Prop :=
  True

def Pre_OReferenceIdeal (m : (ℓ : Loc Cert.OReferenceIdeal.nD Cert.OReferenceIdeal.τ Cert.OReferenceIdeal.sig) → Buf (Elt Ideal) ℓ) : Prop :=
  True

def Pre_TKernel (m : (ℓ : Loc Cert.TKernel.nD Cert.TKernel.τ Cert.TKernel.sig) → Buf (Elt Bits) ℓ) : Prop :=
  True

def Pre_TKernelIdeal (m : (ℓ : Loc Cert.TKernelIdeal.nD Cert.TKernelIdeal.τ Cert.TKernelIdeal.sig) → Buf (Elt Ideal) ℓ) : Prop :=
  True

def Pre_TReferenceIdeal (m : (ℓ : Loc Cert.TReferenceIdeal.nD Cert.TReferenceIdeal.τ Cert.TReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_GKernel (m : (ℓ : Loc Cert.GKernel.nD Cert.GKernel.τ Cert.GKernel.sig) → Buf (Elt Bits) ℓ) : Prop :=
  True

def Pre_GKernelIdeal (m : (ℓ : Loc Cert.GKernelIdeal.nD Cert.GKernelIdeal.τ Cert.GKernelIdeal.sig) → Buf (Elt Ideal) ℓ) : Prop :=
  True

def Pre_GReferenceIdeal (m : (ℓ : Loc Cert.GReferenceIdeal.nD Cert.GReferenceIdeal.τ Cert.GReferenceIdeal.sig) → Buf (Elt Ideal) ℓ) : Prop :=
  True

def Pre_HKernel (m : (ℓ : Loc Cert.HKernel.nD Cert.HKernel.τ Cert.HKernel.sig) → Buf (Elt Bits) ℓ) : Prop :=
  True

def Pre_HKernelIdeal (m : (ℓ : Loc Cert.HKernelIdeal.nD Cert.HKernelIdeal.τ Cert.HKernelIdeal.sig) → Buf (Elt Ideal) ℓ) : Prop :=
  True

def Pre_HReferenceIdeal (m : (ℓ : Loc Cert.HReferenceIdeal.nD Cert.HReferenceIdeal.τ Cert.HReferenceIdeal.sig) → Buf (Elt Ideal) ℓ) : Prop :=
  True

def Pre_JKernel (m : (ℓ : Loc Cert.JKernel.nD Cert.JKernel.τ Cert.JKernel.sig) → Buf (Elt Bits) ℓ) : Prop :=
  True

def Pre_JKernelIdeal (m : (ℓ : Loc Cert.JKernelIdeal.nD Cert.JKernelIdeal.τ Cert.JKernelIdeal.sig) → Buf (Elt Ideal) ℓ) : Prop :=
  True

def Pre_JReferenceIdeal (m : (ℓ : Loc Cert.JReferenceIdeal.nD Cert.JReferenceIdeal.τ Cert.JReferenceIdeal.sig) → Buf (Elt Ideal) ℓ) : Prop :=
  True

def Pre_KKernel (m : (ℓ : Loc Cert.KKernel.nD Cert.KKernel.τ Cert.KKernel.sig) → Buf (Elt Bits) ℓ) : Prop :=
  True

def Pre_KKernelIdeal (m : (ℓ : Loc Cert.KKernelIdeal.nD Cert.KKernelIdeal.τ Cert.KKernelIdeal.sig) → Buf (Elt Ideal) ℓ) : Prop :=
  True

def Pre_KKernelIdeal_finite_kv [hPre_finite_kv : Cert.Pre_finite_kv.Facts] (m : (ℓ : Loc Cert.KKernelIdeal.nD Cert.KKernelIdeal.τ Cert.KKernelIdeal.sig) → Buf (Elt Ideal) ℓ) : Prop :=
  ∀ c : Dev Cert.KKernelIdeal.nD,
    (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).1 = (fun _ => 1#1)
    ∧ (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).2.1 = (fun _ => 1#1)
    ∧ (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).2.2.1 = (fun _ => 1#1)
    ∧ (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).2.2.2.1 = (fun _ => 1#1)
    ∧ (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).2.2.2.2.1 = (fun _ => 1#1)
    ∧ (Cert.Pre_finite_kv.fn (F := Ideal) (m ((c.tc : Thread Cert.KKernelIdeal.nD Cert.KKernelIdeal.τ).loc Cert.KKernelIdeal.main_arg0)) (m ((c.tc : Thread Cert.KKernelIdeal.nD Cert.KKernelIdeal.τ).loc Cert.KKernelIdeal.main_arg1)) (m ((c.tc : Thread Cert.KKernelIdeal.nD Cert.KKernelIdeal.τ).loc Cert.KKernelIdeal.main_arg2)) (m ((c.tc : Thread Cert.KKernelIdeal.nD Cert.KKernelIdeal.τ).loc Cert.KKernelIdeal.main_arg3)) (m ((c.tc : Thread Cert.KKernelIdeal.nD Cert.KKernelIdeal.τ).loc Cert.KKernelIdeal.main_arg4)) (m ((c.tc : Thread Cert.KKernelIdeal.nD Cert.KKernelIdeal.τ).loc Cert.KKernelIdeal.main_arg5))).2.2.2.2.2 = (fun _ => 1#1)

def Pre_KReferenceIdeal (m : (ℓ : Loc Cert.KReferenceIdeal.nD Cert.KReferenceIdeal.τ Cert.KReferenceIdeal.sig) → Buf (Elt Ideal) ℓ) : Prop :=
  True

def Pre_KReferenceIdeal_finite_kv [hPre_finite_kv : Cert.Pre_finite_kv.Facts] (m : (ℓ : Loc Cert.KReferenceIdeal.nD Cert.KReferenceIdeal.τ Cert.KReferenceIdeal.sig) → Buf (Elt Ideal) ℓ) : Prop :=
  ∀ c : Dev Cert.KReferenceIdeal.nD,
    (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).1 = (fun _ => 1#1)
    ∧ (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).2.1 = (fun _ => 1#1)
    ∧ (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).2.2.1 = (fun _ => 1#1)
    ∧ (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).2.2.2.1 = (fun _ => 1#1)
    ∧ (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).2.2.2.2.1 = (fun _ => 1#1)
    ∧ (Cert.Pre_finite_kv.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_WKernel [hWKernel : Cert.WKernel.Facts] : Prop :=
  ∀ (m : (ℓ : Loc Cert.WKernel.nD Cert.WKernel.τ Cert.WKernel.sig) → Buf (Elt Bits) ℓ) (g : Dev Cert.WKernel.nD → PrngReg), Pre_WKernel m →
    θ_run (Cert.WKernel.defs (F := Bits)) (onTc (τ := Cert.WKernel.τ) (Cert.WKernel.main (F := Bits))) ⟨m, fun _ => 0, g⟩ (fun r => (∀ c : Dev Cert.WKernel.nD,
      r.2.mem ((c.tc : Thread Cert.WKernel.nD Cert.WKernel.τ).loc Cert.WKernel.main_arg0) = m ((c.tc : Thread Cert.WKernel.nD Cert.WKernel.τ).loc Cert.WKernel.main_arg0)
      ∧ r.2.mem ((c.tc : Thread Cert.WKernel.nD Cert.WKernel.τ).loc Cert.WKernel.main_arg1) = m ((c.tc : Thread Cert.WKernel.nD Cert.WKernel.τ).loc Cert.WKernel.main_arg1)
      ∧ r.2.mem ((c.tc : Thread Cert.WKernel.nD Cert.WKernel.τ).loc Cert.WKernel.main_arg2) = m ((c.tc : Thread Cert.WKernel.nD Cert.WKernel.τ).loc Cert.WKernel.main_arg2))
      ∧ r.2.sem = fun _ => 0)

def quiescent_WKernelIdeal [hWKernelIdeal : Cert.WKernelIdeal.Facts] : Prop :=
  ∀ (m : (ℓ : Loc Cert.WKernelIdeal.nD Cert.WKernelIdeal.τ Cert.WKernelIdeal.sig) → Buf (Elt Ideal) ℓ) (g : Dev Cert.WKernelIdeal.nD → PrngReg), Pre_WKernelIdeal m →
    θ_run (Cert.WKernelIdeal.defs (F := Ideal)) (onTc (τ := Cert.WKernelIdeal.τ) (Cert.WKernelIdeal.main (F := Ideal))) ⟨m, fun _ => 0, g⟩ (fun r => (∀ c : Dev Cert.WKernelIdeal.nD,
      r.2.mem ((c.tc : Thread Cert.WKernelIdeal.nD Cert.WKernelIdeal.τ).loc Cert.WKernelIdeal.main_arg0) = m ((c.tc : Thread Cert.WKernelIdeal.nD Cert.WKernelIdeal.τ).loc Cert.WKernelIdeal.main_arg0)
      ∧ r.2.mem ((c.tc : Thread Cert.WKernelIdeal.nD Cert.WKernelIdeal.τ).loc Cert.WKernelIdeal.main_arg1) = m ((c.tc : Thread Cert.WKernelIdeal.nD Cert.WKernelIdeal.τ).loc Cert.WKernelIdeal.main_arg1)
      ∧ r.2.mem ((c.tc : Thread Cert.WKernelIdeal.nD Cert.WKernelIdeal.τ).loc Cert.WKernelIdeal.main_arg2) = m ((c.tc : Thread Cert.WKernelIdeal.nD Cert.WKernelIdeal.τ).loc Cert.WKernelIdeal.main_arg2))
      ∧ r.2.sem = fun _ => 0)

def quiescent_WReferenceIdeal [hWReferenceIdeal : Cert.WReferenceIdeal.Facts] : Prop :=
  ∀ (m : (ℓ : Loc Cert.WReferenceIdeal.nD Cert.WReferenceIdeal.τ Cert.WReferenceIdeal.sig) → Buf (Elt Ideal) ℓ) (g : Dev Cert.WReferenceIdeal.nD → PrngReg), Pre_WReferenceIdeal m →
    θ_run (Cert.WReferenceIdeal.defs (F := Ideal)) (onTc (τ := Cert.WReferenceIdeal.τ) (Cert.WReferenceIdeal.main (F := Ideal))) ⟨m, fun _ => 0, g⟩ (fun r => (∀ c : Dev Cert.WReferenceIdeal.nD,
      r.2.mem ((c.tc : Thread Cert.WReferenceIdeal.nD Cert.WReferenceIdeal.τ).loc Cert.WReferenceIdeal.main_arg0) = m ((c.tc : Thread Cert.WReferenceIdeal.nD Cert.WReferenceIdeal.τ).loc Cert.WReferenceIdeal.main_arg0)
      ∧ r.2.mem ((c.tc : Thread Cert.WReferenceIdeal.nD Cert.WReferenceIdeal.τ).loc Cert.WReferenceIdeal.main_arg1) = m ((c.tc : Thread Cert.WReferenceIdeal.nD Cert.WReferenceIdeal.τ).loc Cert.WReferenceIdeal.main_arg1)
      ∧ r.2.mem ((c.tc : Thread Cert.WReferenceIdeal.nD Cert.WReferenceIdeal.τ).loc Cert.WReferenceIdeal.main_arg2) = m ((c.tc : Thread Cert.WReferenceIdeal.nD Cert.WReferenceIdeal.τ).loc Cert.WReferenceIdeal.main_arg2))
      ∧ r.2.sem = fun _ => 0)

def quiescent_NKernel [hNKernel : Cert.NKernel.Facts] : Prop :=
  ∀ (m : (ℓ : Loc Cert.NKernel.nD Cert.NKernel.τ Cert.NKernel.sig) → Buf (Elt Bits) ℓ) (g : Dev Cert.NKernel.nD → PrngReg), Pre_NKernel m →
    θ_run (Cert.NKernel.defs (F := Bits)) (onTc (τ := Cert.NKernel.τ) (Cert.NKernel.main (F := Bits))) ⟨m, fun _ => 0, g⟩ (fun r => (∀ c : Dev Cert.NKernel.nD,
      r.2.mem ((c.tc : Thread Cert.NKernel.nD Cert.NKernel.τ).loc Cert.NKernel.main_arg0) = m ((c.tc : Thread Cert.NKernel.nD Cert.NKernel.τ).loc Cert.NKernel.main_arg0)
      ∧ r.2.mem ((c.tc : Thread Cert.NKernel.nD Cert.NKernel.τ).loc Cert.NKernel.main_arg1) = m ((c.tc : Thread Cert.NKernel.nD Cert.NKernel.τ).loc Cert.NKernel.main_arg1)
      ∧ r.2.mem ((c.tc : Thread Cert.NKernel.nD Cert.NKernel.τ).loc Cert.NKernel.main_arg2) = m ((c.tc : Thread Cert.NKernel.nD Cert.NKernel.τ).loc Cert.NKernel.main_arg2)
      ∧ r.2.mem ((c.tc : Thread Cert.NKernel.nD Cert.NKernel.τ).loc Cert.NKernel.main_arg3) = m ((c.tc : Thread Cert.NKernel.nD Cert.NKernel.τ).loc Cert.NKernel.main_arg3)
      ∧ r.2.mem ((c.tc : Thread Cert.NKernel.nD Cert.NKernel.τ).loc Cert.NKernel.main_arg4) = m ((c.tc : Thread Cert.NKernel.nD Cert.NKernel.τ).loc Cert.NKernel.main_arg4)
      ∧ r.2.mem ((c.tc : Thread Cert.NKernel.nD Cert.NKernel.τ).loc Cert.NKernel.main_arg5) = m ((c.tc : Thread Cert.NKernel.nD Cert.NKernel.τ).loc Cert.NKernel.main_arg5)
      ∧ r.2.mem ((c.tc : Thread Cert.NKernel.nD Cert.NKernel.τ).loc Cert.NKernel.main_arg6) = m ((c.tc : Thread Cert.NKernel.nD Cert.NKernel.τ).loc Cert.NKernel.main_arg6)
      ∧ r.2.mem ((c.tc : Thread Cert.NKernel.nD Cert.NKernel.τ).loc Cert.NKernel.main_arg7) = m ((c.tc : Thread Cert.NKernel.nD Cert.NKernel.τ).loc Cert.NKernel.main_arg7))
      ∧ r.2.sem = fun _ => 0)

def quiescent_NKernelIdeal [hNKernelIdeal : Cert.NKernelIdeal.Facts] : Prop :=
  ∀ (m : (ℓ : Loc Cert.NKernelIdeal.nD Cert.NKernelIdeal.τ Cert.NKernelIdeal.sig) → Buf (Elt Ideal) ℓ) (g : Dev Cert.NKernelIdeal.nD → PrngReg), Pre_NKernelIdeal m →
    θ_run (Cert.NKernelIdeal.defs (F := Ideal)) (onTc (τ := Cert.NKernelIdeal.τ) (Cert.NKernelIdeal.main (F := Ideal))) ⟨m, fun _ => 0, g⟩ (fun r => (∀ c : Dev Cert.NKernelIdeal.nD,
      r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
      ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
      ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2)
      ∧ r.2.mem ((c.tc : Thread Cert.NKernelIdeal.nD Cert.NKernelIdeal.τ).loc Cert.NKernelIdeal.main_arg3) = m ((c.tc : Thread Cert.NKernelIdeal.nD Cert.NKernelIdeal.τ).loc Cert.NKernelIdeal.main_arg3)
      ∧ r.2.mem ((c.tc : Thread Cert.NKernelIdeal.nD Cert.NKernelIdeal.τ).loc Cert.NKernelIdeal.main_arg4) = m ((c.tc : Thread Cert.NKernelIdeal.nD Cert.NKernelIdeal.τ).loc Cert.NKernelIdeal.main_arg4)
      ∧ r.2.mem ((c.tc : Thread Cert.NKernelIdeal.nD Cert.NKernelIdeal.τ).loc Cert.NKernelIdeal.main_arg5) = m ((c.tc : Thread Cert.NKernelIdeal.nD Cert.NKernelIdeal.τ).loc Cert.NKernelIdeal.main_arg5)
      ∧ r.2.mem ((c.tc : Thread Cert.NKernelIdeal.nD Cert.NKernelIdeal.τ).loc Cert.NKernelIdeal.main_arg6) = m ((c.tc : Thread Cert.NKernelIdeal.nD Cert.NKernelIdeal.τ).loc Cert.NKernelIdeal.main_arg6)
      ∧ r.2.mem ((c.tc : Thread Cert.NKernelIdeal.nD Cert.NKernelIdeal.τ).loc Cert.NKernelIdeal.main_arg7) = m ((c.tc : Thread Cert.NKernelIdeal.nD Cert.NKernelIdeal.τ).loc Cert.NKernelIdeal.main_arg7))
      ∧ r.2.sem = fun _ => 0)

def quiescent_NKernelIdeal_pre_finite_norm [hNKernelIdeal : Cert.NKernelIdeal.Facts] [hPre_finite_norm : Cert.Pre_finite_norm.Facts] : Prop :=
  ∀ (m : (ℓ : Loc Cert.NKernelIdeal.nD Cert.NKernelIdeal.τ Cert.NKernelIdeal.sig) → Buf (Elt Ideal) ℓ) (g : Dev Cert.NKernelIdeal.nD → PrngReg), Pre_NKernelIdeal_finite_norm m →
    θ_run (Cert.NKernelIdeal.defs (F := Ideal)) (onTc (τ := Cert.NKernelIdeal.τ) (Cert.NKernelIdeal.main (F := Ideal))) ⟨m, fun _ => 0, g⟩ (fun r => (∀ c : Dev Cert.NKernelIdeal.nD,
      r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
      ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
      ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2)
      ∧ r.2.mem ((c.tc : Thread Cert.NKernelIdeal.nD Cert.NKernelIdeal.τ).loc Cert.NKernelIdeal.main_arg3) = m ((c.tc : Thread Cert.NKernelIdeal.nD Cert.NKernelIdeal.τ).loc Cert.NKernelIdeal.main_arg3)
      ∧ r.2.mem ((c.tc : Thread Cert.NKernelIdeal.nD Cert.NKernelIdeal.τ).loc Cert.NKernelIdeal.main_arg4) = m ((c.tc : Thread Cert.NKernelIdeal.nD Cert.NKernelIdeal.τ).loc Cert.NKernelIdeal.main_arg4)
      ∧ r.2.mem ((c.tc : Thread Cert.NKernelIdeal.nD Cert.NKernelIdeal.τ).loc Cert.NKernelIdeal.main_arg5) = m ((c.tc : Thread Cert.NKernelIdeal.nD Cert.NKernelIdeal.τ).loc Cert.NKernelIdeal.main_arg5)
      ∧ r.2.mem ((c.tc : Thread Cert.NKernelIdeal.nD Cert.NKernelIdeal.τ).loc Cert.NKernelIdeal.main_arg6) = m ((c.tc : Thread Cert.NKernelIdeal.nD Cert.NKernelIdeal.τ).loc Cert.NKernelIdeal.main_arg6)
      ∧ r.2.mem ((c.tc : Thread Cert.NKernelIdeal.nD Cert.NKernelIdeal.τ).loc Cert.NKernelIdeal.main_arg7) = m ((c.tc : Thread Cert.NKernelIdeal.nD Cert.NKernelIdeal.τ).loc Cert.NKernelIdeal.main_arg7))
      ∧ r.2.sem = fun _ => 0)

def quiescent_NReferenceIdeal [hNReferenceIdeal : Cert.NReferenceIdeal.Facts] : Prop :=
  ∀ (m : (ℓ : Loc Cert.NReferenceIdeal.nD Cert.NReferenceIdeal.τ Cert.NReferenceIdeal.sig) → Buf (Elt Ideal) ℓ) (g : Dev Cert.NReferenceIdeal.nD → PrngReg), Pre_NReferenceIdeal m →
    θ_run (Cert.NReferenceIdeal.defs (F := Ideal)) (onTc (τ := Cert.NReferenceIdeal.τ) (Cert.NReferenceIdeal.main (F := Ideal))) ⟨m, fun _ => 0, g⟩ (fun r => (∀ c : Dev Cert.NReferenceIdeal.nD,
      r.2.mem ((c.tc : Thread Cert.NReferenceIdeal.nD Cert.NReferenceIdeal.τ).loc Cert.NReferenceIdeal.main_arg0) = m ((c.tc : Thread Cert.NReferenceIdeal.nD Cert.NReferenceIdeal.τ).loc Cert.NReferenceIdeal.main_arg0)
      ∧ r.2.mem ((c.tc : Thread Cert.NReferenceIdeal.nD Cert.NReferenceIdeal.τ).loc Cert.NReferenceIdeal.main_arg1) = m ((c.tc : Thread Cert.NReferenceIdeal.nD Cert.NReferenceIdeal.τ).loc Cert.NReferenceIdeal.main_arg1)
      ∧ r.2.mem ((c.tc : Thread Cert.NReferenceIdeal.nD Cert.NReferenceIdeal.τ).loc Cert.NReferenceIdeal.main_arg2) = m ((c.tc : Thread Cert.NReferenceIdeal.nD Cert.NReferenceIdeal.τ).loc Cert.NReferenceIdeal.main_arg2)
      ∧ r.2.mem ((c.tc : Thread Cert.NReferenceIdeal.nD Cert.NReferenceIdeal.τ).loc Cert.NReferenceIdeal.main_arg3) = m ((c.tc : Thread Cert.NReferenceIdeal.nD Cert.NReferenceIdeal.τ).loc Cert.NReferenceIdeal.main_arg3)
      ∧ r.2.mem ((c.tc : Thread Cert.NReferenceIdeal.nD Cert.NReferenceIdeal.τ).loc Cert.NReferenceIdeal.main_arg4) = m ((c.tc : Thread Cert.NReferenceIdeal.nD Cert.NReferenceIdeal.τ).loc Cert.NReferenceIdeal.main_arg4)
      ∧ r.2.mem ((c.tc : Thread Cert.NReferenceIdeal.nD Cert.NReferenceIdeal.τ).loc Cert.NReferenceIdeal.main_arg5) = m ((c.tc : Thread Cert.NReferenceIdeal.nD Cert.NReferenceIdeal.τ).loc Cert.NReferenceIdeal.main_arg5)
      ∧ r.2.mem ((c.tc : Thread Cert.NReferenceIdeal.nD Cert.NReferenceIdeal.τ).loc Cert.NReferenceIdeal.main_arg6) = m ((c.tc : Thread Cert.NReferenceIdeal.nD Cert.NReferenceIdeal.τ).loc Cert.NReferenceIdeal.main_arg6)
      ∧ r.2.mem ((c.tc : Thread Cert.NReferenceIdeal.nD Cert.NReferenceIdeal.τ).loc Cert.NReferenceIdeal.main_arg7) = m ((c.tc : Thread Cert.NReferenceIdeal.nD Cert.NReferenceIdeal.τ).loc Cert.NReferenceIdeal.main_arg7))
      ∧ r.2.sem = fun _ => 0)

def quiescent_NReferenceIdeal_pre_finite_norm [hNReferenceIdeal : Cert.NReferenceIdeal.Facts] [hPre_finite_norm : Cert.Pre_finite_norm.Facts] : Prop :=
  ∀ (m : (ℓ : Loc Cert.NReferenceIdeal.nD Cert.NReferenceIdeal.τ Cert.NReferenceIdeal.sig) → Buf (Elt Ideal) ℓ) (g : Dev Cert.NReferenceIdeal.nD → PrngReg), Pre_NReferenceIdeal_finite_norm m →
    θ_run (Cert.NReferenceIdeal.defs (F := Ideal)) (onTc (τ := Cert.NReferenceIdeal.τ) (Cert.NReferenceIdeal.main (F := Ideal))) ⟨m, fun _ => 0, g⟩ (fun r => (∀ c : Dev Cert.NReferenceIdeal.nD,
      r.2.mem ((c.tc : Thread Cert.NReferenceIdeal.nD Cert.NReferenceIdeal.τ).loc Cert.NReferenceIdeal.main_arg0) = m ((c.tc : Thread Cert.NReferenceIdeal.nD Cert.NReferenceIdeal.τ).loc Cert.NReferenceIdeal.main_arg0)
      ∧ r.2.mem ((c.tc : Thread Cert.NReferenceIdeal.nD Cert.NReferenceIdeal.τ).loc Cert.NReferenceIdeal.main_arg1) = m ((c.tc : Thread Cert.NReferenceIdeal.nD Cert.NReferenceIdeal.τ).loc Cert.NReferenceIdeal.main_arg1)
      ∧ r.2.mem ((c.tc : Thread Cert.NReferenceIdeal.nD Cert.NReferenceIdeal.τ).loc Cert.NReferenceIdeal.main_arg2) = m ((c.tc : Thread Cert.NReferenceIdeal.nD Cert.NReferenceIdeal.τ).loc Cert.NReferenceIdeal.main_arg2)
      ∧ r.2.mem ((c.tc : Thread Cert.NReferenceIdeal.nD Cert.NReferenceIdeal.τ).loc Cert.NReferenceIdeal.main_arg3) = m ((c.tc : Thread Cert.NReferenceIdeal.nD Cert.NReferenceIdeal.τ).loc Cert.NReferenceIdeal.main_arg3)
      ∧ r.2.mem ((c.tc : Thread Cert.NReferenceIdeal.nD Cert.NReferenceIdeal.τ).loc Cert.NReferenceIdeal.main_arg4) = m ((c.tc : Thread Cert.NReferenceIdeal.nD Cert.NReferenceIdeal.τ).loc Cert.NReferenceIdeal.main_arg4)
      ∧ r.2.mem ((c.tc : Thread Cert.NReferenceIdeal.nD Cert.NReferenceIdeal.τ).loc Cert.NReferenceIdeal.main_arg5) = m ((c.tc : Thread Cert.NReferenceIdeal.nD Cert.NReferenceIdeal.τ).loc Cert.NReferenceIdeal.main_arg5)
      ∧ r.2.mem ((c.tc : Thread Cert.NReferenceIdeal.nD Cert.NReferenceIdeal.τ).loc Cert.NReferenceIdeal.main_arg6) = m ((c.tc : Thread Cert.NReferenceIdeal.nD Cert.NReferenceIdeal.τ).loc Cert.NReferenceIdeal.main_arg6)
      ∧ r.2.mem ((c.tc : Thread Cert.NReferenceIdeal.nD Cert.NReferenceIdeal.τ).loc Cert.NReferenceIdeal.main_arg7) = m ((c.tc : Thread Cert.NReferenceIdeal.nD Cert.NReferenceIdeal.τ).loc Cert.NReferenceIdeal.main_arg7))
      ∧ r.2.sem = fun _ => 0)

def quiescent_UKernel [hUKernel : Cert.UKernel.Facts] : Prop :=
  ∀ (m : (ℓ : Loc Cert.UKernel.nD Cert.UKernel.τ Cert.UKernel.sig) → Buf (Elt Bits) ℓ) (g : Dev Cert.UKernel.nD → PrngReg), Pre_UKernel m →
    θ_run (Cert.UKernel.defs (F := Bits)) (onTc (τ := Cert.UKernel.τ) (Cert.UKernel.main (F := Bits))) ⟨m, fun _ => 0, g⟩ (fun r => (∀ c : Dev Cert.UKernel.nD,
      r.2.mem ((c.tc : Thread Cert.UKernel.nD Cert.UKernel.τ).loc Cert.UKernel.main_arg0) = m ((c.tc : Thread Cert.UKernel.nD Cert.UKernel.τ).loc Cert.UKernel.main_arg0)
      ∧ r.2.mem ((c.tc : Thread Cert.UKernel.nD Cert.UKernel.τ).loc Cert.UKernel.main_arg1) = m ((c.tc : Thread Cert.UKernel.nD Cert.UKernel.τ).loc Cert.UKernel.main_arg1)
      ∧ r.2.mem ((c.tc : Thread Cert.UKernel.nD Cert.UKernel.τ).loc Cert.UKernel.main_arg2) = m ((c.tc : Thread Cert.UKernel.nD Cert.UKernel.τ).loc Cert.UKernel.main_arg2)
      ∧ r.2.mem ((c.tc : Thread Cert.UKernel.nD Cert.UKernel.τ).loc Cert.UKernel.main_arg3) = m ((c.tc : Thread Cert.UKernel.nD Cert.UKernel.τ).loc Cert.UKernel.main_arg3)
      ∧ r.2.mem ((c.tc : Thread Cert.UKernel.nD Cert.UKernel.τ).loc Cert.UKernel.main_arg4) = m ((c.tc : Thread Cert.UKernel.nD Cert.UKernel.τ).loc Cert.UKernel.main_arg4))
      ∧ r.2.sem = fun _ => 0)

def quiescent_UKernelIdeal [hUKernelIdeal : Cert.UKernelIdeal.Facts] : Prop :=
  ∀ (m : (ℓ : Loc Cert.UKernelIdeal.nD Cert.UKernelIdeal.τ Cert.UKernelIdeal.sig) → Buf (Elt Ideal) ℓ) (g : Dev Cert.UKernelIdeal.nD → PrngReg), Pre_UKernelIdeal m →
    θ_run (Cert.UKernelIdeal.defs (F := Ideal)) (onTc (τ := Cert.UKernelIdeal.τ) (Cert.UKernelIdeal.main (F := Ideal))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
      ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1)
      ∧ r.2.mem ((c.tc : Thread Cert.UKernelIdeal.nD Cert.UKernelIdeal.τ).loc Cert.UKernelIdeal.main_arg2) = m ((c.tc : Thread Cert.UKernelIdeal.nD Cert.UKernelIdeal.τ).loc Cert.UKernelIdeal.main_arg2)
      ∧ r.2.mem ((c.tc : Thread Cert.UKernelIdeal.nD Cert.UKernelIdeal.τ).loc Cert.UKernelIdeal.main_arg3) = m ((c.tc : Thread Cert.UKernelIdeal.nD Cert.UKernelIdeal.τ).loc Cert.UKernelIdeal.main_arg3)
      ∧ r.2.mem ((c.tc : Thread Cert.UKernelIdeal.nD Cert.UKernelIdeal.τ).loc Cert.UKernelIdeal.main_arg4) = m ((c.tc : Thread Cert.UKernelIdeal.nD Cert.UKernelIdeal.τ).loc Cert.UKernelIdeal.main_arg4))
      ∧ r.2.sem = fun _ => 0)

def quiescent_UKernelIdeal_pre_finite_up [hUKernelIdeal : Cert.UKernelIdeal.Facts] [hPre_finite_up : Cert.Pre_finite_up.Facts] : Prop :=
  ∀ (m : (ℓ : Loc Cert.UKernelIdeal.nD Cert.UKernelIdeal.τ Cert.UKernelIdeal.sig) → Buf (Elt Ideal) ℓ) (g : Dev Cert.UKernelIdeal.nD → PrngReg), Pre_UKernelIdeal_finite_up m →
    θ_run (Cert.UKernelIdeal.defs (F := Ideal)) (onTc (τ := Cert.UKernelIdeal.τ) (Cert.UKernelIdeal.main (F := Ideal))) ⟨m, fun _ => 0, g⟩ (fun r => (∀ c : Dev Cert.UKernelIdeal.nD,
      r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
      ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1)
      ∧ r.2.mem ((c.tc : Thread Cert.UKernelIdeal.nD Cert.UKernelIdeal.τ).loc Cert.UKernelIdeal.main_arg2) = m ((c.tc : Thread Cert.UKernelIdeal.nD Cert.UKernelIdeal.τ).loc Cert.UKernelIdeal.main_arg2)
      ∧ r.2.mem ((c.tc : Thread Cert.UKernelIdeal.nD Cert.UKernelIdeal.τ).loc Cert.UKernelIdeal.main_arg3) = m ((c.tc : Thread Cert.UKernelIdeal.nD Cert.UKernelIdeal.τ).loc Cert.UKernelIdeal.main_arg3)
      ∧ r.2.mem ((c.tc : Thread Cert.UKernelIdeal.nD Cert.UKernelIdeal.τ).loc Cert.UKernelIdeal.main_arg4) = m ((c.tc : Thread Cert.UKernelIdeal.nD Cert.UKernelIdeal.τ).loc Cert.UKernelIdeal.main_arg4))
      ∧ r.2.sem = fun _ => 0)

def quiescent_UReferenceIdeal [hUReferenceIdeal : Cert.UReferenceIdeal.Facts] : Prop :=
  ∀ (m : (ℓ : Loc Cert.UReferenceIdeal.nD Cert.UReferenceIdeal.τ Cert.UReferenceIdeal.sig) → Buf (Elt Ideal) ℓ) (g : Dev Cert.UReferenceIdeal.nD → PrngReg), Pre_UReferenceIdeal m →
    θ_run (Cert.UReferenceIdeal.defs (F := Ideal)) (onTc (τ := Cert.UReferenceIdeal.τ) (Cert.UReferenceIdeal.main (F := Ideal))) ⟨m, fun _ => 0, g⟩ (fun r => (∀ c : Dev Cert.UReferenceIdeal.nD,
      r.2.mem ((c.tc : Thread Cert.UReferenceIdeal.nD Cert.UReferenceIdeal.τ).loc Cert.UReferenceIdeal.main_arg0) = m ((c.tc : Thread Cert.UReferenceIdeal.nD Cert.UReferenceIdeal.τ).loc Cert.UReferenceIdeal.main_arg0)
      ∧ r.2.mem ((c.tc : Thread Cert.UReferenceIdeal.nD Cert.UReferenceIdeal.τ).loc Cert.UReferenceIdeal.main_arg1) = m ((c.tc : Thread Cert.UReferenceIdeal.nD Cert.UReferenceIdeal.τ).loc Cert.UReferenceIdeal.main_arg1)
      ∧ r.2.mem ((c.tc : Thread Cert.UReferenceIdeal.nD Cert.UReferenceIdeal.τ).loc Cert.UReferenceIdeal.main_arg2) = m ((c.tc : Thread Cert.UReferenceIdeal.nD Cert.UReferenceIdeal.τ).loc Cert.UReferenceIdeal.main_arg2)
      ∧ r.2.mem ((c.tc : Thread Cert.UReferenceIdeal.nD Cert.UReferenceIdeal.τ).loc Cert.UReferenceIdeal.main_arg3) = m ((c.tc : Thread Cert.UReferenceIdeal.nD Cert.UReferenceIdeal.τ).loc Cert.UReferenceIdeal.main_arg3)
      ∧ r.2.mem ((c.tc : Thread Cert.UReferenceIdeal.nD Cert.UReferenceIdeal.τ).loc Cert.UReferenceIdeal.main_arg4) = m ((c.tc : Thread Cert.UReferenceIdeal.nD Cert.UReferenceIdeal.τ).loc Cert.UReferenceIdeal.main_arg4))
      ∧ r.2.sem = fun _ => 0)

def quiescent_UReferenceIdeal_pre_finite_up [hUReferenceIdeal : Cert.UReferenceIdeal.Facts] [hPre_finite_up : Cert.Pre_finite_up.Facts] : Prop :=
  ∀ (m : (ℓ : Loc Cert.UReferenceIdeal.nD Cert.UReferenceIdeal.τ Cert.UReferenceIdeal.sig) → Buf (Elt Ideal) ℓ) (g : Dev Cert.UReferenceIdeal.nD → PrngReg), Pre_UReferenceIdeal_finite_up m →
    θ_run (Cert.UReferenceIdeal.defs (F := Ideal)) (onTc (τ := Cert.UReferenceIdeal.τ) (Cert.UReferenceIdeal.main (F := Ideal))) ⟨m, fun _ => 0, g⟩ (fun r => (∀ c : Dev Cert.UReferenceIdeal.nD,
      r.2.mem ((c.tc : Thread Cert.UReferenceIdeal.nD Cert.UReferenceIdeal.τ).loc Cert.UReferenceIdeal.main_arg0) = m ((c.tc : Thread Cert.UReferenceIdeal.nD Cert.UReferenceIdeal.τ).loc Cert.UReferenceIdeal.main_arg0)
      ∧ r.2.mem ((c.tc : Thread Cert.UReferenceIdeal.nD Cert.UReferenceIdeal.τ).loc Cert.UReferenceIdeal.main_arg1) = m ((c.tc : Thread Cert.UReferenceIdeal.nD Cert.UReferenceIdeal.τ).loc Cert.UReferenceIdeal.main_arg1)
      ∧ r.2.mem ((c.tc : Thread Cert.UReferenceIdeal.nD Cert.UReferenceIdeal.τ).loc Cert.UReferenceIdeal.main_arg2) = m ((c.tc : Thread Cert.UReferenceIdeal.nD Cert.UReferenceIdeal.τ).loc Cert.UReferenceIdeal.main_arg2)
      ∧ r.2.mem ((c.tc : Thread Cert.UReferenceIdeal.nD Cert.UReferenceIdeal.τ).loc Cert.UReferenceIdeal.main_arg3) = m ((c.tc : Thread Cert.UReferenceIdeal.nD Cert.UReferenceIdeal.τ).loc Cert.UReferenceIdeal.main_arg3)
      ∧ r.2.mem ((c.tc : Thread Cert.UReferenceIdeal.nD Cert.UReferenceIdeal.τ).loc Cert.UReferenceIdeal.main_arg4) = m ((c.tc : Thread Cert.UReferenceIdeal.nD Cert.UReferenceIdeal.τ).loc Cert.UReferenceIdeal.main_arg4))
      ∧ r.2.sem = fun _ => 0)

def quiescent_DKernel [hDKernel : Cert.DKernel.Facts] : Prop :=
  ∀ (m : (ℓ : Loc Cert.DKernel.nD Cert.DKernel.τ Cert.DKernel.sig) → Buf (Elt Bits) ℓ) (g : Dev Cert.DKernel.nD → PrngReg), Pre_DKernel m →
    θ_run (Cert.DKernel.defs (F := Bits)) (onTc (τ := Cert.DKernel.τ) (Cert.DKernel.main (F := Bits))) ⟨m, fun _ => 0, g⟩ (fun r => (∀ c : Dev Cert.DKernel.nD,
      r.2.mem ((c.tc : Thread Cert.DKernel.nD Cert.DKernel.τ).loc Cert.DKernel.main_arg0) = m ((c.tc : Thread Cert.DKernel.nD Cert.DKernel.τ).loc Cert.DKernel.main_arg0)
      ∧ r.2.mem ((c.tc : Thread Cert.DKernel.nD Cert.DKernel.τ).loc Cert.DKernel.main_arg1) = m ((c.tc : Thread Cert.DKernel.nD Cert.DKernel.τ).loc Cert.DKernel.main_arg1)
      ∧ r.2.mem ((c.tc : Thread Cert.DKernel.nD Cert.DKernel.τ).loc Cert.DKernel.main_arg2) = m ((c.tc : Thread Cert.DKernel.nD Cert.DKernel.τ).loc Cert.DKernel.main_arg2)
      ∧ r.2.mem ((c.tc : Thread Cert.DKernel.nD Cert.DKernel.τ).loc Cert.DKernel.main_arg3) = m ((c.tc : Thread Cert.DKernel.nD Cert.DKernel.τ).loc Cert.DKernel.main_arg3)
      ∧ r.2.mem ((c.tc : Thread Cert.DKernel.nD Cert.DKernel.τ).loc Cert.DKernel.main_arg4) = m ((c.tc : Thread Cert.DKernel.nD Cert.DKernel.τ).loc Cert.DKernel.main_arg4))
      ∧ r.2.sem = fun _ => 0)

def quiescent_DKernelIdeal [hDKernelIdeal : Cert.DKernelIdeal.Facts] : Prop :=
  ∀ (m : (ℓ : Loc Cert.DKernelIdeal.nD Cert.DKernelIdeal.τ Cert.DKernelIdeal.sig) → Buf (Elt Ideal) ℓ) (g : Dev Cert.DKernelIdeal.nD → PrngReg), Pre_DKernelIdeal m →
    θ_run (Cert.DKernelIdeal.defs (F := Ideal)) (onTc (τ := Cert.DKernelIdeal.τ) (Cert.DKernelIdeal.main (F := Ideal))) ⟨m, fun _ => 0, g⟩ (fun r => (∀ c : Dev Cert.DKernelIdeal.nD,
      r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
      ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1)
      ∧ r.2.mem ((c.tc : Thread Cert.DKernelIdeal.nD Cert.DKernelIdeal.τ).loc Cert.DKernelIdeal.main_arg2) = m ((c.tc : Thread Cert.DKernelIdeal.nD Cert.DKernelIdeal.τ).loc Cert.DKernelIdeal.main_arg2)
      ∧ r.2.mem ((c.tc : Thread Cert.DKernelIdeal.nD Cert.DKernelIdeal.τ).loc Cert.DKernelIdeal.main_arg3) = m ((c.tc : Thread Cert.DKernelIdeal.nD Cert.DKernelIdeal.τ).loc Cert.DKernelIdeal.main_arg3)
      ∧ r.2.mem ((c.tc : Thread Cert.DKernelIdeal.nD Cert.DKernelIdeal.τ).loc Cert.DKernelIdeal.main_arg4) = m ((c.tc : Thread Cert.DKernelIdeal.nD Cert.DKernelIdeal.τ).loc Cert.DKernelIdeal.main_arg4))
      ∧ r.2.sem = fun _ => 0)

def quiescent_DReferenceIdeal [hDReferenceIdeal : Cert.DReferenceIdeal.Facts] : Prop :=
  ∀ (m : (ℓ : Loc Cert.DReferenceIdeal.nD Cert.DReferenceIdeal.τ Cert.DReferenceIdeal.sig) → Buf (Elt Ideal) ℓ) (g : Dev Cert.DReferenceIdeal.nD → PrngReg), Pre_DReferenceIdeal m →
    θ_run (Cert.DReferenceIdeal.defs (F := Ideal)) (onTc (τ := Cert.DReferenceIdeal.τ) (Cert.DReferenceIdeal.main (F := Ideal))) ⟨m, fun _ => 0, g⟩ (fun r => (∀ c : Dev Cert.DReferenceIdeal.nD,
      r.2.mem ((c.tc : Thread Cert.DReferenceIdeal.nD Cert.DReferenceIdeal.τ).loc Cert.DReferenceIdeal.main_arg0) = m ((c.tc : Thread Cert.DReferenceIdeal.nD Cert.DReferenceIdeal.τ).loc Cert.DReferenceIdeal.main_arg0)
      ∧ r.2.mem ((c.tc : Thread Cert.DReferenceIdeal.nD Cert.DReferenceIdeal.τ).loc Cert.DReferenceIdeal.main_arg1) = m ((c.tc : Thread Cert.DReferenceIdeal.nD Cert.DReferenceIdeal.τ).loc Cert.DReferenceIdeal.main_arg1)
      ∧ r.2.mem ((c.tc : Thread Cert.DReferenceIdeal.nD Cert.DReferenceIdeal.τ).loc Cert.DReferenceIdeal.main_arg2) = m ((c.tc : Thread Cert.DReferenceIdeal.nD Cert.DReferenceIdeal.τ).loc Cert.DReferenceIdeal.main_arg2)
      ∧ r.2.mem ((c.tc : Thread Cert.DReferenceIdeal.nD Cert.DReferenceIdeal.τ).loc Cert.DReferenceIdeal.main_arg3) = m ((c.tc : Thread Cert.DReferenceIdeal.nD Cert.DReferenceIdeal.τ).loc Cert.DReferenceIdeal.main_arg3)
      ∧ r.2.mem ((c.tc : Thread Cert.DReferenceIdeal.nD Cert.DReferenceIdeal.τ).loc Cert.DReferenceIdeal.main_arg4) = m ((c.tc : Thread Cert.DReferenceIdeal.nD Cert.DReferenceIdeal.τ).loc Cert.DReferenceIdeal.main_arg4))
      ∧ r.2.sem = fun _ => 0)

def quiescent_OKernel [hOKernel : Cert.OKernel.Facts] : Prop :=
  ∀ (m : (ℓ : Loc Cert.OKernel.nD Cert.OKernel.τ Cert.OKernel.sig) → Buf (Elt Bits) ℓ) (g : Dev Cert.OKernel.nD → PrngReg), Pre_OKernel m →
    θ_run (Cert.OKernel.defs (F := Bits)) (onTc (τ := Cert.OKernel.τ) (Cert.OKernel.main (F := Bits))) ⟨m, fun _ => 0, g⟩ (fun r => (∀ c : Dev Cert.OKernel.nD,
      r.2.mem ((c.tc : Thread Cert.OKernel.nD Cert.OKernel.τ).loc Cert.OKernel.main_arg0) = m ((c.tc : Thread Cert.OKernel.nD Cert.OKernel.τ).loc Cert.OKernel.main_arg0)
      ∧ r.2.mem ((c.tc : Thread Cert.OKernel.nD Cert.OKernel.τ).loc Cert.OKernel.main_arg1) = m ((c.tc : Thread Cert.OKernel.nD Cert.OKernel.τ).loc Cert.OKernel.main_arg1)
      ∧ r.2.mem ((c.tc : Thread Cert.OKernel.nD Cert.OKernel.τ).loc Cert.OKernel.main_arg2) = m ((c.tc : Thread Cert.OKernel.nD Cert.OKernel.τ).loc Cert.OKernel.main_arg2))
      ∧ r.2.sem = fun _ => 0)

def quiescent_OKernelIdeal [hOKernelIdeal : Cert.OKernelIdeal.Facts] : Prop :=
  ∀ (m : (ℓ : Loc Cert.OKernelIdeal.nD Cert.OKernelIdeal.τ Cert.OKernelIdeal.sig) → Buf (Elt Ideal) ℓ) (g : Dev Cert.OKernelIdeal.nD → PrngReg), Pre_OKernelIdeal m →
    θ_run (Cert.OKernelIdeal.defs (F := Ideal)) (onTc (τ := Cert.OKernelIdeal.τ) (Cert.OKernelIdeal.main (F := Ideal))) ⟨m, fun _ => 0, g⟩ (fun r => (∀ c : Dev Cert.OKernelIdeal.nD,
      r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
      ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
      ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ r.2.sem = fun _ => 0)

def quiescent_OReferenceIdeal [hOReferenceIdeal : Cert.OReferenceIdeal.Facts] : Prop :=
  ∀ (m : (ℓ : Loc Cert.OReferenceIdeal.nD Cert.OReferenceIdeal.τ Cert.OReferenceIdeal.sig) → Buf (Elt Ideal) ℓ) (g : Dev Cert.OReferenceIdeal.nD → PrngReg), Pre_OReferenceIdeal m →
    θ_run (Cert.OReferenceIdeal.defs (F := Ideal)) (onTc (τ := Cert.OReferenceIdeal.τ) (Cert.OReferenceIdeal.main (F := Ideal))) ⟨m, fun _ => 0, g⟩ (fun r => (∀ c : Dev Cert.OReferenceIdeal.nD,
      r.2.mem ((c.tc : Thread Cert.OReferenceIdeal.nD Cert.OReferenceIdeal.τ).loc Cert.OReferenceIdeal.main_arg0) = m ((c.tc : Thread Cert.OReferenceIdeal.nD Cert.OReferenceIdeal.τ).loc Cert.OReferenceIdeal.main_arg0)
      ∧ r.2.mem ((c.tc : Thread Cert.OReferenceIdeal.nD Cert.OReferenceIdeal.τ).loc Cert.OReferenceIdeal.main_arg1) = m ((c.tc : Thread Cert.OReferenceIdeal.nD Cert.OReferenceIdeal.τ).loc Cert.OReferenceIdeal.main_arg1)
      ∧ r.2.mem ((c.tc : Thread Cert.OReferenceIdeal.nD Cert.OReferenceIdeal.τ).loc Cert.OReferenceIdeal.main_arg2) = m ((c.tc : Thread Cert.OReferenceIdeal.nD Cert.OReferenceIdeal.τ).loc Cert.OReferenceIdeal.main_arg2))
      ∧ r.2.sem = fun _ => 0)

def quiescent_TKernel [hTKernel : Cert.TKernel.Facts] : Prop :=
  ∀ (m : (ℓ : Loc Cert.TKernel.nD Cert.TKernel.τ Cert.TKernel.sig) → Buf (Elt Bits) ℓ) (g : Dev Cert.TKernel.nD → PrngReg), Pre_TKernel m →
    θ_run (Cert.TKernel.defs (F := Bits)) (onTc (τ := Cert.TKernel.τ) (Cert.TKernel.main (F := Bits))) ⟨m, fun _ => 0, g⟩ (fun r => (∀ c : Dev Cert.TKernel.nD,
      r.2.mem ((c.tc : Thread Cert.TKernel.nD Cert.TKernel.τ).loc Cert.TKernel.main_arg0) = m ((c.tc : Thread Cert.TKernel.nD Cert.TKernel.τ).loc Cert.TKernel.main_arg0)
      ∧ r.2.mem ((c.tc : Thread Cert.TKernel.nD Cert.TKernel.τ).loc Cert.TKernel.main_arg1) = m ((c.tc : Thread Cert.TKernel.nD Cert.TKernel.τ).loc Cert.TKernel.main_arg1)
      ∧ r.2.mem ((c.tc : Thread Cert.TKernel.nD Cert.TKernel.τ).loc Cert.TKernel.main_arg2) = m ((c.tc : Thread Cert.TKernel.nD Cert.TKernel.τ).loc Cert.TKernel.main_arg2))
      ∧ r.2.sem = fun _ => 0)

def quiescent_TKernelIdeal [hTKernelIdeal : Cert.TKernelIdeal.Facts] : Prop :=
  ∀ (m : (ℓ : Loc Cert.TKernelIdeal.nD Cert.TKernelIdeal.τ Cert.TKernelIdeal.sig) → Buf (Elt Ideal) ℓ) (g : Dev Cert.TKernelIdeal.nD → PrngReg), Pre_TKernelIdeal m →
    θ_run (Cert.TKernelIdeal.defs (F := Ideal)) (onTc (τ := Cert.TKernelIdeal.τ) (Cert.TKernelIdeal.main (F := Ideal))) ⟨m, fun _ => 0, g⟩ (fun r => (∀ c : Dev Cert.TKernelIdeal.nD,
      r.2.mem ((c.tc : Thread Cert.TKernelIdeal.nD Cert.TKernelIdeal.τ).loc Cert.TKernelIdeal.main_arg0) = m ((c.tc : Thread Cert.TKernelIdeal.nD Cert.TKernelIdeal.τ).loc Cert.TKernelIdeal.main_arg0)
      ∧ r.2.mem ((c.tc : Thread Cert.TKernelIdeal.nD Cert.TKernelIdeal.τ).loc Cert.TKernelIdeal.main_arg1) = m ((c.tc : Thread Cert.TKernelIdeal.nD Cert.TKernelIdeal.τ).loc Cert.TKernelIdeal.main_arg1)
      ∧ r.2.mem ((c.tc : Thread Cert.TKernelIdeal.nD Cert.TKernelIdeal.τ).loc Cert.TKernelIdeal.main_arg2) = m ((c.tc : Thread Cert.TKernelIdeal.nD Cert.TKernelIdeal.τ).loc Cert.TKernelIdeal.main_arg2))
      ∧ r.2.sem = fun _ => 0)

def quiescent_TReferenceIdeal [hTReferenceIdeal : Cert.TReferenceIdeal.Facts] : Prop :=
  ∀ (m : (ℓ : Loc Cert.TReferenceIdeal.nD Cert.TReferenceIdeal.τ Cert.TReferenceIdeal.sig) → Buf (Elt Ideal) ℓ) (g : Dev Cert.TReferenceIdeal.nD → PrngReg), Pre_TReferenceIdeal m →
    θ_run (Cert.TReferenceIdeal.defs (F := Ideal)) (onTc (τ := Cert.TReferenceIdeal.τ) (Cert.TReferenceIdeal.main (F := Ideal))) ⟨m, fun _ => 0, g⟩ (fun r => (∀ c : Dev Cert.TReferenceIdeal.nD,
      r.2.mem ((c.tc : Thread Cert.TReferenceIdeal.nD Cert.TReferenceIdeal.τ).loc Cert.TReferenceIdeal.main_arg0) = m ((c.tc : Thread Cert.TReferenceIdeal.nD Cert.TReferenceIdeal.τ).loc Cert.TReferenceIdeal.main_arg0)
      ∧ r.2.mem ((c.tc : Thread Cert.TReferenceIdeal.nD Cert.TReferenceIdeal.τ).loc Cert.TReferenceIdeal.main_arg1) = m ((c.tc : Thread Cert.TReferenceIdeal.nD Cert.TReferenceIdeal.τ).loc Cert.TReferenceIdeal.main_arg1)
      ∧ r.2.mem ((c.tc : Thread Cert.TReferenceIdeal.nD Cert.TReferenceIdeal.τ).loc Cert.TReferenceIdeal.main_arg2) = m ((c.tc : Thread Cert.TReferenceIdeal.nD Cert.TReferenceIdeal.τ).loc Cert.TReferenceIdeal.main_arg2))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3))
      ∧ r.2.sem = fun _ => 0)

def quiescent_GKernel [hGKernel : Cert.GKernel.Facts] : Prop :=
  ∀ (m : (ℓ : Loc Cert.GKernel.nD Cert.GKernel.τ Cert.GKernel.sig) → Buf (Elt Bits) ℓ) (g : Dev Cert.GKernel.nD → PrngReg), Pre_GKernel m →
    θ_run (Cert.GKernel.defs (F := Bits)) (onTc (τ := Cert.GKernel.τ) (Cert.GKernel.main (F := Bits))) ⟨m, fun _ => 0, g⟩ (fun r => (∀ c : Dev Cert.GKernel.nD,
      r.2.mem ((c.tc : Thread Cert.GKernel.nD Cert.GKernel.τ).loc Cert.GKernel.main_arg0) = m ((c.tc : Thread Cert.GKernel.nD Cert.GKernel.τ).loc Cert.GKernel.main_arg0)
      ∧ r.2.mem ((c.tc : Thread Cert.GKernel.nD Cert.GKernel.τ).loc Cert.GKernel.main_arg1) = m ((c.tc : Thread Cert.GKernel.nD Cert.GKernel.τ).loc Cert.GKernel.main_arg1)
      ∧ r.2.mem ((c.tc : Thread Cert.GKernel.nD Cert.GKernel.τ).loc Cert.GKernel.main_arg2) = m ((c.tc : Thread Cert.GKernel.nD Cert.GKernel.τ).loc Cert.GKernel.main_arg2))
      ∧ r.2.sem = fun _ => 0)

def quiescent_GKernelIdeal [hGKernelIdeal : Cert.GKernelIdeal.Facts] : Prop :=
  ∀ (m : (ℓ : Loc Cert.GKernelIdeal.nD Cert.GKernelIdeal.τ Cert.GKernelIdeal.sig) → Buf (Elt Ideal) ℓ) (g : Dev Cert.GKernelIdeal.nD → PrngReg), Pre_GKernelIdeal m →
    θ_run (Cert.GKernelIdeal.defs (F := Ideal)) (onTc (τ := Cert.GKernelIdeal.τ) (Cert.GKernelIdeal.main (F := Ideal))) ⟨m, fun _ => 0, g⟩ (fun r => (∀ c : Dev Cert.GKernelIdeal.nD,
      r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
      ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
      ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2))
      ∧ r.2.sem = fun _ => 0)

def quiescent_GReferenceIdeal [hGReferenceIdeal : Cert.GReferenceIdeal.Facts] : Prop :=
  ∀ (m : (ℓ : Loc Cert.GReferenceIdeal.nD Cert.GReferenceIdeal.τ Cert.GReferenceIdeal.sig) → Buf (Elt Ideal) ℓ) (g : Dev Cert.GReferenceIdeal.nD → PrngReg), Pre_GReferenceIdeal m →
    θ_run (Cert.GReferenceIdeal.defs (F := Ideal)) (onTc (τ := Cert.GReferenceIdeal.τ) (Cert.GReferenceIdeal.main (F := Ideal))) ⟨m, fun _ => 0, g⟩ (fun r => (∀ c : Dev Cert.GReferenceIdeal.nD,
      r.2.mem ((c.tc : Thread Cert.GReferenceIdeal.nD Cert.GReferenceIdeal.τ).loc Cert.GReferenceIdeal.main_arg0) = m ((c.tc : Thread Cert.GReferenceIdeal.nD Cert.GReferenceIdeal.τ).loc Cert.GReferenceIdeal.main_arg0)
      ∧ r.2.mem ((c.tc : Thread Cert.GReferenceIdeal.nD Cert.GReferenceIdeal.τ).loc Cert.GReferenceIdeal.main_arg1) = m ((c.tc : Thread Cert.GReferenceIdeal.nD Cert.GReferenceIdeal.τ).loc Cert.GReferenceIdeal.main_arg1)
      ∧ r.2.mem ((c.tc : Thread Cert.GReferenceIdeal.nD Cert.GReferenceIdeal.τ).loc Cert.GReferenceIdeal.main_arg2) = m ((c.tc : Thread Cert.GReferenceIdeal.nD Cert.GReferenceIdeal.τ).loc Cert.GReferenceIdeal.main_arg2))
      ∧ r.2.sem = fun _ => 0)

def quiescent_HKernel [hHKernel : Cert.HKernel.Facts] : Prop :=
  ∀ (m : (ℓ : Loc Cert.HKernel.nD Cert.HKernel.τ Cert.HKernel.sig) → Buf (Elt Bits) ℓ) (g : Dev Cert.HKernel.nD → PrngReg), Pre_HKernel m →
    θ_run (Cert.HKernel.defs (F := Bits)) (onTc (τ := Cert.HKernel.τ) (Cert.HKernel.main (F := Bits))) ⟨m, fun _ => 0, g⟩ (fun r => (∀ c : Dev Cert.HKernel.nD,
      r.2.mem ((c.tc : Thread Cert.HKernel.nD Cert.HKernel.τ).loc Cert.HKernel.main_arg0) = m ((c.tc : Thread Cert.HKernel.nD Cert.HKernel.τ).loc Cert.HKernel.main_arg0)
      ∧ r.2.mem ((c.tc : Thread Cert.HKernel.nD Cert.HKernel.τ).loc Cert.HKernel.main_arg1) = m ((c.tc : Thread Cert.HKernel.nD Cert.HKernel.τ).loc Cert.HKernel.main_arg1)
      ∧ r.2.mem ((c.tc : Thread Cert.HKernel.nD Cert.HKernel.τ).loc Cert.HKernel.main_arg2) = m ((c.tc : Thread Cert.HKernel.nD Cert.HKernel.τ).loc Cert.HKernel.main_arg2))
      ∧ r.2.sem = fun _ => 0)

def quiescent_HKernelIdeal [hHKernelIdeal : Cert.HKernelIdeal.Facts] : Prop :=
  ∀ (m : (ℓ : Loc Cert.HKernelIdeal.nD Cert.HKernelIdeal.τ Cert.HKernelIdeal.sig) → Buf (Elt Ideal) ℓ) (g : Dev Cert.HKernelIdeal.nD → PrngReg), Pre_HKernelIdeal m →
    θ_run (Cert.HKernelIdeal.defs (F := Ideal)) (onTc (τ := Cert.HKernelIdeal.τ) (Cert.HKernelIdeal.main (F := Ideal))) ⟨m, fun _ => 0, g⟩ (fun r => (∀ c : Dev Cert.HKernelIdeal.nD,
      r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
      ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
      ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2))
      ∧ r.2.sem = fun _ => 0)

def quiescent_HReferenceIdeal [hHReferenceIdeal : Cert.HReferenceIdeal.Facts] : Prop :=
  ∀ (m : (ℓ : Loc Cert.HReferenceIdeal.nD Cert.HReferenceIdeal.τ Cert.HReferenceIdeal.sig) → Buf (Elt Ideal) ℓ) (g : Dev Cert.HReferenceIdeal.nD → PrngReg), Pre_HReferenceIdeal m →
    θ_run (Cert.HReferenceIdeal.defs (F := Ideal)) (onTc (τ := Cert.HReferenceIdeal.τ) (Cert.HReferenceIdeal.main (F := Ideal))) ⟨m, fun _ => 0, g⟩ (fun r => (∀ c : Dev Cert.HReferenceIdeal.nD,
      r.2.mem ((c.tc : Thread Cert.HReferenceIdeal.nD Cert.HReferenceIdeal.τ).loc Cert.HReferenceIdeal.main_arg0) = m ((c.tc : Thread Cert.HReferenceIdeal.nD Cert.HReferenceIdeal.τ).loc Cert.HReferenceIdeal.main_arg0)
      ∧ r.2.mem ((c.tc : Thread Cert.HReferenceIdeal.nD Cert.HReferenceIdeal.τ).loc Cert.HReferenceIdeal.main_arg1) = m ((c.tc : Thread Cert.HReferenceIdeal.nD Cert.HReferenceIdeal.τ).loc Cert.HReferenceIdeal.main_arg1)
      ∧ r.2.mem ((c.tc : Thread Cert.HReferenceIdeal.nD Cert.HReferenceIdeal.τ).loc Cert.HReferenceIdeal.main_arg2) = m ((c.tc : Thread Cert.HReferenceIdeal.nD Cert.HReferenceIdeal.τ).loc Cert.HReferenceIdeal.main_arg2))
      ∧ r.2.sem = fun _ => 0)

def quiescent_JKernel [hJKernel : Cert.JKernel.Facts] : Prop :=
  ∀ (m : (ℓ : Loc Cert.JKernel.nD Cert.JKernel.τ Cert.JKernel.sig) → Buf (Elt Bits) ℓ) (g : Dev Cert.JKernel.nD → PrngReg), Pre_JKernel m →
    θ_run (Cert.JKernel.defs (F := Bits)) (onTc (τ := Cert.JKernel.τ) (Cert.JKernel.main (F := Bits))) ⟨m, fun _ => 0, g⟩ (fun r => (∀ c : Dev Cert.JKernel.nD,
      r.2.mem ((c.tc : Thread Cert.JKernel.nD Cert.JKernel.τ).loc Cert.JKernel.main_arg0) = m ((c.tc : Thread Cert.JKernel.nD Cert.JKernel.τ).loc Cert.JKernel.main_arg0)
      ∧ r.2.mem ((c.tc : Thread Cert.JKernel.nD Cert.JKernel.τ).loc Cert.JKernel.main_arg1) = m ((c.tc : Thread Cert.JKernel.nD Cert.JKernel.τ).loc Cert.JKernel.main_arg1)
      ∧ r.2.mem ((c.tc : Thread Cert.JKernel.nD Cert.JKernel.τ).loc Cert.JKernel.main_arg2) = m ((c.tc : Thread Cert.JKernel.nD Cert.JKernel.τ).loc Cert.JKernel.main_arg2))
      ∧ r.2.sem = fun _ => 0)

def quiescent_JKernelIdeal [hJKernelIdeal : Cert.JKernelIdeal.Facts] : Prop :=
  ∀ (m : (ℓ : Loc Cert.JKernelIdeal.nD Cert.JKernelIdeal.τ Cert.JKernelIdeal.sig) → Buf (Elt Ideal) ℓ) (g : Dev Cert.JKernelIdeal.nD → PrngReg), Pre_JKernelIdeal m →
    θ_run (Cert.JKernelIdeal.defs (F := Ideal)) (onTc (τ := Cert.JKernelIdeal.τ) (Cert.JKernelIdeal.main (F := Ideal))) ⟨m, fun _ => 0, g⟩ (fun r => (∀ c : Dev Cert.JKernelIdeal.nD,
      r.2.mem ((c.tc : Thread Cert.JKernelIdeal.nD Cert.JKernelIdeal.τ).loc Cert.JKernelIdeal.main_arg0) = m ((c.tc : Thread Cert.JKernelIdeal.nD Cert.JKernelIdeal.τ).loc Cert.JKernelIdeal.main_arg0)
      ∧ r.2.mem ((c.tc : Thread Cert.JKernelIdeal.nD Cert.JKernelIdeal.τ).loc Cert.JKernelIdeal.main_arg1) = m ((c.tc : Thread Cert.JKernelIdeal.nD Cert.JKernelIdeal.τ).loc Cert.JKernelIdeal.main_arg1)
      ∧ r.2.mem ((c.tc : Thread Cert.JKernelIdeal.nD Cert.JKernelIdeal.τ).loc Cert.JKernelIdeal.main_arg2) = m ((c.tc : Thread Cert.JKernelIdeal.nD Cert.JKernelIdeal.τ).loc Cert.JKernelIdeal.main_arg2))
      ∧ r.2.sem = fun _ => 0)

def quiescent_JReferenceIdeal [hJReferenceIdeal : Cert.JReferenceIdeal.Facts] : Prop :=
  ∀ (m : (ℓ : Loc Cert.JReferenceIdeal.nD Cert.JReferenceIdeal.τ Cert.JReferenceIdeal.sig) → Buf (Elt Ideal) ℓ) (g : Dev Cert.JReferenceIdeal.nD → PrngReg), Pre_JReferenceIdeal m →
    θ_run (Cert.JReferenceIdeal.defs (F := Ideal)) (onTc (τ := Cert.JReferenceIdeal.τ) (Cert.JReferenceIdeal.main (F := Ideal))) ⟨m, fun _ => 0, g⟩ (fun r => (∀ c : Dev Cert.JReferenceIdeal.nD,
      r.2.mem ((c.tc : Thread Cert.JReferenceIdeal.nD Cert.JReferenceIdeal.τ).loc Cert.JReferenceIdeal.main_arg0) = m ((c.tc : Thread Cert.JReferenceIdeal.nD Cert.JReferenceIdeal.τ).loc Cert.JReferenceIdeal.main_arg0)
      ∧ r.2.mem ((c.tc : Thread Cert.JReferenceIdeal.nD Cert.JReferenceIdeal.τ).loc Cert.JReferenceIdeal.main_arg1) = m ((c.tc : Thread Cert.JReferenceIdeal.nD Cert.JReferenceIdeal.τ).loc Cert.JReferenceIdeal.main_arg1)
      ∧ r.2.mem ((c.tc : Thread Cert.JReferenceIdeal.nD Cert.JReferenceIdeal.τ).loc Cert.JReferenceIdeal.main_arg2) = m ((c.tc : Thread Cert.JReferenceIdeal.nD Cert.JReferenceIdeal.τ).loc Cert.JReferenceIdeal.main_arg2))
      ∧ r.2.sem = fun _ => 0)

def quiescent_KKernel [hKKernel : Cert.KKernel.Facts] : Prop :=
  ∀ (m : (ℓ : Loc Cert.KKernel.nD Cert.KKernel.τ Cert.KKernel.sig) → Buf (Elt Bits) ℓ) (g : Dev Cert.KKernel.nD → PrngReg), Pre_KKernel m →
    θ_run (Cert.KKernel.defs (F := Bits)) (onTc (τ := Cert.KKernel.τ) (Cert.KKernel.main (F := Bits))) ⟨m, fun _ => 0, g⟩ (fun r => (∀ c : Dev Cert.KKernel.nD,
      r.2.mem ((c.tc : Thread Cert.KKernel.nD Cert.KKernel.τ).loc Cert.KKernel.main_arg0) = m ((c.tc : Thread Cert.KKernel.nD Cert.KKernel.τ).loc Cert.KKernel.main_arg0)
      ∧ r.2.mem ((c.tc : Thread Cert.KKernel.nD Cert.KKernel.τ).loc Cert.KKernel.main_arg1) = m ((c.tc : Thread Cert.KKernel.nD Cert.KKernel.τ).loc Cert.KKernel.main_arg1)
      ∧ r.2.mem ((c.tc : Thread Cert.KKernel.nD Cert.KKernel.τ).loc Cert.KKernel.main_arg2) = m ((c.tc : Thread Cert.KKernel.nD Cert.KKernel.τ).loc Cert.KKernel.main_arg2)
      ∧ r.2.mem ((c.tc : Thread Cert.KKernel.nD Cert.KKernel.τ).loc Cert.KKernel.main_arg3) = m ((c.tc : Thread Cert.KKernel.nD Cert.KKernel.τ).loc Cert.KKernel.main_arg3)
      ∧ r.2.mem ((c.tc : Thread Cert.KKernel.nD Cert.KKernel.τ).loc Cert.KKernel.main_arg4) = m ((c.tc : Thread Cert.KKernel.nD Cert.KKernel.τ).loc Cert.KKernel.main_arg4)
      ∧ r.2.mem ((c.tc : Thread Cert.KKernel.nD Cert.KKernel.τ).loc Cert.KKernel.main_arg5) = m ((c.tc : Thread Cert.KKernel.nD Cert.KKernel.τ).loc Cert.KKernel.main_arg5))
      ∧ r.2.sem = fun _ => 0)

def quiescent_KKernelIdeal [hKKernelIdeal : Cert.KKernelIdeal.Facts] : Prop :=
  ∀ (m : (ℓ : Loc Cert.KKernelIdeal.nD Cert.KKernelIdeal.τ Cert.KKernelIdeal.sig) → Buf (Elt Ideal) ℓ) (g : Dev Cert.KKernelIdeal.nD → PrngReg), Pre_KKernelIdeal m →
    θ_run (Cert.KKernelIdeal.defs (F := Ideal)) (onTc (τ := Cert.KKernelIdeal.τ) (Cert.KKernelIdeal.main (F := Ideal))) ⟨m, fun _ => 0, g⟩ (fun r => (∀ c : Dev Cert.KKernelIdeal.nD,
      r.2.mem ((c.tc : Thread Cert.KKernelIdeal.nD Cert.KKernelIdeal.τ).loc Cert.KKernelIdeal.main_arg0) = m ((c.tc : Thread Cert.KKernelIdeal.nD Cert.KKernelIdeal.τ).loc Cert.KKernelIdeal.main_arg0)
      ∧ r.2.mem ((c.tc : Thread Cert.KKernelIdeal.nD Cert.KKernelIdeal.τ).loc Cert.KKernelIdeal.main_arg1) = m ((c.tc : Thread Cert.KKernelIdeal.nD Cert.KKernelIdeal.τ).loc Cert.KKernelIdeal.main_arg1)
      ∧ r.2.mem ((c.tc : Thread Cert.KKernelIdeal.nD Cert.KKernelIdeal.τ).loc Cert.KKernelIdeal.main_arg2) = m ((c.tc : Thread Cert.KKernelIdeal.nD Cert.KKernelIdeal.τ).loc Cert.KKernelIdeal.main_arg2)
      ∧ r.2.mem ((c.tc : Thread Cert.KKernelIdeal.nD Cert.KKernelIdeal.τ).loc Cert.KKernelIdeal.main_arg3) = m ((c.tc : Thread Cert.KKernelIdeal.nD Cert.KKernelIdeal.τ).loc Cert.KKernelIdeal.main_arg3)
      ∧ r.2.mem ((c.tc : Thread Cert.KKernelIdeal.nD Cert.KKernelIdeal.τ).loc Cert.KKernelIdeal.main_arg4) = m ((c.tc : Thread Cert.KKernelIdeal.nD Cert.KKernelIdeal.τ).loc Cert.KKernelIdeal.main_arg4)
      ∧ r.2.mem ((c.tc : Thread Cert.KKernelIdeal.nD Cert.KKernelIdeal.τ).loc Cert.KKernelIdeal.main_arg5) = m ((c.tc : Thread Cert.KKernelIdeal.nD Cert.KKernelIdeal.τ).loc Cert.KKernelIdeal.main_arg5))
      ∧ r.2.sem = fun _ => 0)

def quiescent_KKernelIdeal_pre_finite_kv [hKKernelIdeal : Cert.KKernelIdeal.Facts] [hPre_finite_kv : Cert.Pre_finite_kv.Facts] : Prop :=
  ∀ (m : (ℓ : Loc Cert.KKernelIdeal.nD Cert.KKernelIdeal.τ Cert.KKernelIdeal.sig) → Buf (Elt Ideal) ℓ) (g : Dev Cert.KKernelIdeal.nD → PrngReg), Pre_KKernelIdeal_finite_kv m →
    θ_run (Cert.KKernelIdeal.defs (F := Ideal)) (onTc (τ := Cert.KKernelIdeal.τ) (Cert.KKernelIdeal.main (F := Ideal))) ⟨m, fun _ => 0, g⟩ (fun r => (∀ c : Dev Cert.KKernelIdeal.nD,
      r.2.mem ((c.tc : Thread Cert.KKernelIdeal.nD Cert.KKernelIdeal.τ).loc Cert.KKernelIdeal.main_arg0) = m ((c.tc : Thread Cert.KKernelIdeal.nD Cert.KKernelIdeal.τ).loc Cert.KKernelIdeal.main_arg0)
      ∧ r.2.mem ((c.tc : Thread Cert.KKernelIdeal.nD Cert.KKernelIdeal.τ).loc Cert.KKernelIdeal.main_arg1) = m ((c.tc : Thread Cert.KKernelIdeal.nD Cert.KKernelIdeal.τ).loc Cert.KKernelIdeal.main_arg1)
      ∧ r.2.mem ((c.tc : Thread Cert.KKernelIdeal.nD Cert.KKernelIdeal.τ).loc Cert.KKernelIdeal.main_arg2) = m ((c.tc : Thread Cert.KKernelIdeal.nD Cert.KKernelIdeal.τ).loc Cert.KKernelIdeal.main_arg2)
      ∧ r.2.mem ((c.tc : Thread Cert.KKernelIdeal.nD Cert.KKernelIdeal.τ).loc Cert.KKernelIdeal.main_arg3) = m ((c.tc : Thread Cert.KKernelIdeal.nD Cert.KKernelIdeal.τ).loc Cert.KKernelIdeal.main_arg3)
      ∧ r.2.mem ((c.tc : Thread Cert.KKernelIdeal.nD Cert.KKernelIdeal.τ).loc Cert.KKernelIdeal.main_arg4) = m ((c.tc : Thread Cert.KKernelIdeal.nD Cert.KKernelIdeal.τ).loc Cert.KKernelIdeal.main_arg4)
      ∧ r.2.mem ((c.tc : Thread Cert.KKernelIdeal.nD Cert.KKernelIdeal.τ).loc Cert.KKernelIdeal.main_arg5) = m ((c.tc : Thread Cert.KKernelIdeal.nD Cert.KKernelIdeal.τ).loc Cert.KKernelIdeal.main_arg5))
      ∧ r.2.sem = fun _ => 0)

def quiescent_KReferenceIdeal [hKReferenceIdeal : Cert.KReferenceIdeal.Facts] : Prop :=
  ∀ (m : (ℓ : Loc Cert.KReferenceIdeal.nD Cert.KReferenceIdeal.τ Cert.KReferenceIdeal.sig) → Buf (Elt Ideal) ℓ) (g : Dev Cert.KReferenceIdeal.nD → PrngReg), Pre_KReferenceIdeal m →
    θ_run (Cert.KReferenceIdeal.defs (F := Ideal)) (onTc (τ := Cert.KReferenceIdeal.τ) (Cert.KReferenceIdeal.main (F := Ideal))) ⟨m, fun _ => 0, g⟩ (fun r => (∀ c : Dev Cert.KReferenceIdeal.nD,
      r.2.mem ((c.tc : Thread Cert.KReferenceIdeal.nD Cert.KReferenceIdeal.τ).loc Cert.KReferenceIdeal.main_arg0) = m ((c.tc : Thread Cert.KReferenceIdeal.nD Cert.KReferenceIdeal.τ).loc Cert.KReferenceIdeal.main_arg0)
      ∧ r.2.mem ((c.tc : Thread Cert.KReferenceIdeal.nD Cert.KReferenceIdeal.τ).loc Cert.KReferenceIdeal.main_arg1) = m ((c.tc : Thread Cert.KReferenceIdeal.nD Cert.KReferenceIdeal.τ).loc Cert.KReferenceIdeal.main_arg1)
      ∧ r.2.mem ((c.tc : Thread Cert.KReferenceIdeal.nD Cert.KReferenceIdeal.τ).loc Cert.KReferenceIdeal.main_arg2) = m ((c.tc : Thread Cert.KReferenceIdeal.nD Cert.KReferenceIdeal.τ).loc Cert.KReferenceIdeal.main_arg2)
      ∧ r.2.mem ((c.tc : Thread Cert.KReferenceIdeal.nD Cert.KReferenceIdeal.τ).loc Cert.KReferenceIdeal.main_arg3) = m ((c.tc : Thread Cert.KReferenceIdeal.nD Cert.KReferenceIdeal.τ).loc Cert.KReferenceIdeal.main_arg3)
      ∧ r.2.mem ((c.tc : Thread Cert.KReferenceIdeal.nD Cert.KReferenceIdeal.τ).loc Cert.KReferenceIdeal.main_arg4) = m ((c.tc : Thread Cert.KReferenceIdeal.nD Cert.KReferenceIdeal.τ).loc Cert.KReferenceIdeal.main_arg4)
      ∧ r.2.mem ((c.tc : Thread Cert.KReferenceIdeal.nD Cert.KReferenceIdeal.τ).loc Cert.KReferenceIdeal.main_arg5) = m ((c.tc : Thread Cert.KReferenceIdeal.nD Cert.KReferenceIdeal.τ).loc Cert.KReferenceIdeal.main_arg5))
      ∧ r.2.sem = fun _ => 0)

def quiescent_KReferenceIdeal_pre_finite_kv [hKReferenceIdeal : Cert.KReferenceIdeal.Facts] [hPre_finite_kv : Cert.Pre_finite_kv.Facts] : Prop :=
  ∀ (m : (ℓ : Loc Cert.KReferenceIdeal.nD Cert.KReferenceIdeal.τ Cert.KReferenceIdeal.sig) → Buf (Elt Ideal) ℓ) (g : Dev Cert.KReferenceIdeal.nD → PrngReg), Pre_KReferenceIdeal_finite_kv m →
    θ_run (Cert.KReferenceIdeal.defs (F := Ideal)) (onTc (τ := Cert.KReferenceIdeal.τ) (Cert.KReferenceIdeal.main (F := Ideal))) ⟨m, fun _ => 0, g⟩ (fun r => (∀ c : Dev Cert.KReferenceIdeal.nD,
      r.2.mem ((c.tc : Thread Cert.KReferenceIdeal.nD Cert.KReferenceIdeal.τ).loc Cert.KReferenceIdeal.main_arg0) = m ((c.tc : Thread Cert.KReferenceIdeal.nD Cert.KReferenceIdeal.τ).loc Cert.KReferenceIdeal.main_arg0)
      ∧ r.2.mem ((c.tc : Thread Cert.KReferenceIdeal.nD Cert.KReferenceIdeal.τ).loc Cert.KReferenceIdeal.main_arg1) = m ((c.tc : Thread Cert.KReferenceIdeal.nD Cert.KReferenceIdeal.τ).loc Cert.KReferenceIdeal.main_arg1)
      ∧ r.2.mem ((c.tc : Thread Cert.KReferenceIdeal.nD Cert.KReferenceIdeal.τ).loc Cert.KReferenceIdeal.main_arg2) = m ((c.tc : Thread Cert.KReferenceIdeal.nD Cert.KReferenceIdeal.τ).loc Cert.KReferenceIdeal.main_arg2)
      ∧ r.2.mem ((c.tc : Thread Cert.KReferenceIdeal.nD Cert.KReferenceIdeal.τ).loc Cert.KReferenceIdeal.main_arg3) = m ((c.tc : Thread Cert.KReferenceIdeal.nD Cert.KReferenceIdeal.τ).loc Cert.KReferenceIdeal.main_arg3)
      ∧ r.2.mem ((c.tc : Thread Cert.KReferenceIdeal.nD Cert.KReferenceIdeal.τ).loc Cert.KReferenceIdeal.main_arg4) = m ((c.tc : Thread Cert.KReferenceIdeal.nD Cert.KReferenceIdeal.τ).loc Cert.KReferenceIdeal.main_arg4)
      ∧ r.2.mem ((c.tc : Thread Cert.KReferenceIdeal.nD Cert.KReferenceIdeal.τ).loc Cert.KReferenceIdeal.main_arg5) = m ((c.tc : Thread Cert.KReferenceIdeal.nD Cert.KReferenceIdeal.τ).loc Cert.KReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v72_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v72_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_WKernel_WKernelIdeal : Prop :=
  True

def algebraic_WKernelIdeal_WReferenceIdeal [hWKernelIdeal : Cert.WKernelIdeal.Facts] [hWReferenceIdeal : Cert.WReferenceIdeal.Facts] : Prop :=
  ∀ (m : (ℓ : Loc Cert.WKernelIdeal.nD Cert.WKernelIdeal.τ Cert.WKernelIdeal.sig) → Buf (Elt Ideal) ℓ) (g : Dev Cert.WKernelIdeal.nD → PrngReg)
    (m' : (ℓ : Loc Cert.WReferenceIdeal.nD Cert.WReferenceIdeal.τ Cert.WReferenceIdeal.sig) → Buf (Elt Ideal) ℓ) (g' : Dev Cert.WReferenceIdeal.nD → PrngReg), Pre_WKernelIdeal m →
    (∀ c : Dev Cert.WKernelIdeal.nD,
      m' ((c.tc : Thread Cert.WReferenceIdeal.nD Cert.WReferenceIdeal.τ).loc Cert.WReferenceIdeal.main_arg0) = m ((c.tc : Thread Cert.WKernelIdeal.nD Cert.WKernelIdeal.τ).loc Cert.WKernelIdeal.main_arg0)
      ∧ m' ((c.tc : Thread Cert.WReferenceIdeal.nD Cert.WReferenceIdeal.τ).loc Cert.WReferenceIdeal.main_arg1) = m ((c.tc : Thread Cert.WKernelIdeal.nD Cert.WKernelIdeal.τ).loc Cert.WKernelIdeal.main_arg1)
      ∧ m' ((c.tc : Thread Cert.WReferenceIdeal.nD Cert.WReferenceIdeal.τ).loc Cert.WReferenceIdeal.main_arg2) = m ((c.tc : Thread Cert.WKernelIdeal.nD Cert.WKernelIdeal.τ).loc Cert.WKernelIdeal.main_arg2)) →
    ∃ (v0 : (c : Dev Cert.WKernelIdeal.nD) → Buf (Elt Ideal) ((c.tc : Thread Cert.WKernelIdeal.nD Cert.WKernelIdeal.τ).loc Cert.WKernelIdeal.main_v2)),
      θ_run (Cert.WKernelIdeal.defs (F := Ideal)) (onTc (τ := Cert.WKernelIdeal.τ) (Cert.WKernelIdeal.main (F := Ideal))) ⟨m, fun _ => 0, g⟩ (fun r => ∀ c : Dev Cert.WKernelIdeal.nD,
          r.2.mem ((c.tc : Thread Cert.WKernelIdeal.nD Cert.WKernelIdeal.τ).loc Cert.WKernelIdeal.main_v2) = v0 c
          ∧ r.2.mem ((c.tc : Thread Cert.WKernelIdeal.nD Cert.WKernelIdeal.τ).loc Cert.WKernelIdeal.main_arg0) = m ((c.tc : Thread Cert.WKernelIdeal.nD Cert.WKernelIdeal.τ).loc Cert.WKernelIdeal.main_arg0)
          ∧ r.2.mem ((c.tc : Thread Cert.WKernelIdeal.nD Cert.WKernelIdeal.τ).loc Cert.WKernelIdeal.main_arg1) = m ((c.tc : Thread Cert.WKernelIdeal.nD Cert.WKernelIdeal.τ).loc Cert.WKernelIdeal.main_arg1)
          ∧ r.2.mem ((c.tc : Thread Cert.WKernelIdeal.nD Cert.WKernelIdeal.τ).loc Cert.WKernelIdeal.main_arg2) = m ((c.tc : Thread Cert.WKernelIdeal.nD Cert.WKernelIdeal.τ).loc Cert.WKernelIdeal.main_arg2))
      ∧ θ_run (Cert.WReferenceIdeal.defs (F := Ideal)) (onTc (τ := Cert.WReferenceIdeal.τ) (Cert.WReferenceIdeal.main (F := Ideal))) ⟨m', fun _ => 0, g'⟩ (fun r => ∀ c : Dev Cert.WReferenceIdeal.nD,
          r.2.mem ((c.tc : Thread Cert.WReferenceIdeal.nD Cert.WReferenceIdeal.τ).loc Cert.WReferenceIdeal.main_v3) = v0 c
          ∧ r.2.mem ((c.tc : Thread Cert.WReferenceIdeal.nD Cert.WReferenceIdeal.τ).loc Cert.WReferenceIdeal.main_arg0) = m' ((c.tc : Thread Cert.WReferenceIdeal.nD Cert.WReferenceIdeal.τ).loc Cert.WReferenceIdeal.main_arg0)
          ∧ r.2.mem ((c.tc : Thread Cert.WReferenceIdeal.nD Cert.WReferenceIdeal.τ).loc Cert.WReferenceIdeal.main_arg1) = m' ((c.tc : Thread Cert.WReferenceIdeal.nD Cert.WReferenceIdeal.τ).loc Cert.WReferenceIdeal.main_arg1)
          ∧ r.2.mem ((c.tc : Thread Cert.WReferenceIdeal.nD Cert.WReferenceIdeal.τ).loc Cert.WReferenceIdeal.main_arg2) = m' ((c.tc : Thread Cert.WReferenceIdeal.nD Cert.WReferenceIdeal.τ).loc Cert.WReferenceIdeal.main_arg2))

def preserves_NKernel_NKernelIdeal : Prop :=
  True

def algebraic_NKernelIdeal_NReferenceIdeal_pre_finite_norm [hNKernelIdeal : Cert.NKernelIdeal.Facts] [hNReferenceIdeal : Cert.NReferenceIdeal.Facts] [hPre_finite_norm : Cert.Pre_finite_norm.Facts] : Prop :=
  ∀ (m : (ℓ : Loc Cert.NKernelIdeal.nD Cert.NKernelIdeal.τ Cert.NKernelIdeal.sig) → Buf (Elt Ideal) ℓ) (g : Dev Cert.NKernelIdeal.nD → PrngReg)
    (m' : (ℓ : Loc Cert.NReferenceIdeal.nD Cert.NReferenceIdeal.τ Cert.NReferenceIdeal.sig) → Buf (Elt Ideal) ℓ) (g' : Dev Cert.NReferenceIdeal.nD → PrngReg), Pre_NKernelIdeal_finite_norm m →
    (∀ c : Dev Cert.NKernelIdeal.nD,
      m' ((c.tc : Thread Cert.NReferenceIdeal.nD Cert.NReferenceIdeal.τ).loc Cert.NReferenceIdeal.main_arg0) = m ((c.tc : Thread Cert.NKernelIdeal.nD Cert.NKernelIdeal.τ).loc Cert.NKernelIdeal.main_arg0)
      ∧ m' ((c.tc : Thread Cert.NReferenceIdeal.nD Cert.NReferenceIdeal.τ).loc Cert.NReferenceIdeal.main_arg1) = m ((c.tc : Thread Cert.NKernelIdeal.nD Cert.NKernelIdeal.τ).loc Cert.NKernelIdeal.main_arg1)
      ∧ m' ((c.tc : Thread Cert.NReferenceIdeal.nD Cert.NReferenceIdeal.τ).loc Cert.NReferenceIdeal.main_arg2) = m ((c.tc : Thread Cert.NKernelIdeal.nD Cert.NKernelIdeal.τ).loc Cert.NKernelIdeal.main_arg2)
      ∧ m' ((c.tc : Thread Cert.NReferenceIdeal.nD Cert.NReferenceIdeal.τ).loc Cert.NReferenceIdeal.main_arg3) = m ((c.tc : Thread Cert.NKernelIdeal.nD Cert.NKernelIdeal.τ).loc Cert.NKernelIdeal.main_arg3)
      ∧ m' ((c.tc : Thread Cert.NReferenceIdeal.nD Cert.NReferenceIdeal.τ).loc Cert.NReferenceIdeal.main_arg4) = m ((c.tc : Thread Cert.NKernelIdeal.nD Cert.NKernelIdeal.τ).loc Cert.NKernelIdeal.main_arg4)
      ∧ m' ((c.tc : Thread Cert.NReferenceIdeal.nD Cert.NReferenceIdeal.τ).loc Cert.NReferenceIdeal.main_arg5) = m ((c.tc : Thread Cert.NKernelIdeal.nD Cert.NKernelIdeal.τ).loc Cert.NKernelIdeal.main_arg5)
      ∧ m' ((c.tc : Thread Cert.NReferenceIdeal.nD Cert.NReferenceIdeal.τ).loc Cert.NReferenceIdeal.main_arg6) = m ((c.tc : Thread Cert.NKernelIdeal.nD Cert.NKernelIdeal.τ).loc Cert.NKernelIdeal.main_arg6)
      ∧ m' ((c.tc : Thread Cert.NReferenceIdeal.nD Cert.NReferenceIdeal.τ).loc Cert.NReferenceIdeal.main_arg7) = m ((c.tc : Thread Cert.NKernelIdeal.nD Cert.NKernelIdeal.τ).loc Cert.NKernelIdeal.main_arg7)) →
    ∃ (v0 : (c : Dev Cert.NKernelIdeal.nD) → Buf (Elt Ideal) ((c.tc : Thread Cert.NKernelIdeal.nD Cert.NKernelIdeal.τ).loc Cert.NKernelIdeal.main_v7_0)) (v1 : (c : Dev Cert.NKernelIdeal.nD) → Buf (Elt Ideal) ((c.tc : Thread Cert.NKernelIdeal.nD Cert.NKernelIdeal.τ).loc Cert.NKernelIdeal.main_v7_1)) (v2 : (c : Dev Cert.NKernelIdeal.nD) → Buf (Elt Ideal) ((c.tc : Thread Cert.NKernelIdeal.nD Cert.NKernelIdeal.τ).loc Cert.NKernelIdeal.main_v7_2)) (v3 : (c : Dev Cert.NKernelIdeal.nD) → Buf (Elt Ideal) ((c.tc : Thread Cert.NKernelIdeal.nD Cert.NKernelIdeal.τ).loc Cert.NKernelIdeal.main_v7_3)),
      θ_run (Cert.NKernelIdeal.defs (F := Ideal)) (onTc (τ := Cert.NKernelIdeal.τ) (Cert.NKernelIdeal.main (F := Ideal))) ⟨m, fun _ => 0, g⟩ (fun r => ∀ c : Dev Cert.NKernelIdeal.nD,
          r.2.mem ((c.tc : Thread Cert.NKernelIdeal.nD Cert.NKernelIdeal.τ).loc Cert.NKernelIdeal.main_v7_0) = v0 c
          ∧ r.2.mem ((c.tc : Thread Cert.NKernelIdeal.nD Cert.NKernelIdeal.τ).loc Cert.NKernelIdeal.main_v7_1) = v1 c
          ∧ r.2.mem ((c.tc : Thread Cert.NKernelIdeal.nD Cert.NKernelIdeal.τ).loc Cert.NKernelIdeal.main_v7_2) = v2 c
          ∧ r.2.mem ((c.tc : Thread Cert.NKernelIdeal.nD Cert.NKernelIdeal.τ).loc Cert.NKernelIdeal.main_v7_3) = v3 c
          ∧ r.2.mem ((c.tc : Thread Cert.NKernelIdeal.nD Cert.NKernelIdeal.τ).loc Cert.NKernelIdeal.main_arg0) = m ((c.tc : Thread Cert.NKernelIdeal.nD Cert.NKernelIdeal.τ).loc Cert.NKernelIdeal.main_arg0)
          ∧ r.2.mem ((c.tc : Thread Cert.NKernelIdeal.nD Cert.NKernelIdeal.τ).loc Cert.NKernelIdeal.main_arg1) = m ((c.tc : Thread Cert.NKernelIdeal.nD Cert.NKernelIdeal.τ).loc Cert.NKernelIdeal.main_arg1)
          ∧ r.2.mem ((c.tc : Thread Cert.NKernelIdeal.nD Cert.NKernelIdeal.τ).loc Cert.NKernelIdeal.main_arg2) = m ((c.tc : Thread Cert.NKernelIdeal.nD Cert.NKernelIdeal.τ).loc Cert.NKernelIdeal.main_arg2)
          ∧ r.2.mem ((c.tc : Thread Cert.NKernelIdeal.nD Cert.NKernelIdeal.τ).loc Cert.NKernelIdeal.main_arg3) = m ((c.tc : Thread Cert.NKernelIdeal.nD Cert.NKernelIdeal.τ).loc Cert.NKernelIdeal.main_arg3)
          ∧ r.2.mem ((c.tc : Thread Cert.NKernelIdeal.nD Cert.NKernelIdeal.τ).loc Cert.NKernelIdeal.main_arg4) = m ((c.tc : Thread Cert.NKernelIdeal.nD Cert.NKernelIdeal.τ).loc Cert.NKernelIdeal.main_arg4)
          ∧ r.2.mem ((c.tc : Thread Cert.NKernelIdeal.nD Cert.NKernelIdeal.τ).loc Cert.NKernelIdeal.main_arg5) = m ((c.tc : Thread Cert.NKernelIdeal.nD Cert.NKernelIdeal.τ).loc Cert.NKernelIdeal.main_arg5)
          ∧ r.2.mem ((c.tc : Thread Cert.NKernelIdeal.nD Cert.NKernelIdeal.τ).loc Cert.NKernelIdeal.main_arg6) = m ((c.tc : Thread Cert.NKernelIdeal.nD Cert.NKernelIdeal.τ).loc Cert.NKernelIdeal.main_arg6)
          ∧ r.2.mem ((c.tc : Thread Cert.NKernelIdeal.nD Cert.NKernelIdeal.τ).loc Cert.NKernelIdeal.main_arg7) = m ((c.tc : Thread Cert.NKernelIdeal.nD Cert.NKernelIdeal.τ).loc Cert.NKernelIdeal.main_arg7))
      ∧ θ_run (Cert.NReferenceIdeal.defs (F := Ideal)) (onTc (τ := Cert.NReferenceIdeal.τ) (Cert.NReferenceIdeal.main (F := Ideal))) ⟨m', fun _ => 0, g'⟩ (fun r => ∀ c : Dev Cert.NReferenceIdeal.nD,
          r.2.mem ((c.tc : Thread Cert.NReferenceIdeal.nD Cert.NReferenceIdeal.τ).loc Cert.NReferenceIdeal.main_v71) = v0 c
          ∧ r.2.mem ((c.tc : Thread Cert.NReferenceIdeal.nD Cert.NReferenceIdeal.τ).loc Cert.NReferenceIdeal.main_v72) = v1 c
          ∧ r.2.mem ((c.tc : Thread Cert.NReferenceIdeal.nD Cert.NReferenceIdeal.τ).loc Cert.NReferenceIdeal.main_v73) = v2 c
          ∧ r.2.mem ((c.tc : Thread Cert.NReferenceIdeal.nD Cert.NReferenceIdeal.τ).loc Cert.NReferenceIdeal.main_v74) = v3 c
          ∧ r.2.mem ((c.tc : Thread Cert.NReferenceIdeal.nD Cert.NReferenceIdeal.τ).loc Cert.NReferenceIdeal.main_arg0) = m' ((c.tc : Thread Cert.NReferenceIdeal.nD Cert.NReferenceIdeal.τ).loc Cert.NReferenceIdeal.main_arg0)
          ∧ r.2.mem ((c.tc : Thread Cert.NReferenceIdeal.nD Cert.NReferenceIdeal.τ).loc Cert.NReferenceIdeal.main_arg1) = m' ((c.tc : Thread Cert.NReferenceIdeal.nD Cert.NReferenceIdeal.τ).loc Cert.NReferenceIdeal.main_arg1)
          ∧ r.2.mem ((c.tc : Thread Cert.NReferenceIdeal.nD Cert.NReferenceIdeal.τ).loc Cert.NReferenceIdeal.main_arg2) = m' ((c.tc : Thread Cert.NReferenceIdeal.nD Cert.NReferenceIdeal.τ).loc Cert.NReferenceIdeal.main_arg2)
          ∧ r.2.mem ((c.tc : Thread Cert.NReferenceIdeal.nD Cert.NReferenceIdeal.τ).loc Cert.NReferenceIdeal.main_arg3) = m' ((c.tc : Thread Cert.NReferenceIdeal.nD Cert.NReferenceIdeal.τ).loc Cert.NReferenceIdeal.main_arg3)
          ∧ r.2.mem ((c.tc : Thread Cert.NReferenceIdeal.nD Cert.NReferenceIdeal.τ).loc Cert.NReferenceIdeal.main_arg4) = m' ((c.tc : Thread Cert.NReferenceIdeal.nD Cert.NReferenceIdeal.τ).loc Cert.NReferenceIdeal.main_arg4)
          ∧ r.2.mem ((c.tc : Thread Cert.NReferenceIdeal.nD Cert.NReferenceIdeal.τ).loc Cert.NReferenceIdeal.main_arg5) = m' ((c.tc : Thread Cert.NReferenceIdeal.nD Cert.NReferenceIdeal.τ).loc Cert.NReferenceIdeal.main_arg5)
          ∧ r.2.mem ((c.tc : Thread Cert.NReferenceIdeal.nD Cert.NReferenceIdeal.τ).loc Cert.NReferenceIdeal.main_arg6) = m' ((c.tc : Thread Cert.NReferenceIdeal.nD Cert.NReferenceIdeal.τ).loc Cert.NReferenceIdeal.main_arg6)
          ∧ r.2.mem ((c.tc : Thread Cert.NReferenceIdeal.nD Cert.NReferenceIdeal.τ).loc Cert.NReferenceIdeal.main_arg7) = m' ((c.tc : Thread Cert.NReferenceIdeal.nD Cert.NReferenceIdeal.τ).loc Cert.NReferenceIdeal.main_arg7))

def preserves_UKernel_UKernelIdeal : Prop :=
  IdealRules.named_const.Statement Cert.UKernelIdeal.κ "cubic" .f32 0x3D122279#32 ((80338380498831 / 2251799813685248 : ℝ) : EReal)
  ∧ IdealRules.named_const.Statement Cert.UKernelIdeal.κ "cubic_slope" .f32 0x3D5B33B6#32 ((241015141496493 / 4503599627370496 : ℝ) : EReal)

def algebraic_UKernelIdeal_UReferenceIdeal_pre_finite_up [hUKernelIdeal : Cert.UKernelIdeal.Facts] [hUReferenceIdeal : Cert.UReferenceIdeal.Facts] [hPre_finite_up : Cert.Pre_finite_up.Facts] : Prop :=
  ∀ (m : (ℓ : Loc Cert.UKernelIdeal.nD Cert.UKernelIdeal.τ Cert.UKernelIdeal.sig) → Buf (Elt Ideal) ℓ) (g : Dev Cert.UKernelIdeal.nD → PrngReg)
    (m' : (ℓ : Loc Cert.UReferenceIdeal.nD Cert.UReferenceIdeal.τ Cert.UReferenceIdeal.sig) → Buf (Elt Ideal) ℓ) (g' : Dev Cert.UReferenceIdeal.nD → PrngReg), Pre_UKernelIdeal_finite_up m →
    (∀ c : Dev Cert.UKernelIdeal.nD,
      m' ((c.tc : Thread Cert.UReferenceIdeal.nD Cert.UReferenceIdeal.τ).loc Cert.UReferenceIdeal.main_arg0) = m ((c.tc : Thread Cert.UKernelIdeal.nD Cert.UKernelIdeal.τ).loc Cert.UKernelIdeal.main_arg0)
      ∧ m' ((c.tc : Thread Cert.UReferenceIdeal.nD Cert.UReferenceIdeal.τ).loc Cert.UReferenceIdeal.main_arg1) = m ((c.tc : Thread Cert.UKernelIdeal.nD Cert.UKernelIdeal.τ).loc Cert.UKernelIdeal.main_arg1)
      ∧ m' ((c.tc : Thread Cert.UReferenceIdeal.nD Cert.UReferenceIdeal.τ).loc Cert.UReferenceIdeal.main_arg2) = m ((c.tc : Thread Cert.UKernelIdeal.nD Cert.UKernelIdeal.τ).loc Cert.UKernelIdeal.main_arg2)
      ∧ m' ((c.tc : Thread Cert.UReferenceIdeal.nD Cert.UReferenceIdeal.τ).loc Cert.UReferenceIdeal.main_arg3) = m ((c.tc : Thread Cert.UKernelIdeal.nD Cert.UKernelIdeal.τ).loc Cert.UKernelIdeal.main_arg3)
      ∧ m' ((c.tc : Thread Cert.UReferenceIdeal.nD Cert.UReferenceIdeal.τ).loc Cert.UReferenceIdeal.main_arg4) = m ((c.tc : Thread Cert.UKernelIdeal.nD Cert.UKernelIdeal.τ).loc Cert.UKernelIdeal.main_arg4)) →
    ∃ (v0 : (c : Dev Cert.UKernelIdeal.nD) → Buf (Elt Ideal) ((c.tc : Thread Cert.UKernelIdeal.nD Cert.UKernelIdeal.τ).loc Cert.UKernelIdeal.main_v7_0)) (v1 : (c : Dev Cert.UKernelIdeal.nD) → Buf (Elt Ideal) ((c.tc : Thread Cert.UKernelIdeal.nD Cert.UKernelIdeal.τ).loc Cert.UKernelIdeal.main_v7_1)) (v2 : (c : Dev Cert.UKernelIdeal.nD) → Buf (Elt Ideal) ((c.tc : Thread Cert.UKernelIdeal.nD Cert.UKernelIdeal.τ).loc Cert.UKernelIdeal.main_v7_2)) (v3 : (c : Dev Cert.UKernelIdeal.nD) → Buf (Elt Ideal) ((c.tc : Thread Cert.UKernelIdeal.nD Cert.UKernelIdeal.τ).loc Cert.UKernelIdeal.main_v7_3)),
      θ_run (Cert.UKernelIdeal.defs (F := Ideal)) (onTc (τ := Cert.UKernelIdeal.τ) (Cert.UKernelIdeal.main (F := Ideal))) ⟨m, fun _ => 0, g⟩ (fun r => ∀ c : Dev Cert.UKernelIdeal.nD,
          r.2.mem ((c.tc : Thread Cert.UKernelIdeal.nD Cert.UKernelIdeal.τ).loc Cert.UKernelIdeal.main_v7_0) = v0 c
          ∧ r.2.mem ((c.tc : Thread Cert.UKernelIdeal.nD Cert.UKernelIdeal.τ).loc Cert.UKernelIdeal.main_v7_1) = v1 c
          ∧ r.2.mem ((c.tc : Thread Cert.UKernelIdeal.nD Cert.UKernelIdeal.τ).loc Cert.UKernelIdeal.main_v7_2) = v2 c
          ∧ r.2.mem ((c.tc : Thread Cert.UKernelIdeal.nD Cert.UKernelIdeal.τ).loc Cert.UKernelIdeal.main_v7_3) = v3 c
          ∧ r.2.mem ((c.tc : Thread Cert.UKernelIdeal.nD Cert.UKernelIdeal.τ).loc Cert.UKernelIdeal.main_arg0) = m ((c.tc : Thread Cert.UKernelIdeal.nD Cert.UKernelIdeal.τ).loc Cert.UKernelIdeal.main_arg0)
          ∧ r.2.mem ((c.tc : Thread Cert.UKernelIdeal.nD Cert.UKernelIdeal.τ).loc Cert.UKernelIdeal.main_arg1) = m ((c.tc : Thread Cert.UKernelIdeal.nD Cert.UKernelIdeal.τ).loc Cert.UKernelIdeal.main_arg1)
          ∧ r.2.mem ((c.tc : Thread Cert.UKernelIdeal.nD Cert.UKernelIdeal.τ).loc Cert.UKernelIdeal.main_arg2) = m ((c.tc : Thread Cert.UKernelIdeal.nD Cert.UKernelIdeal.τ).loc Cert.UKernelIdeal.main_arg2)
          ∧ r.2.mem ((c.tc : Thread Cert.UKernelIdeal.nD Cert.UKernelIdeal.τ).loc Cert.UKernelIdeal.main_arg3) = m ((c.tc : Thread Cert.UKernelIdeal.nD Cert.UKernelIdeal.τ).loc Cert.UKernelIdeal.main_arg3)
          ∧ r.2.mem ((c.tc : Thread Cert.UKernelIdeal.nD Cert.UKernelIdeal.τ).loc Cert.UKernelIdeal.main_arg4) = m ((c.tc : Thread Cert.UKernelIdeal.nD Cert.UKernelIdeal.τ).loc Cert.UKernelIdeal.main_arg4))
      ∧ θ_run (Cert.UReferenceIdeal.defs (F := Ideal)) (onTc (τ := Cert.UReferenceIdeal.τ) (Cert.UReferenceIdeal.main (F := Ideal))) ⟨m', fun _ => 0, g'⟩ (fun r => ∀ c : Dev Cert.UReferenceIdeal.nD,
          r.2.mem ((c.tc : Thread Cert.UReferenceIdeal.nD Cert.UReferenceIdeal.τ).loc Cert.UReferenceIdeal.main_v67) = v0 c
          ∧ r.2.mem ((c.tc : Thread Cert.UReferenceIdeal.nD Cert.UReferenceIdeal.τ).loc Cert.UReferenceIdeal.main_v69) = v1 c
          ∧ r.2.mem ((c.tc : Thread Cert.UReferenceIdeal.nD Cert.UReferenceIdeal.τ).loc Cert.UReferenceIdeal.main_v71) = v2 c
          ∧ r.2.mem ((c.tc : Thread Cert.UReferenceIdeal.nD Cert.UReferenceIdeal.τ).loc Cert.UReferenceIdeal.main_v73) = v3 c
          ∧ r.2.mem ((c.tc : Thread Cert.UReferenceIdeal.nD Cert.UReferenceIdeal.τ).loc Cert.UReferenceIdeal.main_arg0) = m' ((c.tc : Thread Cert.UReferenceIdeal.nD Cert.UReferenceIdeal.τ).loc Cert.UReferenceIdeal.main_arg0)
          ∧ r.2.mem ((c.tc : Thread Cert.UReferenceIdeal.nD Cert.UReferenceIdeal.τ).loc Cert.UReferenceIdeal.main_arg1) = m' ((c.tc : Thread Cert.UReferenceIdeal.nD Cert.UReferenceIdeal.τ).loc Cert.UReferenceIdeal.main_arg1)
          ∧ r.2.mem ((c.tc : Thread Cert.UReferenceIdeal.nD Cert.UReferenceIdeal.τ).loc Cert.UReferenceIdeal.main_arg2) = m' ((c.tc : Thread Cert.UReferenceIdeal.nD Cert.UReferenceIdeal.τ).loc Cert.UReferenceIdeal.main_arg2)
          ∧ r.2.mem ((c.tc : Thread Cert.UReferenceIdeal.nD Cert.UReferenceIdeal.τ).loc Cert.UReferenceIdeal.main_arg3) = m' ((c.tc : Thread Cert.UReferenceIdeal.nD Cert.UReferenceIdeal.τ).loc Cert.UReferenceIdeal.main_arg3)
          ∧ r.2.mem ((c.tc : Thread Cert.UReferenceIdeal.nD Cert.UReferenceIdeal.τ).loc Cert.UReferenceIdeal.main_arg4) = m' ((c.tc : Thread Cert.UReferenceIdeal.nD Cert.UReferenceIdeal.τ).loc Cert.UReferenceIdeal.main_arg4))

def preserves_DKernel_DKernelIdeal : Prop :=
  True

def algebraic_DKernelIdeal_DReferenceIdeal [hDKernelIdeal : Cert.DKernelIdeal.Facts] [hDReferenceIdeal : Cert.DReferenceIdeal.Facts] : Prop :=
  ∀ (m : (ℓ : Loc Cert.DKernelIdeal.nD Cert.DKernelIdeal.τ Cert.DKernelIdeal.sig) → Buf (Elt Ideal) ℓ) (g : Dev Cert.DKernelIdeal.nD → PrngReg)
    (m' : (ℓ : Loc Cert.DReferenceIdeal.nD Cert.DReferenceIdeal.τ Cert.DReferenceIdeal.sig) → Buf (Elt Ideal) ℓ) (g' : Dev Cert.DReferenceIdeal.nD → PrngReg), Pre_DKernelIdeal m →
    (∀ c : Dev Cert.DKernelIdeal.nD,
      m' ((c.tc : Thread Cert.DReferenceIdeal.nD Cert.DReferenceIdeal.τ).loc Cert.DReferenceIdeal.main_arg0) = m ((c.tc : Thread Cert.DKernelIdeal.nD Cert.DKernelIdeal.τ).loc Cert.DKernelIdeal.main_arg0)
      ∧ m' ((c.tc : Thread Cert.DReferenceIdeal.nD Cert.DReferenceIdeal.τ).loc Cert.DReferenceIdeal.main_arg1) = m ((c.tc : Thread Cert.DKernelIdeal.nD Cert.DKernelIdeal.τ).loc Cert.DKernelIdeal.main_arg1)
      ∧ m' ((c.tc : Thread Cert.DReferenceIdeal.nD Cert.DReferenceIdeal.τ).loc Cert.DReferenceIdeal.main_arg2) = m ((c.tc : Thread Cert.DKernelIdeal.nD Cert.DKernelIdeal.τ).loc Cert.DKernelIdeal.main_arg2)
      ∧ m' ((c.tc : Thread Cert.DReferenceIdeal.nD Cert.DReferenceIdeal.τ).loc Cert.DReferenceIdeal.main_arg3) = m ((c.tc : Thread Cert.DKernelIdeal.nD Cert.DKernelIdeal.τ).loc Cert.DKernelIdeal.main_arg3)
      ∧ m' ((c.tc : Thread Cert.DReferenceIdeal.nD Cert.DReferenceIdeal.τ).loc Cert.DReferenceIdeal.main_arg4) = m ((c.tc : Thread Cert.DKernelIdeal.nD Cert.DKernelIdeal.τ).loc Cert.DKernelIdeal.main_arg4)) →
    ∃ (v0 : (c : Dev Cert.DKernelIdeal.nD) → Buf (Elt Ideal) ((c.tc : Thread Cert.DKernelIdeal.nD Cert.DKernelIdeal.τ).loc Cert.DKernelIdeal.main_v4_0)) (v1 : (c : Dev Cert.DKernelIdeal.nD) → Buf (Elt Ideal) ((c.tc : Thread Cert.DKernelIdeal.nD Cert.DKernelIdeal.τ).loc Cert.DKernelIdeal.main_v4_1)) (v2 : (c : Dev Cert.DKernelIdeal.nD) → Buf (Elt Ideal) ((c.tc : Thread Cert.DKernelIdeal.nD Cert.DKernelIdeal.τ).loc Cert.DKernelIdeal.main_v4_2)),
      θ_run (Cert.DKernelIdeal.defs (F := Ideal)) (onTc (τ := Cert.DKernelIdeal.τ) (Cert.DKernelIdeal.main (F := Ideal))) ⟨m, fun _ => 0, g⟩ (fun r => ∀ c : Dev Cert.DKernelIdeal.nD,
          r.2.mem ((c.tc : Thread Cert.DKernelIdeal.nD Cert.DKernelIdeal.τ).loc Cert.DKernelIdeal.main_v4_0) = v0 c
          ∧ r.2.mem ((c.tc : Thread Cert.DKernelIdeal.nD Cert.DKernelIdeal.τ).loc Cert.DKernelIdeal.main_v4_1) = v1 c
          ∧ r.2.mem ((c.tc : Thread Cert.DKernelIdeal.nD Cert.DKernelIdeal.τ).loc Cert.DKernelIdeal.main_v4_2) = v2 c
          ∧ r.2.mem ((c.tc : Thread Cert.DKernelIdeal.nD Cert.DKernelIdeal.τ).loc Cert.DKernelIdeal.main_arg0) = m ((c.tc : Thread Cert.DKernelIdeal.nD Cert.DKernelIdeal.τ).loc Cert.DKernelIdeal.main_arg0)
          ∧ r.2.mem ((c.tc : Thread Cert.DKernelIdeal.nD Cert.DKernelIdeal.τ).loc Cert.DKernelIdeal.main_arg1) = m ((c.tc : Thread Cert.DKernelIdeal.nD Cert.DKernelIdeal.τ).loc Cert.DKernelIdeal.main_arg1)
          ∧ r.2.mem ((c.tc : Thread Cert.DKernelIdeal.nD Cert.DKernelIdeal.τ).loc Cert.DKernelIdeal.main_arg2) = m ((c.tc : Thread Cert.DKernelIdeal.nD Cert.DKernelIdeal.τ).loc Cert.DKernelIdeal.main_arg2)
          ∧ r.2.mem ((c.tc : Thread Cert.DKernelIdeal.nD Cert.DKernelIdeal.τ).loc Cert.DKernelIdeal.main_arg3) = m ((c.tc : Thread Cert.DKernelIdeal.nD Cert.DKernelIdeal.τ).loc Cert.DKernelIdeal.main_arg3)
          ∧ r.2.mem ((c.tc : Thread Cert.DKernelIdeal.nD Cert.DKernelIdeal.τ).loc Cert.DKernelIdeal.main_arg4) = m ((c.tc : Thread Cert.DKernelIdeal.nD Cert.DKernelIdeal.τ).loc Cert.DKernelIdeal.main_arg4))
      ∧ θ_run (Cert.DReferenceIdeal.defs (F := Ideal)) (onTc (τ := Cert.DReferenceIdeal.τ) (Cert.DReferenceIdeal.main (F := Ideal))) ⟨m', fun _ => 0, g'⟩ (fun r => ∀ c : Dev Cert.DReferenceIdeal.nD,
          r.2.mem ((c.tc : Thread Cert.DReferenceIdeal.nD Cert.DReferenceIdeal.τ).loc Cert.DReferenceIdeal.main_v3) = v0 c
          ∧ r.2.mem ((c.tc : Thread Cert.DReferenceIdeal.nD Cert.DReferenceIdeal.τ).loc Cert.DReferenceIdeal.main_v27) = v1 c
          ∧ r.2.mem ((c.tc : Thread Cert.DReferenceIdeal.nD Cert.DReferenceIdeal.τ).loc Cert.DReferenceIdeal.main_v28) = v2 c
          ∧ r.2.mem ((c.tc : Thread Cert.DReferenceIdeal.nD Cert.DReferenceIdeal.τ).loc Cert.DReferenceIdeal.main_arg0) = m' ((c.tc : Thread Cert.DReferenceIdeal.nD Cert.DReferenceIdeal.τ).loc Cert.DReferenceIdeal.main_arg0)
          ∧ r.2.mem ((c.tc : Thread Cert.DReferenceIdeal.nD Cert.DReferenceIdeal.τ).loc Cert.DReferenceIdeal.main_arg1) = m' ((c.tc : Thread Cert.DReferenceIdeal.nD Cert.DReferenceIdeal.τ).loc Cert.DReferenceIdeal.main_arg1)
          ∧ r.2.mem ((c.tc : Thread Cert.DReferenceIdeal.nD Cert.DReferenceIdeal.τ).loc Cert.DReferenceIdeal.main_arg2) = m' ((c.tc : Thread Cert.DReferenceIdeal.nD Cert.DReferenceIdeal.τ).loc Cert.DReferenceIdeal.main_arg2)
          ∧ r.2.mem ((c.tc : Thread Cert.DReferenceIdeal.nD Cert.DReferenceIdeal.τ).loc Cert.DReferenceIdeal.main_arg3) = m' ((c.tc : Thread Cert.DReferenceIdeal.nD Cert.DReferenceIdeal.τ).loc Cert.DReferenceIdeal.main_arg3)
          ∧ r.2.mem ((c.tc : Thread Cert.DReferenceIdeal.nD Cert.DReferenceIdeal.τ).loc Cert.DReferenceIdeal.main_arg4) = m' ((c.tc : Thread Cert.DReferenceIdeal.nD Cert.DReferenceIdeal.τ).loc Cert.DReferenceIdeal.main_arg4))

def preserves_OKernel_OKernelIdeal : Prop :=
  True

def algebraic_OKernelIdeal_OReferenceIdeal [hOKernelIdeal : Cert.OKernelIdeal.Facts] [hOReferenceIdeal : Cert.OReferenceIdeal.Facts] : Prop :=
  ∀ (m : (ℓ : Loc Cert.OKernelIdeal.nD Cert.OKernelIdeal.τ Cert.OKernelIdeal.sig) → Buf (Elt Ideal) ℓ) (g : Dev Cert.OKernelIdeal.nD → PrngReg)
    (m' : (ℓ : Loc Cert.OReferenceIdeal.nD Cert.OReferenceIdeal.τ Cert.OReferenceIdeal.sig) → Buf (Elt Ideal) ℓ) (g' : Dev Cert.OReferenceIdeal.nD → PrngReg), Pre_OKernelIdeal m →
    (∀ c : Dev Cert.OKernelIdeal.nD,
      m' ((c.tc : Thread Cert.OReferenceIdeal.nD Cert.OReferenceIdeal.τ).loc Cert.OReferenceIdeal.main_arg0) = m ((c.tc : Thread Cert.OKernelIdeal.nD Cert.OKernelIdeal.τ).loc Cert.OKernelIdeal.main_arg0)
      ∧ m' ((c.tc : Thread Cert.OReferenceIdeal.nD Cert.OReferenceIdeal.τ).loc Cert.OReferenceIdeal.main_arg1) = m ((c.tc : Thread Cert.OKernelIdeal.nD Cert.OKernelIdeal.τ).loc Cert.OKernelIdeal.main_arg1)
      ∧ m' ((c.tc : Thread Cert.OReferenceIdeal.nD Cert.OReferenceIdeal.τ).loc Cert.OReferenceIdeal.main_arg2) = m ((c.tc : Thread Cert.OKernelIdeal.nD Cert.OKernelIdeal.τ).loc Cert.OKernelIdeal.main_arg2)) →
    ∃ (v0 : (c : Dev Cert.OKernelIdeal.nD) → Buf (Elt Ideal) ((c.tc : Thread Cert.OKernelIdeal.nD Cert.OKernelIdeal.τ).loc Cert.OKernelIdeal.main_v3)),
      θ_run (Cert.OKernelIdeal.defs (F := Ideal)) (onTc (τ := Cert.OKernelIdeal.τ) (Cert.OKernelIdeal.main (F := Ideal))) ⟨m, fun _ => 0, g⟩ (fun r => ∀ c : Dev Cert.OKernelIdeal.nD,
          r.2.mem ((c.tc : Thread Cert.OKernelIdeal.nD Cert.OKernelIdeal.τ).loc Cert.OKernelIdeal.main_v3) = v0 c
          ∧ r.2.mem ((c.tc : Thread Cert.OKernelIdeal.nD Cert.OKernelIdeal.τ).loc Cert.OKernelIdeal.main_arg0) = m ((c.tc : Thread Cert.OKernelIdeal.nD Cert.OKernelIdeal.τ).loc Cert.OKernelIdeal.main_arg0)
          ∧ r.2.mem ((c.tc : Thread Cert.OKernelIdeal.nD Cert.OKernelIdeal.τ).loc Cert.OKernelIdeal.main_arg1) = m ((c.tc : Thread Cert.OKernelIdeal.nD Cert.OKernelIdeal.τ).loc Cert.OKernelIdeal.main_arg1)
          ∧ r.2.mem ((c.tc : Thread Cert.OKernelIdeal.nD Cert.OKernelIdeal.τ).loc Cert.OKernelIdeal.main_arg2) = m ((c.tc : Thread Cert.OKernelIdeal.nD Cert.OKernelIdeal.τ).loc Cert.OKernelIdeal.main_arg2))
      ∧ θ_run (Cert.OReferenceIdeal.defs (F := Ideal)) (onTc (τ := Cert.OReferenceIdeal.τ) (Cert.OReferenceIdeal.main (F := Ideal))) ⟨m', fun _ => 0, g'⟩ (fun r => ∀ c : Dev Cert.OReferenceIdeal.nD,
          r.2.mem ((c.tc : Thread Cert.OReferenceIdeal.nD Cert.OReferenceIdeal.τ).loc Cert.OReferenceIdeal.main_v3) = v0 c
          ∧ r.2.mem ((c.tc : Thread Cert.OReferenceIdeal.nD Cert.OReferenceIdeal.τ).loc Cert.OReferenceIdeal.main_arg0) = m' ((c.tc : Thread Cert.OReferenceIdeal.nD Cert.OReferenceIdeal.τ).loc Cert.OReferenceIdeal.main_arg0)
          ∧ r.2.mem ((c.tc : Thread Cert.OReferenceIdeal.nD Cert.OReferenceIdeal.τ).loc Cert.OReferenceIdeal.main_arg1) = m' ((c.tc : Thread Cert.OReferenceIdeal.nD Cert.OReferenceIdeal.τ).loc Cert.OReferenceIdeal.main_arg1)
          ∧ r.2.mem ((c.tc : Thread Cert.OReferenceIdeal.nD Cert.OReferenceIdeal.τ).loc Cert.OReferenceIdeal.main_arg2) = m' ((c.tc : Thread Cert.OReferenceIdeal.nD Cert.OReferenceIdeal.τ).loc Cert.OReferenceIdeal.main_arg2))

def preserves_TKernel_TKernelIdeal : Prop :=
  True

def algebraic_TKernelIdeal_TReferenceIdeal [hTKernelIdeal : Cert.TKernelIdeal.Facts] [hTReferenceIdeal : Cert.TReferenceIdeal.Facts] : Prop :=
  ∀ (m : (ℓ : Loc Cert.TKernelIdeal.nD Cert.TKernelIdeal.τ Cert.TKernelIdeal.sig) → Buf (Elt Ideal) ℓ) (g : Dev Cert.TKernelIdeal.nD → PrngReg)
    (m' : (ℓ : Loc Cert.TReferenceIdeal.nD Cert.TReferenceIdeal.τ Cert.TReferenceIdeal.sig) → Buf (Elt Ideal) ℓ) (g' : Dev Cert.TReferenceIdeal.nD → PrngReg), Pre_TKernelIdeal m →
    (∀ c : Dev Cert.TKernelIdeal.nD,
      m' ((c.tc : Thread Cert.TReferenceIdeal.nD Cert.TReferenceIdeal.τ).loc Cert.TReferenceIdeal.main_arg0) = m ((c.tc : Thread Cert.TKernelIdeal.nD Cert.TKernelIdeal.τ).loc Cert.TKernelIdeal.main_arg0)
      ∧ m' ((c.tc : Thread Cert.TReferenceIdeal.nD Cert.TReferenceIdeal.τ).loc Cert.TReferenceIdeal.main_arg1) = m ((c.tc : Thread Cert.TKernelIdeal.nD Cert.TKernelIdeal.τ).loc Cert.TKernelIdeal.main_arg1)
      ∧ m' ((c.tc : Thread Cert.TReferenceIdeal.nD Cert.TReferenceIdeal.τ).loc Cert.TReferenceIdeal.main_arg2) = m ((c.tc : Thread Cert.TKernelIdeal.nD Cert.TKernelIdeal.τ).loc Cert.TKernelIdeal.main_arg2)) →
    ∃ (v0 : (c : Dev Cert.TKernelIdeal.nD) → Buf (Elt Ideal) ((c.tc : Thread Cert.TKernelIdeal.nD Cert.TKernelIdeal.τ).loc Cert.TKernelIdeal.main_v2)),
      θ_run (Cert.TKernelIdeal.defs (F := Ideal)) (onTc (τ := Cert.TKernelIdeal.τ) (Cert.TKernelIdeal.main (F := Ideal))) ⟨m, fun _ => 0, g⟩ (fun r => ∀ c : Dev Cert.TKernelIdeal.nD,
          r.2.mem ((c.tc : Thread Cert.TKernelIdeal.nD Cert.TKernelIdeal.τ).loc Cert.TKernelIdeal.main_v2) = v0 c
          ∧ r.2.mem ((c.tc : Thread Cert.TKernelIdeal.nD Cert.TKernelIdeal.τ).loc Cert.TKernelIdeal.main_arg0) = m ((c.tc : Thread Cert.TKernelIdeal.nD Cert.TKernelIdeal.τ).loc Cert.TKernelIdeal.main_arg0)
          ∧ r.2.mem ((c.tc : Thread Cert.TKernelIdeal.nD Cert.TKernelIdeal.τ).loc Cert.TKernelIdeal.main_arg1) = m ((c.tc : Thread Cert.TKernelIdeal.nD Cert.TKernelIdeal.τ).loc Cert.TKernelIdeal.main_arg1)
          ∧ r.2.mem ((c.tc : Thread Cert.TKernelIdeal.nD Cert.TKernelIdeal.τ).loc Cert.TKernelIdeal.main_arg2) = m ((c.tc : Thread Cert.TKernelIdeal.nD Cert.TKernelIdeal.τ).loc Cert.TKernelIdeal.main_arg2))
      ∧ θ_run (Cert.TReferenceIdeal.defs (F := Ideal)) (onTc (τ := Cert.TReferenceIdeal.τ) (Cert.TReferenceIdeal.main (F := Ideal))) ⟨m', fun _ => 0, g'⟩ (fun r => ∀ c : Dev Cert.TReferenceIdeal.nD,
          r.2.mem ((c.tc : Thread Cert.TReferenceIdeal.nD Cert.TReferenceIdeal.τ).loc Cert.TReferenceIdeal.main_v3) = v0 c
          ∧ r.2.mem ((c.tc : Thread Cert.TReferenceIdeal.nD Cert.TReferenceIdeal.τ).loc Cert.TReferenceIdeal.main_arg0) = m' ((c.tc : Thread Cert.TReferenceIdeal.nD Cert.TReferenceIdeal.τ).loc Cert.TReferenceIdeal.main_arg0)
          ∧ r.2.mem ((c.tc : Thread Cert.TReferenceIdeal.nD Cert.TReferenceIdeal.τ).loc Cert.TReferenceIdeal.main_arg1) = m' ((c.tc : Thread Cert.TReferenceIdeal.nD Cert.TReferenceIdeal.τ).loc Cert.TReferenceIdeal.main_arg1)
          ∧ r.2.mem ((c.tc : Thread Cert.TReferenceIdeal.nD Cert.TReferenceIdeal.τ).loc Cert.TReferenceIdeal.main_arg2) = m' ((c.tc : Thread Cert.TReferenceIdeal.nD Cert.TReferenceIdeal.τ).loc Cert.TReferenceIdeal.main_arg2))

def preserves_QKernel_QKernelIdeal : Prop :=
  True

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)) →
    ∃ (v0 : (c : Dev Cert.QKernelIdeal.nD) → Buf (Elt Ideal) ((c.tc : Thread Cert.QKernelIdeal.nD Cert.QKernelIdeal.τ).loc Cert.QKernelIdeal.main_v11)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v11) = v0 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v6) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3))

def preserves_GKernel_GKernelIdeal : Prop :=
  True

def algebraic_GKernelIdeal_GReferenceIdeal [hGKernelIdeal : Cert.GKernelIdeal.Facts] [hGReferenceIdeal : Cert.GReferenceIdeal.Facts] : Prop :=
  ∀ (m : (ℓ : Loc Cert.GKernelIdeal.nD Cert.GKernelIdeal.τ Cert.GKernelIdeal.sig) → Buf (Elt Ideal) ℓ) (g : Dev Cert.GKernelIdeal.nD → PrngReg)
    (m' : (ℓ : Loc Cert.GReferenceIdeal.nD Cert.GReferenceIdeal.τ Cert.GReferenceIdeal.sig) → Buf (Elt Ideal) ℓ) (g' : Dev Cert.GReferenceIdeal.nD → PrngReg), Pre_GKernelIdeal m →
    (∀ c : Dev Cert.GKernelIdeal.nD,
      m' ((c.tc : Thread Cert.GReferenceIdeal.nD Cert.GReferenceIdeal.τ).loc Cert.GReferenceIdeal.main_arg0) = m ((c.tc : Thread Cert.GKernelIdeal.nD Cert.GKernelIdeal.τ).loc Cert.GKernelIdeal.main_arg0)
      ∧ m' ((c.tc : Thread Cert.GReferenceIdeal.nD Cert.GReferenceIdeal.τ).loc Cert.GReferenceIdeal.main_arg1) = m ((c.tc : Thread Cert.GKernelIdeal.nD Cert.GKernelIdeal.τ).loc Cert.GKernelIdeal.main_arg1)
      ∧ m' ((c.tc : Thread Cert.GReferenceIdeal.nD Cert.GReferenceIdeal.τ).loc Cert.GReferenceIdeal.main_arg2) = m ((c.tc : Thread Cert.GKernelIdeal.nD Cert.GKernelIdeal.τ).loc Cert.GKernelIdeal.main_arg2)) →
    ∃ (v0 : (c : Dev Cert.GKernelIdeal.nD) → Buf (Elt Ideal) ((c.tc : Thread Cert.GKernelIdeal.nD Cert.GKernelIdeal.τ).loc Cert.GKernelIdeal.main_v16)),
      θ_run (Cert.GKernelIdeal.defs (F := Ideal)) (onTc (τ := Cert.GKernelIdeal.τ) (Cert.GKernelIdeal.main (F := Ideal))) ⟨m, fun _ => 0, g⟩ (fun r => ∀ c : Dev Cert.GKernelIdeal.nD,
          r.2.mem ((c.tc : Thread Cert.GKernelIdeal.nD Cert.GKernelIdeal.τ).loc Cert.GKernelIdeal.main_v16) = v0 c
          ∧ r.2.mem ((c.tc : Thread Cert.GKernelIdeal.nD Cert.GKernelIdeal.τ).loc Cert.GKernelIdeal.main_arg0) = m ((c.tc : Thread Cert.GKernelIdeal.nD Cert.GKernelIdeal.τ).loc Cert.GKernelIdeal.main_arg0)
          ∧ r.2.mem ((c.tc : Thread Cert.GKernelIdeal.nD Cert.GKernelIdeal.τ).loc Cert.GKernelIdeal.main_arg1) = m ((c.tc : Thread Cert.GKernelIdeal.nD Cert.GKernelIdeal.τ).loc Cert.GKernelIdeal.main_arg1)
          ∧ r.2.mem ((c.tc : Thread Cert.GKernelIdeal.nD Cert.GKernelIdeal.τ).loc Cert.GKernelIdeal.main_arg2) = m ((c.tc : Thread Cert.GKernelIdeal.nD Cert.GKernelIdeal.τ).loc Cert.GKernelIdeal.main_arg2))
      ∧ θ_run (Cert.GReferenceIdeal.defs (F := Ideal)) (onTc (τ := Cert.GReferenceIdeal.τ) (Cert.GReferenceIdeal.main (F := Ideal))) ⟨m', fun _ => 0, g'⟩ (fun r => ∀ c : Dev Cert.GReferenceIdeal.nD,
          r.2.mem ((c.tc : Thread Cert.GReferenceIdeal.nD Cert.GReferenceIdeal.τ).loc Cert.GReferenceIdeal.main_v4) = v0 c
          ∧ r.2.mem ((c.tc : Thread Cert.GReferenceIdeal.nD Cert.GReferenceIdeal.τ).loc Cert.GReferenceIdeal.main_arg0) = m' ((c.tc : Thread Cert.GReferenceIdeal.nD Cert.GReferenceIdeal.τ).loc Cert.GReferenceIdeal.main_arg0)
          ∧ r.2.mem ((c.tc : Thread Cert.GReferenceIdeal.nD Cert.GReferenceIdeal.τ).loc Cert.GReferenceIdeal.main_arg1) = m' ((c.tc : Thread Cert.GReferenceIdeal.nD Cert.GReferenceIdeal.τ).loc Cert.GReferenceIdeal.main_arg1)
          ∧ r.2.mem ((c.tc : Thread Cert.GReferenceIdeal.nD Cert.GReferenceIdeal.τ).loc Cert.GReferenceIdeal.main_arg2) = m' ((c.tc : Thread Cert.GReferenceIdeal.nD Cert.GReferenceIdeal.τ).loc Cert.GReferenceIdeal.main_arg2))

def preserves_HKernel_HKernelIdeal : Prop :=
  True

def algebraic_HKernelIdeal_HReferenceIdeal [hHKernelIdeal : Cert.HKernelIdeal.Facts] [hHReferenceIdeal : Cert.HReferenceIdeal.Facts] : Prop :=
  ∀ (m : (ℓ : Loc Cert.HKernelIdeal.nD Cert.HKernelIdeal.τ Cert.HKernelIdeal.sig) → Buf (Elt Ideal) ℓ) (g : Dev Cert.HKernelIdeal.nD → PrngReg)
    (m' : (ℓ : Loc Cert.HReferenceIdeal.nD Cert.HReferenceIdeal.τ Cert.HReferenceIdeal.sig) → Buf (Elt Ideal) ℓ) (g' : Dev Cert.HReferenceIdeal.nD → PrngReg), Pre_HKernelIdeal m →
    (∀ c : Dev Cert.HKernelIdeal.nD,
      m' ((c.tc : Thread Cert.HReferenceIdeal.nD Cert.HReferenceIdeal.τ).loc Cert.HReferenceIdeal.main_arg0) = m ((c.tc : Thread Cert.HKernelIdeal.nD Cert.HKernelIdeal.τ).loc Cert.HKernelIdeal.main_arg0)
      ∧ m' ((c.tc : Thread Cert.HReferenceIdeal.nD Cert.HReferenceIdeal.τ).loc Cert.HReferenceIdeal.main_arg1) = m ((c.tc : Thread Cert.HKernelIdeal.nD Cert.HKernelIdeal.τ).loc Cert.HKernelIdeal.main_arg1)
      ∧ m' ((c.tc : Thread Cert.HReferenceIdeal.nD Cert.HReferenceIdeal.τ).loc Cert.HReferenceIdeal.main_arg2) = m ((c.tc : Thread Cert.HKernelIdeal.nD Cert.HKernelIdeal.τ).loc Cert.HKernelIdeal.main_arg2)) →
    ∃ (v0 : (c : Dev Cert.HKernelIdeal.nD) → Buf (Elt Ideal) ((c.tc : Thread Cert.HKernelIdeal.nD Cert.HKernelIdeal.τ).loc Cert.HKernelIdeal.main_v19)),
      θ_run (Cert.HKernelIdeal.defs (F := Ideal)) (onTc (τ := Cert.HKernelIdeal.τ) (Cert.HKernelIdeal.main (F := Ideal))) ⟨m, fun _ => 0, g⟩ (fun r => ∀ c : Dev Cert.HKernelIdeal.nD,
          r.2.mem ((c.tc : Thread Cert.HKernelIdeal.nD Cert.HKernelIdeal.τ).loc Cert.HKernelIdeal.main_v19) = v0 c
          ∧ r.2.mem ((c.tc : Thread Cert.HKernelIdeal.nD Cert.HKernelIdeal.τ).loc Cert.HKernelIdeal.main_arg0) = m ((c.tc : Thread Cert.HKernelIdeal.nD Cert.HKernelIdeal.τ).loc Cert.HKernelIdeal.main_arg0)
          ∧ r.2.mem ((c.tc : Thread Cert.HKernelIdeal.nD Cert.HKernelIdeal.τ).loc Cert.HKernelIdeal.main_arg1) = m ((c.tc : Thread Cert.HKernelIdeal.nD Cert.HKernelIdeal.τ).loc Cert.HKernelIdeal.main_arg1)
          ∧ r.2.mem ((c.tc : Thread Cert.HKernelIdeal.nD Cert.HKernelIdeal.τ).loc Cert.HKernelIdeal.main_arg2) = m ((c.tc : Thread Cert.HKernelIdeal.nD Cert.HKernelIdeal.τ).loc Cert.HKernelIdeal.main_arg2))
      ∧ θ_run (Cert.HReferenceIdeal.defs (F := Ideal)) (onTc (τ := Cert.HReferenceIdeal.τ) (Cert.HReferenceIdeal.main (F := Ideal))) ⟨m', fun _ => 0, g'⟩ (fun r => ∀ c : Dev Cert.HReferenceIdeal.nD,
          r.2.mem ((c.tc : Thread Cert.HReferenceIdeal.nD Cert.HReferenceIdeal.τ).loc Cert.HReferenceIdeal.main_v4) = v0 c
          ∧ r.2.mem ((c.tc : Thread Cert.HReferenceIdeal.nD Cert.HReferenceIdeal.τ).loc Cert.HReferenceIdeal.main_arg0) = m' ((c.tc : Thread Cert.HReferenceIdeal.nD Cert.HReferenceIdeal.τ).loc Cert.HReferenceIdeal.main_arg0)
          ∧ r.2.mem ((c.tc : Thread Cert.HReferenceIdeal.nD Cert.HReferenceIdeal.τ).loc Cert.HReferenceIdeal.main_arg1) = m' ((c.tc : Thread Cert.HReferenceIdeal.nD Cert.HReferenceIdeal.τ).loc Cert.HReferenceIdeal.main_arg1)
          ∧ r.2.mem ((c.tc : Thread Cert.HReferenceIdeal.nD Cert.HReferenceIdeal.τ).loc Cert.HReferenceIdeal.main_arg2) = m' ((c.tc : Thread Cert.HReferenceIdeal.nD Cert.HReferenceIdeal.τ).loc Cert.HReferenceIdeal.main_arg2))

def preserves_JKernel_JKernelIdeal : Prop :=
  True

def algebraic_JKernelIdeal_JReferenceIdeal [hJKernelIdeal : Cert.JKernelIdeal.Facts] [hJReferenceIdeal : Cert.JReferenceIdeal.Facts] : Prop :=
  ∀ (m : (ℓ : Loc Cert.JKernelIdeal.nD Cert.JKernelIdeal.τ Cert.JKernelIdeal.sig) → Buf (Elt Ideal) ℓ) (g : Dev Cert.JKernelIdeal.nD → PrngReg)
    (m' : (ℓ : Loc Cert.JReferenceIdeal.nD Cert.JReferenceIdeal.τ Cert.JReferenceIdeal.sig) → Buf (Elt Ideal) ℓ) (g' : Dev Cert.JReferenceIdeal.nD → PrngReg), Pre_JKernelIdeal m →
    (∀ c : Dev Cert.JKernelIdeal.nD,
      m' ((c.tc : Thread Cert.JReferenceIdeal.nD Cert.JReferenceIdeal.τ).loc Cert.JReferenceIdeal.main_arg0) = m ((c.tc : Thread Cert.JKernelIdeal.nD Cert.JKernelIdeal.τ).loc Cert.JKernelIdeal.main_arg0)
      ∧ m' ((c.tc : Thread Cert.JReferenceIdeal.nD Cert.JReferenceIdeal.τ).loc Cert.JReferenceIdeal.main_arg1) = m ((c.tc : Thread Cert.JKernelIdeal.nD Cert.JKernelIdeal.τ).loc Cert.JKernelIdeal.main_arg1)
      ∧ m' ((c.tc : Thread Cert.JReferenceIdeal.nD Cert.JReferenceIdeal.τ).loc Cert.JReferenceIdeal.main_arg2) = m ((c.tc : Thread Cert.JKernelIdeal.nD Cert.JKernelIdeal.τ).loc Cert.JKernelIdeal.main_arg2)) →
    ∃ (v0 : (c : Dev Cert.JKernelIdeal.nD) → Buf (Elt Ideal) ((c.tc : Thread Cert.JKernelIdeal.nD Cert.JKernelIdeal.τ).loc Cert.JKernelIdeal.main_v19)),
      θ_run (Cert.JKernelIdeal.defs (F := Ideal)) (onTc (τ := Cert.JKernelIdeal.τ) (Cert.JKernelIdeal.main (F := Ideal))) ⟨m, fun _ => 0, g⟩ (fun r => ∀ c : Dev Cert.JKernelIdeal.nD,
          r.2.mem ((c.tc : Thread Cert.JKernelIdeal.nD Cert.JKernelIdeal.τ).loc Cert.JKernelIdeal.main_v19) = v0 c
          ∧ r.2.mem ((c.tc : Thread Cert.JKernelIdeal.nD Cert.JKernelIdeal.τ).loc Cert.JKernelIdeal.main_arg0) = m ((c.tc : Thread Cert.JKernelIdeal.nD Cert.JKernelIdeal.τ).loc Cert.JKernelIdeal.main_arg0)
          ∧ r.2.mem ((c.tc : Thread Cert.JKernelIdeal.nD Cert.JKernelIdeal.τ).loc Cert.JKernelIdeal.main_arg1) = m ((c.tc : Thread Cert.JKernelIdeal.nD Cert.JKernelIdeal.τ).loc Cert.JKernelIdeal.main_arg1)
          ∧ r.2.mem ((c.tc : Thread Cert.JKernelIdeal.nD Cert.JKernelIdeal.τ).loc Cert.JKernelIdeal.main_arg2) = m ((c.tc : Thread Cert.JKernelIdeal.nD Cert.JKernelIdeal.τ).loc Cert.JKernelIdeal.main_arg2))
      ∧ θ_run (Cert.JReferenceIdeal.defs (F := Ideal)) (onTc (τ := Cert.JReferenceIdeal.τ) (Cert.JReferenceIdeal.main (F := Ideal))) ⟨m', fun _ => 0, g'⟩ (fun r => ∀ c : Dev Cert.JReferenceIdeal.nD,
          r.2.mem ((c.tc : Thread Cert.JReferenceIdeal.nD Cert.JReferenceIdeal.τ).loc Cert.JReferenceIdeal.main_v4) = v0 c
          ∧ r.2.mem ((c.tc : Thread Cert.JReferenceIdeal.nD Cert.JReferenceIdeal.τ).loc Cert.JReferenceIdeal.main_arg0) = m' ((c.tc : Thread Cert.JReferenceIdeal.nD Cert.JReferenceIdeal.τ).loc Cert.JReferenceIdeal.main_arg0)
          ∧ r.2.mem ((c.tc : Thread Cert.JReferenceIdeal.nD Cert.JReferenceIdeal.τ).loc Cert.JReferenceIdeal.main_arg1) = m' ((c.tc : Thread Cert.JReferenceIdeal.nD Cert.JReferenceIdeal.τ).loc Cert.JReferenceIdeal.main_arg1)
          ∧ r.2.mem ((c.tc : Thread Cert.JReferenceIdeal.nD Cert.JReferenceIdeal.τ).loc Cert.JReferenceIdeal.main_arg2) = m' ((c.tc : Thread Cert.JReferenceIdeal.nD Cert.JReferenceIdeal.τ).loc Cert.JReferenceIdeal.main_arg2))

def preserves_KKernel_KKernelIdeal : Prop :=
  True

def algebraic_KKernelIdeal_KReferenceIdeal_pre_finite_kv [hKKernelIdeal : Cert.KKernelIdeal.Facts] [hKReferenceIdeal : Cert.KReferenceIdeal.Facts] [hPre_finite_kv : Cert.Pre_finite_kv.Facts] : Prop :=
  ∀ (m : (ℓ : Loc Cert.KKernelIdeal.nD Cert.KKernelIdeal.τ Cert.KKernelIdeal.sig) → Buf (Elt Ideal) ℓ) (g : Dev Cert.KKernelIdeal.nD → PrngReg)
    (m' : (ℓ : Loc Cert.KReferenceIdeal.nD Cert.KReferenceIdeal.τ Cert.KReferenceIdeal.sig) → Buf (Elt Ideal) ℓ) (g' : Dev Cert.KReferenceIdeal.nD → PrngReg), Pre_KKernelIdeal_finite_kv m →
    (∀ c : Dev Cert.KKernelIdeal.nD,
      m' ((c.tc : Thread Cert.KReferenceIdeal.nD Cert.KReferenceIdeal.τ).loc Cert.KReferenceIdeal.main_arg0) = m ((c.tc : Thread Cert.KKernelIdeal.nD Cert.KKernelIdeal.τ).loc Cert.KKernelIdeal.main_arg0)
      ∧ m' ((c.tc : Thread Cert.KReferenceIdeal.nD Cert.KReferenceIdeal.τ).loc Cert.KReferenceIdeal.main_arg1) = m ((c.tc : Thread Cert.KKernelIdeal.nD Cert.KKernelIdeal.τ).loc Cert.KKernelIdeal.main_arg1)
      ∧ m' ((c.tc : Thread Cert.KReferenceIdeal.nD Cert.KReferenceIdeal.τ).loc Cert.KReferenceIdeal.main_arg2) = m ((c.tc : Thread Cert.KKernelIdeal.nD Cert.KKernelIdeal.τ).loc Cert.KKernelIdeal.main_arg2)
      ∧ m' ((c.tc : Thread Cert.KReferenceIdeal.nD Cert.KReferenceIdeal.τ).loc Cert.KReferenceIdeal.main_arg3) = m ((c.tc : Thread Cert.KKernelIdeal.nD Cert.KKernelIdeal.τ).loc Cert.KKernelIdeal.main_arg3)
      ∧ m' ((c.tc : Thread Cert.KReferenceIdeal.nD Cert.KReferenceIdeal.τ).loc Cert.KReferenceIdeal.main_arg4) = m ((c.tc : Thread Cert.KKernelIdeal.nD Cert.KKernelIdeal.τ).loc Cert.KKernelIdeal.main_arg4)
      ∧ m' ((c.tc : Thread Cert.KReferenceIdeal.nD Cert.KReferenceIdeal.τ).loc Cert.KReferenceIdeal.main_arg5) = m ((c.tc : Thread Cert.KKernelIdeal.nD Cert.KKernelIdeal.τ).loc Cert.KKernelIdeal.main_arg5)) →
    ∃ (v0 : (c : Dev Cert.KKernelIdeal.nD) → Buf (Elt Ideal) ((c.tc : Thread Cert.KKernelIdeal.nD Cert.KKernelIdeal.τ).loc Cert.KKernelIdeal.main_v21_0)) (v1 : (c : Dev Cert.KKernelIdeal.nD) → Buf (Elt Ideal) ((c.tc : Thread Cert.KKernelIdeal.nD Cert.KKernelIdeal.τ).loc Cert.KKernelIdeal.main_v21_1)) (v2 : (c : Dev Cert.KKernelIdeal.nD) → Buf (Elt Ideal) ((c.tc : Thread Cert.KKernelIdeal.nD Cert.KKernelIdeal.τ).loc Cert.KKernelIdeal.main_v21_2)) (v3 : (c : Dev Cert.KKernelIdeal.nD) → Buf (Elt Ideal) ((c.tc : Thread Cert.KKernelIdeal.nD Cert.KKernelIdeal.τ).loc Cert.KKernelIdeal.main_v21_3)),
      θ_run (Cert.KKernelIdeal.defs (F := Ideal)) (onTc (τ := Cert.KKernelIdeal.τ) (Cert.KKernelIdeal.main (F := Ideal))) ⟨m, fun _ => 0, g⟩ (fun r => ∀ c : Dev Cert.KKernelIdeal.nD,
          r.2.mem ((c.tc : Thread Cert.KKernelIdeal.nD Cert.KKernelIdeal.τ).loc Cert.KKernelIdeal.main_v21_0) = v0 c
          ∧ r.2.mem ((c.tc : Thread Cert.KKernelIdeal.nD Cert.KKernelIdeal.τ).loc Cert.KKernelIdeal.main_v21_1) = v1 c
          ∧ r.2.mem ((c.tc : Thread Cert.KKernelIdeal.nD Cert.KKernelIdeal.τ).loc Cert.KKernelIdeal.main_v21_2) = v2 c
          ∧ r.2.mem ((c.tc : Thread Cert.KKernelIdeal.nD Cert.KKernelIdeal.τ).loc Cert.KKernelIdeal.main_v21_3) = v3 c
          ∧ r.2.mem ((c.tc : Thread Cert.KKernelIdeal.nD Cert.KKernelIdeal.τ).loc Cert.KKernelIdeal.main_arg0) = m ((c.tc : Thread Cert.KKernelIdeal.nD Cert.KKernelIdeal.τ).loc Cert.KKernelIdeal.main_arg0)
          ∧ r.2.mem ((c.tc : Thread Cert.KKernelIdeal.nD Cert.KKernelIdeal.τ).loc Cert.KKernelIdeal.main_arg1) = m ((c.tc : Thread Cert.KKernelIdeal.nD Cert.KKernelIdeal.τ).loc Cert.KKernelIdeal.main_arg1)
          ∧ r.2.mem ((c.tc : Thread Cert.KKernelIdeal.nD Cert.KKernelIdeal.τ).loc Cert.KKernelIdeal.main_arg2) = m ((c.tc : Thread Cert.KKernelIdeal.nD Cert.KKernelIdeal.τ).loc Cert.KKernelIdeal.main_arg2)
          ∧ r.2.mem ((c.tc : Thread Cert.KKernelIdeal.nD Cert.KKernelIdeal.τ).loc Cert.KKernelIdeal.main_arg3) = m ((c.tc : Thread Cert.KKernelIdeal.nD Cert.KKernelIdeal.τ).loc Cert.KKernelIdeal.main_arg3)
          ∧ r.2.mem ((c.tc : Thread Cert.KKernelIdeal.nD Cert.KKernelIdeal.τ).loc Cert.KKernelIdeal.main_arg4) = m ((c.tc : Thread Cert.KKernelIdeal.nD Cert.KKernelIdeal.τ).loc Cert.KKernelIdeal.main_arg4)
          ∧ r.2.mem ((c.tc : Thread Cert.KKernelIdeal.nD Cert.KKernelIdeal.τ).loc Cert.KKernelIdeal.main_arg5) = m ((c.tc : Thread Cert.KKernelIdeal.nD Cert.KKernelIdeal.τ).loc Cert.KKernelIdeal.main_arg5))
      ∧ θ_run (Cert.KReferenceIdeal.defs (F := Ideal)) (onTc (τ := Cert.KReferenceIdeal.τ) (Cert.KReferenceIdeal.main (F := Ideal))) ⟨m', fun _ => 0, g'⟩ (fun r => ∀ c : Dev Cert.KReferenceIdeal.nD,
          r.2.mem ((c.tc : Thread Cert.KReferenceIdeal.nD Cert.KReferenceIdeal.τ).loc Cert.KReferenceIdeal.main_v65) = v0 c
          ∧ r.2.mem ((c.tc : Thread Cert.KReferenceIdeal.nD Cert.KReferenceIdeal.τ).loc Cert.KReferenceIdeal.main_v66) = v1 c
          ∧ r.2.mem ((c.tc : Thread Cert.KReferenceIdeal.nD Cert.KReferenceIdeal.τ).loc Cert.KReferenceIdeal.main_v67) = v2 c
          ∧ r.2.mem ((c.tc : Thread Cert.KReferenceIdeal.nD Cert.KReferenceIdeal.τ).loc Cert.KReferenceIdeal.main_v68) = v3 c
          ∧ r.2.mem ((c.tc : Thread Cert.KReferenceIdeal.nD Cert.KReferenceIdeal.τ).loc Cert.KReferenceIdeal.main_arg0) = m' ((c.tc : Thread Cert.KReferenceIdeal.nD Cert.KReferenceIdeal.τ).loc Cert.KReferenceIdeal.main_arg0)
          ∧ r.2.mem ((c.tc : Thread Cert.KReferenceIdeal.nD Cert.KReferenceIdeal.τ).loc Cert.KReferenceIdeal.main_arg1) = m' ((c.tc : Thread Cert.KReferenceIdeal.nD Cert.KReferenceIdeal.τ).loc Cert.KReferenceIdeal.main_arg1)
          ∧ r.2.mem ((c.tc : Thread Cert.KReferenceIdeal.nD Cert.KReferenceIdeal.τ).loc Cert.KReferenceIdeal.main_arg2) = m' ((c.tc : Thread Cert.KReferenceIdeal.nD Cert.KReferenceIdeal.τ).loc Cert.KReferenceIdeal.main_arg2)
          ∧ r.2.mem ((c.tc : Thread Cert.KReferenceIdeal.nD Cert.KReferenceIdeal.τ).loc Cert.KReferenceIdeal.main_arg3) = m' ((c.tc : Thread Cert.KReferenceIdeal.nD Cert.KReferenceIdeal.τ).loc Cert.KReferenceIdeal.main_arg3)
          ∧ r.2.mem ((c.tc : Thread Cert.KReferenceIdeal.nD Cert.KReferenceIdeal.τ).loc Cert.KReferenceIdeal.main_arg4) = m' ((c.tc : Thread Cert.KReferenceIdeal.nD Cert.KReferenceIdeal.τ).loc Cert.KReferenceIdeal.main_arg4)
          ∧ r.2.mem ((c.tc : Thread Cert.KReferenceIdeal.nD Cert.KReferenceIdeal.τ).loc Cert.KReferenceIdeal.main_arg5) = m' ((c.tc : Thread Cert.KReferenceIdeal.nD Cert.KReferenceIdeal.τ).loc Cert.KReferenceIdeal.main_arg5))

def Claim : Prop :=
  ∃ (hKernel : Cert.Kernel.Facts) (hKernelIdeal : Cert.KernelIdeal.Facts) (hReferenceIdeal : Cert.ReferenceIdeal.Facts) (hWKernel : Cert.WKernel.Facts) (hWKernelIdeal : Cert.WKernelIdeal.Facts) (hWReferenceIdeal : Cert.WReferenceIdeal.Facts) (hNKernel : Cert.NKernel.Facts) (hNKernelIdeal : Cert.NKernelIdeal.Facts) (hNReferenceIdeal : Cert.NReferenceIdeal.Facts) (hUKernel : Cert.UKernel.Facts) (hUKernelIdeal : Cert.UKernelIdeal.Facts) (hUReferenceIdeal : Cert.UReferenceIdeal.Facts) (hDKernel : Cert.DKernel.Facts) (hDKernelIdeal : Cert.DKernelIdeal.Facts) (hDReferenceIdeal : Cert.DReferenceIdeal.Facts) (hOKernel : Cert.OKernel.Facts) (hOKernelIdeal : Cert.OKernelIdeal.Facts) (hOReferenceIdeal : Cert.OReferenceIdeal.Facts) (hTKernel : Cert.TKernel.Facts) (hTKernelIdeal : Cert.TKernelIdeal.Facts) (hTReferenceIdeal : Cert.TReferenceIdeal.Facts) (hQKernel : Cert.QKernel.Facts) (hQKernelIdeal : Cert.QKernelIdeal.Facts) (hQReferenceIdeal : Cert.QReferenceIdeal.Facts) (hGKernel : Cert.GKernel.Facts) (hGKernelIdeal : Cert.GKernelIdeal.Facts) (hGReferenceIdeal : Cert.GReferenceIdeal.Facts) (hHKernel : Cert.HKernel.Facts) (hHKernelIdeal : Cert.HKernelIdeal.Facts) (hHReferenceIdeal : Cert.HReferenceIdeal.Facts) (hJKernel : Cert.JKernel.Facts) (hJKernelIdeal : Cert.JKernelIdeal.Facts) (hJReferenceIdeal : Cert.JReferenceIdeal.Facts) (hKKernel : Cert.KKernel.Facts) (hKKernelIdeal : Cert.KKernelIdeal.Facts) (hKReferenceIdeal : Cert.KReferenceIdeal.Facts) (hPre_finite : Cert.Pre_finite.Facts) (hPre_finite_norm : Cert.Pre_finite_norm.Facts) (hPre_finite_up : Cert.Pre_finite_up.Facts) (hPre_finite_kv : Cert.Pre_finite_kv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WKernel (hWKernel := hWKernel)
    ∧ quiescent_WKernelIdeal (hWKernelIdeal := hWKernelIdeal)
    ∧ quiescent_WReferenceIdeal (hWReferenceIdeal := hWReferenceIdeal)
    ∧ quiescent_NKernel (hNKernel := hNKernel)
    ∧ quiescent_NKernelIdeal (hNKernelIdeal := hNKernelIdeal)
    ∧ quiescent_NKernelIdeal_pre_finite_norm (hNKernelIdeal := hNKernelIdeal) (hPre_finite_norm := hPre_finite_norm)
    ∧ quiescent_NReferenceIdeal (hNReferenceIdeal := hNReferenceIdeal)
    ∧ quiescent_NReferenceIdeal_pre_finite_norm (hNReferenceIdeal := hNReferenceIdeal) (hPre_finite_norm := hPre_finite_norm)
    ∧ quiescent_UKernel (hUKernel := hUKernel)
    ∧ quiescent_UKernelIdeal (hUKernelIdeal := hUKernelIdeal)
    ∧ quiescent_UKernelIdeal_pre_finite_up (hUKernelIdeal := hUKernelIdeal) (hPre_finite_up := hPre_finite_up)
    ∧ quiescent_UReferenceIdeal (hUReferenceIdeal := hUReferenceIdeal)
    ∧ quiescent_UReferenceIdeal_pre_finite_up (hUReferenceIdeal := hUReferenceIdeal) (hPre_finite_up := hPre_finite_up)
    ∧ quiescent_DKernel (hDKernel := hDKernel)
    ∧ quiescent_DKernelIdeal (hDKernelIdeal := hDKernelIdeal)
    ∧ quiescent_DReferenceIdeal (hDReferenceIdeal := hDReferenceIdeal)
    ∧ quiescent_OKernel (hOKernel := hOKernel)
    ∧ quiescent_OKernelIdeal (hOKernelIdeal := hOKernelIdeal)
    ∧ quiescent_OReferenceIdeal (hOReferenceIdeal := hOReferenceIdeal)
    ∧ quiescent_TKernel (hTKernel := hTKernel)
    ∧ quiescent_TKernelIdeal (hTKernelIdeal := hTKernelIdeal)
    ∧ quiescent_TReferenceIdeal (hTReferenceIdeal := hTReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ quiescent_GKernel (hGKernel := hGKernel)
    ∧ quiescent_GKernelIdeal (hGKernelIdeal := hGKernelIdeal)
    ∧ quiescent_GReferenceIdeal (hGReferenceIdeal := hGReferenceIdeal)
    ∧ quiescent_HKernel (hHKernel := hHKernel)
    ∧ quiescent_HKernelIdeal (hHKernelIdeal := hHKernelIdeal)
    ∧ quiescent_HReferenceIdeal (hHReferenceIdeal := hHReferenceIdeal)
    ∧ quiescent_JKernel (hJKernel := hJKernel)
    ∧ quiescent_JKernelIdeal (hJKernelIdeal := hJKernelIdeal)
    ∧ quiescent_JReferenceIdeal (hJReferenceIdeal := hJReferenceIdeal)
    ∧ quiescent_KKernel (hKKernel := hKKernel)
    ∧ quiescent_KKernelIdeal (hKKernelIdeal := hKKernelIdeal)
    ∧ quiescent_KKernelIdeal_pre_finite_kv (hKKernelIdeal := hKKernelIdeal) (hPre_finite_kv := hPre_finite_kv)
    ∧ quiescent_KReferenceIdeal (hKReferenceIdeal := hKReferenceIdeal)
    ∧ quiescent_KReferenceIdeal_pre_finite_kv (hKReferenceIdeal := hKReferenceIdeal) (hPre_finite_kv := hPre_finite_kv)
    ∧ preserves_Kernel_KernelIdeal
    ∧ algebraic_KernelIdeal_ReferenceIdeal_pre_finite (hKernelIdeal := hKernelIdeal) (hReferenceIdeal := hReferenceIdeal) (hPre_finite := hPre_finite)
    ∧ preserves_WKernel_WKernelIdeal
    ∧ algebraic_WKernelIdeal_WReferenceIdeal (hWKernelIdeal := hWKernelIdeal) (hWReferenceIdeal := hWReferenceIdeal)
    ∧ preserves_NKernel_NKernelIdeal
    ∧ algebraic_NKernelIdeal_NReferenceIdeal_pre_finite_norm (hNKernelIdeal := hNKernelIdeal) (hNReferenceIdeal := hNReferenceIdeal) (hPre_finite_norm := hPre_finite_norm)
    ∧ preserves_UKernel_UKernelIdeal
    ∧ algebraic_UKernelIdeal_UReferenceIdeal_pre_finite_up (hUKernelIdeal := hUKernelIdeal) (hUReferenceIdeal := hUReferenceIdeal) (hPre_finite_up := hPre_finite_up)
    ∧ preserves_DKernel_DKernelIdeal
    ∧ algebraic_DKernelIdeal_DReferenceIdeal (hDKernelIdeal := hDKernelIdeal) (hDReferenceIdeal := hDReferenceIdeal)
    ∧ preserves_OKernel_OKernelIdeal
    ∧ algebraic_OKernelIdeal_OReferenceIdeal (hOKernelIdeal := hOKernelIdeal) (hOReferenceIdeal := hOReferenceIdeal)
    ∧ preserves_TKernel_TKernelIdeal
    ∧ algebraic_TKernelIdeal_TReferenceIdeal (hTKernelIdeal := hTKernelIdeal) (hTReferenceIdeal := hTReferenceIdeal)
    ∧ preserves_QKernel_QKernelIdeal
    ∧ algebraic_QKernelIdeal_QReferenceIdeal (hQKernelIdeal := hQKernelIdeal) (hQReferenceIdeal := hQReferenceIdeal)
    ∧ preserves_GKernel_GKernelIdeal
    ∧ algebraic_GKernelIdeal_GReferenceIdeal (hGKernelIdeal := hGKernelIdeal) (hGReferenceIdeal := hGReferenceIdeal)
    ∧ preserves_HKernel_HKernelIdeal
    ∧ algebraic_HKernelIdeal_HReferenceIdeal (hHKernelIdeal := hHKernelIdeal) (hHReferenceIdeal := hHReferenceIdeal)
    ∧ preserves_JKernel_JKernelIdeal
    ∧ algebraic_JKernelIdeal_JReferenceIdeal (hJKernelIdeal := hJKernelIdeal) (hJReferenceIdeal := hJReferenceIdeal)
    ∧ preserves_KKernel_KKernelIdeal
    ∧ algebraic_KKernelIdeal_KReferenceIdeal_pre_finite_kv (hKKernelIdeal := hKKernelIdeal) (hKReferenceIdeal := hKReferenceIdeal) (hPre_finite_kv := hPre_finite_kv)
-- ==== Pre_finite.lean ====
abbrev S4x2048x2816 : Shape := ⟨3, ![4, 2048, 2816]⟩
abbrev S3x2816 : Shape := ⟨2, ![3, 2816]⟩
abbrev S2816 : Shape := ⟨1, ![2816]⟩
abbrev S2816x1024 : Shape := ⟨2, ![2816, 1024]⟩
abbrev S4x2048x1024 : Shape := ⟨3, ![4, 2048, 1024]⟩
abbrev S_ : Shape := ⟨0, ![]⟩

class Facts : Prop where
  bcast_S_S4x2048x2816 : S_.BroadcastsInDim S4x2048x2816 (![] : Fin 0 → Fin S4x2048x2816.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)
  bcast_S_S4x2048x1024 : S_.BroadcastsInDim S4x2048x1024 (![] : Fin 0 → Fin S4x2048x1024.rank)

variable [Facts]

def fn {F : FTy → Type} [FloatOps F] (main_arg0 : FVec F S4x2048x2816 .f32) (main_arg1 : FVec F S4x2048x2816 .f32) (main_arg2 : FVec F S3x2816 .f32) (main_arg3 : FVec F S2816 .f32) (main_arg4 : FVec F S2816x1024 .f32) (main_arg5 : FVec F S4x2048x1024 .f32) : IVec S4x2048x2816 1 × IVec S4x2048x2816 1 × IVec S3x2816 1 × IVec S2816 1 × IVec S2816x1024 1 × IVec S4x2048x1024 1 :=
  let main_v0 : FVec F S4x2048x2816 .f32 := Host.absf main_arg0
  let main_cst : FVec F S_ .f32 := constant S_ .f32 0x7F800000#32
  let main_v1 : FVec F S4x2048x2816 .f32 := broadcastInDim S4x2048x2816 ![] bcast_S_S4x2048x2816 main_cst
  let main_v2 : IVec S4x2048x2816 1 := cmpf .olt main_v0 main_v1
  let main_v3 : FVec F S4x2048x2816 .f32 := Host.absf main_arg1
  let main_cst_0 : FVec F S_ .f32 := constant S_ .f32 0x7F800000#32
  let main_v4 : FVec F S4x2048x2816 .f32 := broadcastInDim S4x2048x2816 ![] bcast_S_S4x2048x2816 main_cst_0
  let main_v5 : IVec S4x2048x2816 1 := cmpf .olt main_v3 main_v4
  let main_v6 : FVec F S3x2816 .f32 := Host.absf main_arg2
  let main_cst_1 : FVec F S_ .f32 := constant S_ .f32 0x7F800000#32
  let main_v7 : FVec F S3x2816 .f32 := broadcastInDim S3x2816 ![] bcast_S_S3x2816 main_cst_1
  let main_v8 : IVec S3x2816 1 := cmpf .olt main_v6 main_v7
  let main_v9 : FVec F S2816 .f32 := Host.absf main_arg3
  let main_cst_2 : FVec F S_ .f32 := constant S_ .f32 0x7F800000#32
  let main_v10 : FVec F S2816 .f32 := broadcastInDim S2816 ![] bcast_S_S2816 main_cst_2
  let main_v11 : IVec S2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== Pre_finite_kv.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x6144 : S_.BroadcastsInDim S1024x6144 (![] : Fin 0 → Fin S1024x6144.rank)
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S1024 .f32) (main_arg2 : FVec F S1024 .f32) (main_arg3 : FVec F S1024x6144 .f32) (main_arg4 : FVec F S8192x6144 .f32) (main_arg5 : FVec F S8192x1024 .f32) : IVec S8192x1024 1 × IVec S1024 1 × IVec S1024 1 × IVec S1024x6144 1 × IVec S8192x6144 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_v12 : FVec F S8192x6144 .f32 := Host.absf main_arg4
  let main_cst_3 : FVec F S_ .f32 := constant S_ .f32 0x7F800000#32
  let main_v13 : FVec F S8192x6144 .f32 := broadcastInDim S8192x6144 ![] bcast_S_S8192x6144 main_cst_3
  let main_v14 : IVec S8192x6144 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_finite_norm.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S8192x2816 : S_.BroadcastsInDim S8192x2816 (![] : Fin 0 → Fin S8192x2816.rank)

variable [Facts]

def fn_part1 {F : FTy → Type} [FloatOps F] (main_arg6 : FVec F S8192x2816 .f32) (main_arg7 : FVec F S8192x1024 .f32) (main_v2 : IVec S8192x1024 1) (main_v5 : IVec S1024 1) (main_v8 : IVec S1024 1) (main_v11 : IVec S1024x2816 1) (main_v14 : IVec S1024x2816 1) (main_v17 : IVec S8192x2816 1) : IVec S8192x1024 1 × IVec S1024 1 × IVec S1024 1 × IVec S1024x2816 1 × IVec S1024x2816 1 × IVec S8192x2816 1 × IVec S8192x2816 1 × IVec S8192x1024 1 :=
  let main_v18 : FVec F S8192x2816 .f32 := Host.absf main_arg6
  let main_cst_5 : FVec F S_ .f32 := constant S_ .f32 0x7F800000#32
  let main_v19 : FVec F S8192x2816 .f32 := broadcastInDim S8192x2816 ![] bcast_S_S8192x2816 main_cst_5
  let main_v20 : IVec S8192x2816 1 := cmpf .olt main_v18 main_v19
  let main_v21 : FVec F S8192x1024 .f32 := Host.absf main_arg7
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S8192x2816 .f32) (main_arg6 : FVec F S8192x2816 .f32) (main_arg7 : FVec F S8192x1024 .f32) : IVec S8192x1024 1 × IVec S1024 1 × IVec S1024 1 × IVec S1024x2816 1 × IVec S1024x2816 1 × IVec S8192x2816 1 × IVec S8192x2816 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S8192x2816 .f32 := Host.absf main_arg5
  let main_cst_4 : FVec F S_ .f32 := constant S_ .f32 0x7F800000#32
  let main_v16 : FVec F S8192x2816 .f32 := broadcastInDim S8192x2816 ![] bcast_S_S8192x2816 main_cst_4
  let main_v17 : IVec S8192x2816 1 := cmpf .olt main_v15 main_v16
  fn_part1 (F := F) main_arg6 main_arg7 main_v2 main_v5 main_v8 main_v11 main_v14 main_v17
-- ==== Pre_finite_up.lean ====
abbrev S4x2048x1024 : Shape := ⟨3, ![4, 2048, 1024]⟩
abbrev S1024x2816 : Shape := ⟨2, ![1024, 2816]⟩
abbrev S3x2816 : Shape := ⟨2, ![3, 2816]⟩
abbrev S2816 : Shape := ⟨1, ![2816]⟩
abbrev S_ : Shape := ⟨0, ![]⟩

class Facts : Prop where
  bcast_S_S4x2048x1024 : S_.BroadcastsInDim S4x2048x1024 (![] : Fin 0 → Fin S4x2048x1024.rank)
  bcast_S_S1024x2816 : S_.BroadcastsInDim S1024x2816 (![] : Fin 0 → Fin S1024x2816.rank)
  bcast_S_S3x2816 : S_.BroadcastsInDim S3x2816 (![] : Fin 0 → Fin S3x2816.rank)
  bcast_S_S2816 : S_.BroadcastsInDim S2816 (![] : Fin 0 → Fin S2816.rank)

variable [Facts]

def fn {F : FTy → Type} [FloatOps F] (main_arg0 : FVec F S4x2048x1024 .f32) (main_arg1 : FVec F S1024x2816 .f32) (main_arg2 : FVec F S1024x2816 .f32) (main_arg3 : FVec F S3x2816 .f32) (main_arg4 : FVec F S2816 .f32) : IVec S4x2048x1024 1 × IVec S1024x2816 1 × IVec S1024x2816 1 × IVec S3x2816 1 × IVec S2816 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S3x2816 .f32 := Host.absf main_arg3
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_v12 : FVec F S2816 .f32 := Host.absf main_arg4
  let main_cst_3 : FVec F S_ .f32 := constant S_ .f32 0x7F800000#32
  let main_v13 : FVec F S2816 .f32 := broadcastInDim S2816 ![] bcast_S_S2816 main_cst_3
  let main_v14 : IVec S2816 1 := cmpf .olt main_v12 main_v13
  (main_v2, main_v5, main_v8, main_v11, main_v14)
-- ==== Kernel.lean ====
abbrev S4x2048x2816 : Shape := ⟨3, ![4, 2048, 2816]⟩
abbrev S3x2816 : Shape := ⟨2, ![3, 2816]⟩
abbrev S2816 : Shape := ⟨1, ![2816]⟩
abbrev S2816x1024 : Shape := ⟨2, ![2816, 1024]⟩
abbrev S4x2048x1024 : Shape := ⟨3, ![4, 2048, 1024]⟩
abbrev S_ : Shape := ⟨0, ![]⟩
abbrev S2x2816 : Shape := ⟨2, ![2, 2816]⟩
abbrev S4x2x2816 : Shape := ⟨3, ![4, 2, 2816]⟩
abbrev S4x2050x2816 : Shape := ⟨3, ![4, 2050, 2816]⟩
abbrev S1x2816 : Shape := ⟨2, ![1, 2816]⟩
abbrev S1x1x2816 : Shape := ⟨3, ![1, 1, 2816]⟩
abbrev S8192x1024 : Shape := ⟨2, ![8192, 1024]⟩
abbrev S8192x2816 : Shape := ⟨2, ![8192, 2816]⟩
abbrev S4x1x2816 : Shape := ⟨3, ![4, 1, 2816]⟩
abbrev S4x3x2816 : Shape := ⟨3, ![4, 3, 2816]⟩
abbrev S2048x1024 : Shape := ⟨2, ![2048, 1024]⟩
abbrev S256x1024 : Shape := ⟨2, ![256, 1024]⟩
abbrev S2048x256 : Shape := ⟨2, ![2048, 256]⟩
abbrev S3x256 : Shape := ⟨2, ![3, 256]⟩
abbrev S1x1x256 : Shape := ⟨3, ![1, 1, 256]⟩
abbrev S1x3x256 : Shape := ⟨3, ![1, 3, 256]⟩
abbrev S256 : Shape := ⟨1, ![256]⟩
abbrev S1x256 : Shape := ⟨2, ![1, 256]⟩

abbrev nBuf : Space → Nat
  | .hbm => 93
  | .vmem => 20
  | .smem => 0
  | _ => 0

abbrev bufTy : (tb : Table) → Fin (tcTables nBuf tb) → BufTy
  | .hbm, ⟨0, _⟩ => ⟨S4x2048x2816, .f32⟩
  | .hbm, ⟨1, _⟩ => ⟨S4x2048x2816, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S4x2048x1024, .f32⟩
  | .hbm, ⟨6, _⟩ => ⟨S_, .f32⟩
  | .hbm, ⟨7, _⟩ => ⟨S2x2816, .f32⟩
  | .hbm, ⟨8, _⟩ => ⟨S4x2x2816, .f32⟩
  | .hbm, ⟨9, _⟩ => ⟨S4x2050x2816, .f32⟩
  | .hbm, ⟨10, _⟩ => ⟨S1x2816, .f32⟩
  | .hbm, ⟨11, _⟩ => ⟨S2816, .f32⟩
  | .hbm, ⟨12, _⟩ => ⟨S4x2048x2816, .f32⟩
  | .hbm, ⟨13, _⟩ => ⟨S1x2816, .f32⟩
  | .hbm, ⟨14, _⟩ => ⟨S1x1x2816, .f32⟩
  | .hbm, ⟨15, _⟩ => ⟨S4x2048x2816, .f32⟩
  | .hbm, ⟨16, _⟩ => ⟨S4x2048x2816, .f32⟩
  | .hbm, ⟨17, _⟩ => ⟨S1x2816, .f32⟩
  | .hbm, ⟨18, _⟩ => ⟨S1x1x2816, .f32⟩
  | .hbm, ⟨19, _⟩ => ⟨S4x2048x2816, .f32⟩
  | .hbm, ⟨20, _⟩ => ⟨S4x2048x2816, .f32⟩
  | .hbm, ⟨21, _⟩ => ⟨S1x2816, .f32⟩
  | .hbm, ⟨22, _⟩ => ⟨S2816, .f32⟩
  | .hbm, ⟨23, _⟩ => ⟨S4x2048x2816, .f32⟩
  | .hbm, ⟨24, _⟩ => ⟨S1x2816, .f32⟩
  | .hbm, ⟨25, _⟩ => ⟨S1x1x2816, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S1x2816, .f32⟩
  | .hbm, ⟨30, _⟩ => ⟨S2816, .f32⟩
  | .hbm, ⟨31, _⟩ => ⟨S4x2048x2816, .f32⟩
  | .hbm, ⟨32, _⟩ => ⟨S1x2816, .f32⟩
  | .hbm, ⟨33, _⟩ => ⟨S1x1x2816, .f32⟩
  | .hbm, ⟨34, _⟩ => ⟨S4x2048x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S_, .f32⟩
  | .hbm, ⟨41, _⟩ => ⟨S4x2048x2816, .f32⟩
  | .hbm, ⟨42, _⟩ => ⟨S4x2048x2816, .f32⟩
  | .hbm, ⟨43, _⟩ => ⟨S_, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S_, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S_, .f32⟩
  | .hbm, ⟨52, _⟩ => ⟨S4x2048x2816, .f32⟩
  | .hbm, ⟨53, _⟩ => ⟨S4x2048x2816, .f32⟩
  | .hbm, ⟨54, _⟩ => ⟨S_, .f32⟩
  | .hbm, ⟨55, _⟩ => ⟨S4x2048x2816, .f32⟩
  | .hbm, ⟨56, _⟩ => ⟨S4x2048x2816, .f32⟩
  | .hbm, ⟨57, _⟩ => ⟨S4x2048x2816, .f32⟩
  | .hbm, ⟨58, _⟩ => ⟨S_, .f32⟩
  | .hbm, ⟨59, _⟩ => ⟨S4x2048x2816, .f32⟩
  | .hbm, ⟨60, _⟩ => ⟨S4x2048x2816, .f32⟩
  | .hbm, ⟨61, _⟩ => ⟨S_, .f32⟩
  | .hbm, ⟨62, _⟩ => ⟨S4x2048x2816, .f32⟩
  | .hbm, ⟨63, _⟩ => ⟨S4x2048x2816, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S_, .f32⟩
  | .hbm, ⟨68, _⟩ => ⟨S4x2048x2816, .f32⟩
  | .hbm, ⟨69, _⟩ => ⟨S4x2048x2816, .f32⟩
  | .hbm, ⟨70, _⟩ => ⟨S4x2048x2816, .f32⟩
  | .hbm, ⟨71, _⟩ => ⟨S_, .f32⟩
  | .hbm, ⟨72, _⟩ => ⟨S4x2048x2816, .f32⟩
  | .hbm, ⟨73, _⟩ => ⟨S4x2048x2816, .f32⟩
  | .hbm, ⟨74, _⟩ => ⟨S4x2048x2816, .f32⟩
  | .hbm, ⟨75, _⟩ => ⟨S_, .f32⟩
  | .hbm, ⟨76, _⟩ => ⟨S4x2048x2816, .f32⟩
  | .hbm, ⟨77, _⟩ => ⟨S4x2048x2816, .f32⟩
  | .hbm, ⟨78, _⟩ => ⟨S4x2048x2816, .f32⟩
  | .hbm, ⟨79, _⟩ => ⟨S4x2048x2816, .f32⟩
  | .hbm, ⟨80, _⟩ => ⟨S8192x1024, .f32⟩
  | .hbm, ⟨81, _⟩ => ⟨S8192x1024, .bf16⟩
  | .hbm, ⟨82, _⟩ => ⟨S2816x1024, .bf16⟩
  | .hbm, ⟨83, _⟩ => ⟨S8192x2816, .f32⟩
  | .hbm, ⟨84, _⟩ => ⟨S8192x2816, .bf16⟩
  | .hbm, ⟨85, _⟩ => ⟨S8192x2816, .f32⟩
  | .hbm, ⟨86, _⟩ => ⟨S8192x2816, .bf16⟩
  | .hbm, ⟨87, _⟩ => ⟨S8192x2816, .f32⟩
  | .hbm, ⟨88, _⟩ => ⟨S8192x2816, .bf16⟩
  | .hbm, ⟨89, _⟩ => ⟨S8192x2816, .bf16⟩
  | .hbm, ⟨90, _⟩ => ⟨S8192x2816, .bf16⟩
  | .hbm, ⟨91, _⟩ => ⟨S4x1x2816, .f32⟩
  | .hbm, ⟨92, _⟩ => ⟨S4x3x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S3x256, .f32⟩
  | .local _ .vmem, ⟨11, _⟩ => ⟨S3x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x1x256, .f32⟩
  | .local _ .vmem, ⟨17, _⟩ => ⟨S1x1x256, .f32⟩
  | .local _ .vmem, ⟨18, _⟩ => ⟨S1x3x256, .f32⟩
  | .local _ .vmem, ⟨19, _⟩ => ⟨S1x3x256, .f32⟩
  | _, _ => ⟨S4x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72_0 : Ref sig .tc := ⟨.hbm, 89, rfl⟩
abbrev main_v72_1 : Ref sig .tc := ⟨.hbm, 90, rfl⟩
abbrev main_v72_2 : Ref sig .tc := ⟨.hbm, 91, rfl⟩
abbrev main_v72_3 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x2816 : Shape := ⟨3, ![4, 2048, 2816]⟩
abbrev S3x2816 : Shape := ⟨2, ![3, 2816]⟩
abbrev S2816 : Shape := ⟨1, ![2816]⟩
abbrev S2816x1024 : Shape := ⟨2, ![2816, 1024]⟩
abbrev S4x2048x1024 : Shape := ⟨3, ![4, 2048, 1024]⟩
abbrev S_ : Shape := ⟨0, ![]⟩
abbrev S2x2816 : Shape := ⟨2, ![2, 2816]⟩
abbrev S4x2x2816 : Shape := ⟨3, ![4, 2, 2816]⟩
abbrev S4x2050x2816 : Shape := ⟨3, ![4, 2050, 2816]⟩
abbrev S1x2816 : Shape := ⟨2, ![1, 2816]⟩
abbrev S1x1x2816 : Shape := ⟨3, ![1, 1, 2816]⟩
abbrev S4x2816 : Shape := ⟨2, ![4, 2816]⟩
abbrev S4x1x2816 : Shape := ⟨3, ![4, 1, 2816]⟩
abbrev S4x3x2816 : Shape := ⟨3, ![4, 3, 2816]⟩
abbrev S8192x2816 : Shape := ⟨2, ![8192, 2816]⟩

abbrev nBuf : Space → Nat
  | .hbm => 145
  | .vmem => 0
  | .smem => 0
  | _ => 0

abbrev hbmTy0_0 (i : Nat) : BufTy := match i % 128 with
  | 0 => ⟨S4x2048x2816, .f32⟩
  | 1 => ⟨S4x2048x2816, .f32⟩
  | 2 => ⟨S3x2816, .f32⟩
  | 3 => ⟨S2816, .f32⟩
  | 4 => ⟨S2816x1024, .f32⟩
  | 5 => ⟨S4x2048x1024, .f32⟩
  | 6 => ⟨S_, .f32⟩
  | 7 => ⟨S2x2816, .f32⟩
  | 8 => ⟨S4x2x2816, .f32⟩
  | 9 => ⟨S4x2050x2816, .f32⟩
  | 10 => ⟨S_, .f32⟩
  | 11 => ⟨S2x2816, .f32⟩
  | 12 => ⟨S1x2816, .f32⟩
  | 13 => ⟨S2816, .f32⟩
  | 14 => ⟨S4x2048x2816, .f32⟩
  | 15 => ⟨S1x2816, .f32⟩
  | 16 => ⟨S1x1x2816, .f32⟩
  | 17 => ⟨S4x2048x2816, .f32⟩
  | 18 => ⟨S4x2048x2816, .f32⟩
  | 19 => ⟨S1x2816, .f32⟩
  | 20 => ⟨S1x1x2816, .f32⟩
  | 21 => ⟨S4x2048x2816, .f32⟩
  | 22 => ⟨S4x2048x2816, .f32⟩
  | 23 => ⟨S1x2816, .f32⟩
  | 24 => ⟨S2816, .f32⟩
  | 25 => ⟨S4x2048x2816, .f32⟩
  | 26 => ⟨S1x2816, .f32⟩
  | 27 => ⟨S1x1x2816, .f32⟩
  | 28 => ⟨S4x2048x2816, .f32⟩
  | 29 => ⟨S4x2048x2816, .f32⟩
  | 30 => ⟨S4x2048x2816, .f32⟩
  | 31 => ⟨S1x2816, .f32⟩
  | 32 => ⟨S2816, .f32⟩
  | 33 => ⟨S4x2048x2816, .f32⟩
  | 34 => ⟨S1x2816, .f32⟩
  | 35 => ⟨S1x1x2816, .f32⟩
  | 36 => ⟨S4x2048x2816, .f32⟩
  | 37 => ⟨S4x2048x2816, .f32⟩
  | 38 => ⟨S4x2048x2816, .f32⟩
  | 39 => ⟨S4x2048x2816, .f32⟩
  | 40 => ⟨S4x2048x2816, .f32⟩
  | 41 => ⟨S4x2048x2816, .f32⟩
  | 42 => ⟨S_, .f32⟩
  | 43 => ⟨S4x2048x2816, .f32⟩
  | 44 => ⟨S4x2048x2816, .f32⟩
  | 45 => ⟨S_, .f32⟩
  | 46 => ⟨S4x2048x2816, .f32⟩
  | 47 => ⟨S4x2048x2816, .f32⟩
  | 48 => ⟨S4x2048x2816, .f32⟩
  | 49 => ⟨S_, .f32⟩
  | 50 => ⟨S4x2048x2816, .f32⟩
  | 51 => ⟨S4x2048x2816, .f32⟩
  | 52 => ⟨S4x2048x2816, .f32⟩
  | 53 => ⟨S_, .f32⟩
  | 54 => ⟨S4x2048x2816, .f32⟩
  | 55 => ⟨S4x2048x2816, .f32⟩
  | 56 => ⟨S_, .f32⟩
  | 57 => ⟨S4x2048x2816, .f32⟩
  | 58 => ⟨S4x2048x2816, .f32⟩
  | 59 => ⟨S4x2048x2816, .f32⟩
  | 60 => ⟨S_, .f32⟩
  | 61 => ⟨S4x2048x2816, .f32⟩
  | 62 => ⟨S4x2048x2816, .f32⟩
  | 63 => ⟨S_, .f32⟩
  | 64 => ⟨S4x2048x2816, .f32⟩
  | 65 => ⟨S4x2048x2816, .f32⟩
  | 66 => ⟨S4x2048x2816, .f32⟩
  | 67 => ⟨S4x2048x2816, .f32⟩
  | 68 => ⟨S4x2048x1024, .f32⟩
  | 69 => ⟨S4x2048x2816, .f32⟩
  | 70 => ⟨S4x2048x2816, .f32⟩
  | 71 => ⟨S4x2048x2816, .f32⟩
  | 72 => ⟨S4x2048x2816, .f32⟩
  | 73 => ⟨S4x2048x2816, .f32⟩
  | 74 => ⟨S_, .f32⟩
  | 75 => ⟨S4x2048x2816, .f32⟩
  | 76 => ⟨S4x2048x2816, .f32⟩
  | 77 => ⟨S4x2048x2816, .f32⟩
  | 78 => ⟨S_, .f32⟩
  | 79 => ⟨S4x2048x2816, .f32⟩
  | 80 => ⟨S4x2048x2816, .f32⟩
  | 81 => ⟨S4x2048x2816, .f32⟩
  | 82 => ⟨S_, .f32⟩
  | 83 => ⟨S4x2048x2816, .f32⟩
  | 84 => ⟨S4x2048x2816, .f32⟩
  | 85 => ⟨S4x2048x2816, .f32⟩
  | 86 => ⟨S4x2048x2816, .f32⟩
  | 87 => ⟨S1x1x2816, .f32⟩
  | 88 => ⟨S4x2048x2816, .f32⟩
  | 89 => ⟨S4x2048x2816, .f32⟩
  | 90 => ⟨S4x2048x2816, .f32⟩
  | 91 => ⟨S_, .f32⟩
  | 92 => ⟨S4x2816, .f32⟩
  | 93 => ⟨S4x1x2816, .f32⟩
  | 94 => ⟨S_, .f32⟩
  | 95 => ⟨S4x2816, .f32⟩
  | 96 => ⟨S_, .f32⟩
  | 97 => ⟨S4x2050x2816, .f32⟩
  | 98 => ⟨S4x1x2816, .f32⟩
  | 99 => ⟨S_, .f32⟩
  | 100 => ⟨S4x3x2816, .f32⟩
  | 101 => ⟨S1x1x2816, .f32⟩
  | 102 => ⟨S4x2048x2816, .f32⟩
  | 103 => ⟨S4x2048x2816, .f32⟩
  | 104 => ⟨S4x2048x2816, .f32⟩
  | 105 => ⟨S_, .f32⟩
  | 106 => ⟨S4x2816, .f32⟩
  | 107 => ⟨S4x1x2816, .f32⟩
  | 108 => ⟨S_, .f32⟩
  | 109 => ⟨S4x2816, .f32⟩
  | 110 => ⟨S_, .f32⟩
  | 111 => ⟨S4x2050x2816, .f32⟩
  | 112 => ⟨S4x2050x2816, .f32⟩
  | 113 => ⟨S4x1x2816, .f32⟩
  | 114 => ⟨S_, .f32⟩
  | 115 => ⟨S4x3x2816, .f32⟩
  | 116 => ⟨S4x3x2816, .f32⟩
  | 117 => ⟨S_, .f32⟩
  | 118 => ⟨S4x2816, .f32⟩
  | 119 => ⟨S4x1x2816, .f32⟩
  | 120 => ⟨S_, .f32⟩
  | 121 => ⟨S4x2816, .f32⟩
  | 122 => ⟨S1x1x2816, .f32⟩
  | 123 => ⟨S4x2048x2816, .f32⟩
  | 124 => ⟨S4x2048x2816, .f32⟩
  | 125 => ⟨S4x2048x2816, .f32⟩
  | 126 => ⟨S_, .f32⟩
  | 127 => ⟨S4x2816, .f32⟩
  | _ => ⟨S4x2048x2816, .f32⟩

abbrev hbmTy0_1 (i : Nat) : BufTy := match i % 128 with
  | 0 => ⟨S4x1x2816, .f32⟩
  | 1 => ⟨S_, .f32⟩
  | 2 => ⟨S4x2816, .f32⟩
  | 3 => ⟨S_, .f32⟩
  | 4 => ⟨S4x2050x2816, .f32⟩
  | 5 => ⟨S4x2050x2816, .f32⟩
  | 6 => ⟨S4x1x2816, .f32⟩
  | 7 => ⟨S_, .f32⟩
  | 8 => ⟨S4x3x2816, .f32⟩
  | 9 => ⟨S4x3x2816, .f32⟩
  | 10 => ⟨S4x2x2816, .f32⟩
  | 11 => ⟨S4x2048x2816, .f32⟩
  | 12 => ⟨S8192x2816, .f32⟩
  | 13 => ⟨S8192x2816, .bf16⟩
  | 14 => ⟨S8192x2816, .f32⟩
  | 15 => ⟨S8192x2816, .bf16⟩
  | 16 => ⟨S4x1x2816, .f32⟩
  | _ => ⟨S4x2048x2816, .f32⟩

abbrev hbmTy (i : Nat) : BufTy := match i / 128 with
  | 0 => hbmTy0_0 i
  | 1 => hbmTy0_1 i
  | _ => ⟨S4x2048x2816, .f32⟩

abbrev bufTy : (tb : Table) → Fin (tcTables nBuf tb) → BufTy
  | .hbm, ⟨i, _⟩ => hbmTy i
  | _, _ => ⟨S4x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_11 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_cst_23 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩

abbrev nD : Nat := 1
abbrev τ : Topo := Topo.v7x

variable {F : FTy → Type} [FloatOps F]
-- ==== WKernel.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NKernel.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S8192x2816, .bf16⟩
  | .hbm, ⟨9, _⟩ => ⟨S8192x2816, .bf16⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S1x1024, .f32⟩
  | .hbm, ⟨15, _⟩ => ⟨S8192x1024, .f32⟩
  | .hbm, ⟨16, _⟩ => ⟨S8192x1024, .bf16⟩
  | .hbm, ⟨17, _⟩ => ⟨S1x1024, .f32⟩
  | .hbm, ⟨18, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NReferenceIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S1x1024, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== UKernel.lean ====
abbrev S4x2048x1024 : Shape := ⟨3, ![4, 2048, 1024]⟩
abbrev S1024x2816 : Shape := ⟨2, ![1024, 2816]⟩
abbrev S3x2816 : Shape := ⟨2, ![3, 2816]⟩
abbrev S2816 : Shape := ⟨1, ![2816]⟩
abbrev S8192x1024 : Shape := ⟨2, ![8192, 1024]⟩
abbrev S2816x1024 : Shape := ⟨2, ![2816, 1024]⟩
abbrev S1x2816 : Shape := ⟨2, ![1, 2816]⟩
abbrev S8192x2816 : Shape := ⟨2, ![8192, 2816]⟩
abbrev S2048x1024 : Shape := ⟨2, ![2048, 1024]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩
abbrev S16x256 : Shape := ⟨2, ![16, 256]⟩
abbrev S512x1024 : Shape := ⟨2, ![512, 1024]⟩
abbrev S512x256 : Shape := ⟨2, ![512, 256]⟩
abbrev S528x256 : Shape := ⟨2, ![528, 256]⟩

abbrev nBuf : Space → Nat
  | .hbm => 16
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S8192x1024, .f32⟩
  | .hbm, ⟨6, _⟩ => ⟨S8192x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S1x2816, .f32⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UKernelIdeal.lean ====
variable {F : FTy → Type} [FloatOps F] [Named F]
def κ : String → Option EReal := fun
  | "cubic" => some ((80338380498831 / 2251799813685248 : ℝ) : EReal)
  | "cubic_slope" => some ((241015141496493 / 4503599627370496 : ℝ) : EReal)
  | _ => none
-- ==== UReferenceIdeal.lean ====
abbrev S4x2048x1024 : Shape := ⟨3, ![4, 2048, 1024]⟩
abbrev S1024x2816 : Shape := ⟨2, ![1024, 2816]⟩
abbrev S3x2816 : Shape := ⟨2, ![3, 2816]⟩
abbrev S2816 : Shape := ⟨1, ![2816]⟩
abbrev S4x2048x2816 : Shape := ⟨3, ![4, 2048, 2816]⟩
abbrev S_ : Shape := ⟨0, ![]⟩
abbrev S2x2816 : Shape := ⟨2, ![2, 2816]⟩
abbrev S4x2x2816 : Shape := ⟨3, ![4, 2, 2816]⟩
abbrev S4x2050x2816 : Shape := ⟨3, ![4, 2050, 2816]⟩
abbrev S1x2816 : Shape := ⟨2, ![1, 2816]⟩
abbrev S1x1x2816 : Shape := ⟨3, ![1, 1, 2816]⟩
abbrev S8192x2816 : Shape := ⟨2, ![8192, 2816]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S2x2816, .f32⟩
  | .hbm, ⟨9, _⟩ => ⟨S4x2x2816, .f32⟩
  | .hbm, ⟨10, _⟩ => ⟨S4x2050x2816, .f32⟩
  | .hbm, ⟨11, _⟩ => ⟨S1x2816, .f32⟩
  | .hbm, ⟨12, _⟩ => ⟨S2816, .f32⟩
  | .hbm, ⟨13, _⟩ => ⟨S4x2048x2816, .f32⟩
  | .hbm, ⟨14, _⟩ => ⟨S1x2816, .f32⟩
  | .hbm, ⟨15, _⟩ => ⟨S1x1x2816, .f32⟩
  | .hbm, ⟨16, _⟩ => ⟨S4x2048x2816, .f32⟩
  | .hbm, ⟨17, _⟩ => ⟨S4x2048x2816, .f32⟩
  | .hbm, ⟨18, _⟩ => ⟨S1x2816, .f32⟩
  | .hbm, ⟨19, _⟩ => ⟨S1x1x2816, .f32⟩
  | .hbm, ⟨20, _⟩ => ⟨S4x2048x2816, .f32⟩
  | .hbm, ⟨21, _⟩ => ⟨S4x2048x2816, .f32⟩
  | .hbm, ⟨22, _⟩ => ⟨S1x2816, .f32⟩
  | .hbm, ⟨23, _⟩ => ⟨S2816, .f32⟩
  | .hbm, ⟨24, _⟩ => ⟨S4x2048x2816, .f32⟩
  | .hbm, ⟨25, _⟩ => ⟨S1x2816, .f32⟩
  | .hbm, ⟨26, _⟩ => ⟨S1x1x2816, .f32⟩
  | .hbm, ⟨27, _⟩ => ⟨S4x2048x2816, .f32⟩
  | .hbm, ⟨28, _⟩ => ⟨S4x2048x2816, .f32⟩
  | .hbm, ⟨29, _⟩ => ⟨S4x2048x2816, .f32⟩
  | .hbm, ⟨30, _⟩ => ⟨S1x2816, .f32⟩
  | .hbm, ⟨31, _⟩ => ⟨S2816, .f32⟩
  | .hbm, ⟨32, _⟩ => ⟨S4x2048x2816, .f32⟩
  | .hbm, ⟨33, _⟩ => ⟨S1x2816, .f32⟩
  | .hbm, ⟨34, _⟩ => ⟨S1x1x2816, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S4x2048x2816, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S_, .f32⟩
  | .hbm, ⟨46, _⟩ => ⟨S4x2048x2816, .f32⟩
  | .hbm, ⟨47, _⟩ => ⟨S4x2048x2816, .f32⟩
  | .hbm, ⟨48, _⟩ => ⟨S_, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S_, .f32⟩
  | .hbm, ⟨54, _⟩ => ⟨S4x2048x2816, .f32⟩
  | .hbm, ⟨55, _⟩ => ⟨S4x2048x2816, .f32⟩
  | .hbm, ⟨56, _⟩ => ⟨S_, .f32⟩
  | .hbm, ⟨57, _⟩ => ⟨S4x2048x2816, .f32⟩
  | .hbm, ⟨58, _⟩ => ⟨S4x2048x2816, .f32⟩
  | .hbm, ⟨59, _⟩ => ⟨S4x2048x2816, .f32⟩
  | .hbm, ⟨60, _⟩ => ⟨S_, .f32⟩
  | .hbm, ⟨61, _⟩ => ⟨S4x2048x2816, .f32⟩
  | .hbm, ⟨62, _⟩ => ⟨S4x2048x2816, .f32⟩
  | .hbm, ⟨63, _⟩ => ⟨S_, .f32⟩
  | .hbm, ⟨64, _⟩ => ⟨S4x2048x2816, .f32⟩
  | .hbm, ⟨65, _⟩ => ⟨S4x2048x2816, .f32⟩
  | .hbm, ⟨66, _⟩ => ⟨S4x2048x2816, .f32⟩
  | .hbm, ⟨67, _⟩ => ⟨S4x2048x2816, .f32⟩
  | .hbm, ⟨68, _⟩ => ⟨S_, .f32⟩
  | .hbm, ⟨69, _⟩ => ⟨S4x2048x2816, .f32⟩
  | .hbm, ⟨70, _⟩ => ⟨S4x2048x2816, .f32⟩
  | .hbm, ⟨71, _⟩ => ⟨S_, .f32⟩
  | .hbm, ⟨72, _⟩ => ⟨S4x2048x2816, .f32⟩
  | .hbm, ⟨73, _⟩ => ⟨S4x2048x2816, .f32⟩
  | .hbm, ⟨74, _⟩ => ⟨S_, .f32⟩
  | .hbm, ⟨75, _⟩ => ⟨S4x2048x2816, .f32⟩
  | .hbm, ⟨76, _⟩ => ⟨S4x2048x2816, .f32⟩
  | .hbm, ⟨77, _⟩ => ⟨S4x2048x2816, .f32⟩
  | .hbm, ⟨78, _⟩ => ⟨S4x2048x2816, .f32⟩
  | .hbm, ⟨79, _⟩ => ⟨S4x2048x2816, .f32⟩
  | .hbm, ⟨80, _⟩ => ⟨S4x2048x2816, .f32⟩
  | .hbm, ⟨81, _⟩ => ⟨S4x2048x2816, .f32⟩
  | .hbm, ⟨82, _⟩ => ⟨S8192x2816, .f32⟩
  | .hbm, ⟨83, _⟩ => ⟨S8192x2816, .bf16⟩
  | .hbm, ⟨84, _⟩ => ⟨S8192x2816, .f32⟩
  | .hbm, ⟨85, _⟩ => ⟨S8192x2816, .bf16⟩
  | .hbm, ⟨86, _⟩ => ⟨S8192x2816, .f32⟩
  | .hbm, ⟨87, _⟩ => ⟨S8192x2816, .bf16⟩
  | .hbm, ⟨88, _⟩ => ⟨S8192x2816, .f32⟩
  | .hbm, ⟨89, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_0 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== DKernel.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DReferenceIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== OKernel.lean ====
abbrev S8192x1024 : Shape := ⟨2, ![8192, 1024]⟩
abbrev S1024x1024 : Shape := ⟨2, ![1024, 1024]⟩
abbrev S1024x8192 : Shape := ⟨2, ![1024, 8192]⟩
abbrev S1024x2048 : Shape := ⟨2, ![1024, 2048]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x8192, .f32⟩
  | .hbm, ⟨4, _⟩ => ⟨S1024x8192, .bf16⟩
  | .hbm, ⟨5, _⟩ => ⟨S8192x1024, .bf16⟩
  | .hbm, ⟨6, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== OReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== TKernel.lean ====
abbrev S8192x1024 : Shape := ⟨2, ![8192, 1024]⟩
abbrev S1024x1024 : Shape := ⟨2, ![1024, 1024]⟩
abbrev S1024x8192 : Shape := ⟨2, ![1024, 8192]⟩
abbrev S512x1024 : Shape := ⟨2, ![512, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S1024x8192, .bf16⟩
  | .local _ .vmem, ⟨0, _⟩ => ⟨S1024x1024, .bf16⟩
  | .local _ .vmem, ⟨1, _⟩ => ⟨S512x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TReferenceIdeal.lean ====
abbrev S8192x1024 : Shape := ⟨2, ![8192, 1024]⟩
abbrev S1024x1024 : Shape := ⟨2, ![1024, 1024]⟩
abbrev S1024x8192 : Shape := ⟨2, ![1024, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x8192, .f32⟩
  | .hbm, ⟨6, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QKernel.lean ====
abbrev S8192x1024 : Shape := ⟨2, ![8192, 1024]⟩
abbrev S1024x3072 : Shape := ⟨2, ![1024, 3072]⟩
abbrev S8192x3072 : Shape := ⟨2, ![8192, 3072]⟩
abbrev S1024x8192 : Shape := ⟨2, ![1024, 8192]⟩
abbrev S3072x1024 : Shape := ⟨2, ![3072, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S1024x8192, .f32⟩
  | .hbm, ⟨6, _⟩ => ⟨S1024x8192, .bf16⟩
  | .hbm, ⟨7, _⟩ => ⟨S8192x1024, .f32⟩
  | .hbm, ⟨8, _⟩ => ⟨S1024x8192, .f32⟩
  | .hbm, ⟨9, _⟩ => ⟨S1024x8192, .bf16⟩
  | .hbm, ⟨10, _⟩ => ⟨S8192x1024, .f32⟩
  | .hbm, ⟨11, _⟩ => ⟨S1024x8192, .f32⟩
  | .hbm, ⟨12, _⟩ => ⟨S1024x8192, .bf16⟩
  | .hbm, ⟨13, _⟩ => ⟨S3072x1024, .f32⟩
  | .hbm, ⟨14, _⟩ => ⟨S3072x1024, .bf16⟩
  | .hbm, ⟨15, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S3072x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QReferenceIdeal.lean ====
abbrev S8192x1024 : Shape := ⟨2, ![8192, 1024]⟩
abbrev S1024x3072 : Shape := ⟨2, ![1024, 3072]⟩
abbrev S8192x3072 : Shape := ⟨2, ![8192, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x3072, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== GKernel.lean ====
abbrev S8192x1024 : Shape := ⟨2, ![8192, 1024]⟩
abbrev S1024x1024 : Shape := ⟨2, ![1024, 1024]⟩
abbrev S1024x8192 : Shape := ⟨2, ![1024, 8192]⟩
abbrev S4x2048x1x1024 : Shape := ⟨4, ![4, 2048, 1, 1024]⟩
abbrev S1024x4x1x2048 : Shape := ⟨4, ![1024, 4, 1, 2048]⟩
abbrev S4x512x4x1024 : Shape := ⟨4, ![4, 512, 4, 1024]⟩
abbrev S1024x4x4x512 : Shape := ⟨4, ![1024, 4, 4, 512]⟩
abbrev S4x128x16x1024 : Shape := ⟨4, ![4, 128, 16, 1024]⟩
abbrev S1024x4x16x128 : Shape := ⟨4, ![1024, 4, 16, 128]⟩
abbrev S1x1024x8192 : Shape := ⟨3, ![1, 1024, 8192]⟩
abbrev S3x1024x8192 : Shape := ⟨3, ![3, 1024, 8192]⟩
abbrev S1024x2048 : Shape := ⟨2, ![1024, 2048]⟩
abbrev S1x1024x2048 : Shape := ⟨3, ![1, 1024, 2048]⟩

abbrev nBuf : Space → Nat
  | .hbm => 20
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x8192, .f32⟩
  | .hbm, ⟨4, _⟩ => ⟨S1024x8192, .bf16⟩
  | .hbm, ⟨5, _⟩ => ⟨S8192x1024, .bf16⟩
  | .hbm, ⟨6, _⟩ => ⟨S4x2048x1x1024, .bf16⟩
  | .hbm, ⟨7, _⟩ => ⟨S1024x4x1x2048, .bf16⟩
  | .hbm, ⟨8, _⟩ => ⟨S1024x8192, .bf16⟩
  | .hbm, ⟨9, _⟩ => ⟨S4x512x4x1024, .bf16⟩
  | .hbm, ⟨10, _⟩ => ⟨S1024x4x4x512, .bf16⟩
  | .hbm, ⟨11, _⟩ => ⟨S1024x8192, .bf16⟩
  | .hbm, ⟨12, _⟩ => ⟨S4x128x16x1024, .bf16⟩
  | .hbm, ⟨13, _⟩ => ⟨S1024x4x16x128, .bf16⟩
  | .hbm, ⟨14, _⟩ => ⟨S1024x8192, .bf16⟩
  | .hbm, ⟨15, _⟩ => ⟨S1x1024x8192, .bf16⟩
  | .hbm, ⟨16, _⟩ => ⟨S1x1024x8192, .bf16⟩
  | .hbm, ⟨17, _⟩ => ⟨S1x1024x8192, .bf16⟩
  | .hbm, ⟨18, _⟩ => ⟨S3x1024x8192, .bf16⟩
  | .hbm, ⟨19, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GReferenceIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HKernel.lean ====
abbrev S8192x1024 : Shape := ⟨2, ![8192, 1024]⟩
abbrev S1024x1024 : Shape := ⟨2, ![1024, 1024]⟩
abbrev S1024x8192 : Shape := ⟨2, ![1024, 8192]⟩
abbrev S1024x4x512x4 : Shape := ⟨4, ![1024, 4, 512, 4]⟩
abbrev S1024x4x4x512 : Shape := ⟨4, ![1024, 4, 4, 512]⟩
abbrev S4x2048x1x1024 : Shape := ⟨4, ![4, 2048, 1, 1024]⟩
abbrev S1024x4x1x2048 : Shape := ⟨4, ![1024, 4, 1, 2048]⟩
abbrev S4x512x4x1024 : Shape := ⟨4, ![4, 512, 4, 1024]⟩
abbrev S4x128x16x1024 : Shape := ⟨4, ![4, 128, 16, 1024]⟩
abbrev S1024x4x16x128 : Shape := ⟨4, ![1024, 4, 16, 128]⟩
abbrev S1x1024x8192 : Shape := ⟨3, ![1, 1024, 8192]⟩
abbrev S3x1024x8192 : Shape := ⟨3, ![3, 1024, 8192]⟩
abbrev S1024x2048 : Shape := ⟨2, ![1024, 2048]⟩
abbrev S1x1024x2048 : Shape := ⟨3, ![1, 1024, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x8192, .f32⟩
  | .hbm, ⟨4, _⟩ => ⟨S1024x8192, .bf16⟩
  | .hbm, ⟨5, _⟩ => ⟨S1024x4x512x4, .bf16⟩
  | .hbm, ⟨6, _⟩ => ⟨S1024x4x4x512, .bf16⟩
  | .hbm, ⟨7, _⟩ => ⟨S1024x8192, .bf16⟩
  | .hbm, ⟨8, _⟩ => ⟨S8192x1024, .bf16⟩
  | .hbm, ⟨9, _⟩ => ⟨S4x2048x1x1024, .bf16⟩
  | .hbm, ⟨10, _⟩ => ⟨S1024x4x1x2048, .bf16⟩
  | .hbm, ⟨11, _⟩ => ⟨S1024x8192, .bf16⟩
  | .hbm, ⟨12, _⟩ => ⟨S4x512x4x1024, .bf16⟩
  | .hbm, ⟨13, _⟩ => ⟨S1024x4x4x512, .bf16⟩
  | .hbm, ⟨14, _⟩ => ⟨S1024x8192, .bf16⟩
  | .hbm, ⟨15, _⟩ => ⟨S4x128x16x1024, .bf16⟩
  | .hbm, ⟨16, _⟩ => ⟨S1024x4x16x128, .bf16⟩
  | .hbm, ⟨17, _⟩ => ⟨S1024x8192, .bf16⟩
  | .hbm, ⟨18, _⟩ => ⟨S1x1024x8192, .bf16⟩
  | .hbm, ⟨19, _⟩ => ⟨S1x1024x8192, .bf16⟩
  | .hbm, ⟨20, _⟩ => ⟨S1x1024x8192, .bf16⟩
  | .hbm, ⟨21, _⟩ => ⟨S3x1024x8192, .bf16⟩
  | .hbm, ⟨22, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== HReferenceIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== JKernel.lean ====
abbrev S8192x1024 : Shape := ⟨2, ![8192, 1024]⟩
abbrev S1024x1024 : Shape := ⟨2, ![1024, 1024]⟩
abbrev S1024x8192 : Shape := ⟨2, ![1024, 8192]⟩
abbrev S1024x4x128x16 : Shape := ⟨4, ![1024, 4, 128, 16]⟩
abbrev S1024x4x16x128 : Shape := ⟨4, ![1024, 4, 16, 128]⟩
abbrev S4x2048x1x1024 : Shape := ⟨4, ![4, 2048, 1, 1024]⟩
abbrev S1024x4x1x2048 : Shape := ⟨4, ![1024, 4, 1, 2048]⟩
abbrev S4x512x4x1024 : Shape := ⟨4, ![4, 512, 4, 1024]⟩
abbrev S1024x4x4x512 : Shape := ⟨4, ![1024, 4, 4, 512]⟩
abbrev S4x128x16x1024 : Shape := ⟨4, ![4, 128, 16, 1024]⟩
abbrev S1x1024x8192 : Shape := ⟨3, ![1, 1024, 8192]⟩
abbrev S3x1024x8192 : Shape := ⟨3, ![3, 1024, 8192]⟩
abbrev S1024x2048 : Shape := ⟨2, ![1024, 2048]⟩
abbrev S1x1024x2048 : Shape := ⟨3, ![1, 1024, 2048]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x8192, .f32⟩
  | .hbm, ⟨4, _⟩ => ⟨S1024x8192, .bf16⟩
  | .hbm, ⟨5, _⟩ => ⟨S1024x4x128x16, .bf16⟩
  | .hbm, ⟨6, _⟩ => ⟨S1024x4x16x128, .bf16⟩
  | .hbm, ⟨7, _⟩ => ⟨S1024x8192, .bf16⟩
  | .hbm, ⟨8, _⟩ => ⟨S8192x1024, .bf16⟩
  | .hbm, ⟨9, _⟩ => ⟨S4x2048x1x1024, .bf16⟩
  | .hbm, ⟨10, _⟩ => ⟨S1024x4x1x2048, .bf16⟩
  | .hbm, ⟨11, _⟩ => ⟨S1024x8192, .bf16⟩
  | .hbm, ⟨12, _⟩ => ⟨S4x512x4x1024, .bf16⟩
  | .hbm, ⟨13, _⟩ => ⟨S1024x4x4x512, .bf16⟩
  | .hbm, ⟨14, _⟩ => ⟨S1024x8192, .bf16⟩
  | .hbm, ⟨15, _⟩ => ⟨S4x128x16x1024, .bf16⟩
  | .hbm, ⟨16, _⟩ => ⟨S1024x4x16x128, .bf16⟩
  | .hbm, ⟨17, _⟩ => ⟨S1024x8192, .bf16⟩
  | .hbm, ⟨18, _⟩ => ⟨S1x1024x8192, .bf16⟩
  | .hbm, ⟨19, _⟩ => ⟨S1x1024x8192, .bf16⟩
  | .hbm, ⟨20, _⟩ => ⟨S1x1024x8192, .bf16⟩
  | .hbm, ⟨21, _⟩ => ⟨S3x1024x8192, .bf16⟩
  | .hbm, ⟨22, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== JReferenceIdeal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KKernel.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S1024x8192 : Shape := ⟨2, ![1024, 8192]⟩
abbrev S6144x1024 : Shape := ⟨2, ![6144, 1024]⟩
abbrev S1x1024 : Shape := ⟨2, ![1, 1024]⟩
abbrev S1024x256 : Shape := ⟨2, ![1024, 256]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 31
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S8192x6144, .f32⟩
  | .hbm, ⟨5, _⟩ => ⟨S8192x1024, .f32⟩
  | .hbm, ⟨6, _⟩ => ⟨S8192x1024, .f32⟩
  | .hbm, ⟨7, _⟩ => ⟨S1024x8192, .f32⟩
  | .hbm, ⟨8, _⟩ => ⟨S1024x8192, .bf16⟩
  | .hbm, ⟨9, _⟩ => ⟨S8192x1024, .f32⟩
  | .hbm, ⟨10, _⟩ => ⟨S1024x8192, .f32⟩
  | .hbm, ⟨11, _⟩ => ⟨S1024x8192, .bf16⟩
  | .hbm, ⟨12, _⟩ => ⟨S8192x1024, .f32⟩
  | .hbm, ⟨13, _⟩ => ⟨S1024x8192, .f32⟩
  | .hbm, ⟨14, _⟩ => ⟨S1024x8192, .bf16⟩
  | .hbm, ⟨15, _⟩ => ⟨S8192x1024, .f32⟩
  | .hbm, ⟨16, _⟩ => ⟨S1024x8192, .f32⟩
  | .hbm, ⟨17, _⟩ => ⟨S1024x8192, .bf16⟩
  | .hbm, ⟨18, _⟩ => ⟨S8192x1024, .f32⟩
  | .hbm, ⟨19, _⟩ => ⟨S1024x8192, .f32⟩
  | .hbm, ⟨20, _⟩ => ⟨S1024x8192, .bf16⟩
  | .hbm, ⟨21, _⟩ => ⟨S8192x1024, .f32⟩
  | .hbm, ⟨22, _⟩ => ⟨S1024x8192, .f32⟩
  | .hbm, ⟨23, _⟩ => ⟨S1024x8192, .bf16⟩
  | .hbm, ⟨24, _⟩ => ⟨S6144x1024, .f32⟩
  | .hbm, ⟨25, _⟩ => ⟨S6144x1024, .bf16⟩
  | .hbm, ⟨26, _⟩ => ⟨S1x1024, .f32⟩
  | .hbm, ⟨27, _⟩ => ⟨S8192x1024, .f32⟩
  | .hbm, ⟨28, _⟩ => ⟨S8192x1024, .bf16⟩
  | .hbm, ⟨29, _⟩ => ⟨S1x1024, .f32⟩
  | .hbm, ⟨30, _⟩ => ⟨S1x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S6144x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev main_v21_2 : Ref sig .tc := ⟨.hbm, 29, rfl⟩
abbrev main_v21_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6144x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KReferenceIdeal.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S8192x6144, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x6144, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .bf16⟩
  | .hbm, ⟨91, _⟩ => ⟨S1x1024, .f32⟩
  | .hbm, ⟨92, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.Block.lean ====
/-
  What one block of the kernel computes, element by element, over the blocks it is handed.
-/
module

public import proofs.«01_k».proof.Proof.Gen.KernelIdeal.Frame
public import Idealize.ShloMosaic.Lib.Pointwise
public import Idealize.ShloMosaic.Lib.Pipeline.Value
public import Idealize.ShloMosaic.Lib.WordCmp

@[expose] public section

set_option maxRecDepth 16384

noncomputable section

namespace Cert.Proof.Block

open Cert.KernelIdeal Cert.KernelIdeal.Gen Idealize.ShloMosaic Idealize.ShloMosaic.TcCoe Idealize.SL.Sem

variable (x0 : Vec Ideal S2048x1024 .bf16) (x1 : Vec Ideal S256x1024 .bf16) (x2 x3 x4 : Vec Ideal S2048x256 .bf16) (x5 : Vec Ideal S3x256 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The gradient of the hidden row times the gate's slope. -/
def dc (s : Fin 2048) (f : Fin 256) : EReal := (∑ k : Fin 1024, x0 (ix2 s k) * x1 (ix2 f k)) * x4 (ix2 s f)

theorem pay4_at (s : Fin 2048) (f : Fin 256) : k0_pay4 x0 x1 (ix2 s f) = ∑ k : Fin 1024, x0 (ix2 s k) * x1 (ix2 f k) := by
  pointwise [k0_pay4]

theorem pay9_at (s : Fin 2048) (f : Fin 256) : k0_pay9 x0 x1 x4 (ix2 s f) = dc x0 x1 x4 s f := by
  unfold k0_pay9 dc
  pointwise
  rw [pay4_at]

theorem out7_at (s : Fin 2048) (f : Fin 256) : out0_7 x0 x1 x2 x3 x4 x5 (ix2 s f) = (∑ k : Fin 1024, x0 (ix2 s k) * x1 (ix2 f k)) * x3 (ix2 s f) := by
  unfold out0_7
  rw [View.canon_unit_zero hz2, View.ld_unit_zero hz2, View.ld_unit_zero hz2, View.ld_unit_zero hz2]
  unfold k0_pay8
  pointwise
  rw [pay4_at]

theorem out8_at (f : Fin 256) : out0_8 x0 x1 x2 x3 x4 x5 (ix3 0 0 f) = ∑ s : Fin 2048, dc x0 x1 x4 s f := by
  unfold out0_8
  rw [View.canon_unit_zero hz3, View.ld_unit_zero hz2, View.ld_unit_zero hz2, View.ld_unit_zero hz2]
  pointwise [k0_pay1, k0_pay10]
  simp only [pay9_at]

/-- An element `k` rows above, zero where there is none. -/
def down (x : Vec Ideal S2048x256 .bf16) (k : Nat) (s : Fin 2048) (f : Fin 256) : EReal :=
  if k ≤ s.val then x (ix2 ⟨s.val - k, by omega⟩ f) else 0

theorem sel_ge {n k : Nat} (hn : n < 2048) (hk : k < 2048) (x y : EReal) :
    Scalar.select (IntOp.cmpi .sge (BitVec.ofNat 32 n) (BitVec.ofNat 32 k)) x y = if k ≤ n then x else y := by
  rw [WordCmp.cmpi_sge_ofNat (by norm_num; omega) (by norm_num; omega), WordCmp.select_decide]

theorem sel_lt {n k : Nat} (hn : n < 2048) (hk : k < 2048) (x y : EReal) :
    Scalar.select (IntOp.cmpi .slt (BitVec.ofNat 32 n) (BitVec.ofNat 32 k)) x y = if n < k then x else y := by
  rw [WordCmp.cmpi_slt_ofNat (by norm_num; omega) (by norm_num; omega), WordCmp.select_decide]

theorem down_of (x : Vec Ideal S2048x256 .bf16) {k : Nat} (hk : 0 < k) (hk' : k < 2048) (s : Fin 2048) (f : Fin 256)
    (h : (s.val + 2048 - k) % 2048 < 2048) :
    (if k ≤ s.val then x (ix2 ⟨(s.val + 2048 - k) % 2048, h⟩ f) else 0) = down x k s f := by
  unfold down
  split
  · have e : (s.val + 2048 - k) % 2048 = s.val - k := by have := s.isLt; omega
    simp only [e]
  · rfl

theorem pay5_at (s : Fin 2048) (f : Fin 256) : k0_pay5 x2 (ix2 s f) = down x2 0 s f := by
  pointwise [k0_pay5, down]

theorem pay6_at (s : Fin 2048) (f : Fin 256) : k0_pay6 x2 (ix2 s f) = down x2 1 s f := by
  pointwise [k0_pay6, k0_pay5]
  rw [sel_ge s.isLt (by norm_num), down_of x2 (by norm_num) (by norm_num)]

theorem pay7_at (s : Fin 2048) (f : Fin 256) : k0_pay7 x2 (ix2 s f) = down x2 2 s f := by
  pointwise [k0_pay7, k0_pay5]
  rw [sel_ge s.isLt (by norm_num), down_of x2 (by norm_num) (by norm_num)]

theorem out9_at (j : Fin 3) (f : Fin 256) : out0_9 x0 x1 x2 x3 x4 x5 (ix3 0 j f) = ∑ s : Fin 2048, dc x0 x1 x4 s f * down x2 (2 - j.val) s f := by
  unfold out0_9 k0_pay11
  rw [View.canon_unit_zero hz3, View.ld_unit_zero hz2, View.ld_unit_zero hz2, View.ld_unit_zero hz2, View.ld_unit_zero hz2]
  pointwise [k0_pay2]
  simp only [pay9_at, pay5_at, pay6_at, pay7_at]
  fin_cases j <;> simp

/-- The hidden gradient times the slope, `k` rows below, zero where there is none. -/
def up (k : Nat) (s : Fin 2048) (f : Fin 256) : EReal :=
  if h : s.val + k < 2048 then dc x0 x1 x4 ⟨s.val + k, h⟩ f else 0

theorem up_of {k : Nat} (hk : 0 < k) (hk' : k < 2048) (a : EReal) (s : Fin 2048) (f : Fin 256) (h : (s.val + 2048 - (2048 - k)) % 2048 < 2048) :
    (if s.val < 2048 - k then a * dc x0 x1 x4 ⟨(s.val + 2048 - (2048 - k)) % 2048, h⟩ f else 0) = a * up x0 x1 x4 k s f := by
  unfold up
  by_cases hs : s.val < 2048 - k
  · have e : (s.val + 2048 - (2048 - k)) % 2048 = s.val + k := by omega
    rw [if_pos hs, dif_pos (by omega)]
    simp only [e]
  · rw [if_neg hs, dif_neg (by omega), mul_zero]

theorem out6_at (s : Fin 2048) (f : Fin 256) : out0_6 x0 x1 x2 x3 x4 x5 (ix2 s f)
    = x5 (ix2 2 f) * dc x0 x1 x4 s f + x5 (ix2 1 f) * up x0 x1 x4 1 s f + x5 (ix2 0 f) * up x0 x1 x4 2 s f := by
  unfold out0_6 k0_pay11
  rw [View.canon_unit_zero hz2, View.ld_unit_zero hz2, View.ld_unit_zero hz2, View.ld_unit_zero hz2]
  rw [View.ld_unit_zero hz2]
  pointwise [k0_pay3]
  simp only [pay9_at]
  rw [sel_lt s.isLt (by norm_num), sel_lt s.isLt (by norm_num)]
  rw [up_of x0 x1 x4 (k := 1) (by norm_num) (by norm_num), up_of x0 x1 x4 (k := 2) (by norm_num) (by norm_num)]

end Cert.Proof.Block
end
-- ==== Proof.Arrays.lean ====
/-
  What the kernel's four result arrays hold: each grid point `(b, j)` writes the rows of sequence `b` at the columns
  of tile `j`, so an element of an array is the block value at its point.
-/
module

public import proofs.«01_k».proof.Proof.Gen.KernelIdeal.Value
public import proofs.«01_k».proof.Proof.Block

@[expose] public section

set_option maxRecDepth 16384

noncomputable section

namespace Cert.Proof.Arrays

open Cert.KernelIdeal Cert.KernelIdeal.Gen Idealize.ShloMosaic Idealize.ShloMosaic.TcCoe Idealize.SL.Sem Cert.Proof.Block
open Idealize.ShloMosaic.Pipeline (Dat)

variable (m : (ℓ : Loc nD τ sig) → Buf (Elt Ideal) ℓ) (c : Dev nD)

/-- The grid point of sequence `b` and column tile `j`. -/
def pt (b : Fin 4) (j : Fin 11) : Fin cfg0.N := ⟨b.val * 11 + j.val, by have h : cfg0.N = 44 := N_0; omega⟩

theorem idx_all : ∀ b : Fin 4, ∀ j : Fin 11,
    win0_0.index (pt b j) = ![b.val, 0] ∧ win0_1.index (pt b j) = ![j.val, 0] ∧ win0_2.index (pt b j) = ![b.val, j.val]
    ∧ win0_3.index (pt b j) = ![b.val, j.val] ∧ win0_4.index (pt b j) = ![b.val, j.val] ∧ win0_5.index (pt b j) = ![0, j.val]
    ∧ win0_6.index (pt b j) = ![b.val, j.val] ∧ win0_7.index (pt b j) = ![b.val, j.val] ∧ win0_8.index (pt b j) = ![b.val, 0, j.val]
    ∧ win0_9.index (pt b j) = ![b.val, 0, j.val] := by
  decide +kernel

/-- The row of position `s` of sequence `b`. -/
def row (b : Fin 4) (s : Fin 2048) : Fin 8192 := ⟨b.val * 2048 + s.val, by omega⟩

/-- The column `f` of tile `j`. -/
def col (j : Fin 11) (f : Fin 256) : Fin 2816 := ⟨j.val * 256 + f.val, by omega⟩

theorem blk0_at (b : Fin 4) (j : Fin 11) (s : Fin 2048) (k : Fin 1024) : iblk m c 0 (pt b j) (ix2 s k) = V m c main_v64 (ix2 (row b s) k) := by
  unfold iblk
  rw [View.read_apply, cast_eq]
  refine congrArg _ (funext fun a => Fin.ext ?_)
  have h := (idx_all b j).1
  match a with
  | ⟨0, _⟩ =>
    show win0_0.index (pt b j) 0 * 2048 + 1 * s.val = _
    rw [h]; show b.val * 2048 + 1 * s.val = b.val * 2048 + s.val; omega
  | ⟨1, _⟩ =>
    show win0_0.index (pt b j) 1 * 1024 + 1 * k.val = _
    rw [h]; show 0 * 1024 + 1 * k.val = k.val; omega

theorem blk1_at (b : Fin 4) (j : Fin 11) (f : Fin 256) (k : Fin 1024) : iblk m c 1 (pt b j) (ix2 f k) = V m c main_v65 (ix2 (col j f) k) := by
  unfold iblk
  rw [View.read_apply, cast_eq]
  refine congrArg _ (funext fun a => Fin.ext ?_)
  have h := (idx_all b j).2.1
  match a with
  | ⟨0, _⟩ =>
    show win0_1.index (pt b j) 0 * 256 + 1 * f.val = _
    rw [h]; show j.val * 256 + 1 * f.val = j.val * 256 + f.val; omega
  | ⟨1, _⟩ =>
    show win0_1.index (pt b j) 1 * 1024 + 1 * k.val = _
    rw [h]; show 0 * 1024 + 1 * k.val = k.val; omega

theorem blk2_at (b : Fin 4) (j : Fin 11) (s : Fin 2048) (f : Fin 256) : iblk m c 2 (pt b j) (ix2 s f) = V m c main_v67 (ix2 (row b s) (col j f)) := by
  unfold iblk
  rw [View.read_apply, cast_eq]
  refine congrArg _ (funext fun a => Fin.ext ?_)
  have h := (idx_all b j).2.2.1
  match a with
  | ⟨0, _⟩ =>
    show win0_2.index (pt b j) 0 * 2048 + 1 * s.val = _
    rw [h]; show b.val * 2048 + 1 * s.val = b.val * 2048 + s.val; omega
  | ⟨1, _⟩ =>
    show win0_2.index (pt b j) 1 * 256 + 1 * f.val = _
    rw [h]; show j.val * 256 + 1 * f.val = j.val * 256 + f.val; omega

theorem blk3_at (b : Fin 4) (j : Fin 11) (s : Fin 2048) (f : Fin 256) : iblk m c 3 (pt b j) (ix2 s f) = V m c main_v69 (ix2 (row b s) (col j f)) := by
  unfold iblk
  rw [View.read_apply, cast_eq]
  refine congrArg _ (funext fun a => Fin.ext ?_)
  have h := (idx_all b j).2.2.2.1
  match a with
  | ⟨0, _⟩ =>
    show win0_3.index (pt b j) 0 * 2048 + 1 * s.val = _
    rw [h]; show b.val * 2048 + 1 * s.val = b.val * 2048 + s.val; omega
  | ⟨1, _⟩ =>
    show win0_3.index (pt b j) 1 * 256 + 1 * f.val = _
    rw [h]; show j.val * 256 + 1 * f.val = j.val * 256 + f.val; omega

theorem blk4_at (b : Fin 4) (j : Fin 11) (s : Fin 2048) (f : Fin 256) : iblk m c 4 (pt b j) (ix2 s f) = V m c main_v71 (ix2 (row b s) (col j f)) := by
  unfold iblk
  rw [View.read_apply, cast_eq]
  refine congrArg _ (funext fun a => Fin.ext ?_)
  have h := (idx_all b j).2.2.2.2.1
  match a with
  | ⟨0, _⟩ =>
    show win0_4.index (pt b j) 0 * 2048 + 1 * s.val = _
    rw [h]; show b.val * 2048 + 1 * s.val = b.val * 2048 + s.val; omega
  | ⟨1, _⟩ =>
    show win0_4.index (pt b j) 1 * 256 + 1 * f.val = _
    rw [h]; show j.val * 256 + 1 * f.val = j.val * 256 + f.val; omega

theorem blk5_at (b : Fin 4) (j : Fin 11) (i : Fin 3) (f : Fin 256) : iblk m c 5 (pt b j) (ix2 i f) = V m c main_arg2 (ix2 i (col j f)) := by
  unfold iblk
  rw [View.read_apply, cast_eq]
  refine congrArg _ (funext fun a => Fin.ext ?_)
  have h := (idx_all b j).2.2.2.2.2.1
  match a with
  | ⟨0, _⟩ =>
    show win0_5.index (pt b j) 0 * 3 + 1 * i.val = _
    rw [h]; show 0 * 3 + 1 * i.val = i.val; omega
  | ⟨1, _⟩ =>
    show win0_5.index (pt b j) 1 * 256 + 1 * f.val = _
    rw [h]; show j.val * 256 + 1 * f.val = j.val * 256 + f.val; omega

theorem arr6_at (b : Fin 4) (j : Fin 11) (s : Fin 2048) (f : Fin 256) : (dats m 0 c).arrAt 6 cfg0.N (ix2 (row b s) (col j f))
      = out0_6 (iblk m c 0 (pt b j)) (iblk m c 1 (pt b j)) (iblk m c 2 (pt b j)) (iblk m c 3 (pt b j)) (iblk m c 4 (pt b j)) (iblk m c 5 (pt b j)) (ix2 s f) := by
  have h := congrFun (Value.blocks6 m c (pt b j) (flush0_6 _)) (ix2 s f)
  rw [Value.flushed6, View.read_apply, cast_eq] at h
  refine Eq.trans (congrArg _ (funext fun a => Fin.ext ?_)) h
  have h := (idx_all b j).2.2.2.2.2.2.1
  match a with
  | ⟨0, _⟩ =>
    show _ = win0_6.index (pt b j) 0 * 2048 + 1 * s.val
    rw [h]; show b.val * 2048 + s.val = b.val * 2048 + 1 * s.val; omega
  | ⟨1, _⟩ =>
    show _ = win0_6.index (pt b j) 1 * 256 + 1 * f.val
    rw [h]; show j.val * 256 + f.val = j.val * 256 + 1 * f.val; omega

theorem arr7_at (b : Fin 4) (j : Fin 11) (s : Fin 2048) (f : Fin 256) : (dats m 0 c).arrAt 7 cfg0.N (ix2 (row b s) (col j f))
      = out0_7 (iblk m c 0 (pt b j)) (iblk m c 1 (pt b j)) (iblk m c 2 (pt b j)) (iblk m c 3 (pt b j)) (iblk m c 4 (pt b j)) (iblk m c 5 (pt b j)) (ix2 s f) := by
  have h := congrFun (Value.blocks7 m c (pt b j) (flush0_7 _)) (ix2 s f)
  rw [Value.flushed7, View.read_apply, cast_eq] at h
  refine Eq.trans (congrArg _ (funext fun a => Fin.ext ?_)) h
  have h := (idx_all b j).2.2.2.2.2.2.2.1
  match a with
  | ⟨0, _⟩ =>
    show _ = win0_7.index (pt b j) 0 * 2048 + 1 * s.val
    rw [h]; show b.val * 2048 + s.val = b.val * 2048 + 1 * s.val; omega
  | ⟨1, _⟩ =>
    show _ = win0_7.index (pt b j) 1 * 256 + 1 * f.val
    rw [h]; show j.val * 256 + f.val = j.val * 256 + 1 * f.val; omega

theorem arr8_at (b : Fin 4) (j : Fin 11) (f : Fin 256) : (dats m 0 c).arrAt 8 cfg0.N (ix3 b 0 (col j f))
      = out0_8 (iblk m c 0 (pt b j)) (iblk m c 1 (pt b j)) (iblk m c 2 (pt b j)) (iblk m c 3 (pt b j)) (iblk m c 4 (pt b j)) (iblk m c 5 (pt b j)) (ix3 0 0 f) := by
  have h := congrFun (Value.blocks8 m c (pt b j) (flush0_8 _)) (ix3 0 0 f)
  rw [Value.flushed8, View.read_apply, cast_eq] at h
  refine Eq.trans (congrArg _ (funext fun a => Fin.ext ?_)) h
  have h := (idx_all b j).2.2.2.2.2.2.2.2.1
  match a with
  | ⟨0, _⟩ =>
    show _ = win0_8.index (pt b j) 0 * 1 + 1 * 0
    rw [h]; show b.val = b.val * 1 + 1 * 0; omega
  | ⟨1, _⟩ =>
    show _ = win0_8.index (pt b j) 1 * 1 + 1 * 0
    rw [h]; show 0 = 0 * 1 + 1 * 0; omega
  | ⟨2, _⟩ =>
    show _ = win0_8.index (pt b j) 2 * 256 + 1 * f.val
    rw [h]; show j.val * 256 + f.val = j.val * 256 + 1 * f.val; omega

theorem arr9_at (b : Fin 4) (j : Fin 11) (i : Fin 3) (f : Fin 256) : (dats m 0 c).arrAt 9 cfg0.N (ix3 b i (col j f))
      = out0_9 (iblk m c 0 (pt b j)) (iblk m c 1 (pt b j)) (iblk m c 2 (pt b j)) (iblk m c 3 (pt b j)) (iblk m c 4 (pt b j)) (iblk m c 5 (pt b j)) (ix3 0 i f) := by
  have h := congrFun (Value.blocks9 m c (pt b j) (flush0_9 _)) (ix3 0 i f)
  rw [Value.flushed9, View.read_apply, cast_eq] at h
  refine Eq.trans (congrArg _ (funext fun a => Fin.ext ?_)) h
  have h := (idx_all b j).2.2.2.2.2.2.2.2.2
  match a with
  | ⟨0, _⟩ =>
    show _ = win0_9.index (pt b j) 0 * 1 + 1 * 0
    rw [h]; show b.val = b.val * 1 + 1 * 0; omega
  | ⟨1, _⟩ =>
    show _ = win0_9.index (pt b j) 1 * 3 + 1 * i.val
    rw [h]; show i.val = 0 * 3 + 1 * i.val; omega
  | ⟨2, _⟩ =>
    show _ = win0_9.index (pt b j) 2 * 256 + 1 * f.val
    rw [h]; show j.val * 256 + f.val = j.val * 256 + 1 * f.val; omega

end Cert.Proof.Arrays
end
-- ==== Proof.Host.lean ====
/-
  What the arrays hold that enter the kernel: the host line computes the convolution, the gate and the gate's slope
  times `u` by the same operations as the reference's forward pass, so each is named here by the reference's own value.
-/
module

public import proofs.«01_k».proof.Proof.Gen.KernelIdeal.Frame
public import proofs.«01_k».proof.Proof.Gen.ReferenceIdeal.Read
public import Idealize.ShloMosaic.Lib.StableHlo.RunRead

@[expose] public section

set_option maxRecDepth 16384

noncomputable section

namespace Cert.Proof.Host

open Cert.KernelIdeal Cert.KernelIdeal.Gen Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (c : Dev nD)

/-- The incoming gradient, its sequences stacked. -/
theorem V_ct : V m c main_v64 = truncf .bf16 (shapeCast S8192x1024 (m ((c : Thread nD τ).loc main_arg5)) shapeCasts_S4x2048x1024_S8192x1024) bitsLt_bf16_f32 := by
  unfold V
  after_reads_simp
  rfl

/-- The down projection. -/
theorem V_wd : V m c main_v65 = truncf .bf16 (m ((c : Thread nD τ).loc main_arg4)) bitsLt_bf16_f32 := by
  unfold V
  after_reads_simp

/-- The gate input, its sequences stacked. -/
theorem V_g : V m c main_v67 = truncf .bf16 (shapeCast S8192x2816 (m ((c : Thread nD τ).loc main_arg0)) shapeCasts_S4x2048x2816_S8192x2816) bitsLt_bf16_f32 := by
  unfold V
  after_reads_simp
  rfl

/-- The convolution before the gate's function. -/
theorem V_conv : V m c main_v29 = val_main_v30 (m ((c : Thread nD τ).loc main_arg0)) (m ((c : Thread nD τ).loc main_arg2)) (m ((c : Thread nD τ).loc main_arg3)) := by
  unfold V
  after_reads_simp
  simp only [val_main_cst, val_main_v0, val_main_v1, val_main_v2, val_main_cst_0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30]
  rfl

/-- The gate. -/
theorem V_ge : V m c main_v69 = truncf .bf16 (shapeCast S8192x2816 (val_main_v51 (m ((c : Thread nD τ).loc main_arg0)) (m ((c : Thread nD τ).loc main_arg2)) (m ((c : Thread nD τ).loc main_arg3))) shapeCasts_S4x2048x2816_S8192x2816) bitsLt_bf16_f32 := by
  unfold V
  after_reads_simp
  simp only [val_main_cst, val_main_v0, val_main_v1, val_main_v2, val_main_cst_0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_cst_2, val_main_v36, val_main_v37, val_main_v38, val_main_cst_3, val_main_v39, val_main_v40, val_main_v41, val_main_cst_4, val_main_v42, val_main_v43, val_main_cst_5, val_main_v44, val_main_v45, val_main_v46, val_main_cst_6, val_main_v47, val_main_v48, val_main_cst_7, val_main_v49, val_main_v50, val_main_v51]
  rfl

/-- The gate's slope times a vector `u`, by the operations of the gate's own backward line. -/
def slope (x0 : Vec F S4x2048x2816 .f32) (x1 : Vec F S4x2048x2816 .f32) (x2 : Vec F S3x2816 .f32) (x3 : Vec F S2816 .f32) : Vec F S4x2048x2816 .f32 :=
  addf (addf (mulf x1 (val_main_v50 x0 x2 x3))
      (mulf val_main_v62 (mulf (mulf val_main_v59 (mulf (val_main_v30 x0 x2 x3) x1)) (val_main_v46 x0 x2 x3))))
    (mulf (mulf val_main_v65 (mulf val_main_v62 (mulf (mulf val_main_v59 (mulf (val_main_v30 x0 x2 x3) x1)) (val_main_v46 x0 x2 x3))))
      (val_main_v35 x0 x2 x3))

theorem V_ud : V m c main_v71 = truncf .bf16 (shapeCast S8192x2816 (slope (m ((c : Thread nD τ).loc main_arg0)) (m ((c : Thread nD τ).loc main_arg1)) (m ((c : Thread nD τ).loc main_arg2)) (m ((c : Thread nD τ).loc main_arg3))) shapeCasts_S4x2048x2816_S8192x2816) bitsLt_bf16_f32 := by
  unfold V
  after_reads_simp
  simp only [slope, val_main_cst, val_main_v0, val_main_v1, val_main_v2, val_main_cst_0, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst_1, val_main_v34, val_main_v35, val_main_cst_2, val_main_v36, val_main_v37, val_main_v38, val_main_cst_3, val_main_v39, val_main_v40, val_main_v41, val_main_cst_4, val_main_v42, val_main_v43, val_main_cst_5, val_main_v44, val_main_v45, val_main_v46, val_main_cst_6, val_main_v47, val_main_v48, val_main_cst_7, val_main_v49, val_main_v50, val_main_v51, val_main_v52, val_main_v53, val_main_v54, val_main_v55, val_main_v56, val_main_v57, val_main_v58, val_main_cst_8, val_main_v59, val_main_v60, val_main_v61, val_main_cst_9, val_main_v62, val_main_v63, val_main_v64, val_main_cst_10, val_main_v65]
  rfl

end Cert.Proof.Host
end
-- ==== Proof.Reals.lean ====
/-
  Extended reals that are reals: the operations of the two programs keep within them, and there the distributive law
  holds.
-/
module

public import Idealize.ShloMosaic.Lib.StableHlo
public import Idealize.ShloMosaic.PureOps
public import Idealize.ShloMosaic.Lib.IdealHost

@[expose] public section

noncomputable section

namespace Cert.Proof.Reals

open Idealize.ShloMosaic

/-- A real among the extended reals. -/
def IsReal (x : EReal) : Prop := ∃ r : ℝ, x = (r : EReal)

theorem fin_coe (r : ℝ) : IsReal (r : EReal) := ⟨r, rfl⟩

theorem fin_zero : IsReal 0 := ⟨0, rfl⟩

theorem fin_one : IsReal 1 := ⟨1, rfl⟩

theorem fin_add {x y : EReal} : IsReal x → IsReal y → IsReal (x + y) := by
  rintro ⟨a, rfl⟩ ⟨b, rfl⟩; exact ⟨a + b, (EReal.coe_add a b).symm⟩

theorem fin_sub {x y : EReal} : IsReal x → IsReal y → IsReal (x - y) := by
  rintro ⟨a, rfl⟩ ⟨b, rfl⟩; exact ⟨a - b, (EReal.coe_sub a b).symm⟩

theorem fin_mul {x y : EReal} : IsReal x → IsReal y → IsReal (x * y) := by
  rintro ⟨a, rfl⟩ ⟨b, rfl⟩; exact ⟨a * b, (EReal.coe_mul a b).symm⟩

theorem fin_tanh {x : EReal} : IsReal x → IsReal (Ideal.tanh x) := by
  rintro ⟨a, rfl⟩; exact ⟨Real.tanh a, Ideal.tanh_coe ..⟩

theorem fin_sum {ι : Type} (s : Finset ι) {f : ι → EReal} (h : ∀ i, IsReal (f i)) : IsReal (∑ i ∈ s, f i) :=
  Finset.sum_induction f IsReal (fun _ _ => fin_add) fin_zero fun i _ => h i

/-- A binary32 pattern whose exponent is not all ones denotes a real. -/
theorem fin_ofBits {w : BitVec 32} (h : (w.extractLsb' 23 8).toNat ≠ 255) : IsReal (Ideal.ofBits .f32 w) := by
  show IsReal (Ideal.ieee 8 23 w)
  unfold Ideal.ieee
  simp only
  rw [if_neg (by simpa using h)]
  split <;> exact fin_coe _

/-- An extended real whose absolute value compares below infinity is a real. -/
theorem fin_of_lt {x : EReal} (h : Ideal.cmp .olt (max x (-x)) (Ideal.ofBits .f32 0x7F800000#32) = 1#1) : IsReal x := by
  have e : Ideal.ofBits .f32 0x7F800000#32 = ⊤ := by
    show Ideal.ieee 8 23 (0x7F800000#32) = ⊤
    simp [Ideal.ieee]
  rw [e] at h
  induction x with
  | bot => simp [Ideal.cmp] at h
  | top => simp [Ideal.cmp] at h
  | coe r => exact fin_coe r

/-- The slope of the gate, times a product or times its second factor and then the first: the same among reals. -/
theorem slope_mul {h u a c t p l e : EReal} (hh : IsReal h) (hu : IsReal u) (ha : IsReal a) (hc : IsReal c) (ht : IsReal t) (hp : IsReal p)
    (hl : IsReal l) (he : IsReal e) {k : EReal} (hk : IsReal k) :
    h * u * a + k * (l * (c * (h * u)) * t) + e * (k * (l * (c * (h * u)) * t)) * p
      = h * (u * a + k * (l * (c * u) * t) + e * (k * (l * (c * u) * t)) * p) := by
  obtain ⟨h, rfl⟩ := hh; obtain ⟨u, rfl⟩ := hu; obtain ⟨a, rfl⟩ := ha; obtain ⟨c, rfl⟩ := hc; obtain ⟨t, rfl⟩ := ht
  obtain ⟨p, rfl⟩ := hp; obtain ⟨l, rfl⟩ := hl; obtain ⟨e, rfl⟩ := he; obtain ⟨k, rfl⟩ := hk
  norm_cast
  ring

end Cert.Proof.Reals
end
-- ==== Proof.Refs.lean ====
/-
  The reference's arrays, element by element.
-/
module

public import proofs.«01_k».proof.Proof.Gen.ReferenceIdeal.Read
public import Idealize.ShloMosaic.Lib.Pointwise
public import Idealize.ShloMosaic.Lib.IdealHost
public import proofs.«01_k».proof.Proof.Reals

@[expose] public section

set_option maxRecDepth 16384

noncomputable section

namespace Cert.Proof.Refs

open Cert.ReferenceIdeal Cert.ReferenceIdeal.Gen Cert.ReferenceIdeal.Read Idealize.ShloMosaic Idealize.ShloMosaic.TcCoe Idealize.SL.Sem

variable (x0 x1 : Vec Ideal S4x2048x2816 .f32) (x2 : Vec Ideal S3x2816 .f32) (x3 : Vec Ideal S2816 .f32)
  (x4 : Vec Ideal S2816x1024 .f32) (x5 : Vec Ideal S4x2048x1024 .f32)

/-- The gate's input `k` positions earlier, zero before the sequence begins. -/
def prev (k : Nat) (b : Fin 4) (s : Fin 2048) (f : Fin 2816) : EReal :=
  if k ≤ s.val then x0 (ix3 b ⟨s.val - k, by omega⟩ f) else 0

theorem v25_at (b : Fin 4) (s : Fin 2048) (f : Fin 2816) : val_main_v25 x0 (ix3 b s f) = prev x0 0 b s f := by
  pointwise [val_main_v25, val_main_v2, val_main_v1, val_main_v0, val_main_cst, prev]

theorem v17_at (b : Fin 4) (s : Fin 2048) (f : Fin 2816) : val_main_v17 x0 (ix3 b s f) = prev x0 1 b s f := by
  unfold prev
  pointwise [val_main_v17, val_main_v2, val_main_v1, val_main_v0, val_main_cst]
  by_cases h : 1 ≤ s.val
  · have e : 1 + s.val - 2 = s.val - 1 := by omega
    rw [dif_neg (by omega), if_pos h]
    simp only [e]
  · rw [dif_pos (by omega), if_neg h]

theorem v6_at (b : Fin 4) (s : Fin 2048) (f : Fin 2816) : val_main_v6 x0 (ix3 b s f) = prev x0 2 b s f := by
  unfold prev
  pointwise [val_main_v6, val_main_v2, val_main_v1, val_main_v0, val_main_cst]
  by_cases h : 2 ≤ s.val
  · rw [dif_neg (by omega), if_pos h]
  · rw [dif_pos (by omega), if_neg h]

/-- The causal convolution of the gate's input. -/
theorem v30_at (b : Fin 4) (s : Fin 2048) (f : Fin 2816) : val_main_v30 x0 x2 x3 (ix3 b s f)
    = x3 (ix1 f) + x2 (ix2 0 f) * prev x0 2 b s f + x2 (ix2 1 f) * prev x0 1 b s f + x2 (ix2 2 f) * prev x0 0 b s f := by
  pointwise [val_main_v30, val_main_v22, val_main_v14,val_main_v13, val_main_v10,val_main_v29,val_main_v28,val_main_v21,val_main_v20,val_main_v9,val_main_v12,val_main_v27,val_main_v19,val_main_v8,val_main_v11,val_main_v26,val_main_v18,val_main_v7,val_main_v24,val_main_v16,val_main_v5,val_main_v4,val_main_v15,val_main_v23]
  rw [v25_at, v17_at, v6_at]

/-- The gradient of the hidden row. -/
theorem v54_at (b : Fin 4) (s : Fin 2048) (f : Fin 2816) : val_main_v54 x4 x5 (ix3 b s f) = ∑ k : Fin 1024, x5 (ix3 b s k) * x4 (ix2 f k) := by
  pointwise [val_main_v54, val_main_v53]

theorem v111_at (b : Fin 4) (s : Fin 2048) (f : Fin 2816) (h : b.val * 2048 + s.val < 8192) : val_main_v111 x0 x2 x3 x4 x5 (ix2 ⟨b.val * 2048 + s.val, h⟩ f)
    = val_main_v51 x0 x2 x3 (ix3 b s f) * ∑ k : Fin 1024, x5 (ix3 b s k) * x4 (ix2 f k) := by
  pointwise [val_main_v111, val_main_v110, val_main_v55]
  rw [v54_at]

theorem v112_at (b : Fin 4) (f : Fin 2816) : val_main_v112 x0 x1 x2 x3 x4 x5 (ix3 b 0 f) = ∑ s : Fin 2048, val_main_v68 x0 x1 x2 x3 x4 x5 (ix3 b s f) := by
  pointwise [val_main_v112, val_main_v93, val_main_v92, val_main_v91, val_main_cst_19, val_main_cst_20]
  exact Fintype.sum_unique _

theorem v105_at (b : Fin 4) (i : Fin 3) (f : Fin 2816) : val_main_v105 x0 x1 x2 x3 x4 x5 (ix3 b i f)
    = ∑ s : Fin 2048, val_main_v68 x0 x1 x2 x3 x4 x5 (ix3 b s f) * prev x0 (2 - i.val) b s f := by
  pointwise [val_main_v105, val_main_v104, val_main_v90, val_main_v89, val_main_v78, val_main_v77, val_main_v88, val_main_v103, val_main_v75, val_main_v85, val_main_v100,
    val_main_v74, val_main_v84, val_main_v99, val_main_v73, val_main_v83, val_main_v98, val_main_v72, val_main_v82, val_main_v97, val_main_cst_14, val_main_cst_18, val_main_cst_24, val_main_cst_11, val_main_cst_12, val_main_cst_15, val_main_cst_16, val_main_cst_21, val_main_cst_22]
  simp only [Fintype.sum_unique, v25_at, v17_at, v6_at]
  fin_cases i <;> simp

/-- The gradient of the convolution's output `k` positions later, zero past the end. -/
def next (k : Nat) (b : Fin 4) (s : Fin 2048) (f : Fin 2816) : EReal :=
  if h : s.val + k < 2048 then val_main_v68 x0 x1 x2 x3 x4 x5 (ix3 b ⟨s.val + k, h⟩ f) else 0

theorem v109_at (b : Fin 4) (s : Fin 2048) (f : Fin 2816) (h : b.val * 2048 + s.val < 8192) : val_main_v109 x0 x1 x2 x3 x4 x5 (ix2 ⟨b.val * 2048 + s.val, h⟩ f)
    = x2 (ix2 2 f) * val_main_v68 x0 x1 x2 x3 x4 x5 (ix3 b s f) + x2 (ix2 1 f) * next x0 x1 x2 x3 x4 x5 1 b s f + x2 (ix2 0 f) * next x0 x1 x2 x3 x4 x5 2 b s f := by
  pointwise [val_main_v109, val_main_v108, val_main_v107, val_main_v102, val_main_v101, val_main_v87, val_main_v86, val_main_v76, val_main_v71, val_main_v81, val_main_v96,
    val_main_v70, val_main_v69, val_main_v80, val_main_v79, val_main_v95, val_main_v94, val_main_v26, val_main_v18, val_main_v7, val_main_v24, val_main_v16, val_main_v5, val_main_v4, val_main_v15, val_main_v23, val_main_cst_13, val_main_cst_17, val_main_cst_23]
  unfold next
  congr 2
  · by_cases hs : s.val + 1 < 2048
    · have e : 2 + s.val - 1 = s.val + 1 := by omega
      rw [dif_pos (by omega), dif_pos hs]
      simp only [e]
    · rw [dif_neg (by omega), dif_neg hs, mul_zero]
  · by_cases hs : s.val + 2 < 2048
    · rw [dif_pos (by omega), dif_pos hs]
      simp only [Nat.add_comm 2]
    · rw [dif_neg (by omega), dif_neg hs, mul_zero]

open Cert.Proof.Reals

/-- Every element of every argument is a real. -/
structure Reals : Prop where
  g : ∀ i, IsReal (x0 i)
  u : ∀ i, IsReal (x1 i)
  w : ∀ i, IsReal (x2 i)
  b : ∀ i, IsReal (x3 i)
  wd : ∀ i, IsReal (x4 i)
  ct : ∀ i, IsReal (x5 i)

/-- The slope of the gate times `u`. -/
def slope (b : Fin 4) (s : Fin 2048) (f : Fin 2816) : EReal :=
  x1 (ix3 b s f) * val_main_v50 x0 x2 x3 (ix3 b s f)
    + val_main_cst_9 ix0 * (val_main_cst_8 ix0 * (val_main_v30 x0 x2 x3 (ix3 b s f) * x1 (ix3 b s f)) * val_main_v46 x0 x2 x3 (ix3 b s f))
    + val_main_cst_10 ix0 * (val_main_cst_9 ix0 * (val_main_cst_8 ix0 * (val_main_v30 x0 x2 x3 (ix3 b s f) * x1 (ix3 b s f)) * val_main_v46 x0 x2 x3 (ix3 b s f)))
      * val_main_v35 x0 x2 x3 (ix3 b s f)

variable {x0 x1 x2 x3 x4 x5} (H : Reals x0 x1 x2 x3 x4 x5)
include H

theorem fin_prev (k : Nat) (b : Fin 4) (s : Fin 2048) (f : Fin 2816) : IsReal (prev x0 k b s f) := by
  unfold prev
  split
  · exact H.g _
  · exact fin_zero

theorem fin_v30 (b : Fin 4) (s : Fin 2048) (f : Fin 2816) : IsReal (val_main_v30 x0 x2 x3 (ix3 b s f)) := by
  rw [v30_at]
  exact fin_add (fin_add (fin_add (H.b _) (fin_mul (H.w _) (fin_prev H 2 b s f))) (fin_mul (H.w _) (fin_prev H 1 b s f)))
    (fin_mul (H.w _) (fin_prev H 0 b s f))

theorem fin_v54 (b : Fin 4) (s : Fin 2048) (f : Fin 2816) : IsReal (val_main_v54 x4 x5 (ix3 b s f)) := by
  rw [v54_at]
  exact fin_sum _ fun k => fin_mul (H.ct _) (H.wd _)

theorem fin_v41 (b : Fin 4) (s : Fin 2048) (f : Fin 2816) : IsReal (val_main_v41 x0 x2 x3 (ix3 b s f)) := by
  pointwise [val_main_v41, val_main_v40, val_main_v39, val_main_v38, val_main_v37, val_main_v36, val_main_v32, val_main_v31, val_main_cst_3, val_main_cst_2]
  have h := fin_v30 H b s f
  refine fin_tanh (fin_mul (fin_ofBits (by decide)) (fin_add h (fin_mul (fin_ofBits (by decide)) (fin_mul (fin_mul h h) h))))

theorem fin_v50 (b : Fin 4) (s : Fin 2048) (f : Fin 2816) : IsReal (val_main_v50 x0 x2 x3 (ix3 b s f)) := by
  pointwise [val_main_v50, val_main_v49, val_main_v48, val_main_v47, val_main_cst_6, val_main_cst_7]
  exact fin_mul (fin_ofBits (by decide)) (fin_add fin_one (fin_v41 H b s f))

theorem fin_v46 (b : Fin 4) (s : Fin 2048) (f : Fin 2816) : IsReal (val_main_v46 x0 x2 x3 (ix3 b s f)) := by
  pointwise [val_main_v46, val_main_v45, val_main_v44, val_main_v43, val_main_v42, val_main_cst_4, val_main_cst_5]
  exact fin_mul (fin_add fin_one (fin_v41 H b s f)) (fin_sub fin_one (fin_v41 H b s f))

theorem fin_v35 (b : Fin 4) (s : Fin 2048) (f : Fin 2816) : IsReal (val_main_v35 x0 x2 x3 (ix3 b s f)) := by
  pointwise [val_main_v35, val_main_v34, val_main_v33, val_main_cst_1]
  have h := fin_v30 H b s f
  exact fin_mul (fin_ofBits (by decide)) (fin_mul h h)

/-- The gradient of the convolution's output: the hidden row's gradient times the slope. -/
theorem v68_at (b : Fin 4) (s : Fin 2048) (f : Fin 2816) : val_main_v68 x0 x1 x2 x3 x4 x5 (ix3 b s f)
    = (∑ k : Fin 1024, x5 (ix3 b s k) * x4 (ix2 f k)) * slope x0 x1 x2 x3 b s f := by
  pointwise [val_main_v68, val_main_v64, val_main_v67, val_main_v66, val_main_v65, val_main_v63, val_main_v62, val_main_v61, val_main_v60, val_main_v59, val_main_v58, val_main_v57, val_main_v56, val_main_v52, val_main_cst_8, val_main_cst_9, val_main_cst_10]
  rw [slope_mul (fin_v54 H b s f) (H.u _) (fin_v50 H b s f) (fin_v30 H b s f) (fin_v46 H b s f) (fin_v35 H b s f)
    (fin_ofBits (by decide)) (fin_ofBits (by decide)) (fin_ofBits (by decide)), v54_at]
  rfl

end Cert.Proof.Refs
end
-- ==== Proof.Equation.lean ====
/-
  The equation: each array the kernel leaves is the reference's, when the arguments are reals.
-/
module

public import proofs.«01_k».proof.Proof.Arrays
public import proofs.«01_k».proof.Proof.Host
public import proofs.«01_k».proof.Proof.Refs

@[expose] public section

set_option maxRecDepth 16384

noncomputable section

namespace Cert.Proof.Equation

open Cert.KernelIdeal Cert.KernelIdeal.Gen Idealize.ShloMosaic Idealize.ShloMosaic.TcCoe Idealize.SL.Sem Cert.Proof.Block Cert.Proof.Arrays
open Cert.Proof.Refs (Reals prev next)
open Cert.ReferenceIdeal.Read

theorem col_mk (f : Fin 2816) : ∃ (j : Fin 11) (f' : Fin 256), f = col j f' :=
  ⟨⟨f.val / 256, by omega⟩, ⟨f.val % 256, by omega⟩, Fin.ext (by show f.val = f.val / 256 * 256 + f.val % 256; omega)⟩

theorem row_mk (r : Fin 8192) : ∃ (b : Fin 4) (s : Fin 2048), r = row b s :=
  ⟨⟨r.val / 2048, by omega⟩, ⟨r.val % 2048, by omega⟩, Fin.ext (by show r.val = r.val / 2048 * 2048 + r.val % 2048; omega)⟩

variable (m : (ℓ : Loc nD τ sig) → Buf (Elt Ideal) ℓ) (c : Dev nD)

/-- The six arguments as the device holds them. -/
abbrev g : Vec Ideal S4x2048x2816 .f32 := m ((c : Thread nD τ).loc main_arg0)
abbrev u : Vec Ideal S4x2048x2816 .f32 := m ((c : Thread nD τ).loc main_arg1)
abbrev w : Vec Ideal S3x2816 .f32 := m ((c : Thread nD τ).loc main_arg2)
abbrev bias : Vec Ideal S2816 .f32 := m ((c : Thread nD τ).loc main_arg3)
abbrev wd : Vec Ideal S2816x1024 .f32 := m ((c : Thread nD τ).loc main_arg4)
abbrev ct : Vec Ideal S4x2048x1024 .f32 := m ((c : Thread nD τ).loc main_arg5)

theorem cast_ct (x : Vec Ideal S4x2048x1024 .f32) (b : Fin 4) (s : Fin 2048) (k : Fin 1024) :
    (truncf (F := Ideal) .bf16 (shapeCast S8192x1024 x shapeCasts_S4x2048x1024_S8192x1024) bitsLt_bf16_f32 : Vec Ideal S8192x1024 .bf16) (ix2 (row b s) k) = x (ix3 b s k) := by
  unfold row
  pointwise

theorem cast_row (x : Vec Ideal S4x2048x2816 .f32) (b : Fin 4) (s : Fin 2048) (f : Fin 2816) :
    (truncf (F := Ideal) .bf16 (shapeCast S8192x2816 x shapeCasts_S4x2048x2816_S8192x2816) bitsLt_bf16_f32 : Vec Ideal S8192x2816 .bf16) (ix2 (row b s) f) = x (ix3 b s f) := by
  unfold row
  pointwise

theorem slope_at (x0 x1 : Vec Ideal S4x2048x2816 .f32) (x2 : Vec Ideal S3x2816 .f32) (x3 : Vec Ideal S2816 .f32) (b : Fin 4) (s : Fin 2048) (f : Fin 2816) :
    Host.slope x0 x1 x2 x3 (ix3 b s f) = Refs.slope x0 x1 x2 x3 b s f := by
  unfold Host.slope Refs.slope
  pointwise [val_main_v62, val_main_v59, val_main_v65]

theorem b0_at (b : Fin 4) (j : Fin 11) (s : Fin 2048) (k : Fin 1024) : iblk m c 0 (pt b j) (ix2 s k) = ct m c (ix3 b s k) := by
  rw [blk0_at, Host.V_ct]
  exact cast_ct ..

theorem b1_at (b : Fin 4) (j : Fin 11) (f : Fin 256) (k : Fin 1024) : iblk m c 1 (pt b j) (ix2 f k) = wd m c (ix2 (col j f) k) := by
  rw [blk1_at, Host.V_wd]
  rfl

theorem b2_at (b : Fin 4) (j : Fin 11) (s : Fin 2048) (f : Fin 256) : iblk m c 2 (pt b j) (ix2 s f) = g m c (ix3 b s (col j f)) := by
  rw [blk2_at, Host.V_g]
  exact cast_row ..

theorem b3_at (b : Fin 4) (j : Fin 11) (s : Fin 2048) (f : Fin 256) : iblk m c 3 (pt b j) (ix2 s f)
    = val_main_v51 (g m c) (w m c) (bias m c) (ix3 b s (col j f)) := by
  rw [blk3_at, Host.V_ge]
  exact cast_row ..

theorem b4_at (b : Fin 4) (j : Fin 11) (s : Fin 2048) (f : Fin 256) : iblk m c 4 (pt b j) (ix2 s f)
    = Refs.slope (g m c) (u m c) (w m c) (bias m c) b s (col j f) := by
  rw [blk4_at, Host.V_ud]
  exact (cast_row ..).trans (slope_at ..)

theorem b5_at (b : Fin 4) (j : Fin 11) (i : Fin 3) (f : Fin 256) : iblk m c 5 (pt b j) (ix2 i f) = w m c (ix2 i (col j f)) := by
  rw [blk5_at, V_main_arg2]

variable (H : Reals (g m c) (u m c) (w m c) (bias m c) (wd m c) (ct m c))
include H

theorem dc_at (b : Fin 4) (j : Fin 11) (s : Fin 2048) (f : Fin 256) : dc (iblk m c 0 (pt b j)) (iblk m c 1 (pt b j)) (iblk m c 4 (pt b j)) s f
    = val_main_v68 (g m c) (u m c) (w m c) (bias m c) (wd m c) (ct m c) (ix3 b s (col j f)) := by
  unfold dc
  rw [Refs.v68_at H, b4_at]
  simp only [b0_at, b1_at]

omit H in
theorem down_at (k : Nat) (b : Fin 4) (j : Fin 11) (s : Fin 2048) (f : Fin 256) : down (iblk m c 2 (pt b j)) k s f = prev (g m c) k b s (col j f) := by
  unfold down prev
  simp only [b2_at]

theorem up_at (k : Nat) (b : Fin 4) (j : Fin 11) (s : Fin 2048) (f : Fin 256) : up (iblk m c 0 (pt b j)) (iblk m c 1 (pt b j)) (iblk m c 4 (pt b j)) k s f
    = next (g m c) (u m c) (w m c) (bias m c) (wd m c) (ct m c) k b s (col j f) := by
  unfold up next
  simp only [dc_at m c H]

theorem point6 (b : Fin 4) (j : Fin 11) (s : Fin 2048) (f : Fin 256) : out0_6 (iblk m c 0 (pt b j)) (iblk m c 1 (pt b j)) (iblk m c 2 (pt b j)) (iblk m c 3 (pt b j)) (iblk m c 4 (pt b j)) (iblk m c 5 (pt b j)) (ix2 s f)
    = val_main_v109 (g m c) (u m c) (w m c) (bias m c) (wd m c) (ct m c) (ix2 (row b s) (col j f)) := by
  rw [out6_at, dc_at m c H, up_at m c H, up_at m c H, b5_at, b5_at, b5_at]
  exact (Refs.v109_at ..).symm

omit H in
theorem point7 (b : Fin 4) (j : Fin 11) (s : Fin 2048) (f : Fin 256) : out0_7 (iblk m c 0 (pt b j)) (iblk m c 1 (pt b j)) (iblk m c 2 (pt b j)) (iblk m c 3 (pt b j)) (iblk m c 4 (pt b j)) (iblk m c 5 (pt b j)) (ix2 s f)
    = val_main_v111 (g m c) (w m c) (bias m c) (wd m c) (ct m c) (ix2 (row b s) (col j f)) := by
  rw [out7_at, b3_at, mul_comm]
  simp only [b0_at, b1_at]
  exact (Refs.v111_at ..).symm

theorem point8 (b : Fin 4) (j : Fin 11) (f : Fin 256) : out0_8 (iblk m c 0 (pt b j)) (iblk m c 1 (pt b j)) (iblk m c 2 (pt b j)) (iblk m c 3 (pt b j)) (iblk m c 4 (pt b j)) (iblk m c 5 (pt b j)) (ix3 0 0 f)
    = val_main_v112 (g m c) (u m c) (w m c) (bias m c) (wd m c) (ct m c) (ix3 b 0 (col j f)) := by
  rw [out8_at, Refs.v112_at]
  exact Finset.sum_congr rfl fun s _ => dc_at m c H b j s f

theorem point9 (b : Fin 4) (j : Fin 11) (k : Fin 3) (f : Fin 256) : out0_9 (iblk m c 0 (pt b j)) (iblk m c 1 (pt b j)) (iblk m c 2 (pt b j)) (iblk m c 3 (pt b j)) (iblk m c 4 (pt b j)) (iblk m c 5 (pt b j)) (ix3 0 k f)
    = val_main_v105 (g m c) (u m c) (w m c) (bias m c) (wd m c) (ct m c) (ix3 b k (col j f)) := by
  rw [out9_at, Refs.v105_at]
  refine Finset.sum_congr rfl fun s _ => ?_
  rw [dc_at m c H, down_at]

/-- The gradient of the gate's input. -/
theorem final6 : (dats m 0 c).arrAt 6 cfg0.N = val_main_v109 (g m c) (u m c) (w m c) (bias m c) (wd m c) (ct m c) := by
  funext i
  obtain ⟨r, f, rfl⟩ : ∃ r f, i = ix2 r f := ⟨_, _, eq_ix2 i⟩
  obtain ⟨b, s, rfl⟩ := row_mk r
  obtain ⟨j, f, rfl⟩ := col_mk f
  exact (arr6_at m c b j s f).trans (point6 m c H b j s f)

omit H in
/-- The gradient of `u`. -/
theorem final7 : (dats m 0 c).arrAt 7 cfg0.N = val_main_v111 (g m c) (w m c) (bias m c) (wd m c) (ct m c) := by
  funext i
  obtain ⟨r, f, rfl⟩ : ∃ r f, i = ix2 r f := ⟨_, _, eq_ix2 i⟩
  obtain ⟨b, s, rfl⟩ := row_mk r
  obtain ⟨j, f, rfl⟩ := col_mk f
  exact (arr7_at m c b j s f).trans (point7 m c b j s f)

/-- The gradient of the convolution's bias, one row for each sequence. -/
theorem final8 : (dats m 0 c).arrAt 8 cfg0.N = val_main_v112 (g m c) (u m c) (w m c) (bias m c) (wd m c) (ct m c) := by
  funext i
  obtain ⟨b, z, f, rfl⟩ : ∃ b z f, i = ix3 b z f := ⟨_, _, _, eq_ix3 i⟩
  obtain ⟨j, f, rfl⟩ := col_mk f
  obtain rfl : z = 0 := Subsingleton.elim _ _
  exact (arr8_at m c b j f).trans (point8 m c H b j f)

/-- The gradient of the convolution's weights, three rows for each sequence. -/
theorem final9 : (dats m 0 c).arrAt 9 cfg0.N = val_main_v105 (g m c) (u m c) (w m c) (bias m c) (wd m c) (ct m c) := by
  funext i
  obtain ⟨b, k, f, rfl⟩ : ∃ b k f, i = ix3 b k f := ⟨_, _, _, eq_ix3 i⟩
  obtain ⟨j, f, rfl⟩ := col_mk f
  exact (arr9_at m c b j k f).trans (point9 m c H b j k f)

end Cert.Proof.Equation
end
-- ==== Proof.Finite.lean ====
/-
  The precondition read: every element of every argument is a real.
-/
module

public import proofs.«01_k».proof.Defs
public import proofs.«01_k».proof.Proof.Equation
public import Idealize.ShloMosaic.Lib.Pointwise

@[expose] public section

set_option maxRecDepth 16384

noncomputable section

namespace Cert.Proof.Finite

open Idealize.ShloMosaic Idealize.SL.Sem Cert.Proof.Reals Cert.Proof.Equation

theorem facts : Cert.Pre_finite.Facts where
  bcast_S_S4x2048x2816 := by decide
  bcast_S_S3x2816 := by decide
  bcast_S_S2816 := by decide
  bcast_S_S2816x1024 := by decide
  bcast_S_S4x2048x1024 := by decide

/-- An array whose absolute values all compare below infinity holds reals. -/
theorem real_of {S : Shape} (x : FVec Ideal S .f32) (h0 : (⟨0, ![]⟩ : Shape).BroadcastsInDim S (![] : Fin 0 → Fin S.rank))
    (h : cmpf .olt (Host.absf x) (broadcastInDim S ![] h0 (constant ⟨0, ![]⟩ .f32 0x7F800000#32)) = fun _ => 1#1) (i : S.Idx) : IsReal (x i) :=
  fin_of_lt (congrFun h i)

theorem reals [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Refs.Reals (g m c) (u m c) (w m c) (bias m c) (wd m c) (ct m c) where
  g := real_of _ _ (h c).1
  u := real_of _ _ (h c).2.1
  w := real_of _ _ (h c).2.2.1
  b := real_of _ _ (h c).2.2.2.1
  wd := real_of _ _ (h c).2.2.2.2.1
  ct := real_of _ _ (h c).2.2.2.2.2

end Cert.Proof.Finite
end
-- ==== Proof.OutWeight.lean ====
/-
  The weight gradient of the attention's output product: four steps of 2048 tokens, each adding a product to the running
  sum, so what the last step writes is the sum over all 8192 tokens, which is the reference's product.
-/
module

public import proofs.«01_k».proof.Proof.Gen.OKernelIdeal.Value
public import proofs.«01_k».proof.Proof.Gen.OReferenceIdeal.Read
public import Idealize.ShloMosaic.Lib.Pointwise
public import Idealize.ShloMosaic.Lib.Pipeline.ValueKit.Acc
public import Idealize.ShloMosaic.Lib.Pipeline.ReadBack
public import Idealize.ShloMosaic.Lib.StableHlo.RunRead

@[expose] public section

set_option maxRecDepth 16384

noncomputable section

namespace Cert.Proof.OutWeight

open Cert.OKernelIdeal Cert.OKernelIdeal.Gen Idealize.ShloMosaic Idealize.ShloMosaic.TcCoe Idealize.SL.Sem Idealize.ShloMosaic.StableHlo
open Idealize.ShloMosaic.Pipeline (Dat)
open Cert.OReferenceIdeal.Read

/-- The product of one step: 2048 tokens of the two arrays contracted. -/
def part (x : Vec Ideal S1024x2048 .bf16) (y : Vec Ideal S2048x1024 .bf16) (p : S1024x1024.Idx) : EReal :=
  ∑ k : Fin 2048, x (ix2 (p 0) k) * y (ix2 k (p 1))

theorem pay2_at (acc : Vec Ideal S1024x1024 .f32) (x : Vec Ideal S1024x2048 .bf16) (y : Vec Ideal S2048x1024 .bf16)
    (i j : Fin 1024) : k0_pay2 acc x y (ix2 i j) = acc (ix2 i j) + part x y (ix2 i j) := by
  unfold part
  pointwise [k0_pay2]

theorem pay2_eq (acc : Vec Ideal S1024x1024 .f32) (x : Vec Ideal S1024x2048 .bf16) (y : Vec Ideal S2048x1024 .bf16)
    (p : S1024x1024.Idx) : k0_pay2 acc x y p = acc p + part x y p := by
  have e : p = ix2 (p 0) (p 1) := funext fun a => by fin_cases a <;> rfl
  rw [e]
  exact pay2_at acc x y (p 0) (p 1)

theorem pay1_eq (p : S1024x1024.Idx) : k0_pay1 (F := Ideal) p = 0 := by
  have e : p = ix2 (p 0) (p 1) := funext fun a => by fin_cases a <;> rfl
  rw [e]
  pointwise [k0_pay1]

variable (m : (ℓ : Loc nD τ sig) → Buf (Elt Ideal) ℓ) (c : Dev nD)

/-- The running sum after the last step. -/
theorem sum_at (t : Fin cfg0.N) (hr : t.val % 4 = 3) (p : S1024x1024.Idx) :
    (outsAt0 m c t.val t.isLt).2 p
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) p := by
  refine Pipeline.eq_sum_fin_of_reset_step_apply_of_flush (fun n h => (outsAt0 m c n h).2) 4 (fun _ => (0 : EReal))
    (fun t => part (iblk m c 0 t) (iblk m c 1 t)) (fun t h i => ?_) (fun t h i => ?_) t hr p
  · rw [outsAt0_A m c t h (by omega)]
    frame_out
    rw [pay2_eq, pay1_eq]
  · by_cases h1 : t.val % 4 = 3
    · rw [outsAt0_C m c t h h1]
      frame_out
      rw [pay2_eq, read_unread_whole]
    · rw [outsAt0_B m c t h h1]
      frame_out
      rw [pay2_eq, read_unread_whole]

/-- What the last step writes is the running sum. -/
theorem out_at (t : Fin cfg0.N) (hr : t.val % 4 = 3) (p : S1024x1024.Idx) :
    (outsAt0 m c t.val t.isLt).1 p = (outsAt0 m c t.val t.isLt).2 p := by
  rw [outsAt0_C m c t (by omega) hr]
  frame_out
  rfl

/-- The grid point of step `s`. -/
def pt (s : Fin 4) : Fin cfg0.N := ⟨s.val, by have h : cfg0.N = 4 := N_0; omega⟩

theorem idx_all : ∀ s : Fin 4, win0_0.index (pt s) = ![0, s.val] ∧ win0_1.index (pt s) = ![s.val, 0] ∧ win0_2.index (pt s) = ![0, 0] := by
  decide +kernel

/-- The token `k` of step `s`. -/
def tok (s : Fin 4) (k : Fin 2048) : Fin 8192 := ⟨s.val * 2048 + k.val, by omega⟩

/-- The two arguments the call reads, as the device holds them. -/
abbrev o : Vec Ideal S8192x1024 .f32 := m ((c : Thread nD τ).loc main_arg0)
abbrev ct : Vec Ideal S8192x1024 .f32 := m ((c : Thread nD τ).loc main_arg2)

theorem V_o : V m c main_v1 = (truncf (F := Ideal) .bf16 (transpose S1024x8192 [1, 0] (o m c) transposes_S8192x1024_S1024x8192_1_0) bitsLt_bf16_f32 : Vec Ideal S1024x8192 .bf16) := by
  unfold V
  after_reads_simp

theorem V_ct : V m c main_v2 = (truncf (F := Ideal) .bf16 (ct m c) bitsLt_bf16_f32 : Vec Ideal S8192x1024 .bf16) := by
  unfold V
  after_reads_simp

theorem turned (x : Vec Ideal S8192x1024 .f32) (i : Fin 1024) (k : Fin 8192) :
    (truncf (F := Ideal) .bf16 (transpose S1024x8192 [1, 0] x transposes_S8192x1024_S1024x8192_1_0) bitsLt_bf16_f32 : Vec Ideal S1024x8192 .bf16) (ix2 i k) = x (ix2 k i) := by
  pointwise

theorem blk0_at (s : Fin 4) (i : Fin 1024) (k : Fin 2048) : iblk m c 0 (pt s) (ix2 i k) = o m c (ix2 (tok s k) i) := by
  refine Eq.trans ?_ ((congrFun (V_o m c) (ix2 i (tok s k))).trans (turned _ i (tok s k)))
  unfold iblk
  rw [View.read_apply, cast_eq]
  refine congrArg _ (funext fun q => Fin.ext ?_)
  have h := (idx_all s).1
  match q with
  | ⟨0, _⟩ =>
    show win0_0.index (pt s) 0 * 1024 + 1 * i.val = _
    rw [h]; show 0 * 1024 + 1 * i.val = i.val; omega
  | ⟨1, _⟩ =>
    show win0_0.index (pt s) 1 * 2048 + 1 * k.val = _
    rw [h]; show s.val * 2048 + 1 * k.val = s.val * 2048 + k.val; omega

theorem blk1_at (s : Fin 4) (k : Fin 2048) (j : Fin 1024) : iblk m c 1 (pt s) (ix2 k j) = ct m c (ix2 (tok s k) j) := by
  refine Eq.trans ?_ (congrFun (V_ct m c) (ix2 (tok s k) j))
  unfold iblk
  rw [View.read_apply, cast_eq]
  refine congrArg _ (funext fun q => Fin.ext ?_)
  have h := (idx_all s).2.1
  match q with
  | ⟨0, _⟩ =>
    show win0_1.index (pt s) 0 * 2048 + 1 * k.val = _
    rw [h]; show s.val * 2048 + 1 * k.val = s.val * 2048 + k.val; omega
  | ⟨1, _⟩ =>
    show win0_1.index (pt s) 1 * 1024 + 1 * j.val = _
    rw [h]; show 0 * 1024 + 1 * j.val = j.val; omega

/-- The array the kernel leaves, element by element. -/
theorem arr_at (i j : Fin 1024) : Value.G2 m c (ix2 i j) = ∑ k : Fin 8192, o m c (ix2 k i) * ct m c (ix2 k j) := by
  have hr : (pt 3).val % 4 = 3 := rfl
  have h := congrFun (Value.flushed2_eq m c (pt 3) ((flush0_2 _).mpr hr)) (ix2 i j)
  rw [Value.flushed2, View.read_apply, cast_eq] at h
  have h' : Value.G2 m c (ix2 i j) = (outsAt0 m c (pt 3).val (pt 3).isLt).1 (ix2 i j) := by
    refine Eq.trans (congrArg _ (funext fun q => Fin.ext ?_)) h.symm
    have h := (idx_all 3).2.2
    match q with
    | ⟨0, _⟩ =>
      show _ = win0_2.index (pt 3) 0 * 1024 + 1 * i.val
      rw [h]; show i.val = 0 * 1024 + 1 * i.val; omega
    | ⟨1, _⟩ =>
      show _ = win0_2.index (pt 3) 1 * 1024 + 1 * j.val
      rw [h]; show j.val = 0 * 1024 + 1 * j.val; omega
  rw [h', out_at m c _ hr, sum_at m c _ hr, zero_add]
  have e : ∀ s : Fin 4, (⟨4 * ((pt 3).val / 4) + s.val, Pipeline.run_point_lt_of_flush (pt 3) hr s⟩ : Fin cfg0.N) = pt s :=
    fun s => Fin.ext (by show 4 * (3 / 4) + s.val = s.val; omega)
  refine (Finset.sum_congr rfl fun s _ => (congrArg (fun t => part (iblk m c 0 t) (iblk m c 1 t) (ix2 i j)) (e s)).trans
    (Finset.sum_congr rfl fun k _ => congrArg₂ (· * ·) (blk0_at m c s i k) (blk1_at m c s k j))).trans ?_
  exact Fin.sum_mul_add_fin 4 2048 (fun k : Fin 8192 => o m c (ix2 k i) * ct m c (ix2 k j))

theorem ref_at (x y : Vec Ideal S8192x1024 .f32) (i j : Fin 1024) :
    val_main_v3 (F := Ideal) x y (ix2 i j) = ∑ k : Fin 8192, x (ix2 k i) * y (ix2 k j) := by
  pointwise [val_main_v3, val_main_v2, val_main_v1]
  exact Finset.sum_congr rfl fun k _ => mul_comm _ _

/-- The kernel's result is the reference's. -/
theorem final : Value.G2 m c = val_main_v3 (F := Ideal) (o m c) (ct m c) := by
  funext p
  have e : p = (ix2 (p 0) (p 1) : S1024x1024.Idx) := funext fun q => by fin_cases q <;> rfl
  rw [e]
  exact (arr_at m c (p 0) (p 1)).trans (ref_at _ _ _ _).symm

end Cert.Proof.OutWeight

end
-- ==== Proof.OutGrad.lean ====
/-
  The gradient of the attention's output product in its left factor, left transposed: each of the 16 grid points computes
  512 tokens by one product, which is the reference's.
-/
module

public import proofs.«01_k».proof.Proof.Gen.TKernelIdeal.Value
public import proofs.«01_k».proof.Proof.Gen.TReferenceIdeal.Read
public import Idealize.ShloMosaic.Lib.Pointwise
public import Idealize.ShloMosaic.Lib.Pipeline.ReadBack
public import Idealize.ShloMosaic.Lib.StableHlo.RunRead

@[expose] public section

set_option maxRecDepth 16384

noncomputable section

namespace Cert.Proof.OutGrad

open Cert.TKernelIdeal Cert.TKernelIdeal.Gen Idealize.ShloMosaic Idealize.ShloMosaic.TcCoe Idealize.SL.Sem Idealize.ShloMosaic.StableHlo
open Idealize.ShloMosaic.Pipeline (Dat)
open Cert.TReferenceIdeal.Read

theorem pay1_at (w : Vec Ideal S1024x1024 .bf16) (y : Vec Ideal S512x1024 .bf16) (i : Fin 1024) (s : Fin 512) :
    k0_pay1 w y (ix2 i s) = ∑ k : Fin 1024, w (ix2 i k) * y (ix2 s k) := by
  pointwise [k0_pay1]

theorem ref_at (w : Vec Ideal S1024x1024 .f32) (y : Vec Ideal S8192x1024 .f32) (i : Fin 1024) (s : Fin 8192) :
    val_main_v3 (F := Ideal) w y (ix2 i s) = ∑ k : Fin 1024, w (ix2 i k) * y (ix2 s k) := by
  pointwise [val_main_v3, val_main_v2, val_main_v1]
  exact Finset.sum_congr rfl fun k _ => mul_comm _ _

variable (m : (ℓ : Loc nD τ sig) → Buf (Elt Ideal) ℓ) (c : Dev nD)

/-- The two arguments the call reads, as the device holds them. -/
abbrev w : Vec Ideal S1024x1024 .f32 := m ((c : Thread nD τ).loc main_arg1)
abbrev ct : Vec Ideal S8192x1024 .f32 := m ((c : Thread nD τ).loc main_arg2)

theorem V_w : V m c main_v0 = (truncf (F := Ideal) .bf16 (w m c) bitsLt_bf16_f32 : Vec Ideal S1024x1024 .bf16) := by
  unfold V
  after_reads_simp

theorem V_ct : V m c main_v1 = (truncf (F := Ideal) .bf16 (ct m c) bitsLt_bf16_f32 : Vec Ideal S8192x1024 .bf16) := by
  unfold V
  after_reads_simp

/-- The grid point of token block `i`. -/
def pt (i : Fin 16) : Fin cfg0.N := ⟨i.val, by have h : cfg0.N = 16 := N_0; omega⟩

theorem idx_all : ∀ i : Fin 16, win0_0.index (pt i) = ![0, 0] ∧ win0_1.index (pt i) = ![i.val, 0] ∧ win0_2.index (pt i) = ![0, i.val] := by
  decide +kernel

/-- The token `s` of block `i`. -/
def tok (i : Fin 16) (s : Fin 512) : Fin 8192 := ⟨i.val * 512 + s.val, by omega⟩

theorem tok_mk (r : Fin 8192) : ∃ (i : Fin 16) (s : Fin 512), r = tok i s :=
  ⟨⟨r.val / 512, by omega⟩, ⟨r.val % 512, by omega⟩, Fin.ext (by show r.val = r.val / 512 * 512 + r.val % 512; omega)⟩

theorem blk0_at (i : Fin 16) (d k : Fin 1024) : iblk m c 0 (pt i) (ix2 d k) = w m c (ix2 d k) := by
  refine Eq.trans ?_ (congrFun (V_w m c) (ix2 d k))
  unfold iblk
  rw [View.read_apply, cast_eq]
  refine congrArg _ (funext fun q => Fin.ext ?_)
  have h := (idx_all i).1
  match q with
  | ⟨0, _⟩ =>
    show win0_0.index (pt i) 0 * 1024 + 1 * d.val = _
    rw [h]; show 0 * 1024 + 1 * d.val = d.val; omega
  | ⟨1, _⟩ =>
    show win0_0.index (pt i) 1 * 1024 + 1 * k.val = _
    rw [h]; show 0 * 1024 + 1 * k.val = k.val; omega

theorem blk1_at (i : Fin 16) (s : Fin 512) (k : Fin 1024) : iblk m c 1 (pt i) (ix2 s k) = ct m c (ix2 (tok i s) k) := by
  refine Eq.trans ?_ (congrFun (V_ct m c) (ix2 (tok i s) k))
  unfold iblk
  rw [View.read_apply, cast_eq]
  refine congrArg _ (funext fun q => Fin.ext ?_)
  have h := (idx_all i).2.1
  match q with
  | ⟨0, _⟩ =>
    show win0_1.index (pt i) 0 * 512 + 1 * s.val = _
    rw [h]; show i.val * 512 + 1 * s.val = i.val * 512 + s.val; omega
  | ⟨1, _⟩ =>
    show win0_1.index (pt i) 1 * 1024 + 1 * k.val = _
    rw [h]; show 0 * 1024 + 1 * k.val = k.val; omega

theorem hz2 : (![0, 0] : Fin 2 → Nat) = fun _ => 0 := funext fun a => by fin_cases a <;> rfl

theorem out2_eq (t : Fin cfg0.N) : out0_2 (iblk m c 0 t) (iblk m c 1 t) = k0_pay1 (iblk m c 0 t) (iblk m c 1 t) := by
  unfold out0_2
  rw [View.canon_unit_zero hz2, View.ld_unit_zero hz2, View.ld_unit_zero hz2]

/-- The kernel's result is the reference's. -/
theorem final : (dats m 0 c).arrAt 2 cfg0.N = val_main_v3 (F := Ideal) (w m c) (ct m c) := by
  have key : ∀ (d : Fin 1024) (s : Fin 8192), (dats m 0 c).arrAt 2 cfg0.N (ix2 d s) = val_main_v3 (F := Ideal) (w m c) (ct m c) (ix2 d s) := fun d s => by
    obtain ⟨i, s, rfl⟩ := tok_mk s
    have h := congrFun (Value.blocks2 m c (pt i) (flush0_2 _)) (ix2 d s)
    rw [Value.flushed2, View.read_apply, cast_eq, out2_eq] at h
    refine (Eq.trans (congrArg _ (funext fun q => Fin.ext ?_)) h).trans (((pay1_at _ _ d s).trans
      (Finset.sum_congr rfl fun k _ => congrArg₂ (· * ·) (blk0_at m c i d k) (blk1_at m c i s k))).trans (ref_at _ _ d (tok i s)).symm)
    have h := (idx_all i).2.2
    match q with
    | ⟨0, _⟩ =>
      show _ = win0_2.index (pt i) 0 * 1024 + 1 * d.val
      rw [h]; show d.val = 0 * 1024 + 1 * d.val; omega
    | ⟨1, _⟩ =>
      show _ = win0_2.index (pt i) 1 * 512 + 1 * s.val
      rw [h]; show i.val * 512 + s.val = i.val * 512 + 1 * s.val; omega
  funext p
  have e : p = (ix2 (p 0) (p 1) : S1024x8192.Idx) := funext fun q => by fin_cases q <;> rfl
  rw [e]
  exact key (p 0) (p 1)

end Cert.Proof.OutGrad

end
-- ==== Proof.Query.lean ====
/-
  The gradient of the queries' product in the layer's input, and the residual's: each of the 16 grid points computes 512
  tokens, adding to the scaled residual one product for each of the three dilation groups; together those are the
  reference's product over all 3072 columns.
-/
module

public import proofs.«01_k».proof.Proof.Gen.QKernelIdeal.Value
public import proofs.«01_k».proof.Proof.Gen.QReferenceIdeal.Read
public import Idealize.ShloMosaic.Lib.Pointwise
public import Idealize.ShloMosaic.Lib.Pipeline.ValueKit.Acc
public import Idealize.ShloMosaic.Lib.Pipeline.ReadBack
public import Idealize.ShloMosaic.Lib.StableHlo.RunRead

@[expose] public section

set_option maxRecDepth 16384

noncomputable section

namespace Cert.Proof.Query

open Cert.QKernelIdeal Cert.QKernelIdeal.Gen Idealize.ShloMosaic Idealize.ShloMosaic.TcCoe Idealize.SL.Sem Idealize.ShloMosaic.StableHlo
open Idealize.ShloMosaic.Pipeline (Dat)
open Cert.QReferenceIdeal.Read

theorem pay1_at (r : Vec Ideal S512x1024 .f32) (x0 x1 x2 : Vec Ideal S1024x512 .bf16) (w0 w1 w2 : Vec Ideal S1024x1024 .bf16) (s : Fin 512) (d : Fin 1024) :
    k0_pay1 r x0 w0 x1 w1 x2 w2 (ix2 s d) = Ideal.ofBits .f32 0x3FD744FD#32 * r (ix2 s d) + ∑ k : Fin 1024, x0 (ix2 k s) * w0 (ix2 k d)
      + ∑ k : Fin 1024, x1 (ix2 k s) * w1 (ix2 k d) + ∑ k : Fin 1024, x2 (ix2 k s) * w2 (ix2 k d) := by
  pointwise [k0_pay1]

/-- The column `k` of dilation group `g`. -/
def col (g : Fin 3) (k : Fin 1024) : Fin 3072 := ⟨g.val * 1024 + k.val, by omega⟩

theorem ref_at (w : Vec Ideal S1024x3072 .f32) (dq : Vec Ideal S8192x3072 .f32) (r : Vec Ideal S8192x1024 .f32) (s : Fin 8192) (d : Fin 1024) :
    val_main_v6 (F := Ideal) w dq r (ix2 s d)
      = Ideal.ofBits .f32 0x3FD744FD#32 * r (ix2 s d) + ∑ g : Fin 3, ∑ k : Fin 1024, dq (ix2 s (col g k)) * w (ix2 d (col g k)) := by
  rw [show (∑ g : Fin 3, ∑ k : Fin 1024, dq (ix2 s (col g k)) * w (ix2 d (col g k))) = ∑ k : Fin 3072, dq (ix2 s k) * w (ix2 d k) from
    Fin.sum_mul_add_fin 3 1024 fun k : Fin 3072 => dq (ix2 s k) * w (ix2 d k)]
  pointwise [val_main_v6, val_main_v5, val_main_v4, val_main_v3, val_main_cst_0]

variable (m : (ℓ : Loc nD τ sig) → Buf (Elt Ideal) ℓ) (c : Dev nD)

/-- The arguments the call reads, as the device holds them. -/
abbrev w : Vec Ideal S1024x3072 .f32 := m ((c : Thread nD τ).loc main_arg1)
abbrev dq : Vec Ideal S8192x3072 .f32 := m ((c : Thread nD τ).loc main_arg2)
abbrev res : Vec Ideal S8192x1024 .f32 := m ((c : Thread nD τ).loc main_arg3)

/-- One group's columns, transposed. -/
def group (o : Fin 2 → Nat) (h : S8192x3072.Slices o S8192x1024) : Vec Ideal S1024x8192 .bf16 :=
  truncf (F := Ideal) .bf16 (transpose S1024x8192 [1, 0] (extractStridedSlice S8192x1024 o (dq m c) h) transposes_S8192x1024_S1024x8192_1_0) bitsLt_bf16_f32

theorem V_0 : V m c main_v2 = group m c ![0, 0] slices_S8192x3072_S8192x1024_0_0 := by
  unfold V group
  after_reads_simp

theorem V_1 : V m c main_v5 = group m c ![0, 1024] slices_S8192x3072_S8192x1024_0_1024 := by
  unfold V group
  after_reads_simp

theorem V_2 : V m c main_v8 = group m c ![0, 2048] slices_S8192x3072_S8192x1024_0_2048 := by
  unfold V group
  after_reads_simp

theorem V_w : V m c main_v10 = (truncf (F := Ideal) .bf16 (transpose S3072x1024 [1, 0] (w m c) transposes_S1024x3072_S3072x1024_1_0) bitsLt_bf16_f32 : Vec Ideal S3072x1024 .bf16) := by
  unfold V
  after_reads_simp

theorem group0_at (k : Fin 1024) (s : Fin 8192) : group m c ![0, 0] slices_S8192x3072_S8192x1024_0_0 (ix2 k s) = dq m c (ix2 s (col 0 k)) := by
  unfold group
  pointwise
  exact congrArg _ (funext fun q => Fin.ext (by match q with | ⟨0, _⟩ => rfl | ⟨1, _⟩ => show k.val = 0 * 1024 + k.val; omega))

theorem group1_at (k : Fin 1024) (s : Fin 8192) : group m c ![0, 1024] slices_S8192x3072_S8192x1024_0_1024 (ix2 k s) = dq m c (ix2 s (col 1 k)) := by
  unfold group
  pointwise
  exact congrArg _ (funext fun q => Fin.ext (by match q with | ⟨0, _⟩ => rfl | ⟨1, _⟩ => show 1024 + k.val = 1 * 1024 + k.val; omega))

theorem group2_at (k : Fin 1024) (s : Fin 8192) : group m c ![0, 2048] slices_S8192x3072_S8192x1024_0_2048 (ix2 k s) = dq m c (ix2 s (col 2 k)) := by
  unfold group
  pointwise
  exact congrArg _ (funext fun q => Fin.ext (by match q with | ⟨0, _⟩ => rfl | ⟨1, _⟩ => show 2048 + k.val = 2 * 1024 + k.val; omega))

theorem turned (y : Vec Ideal S1024x3072 .f32) (f : Fin 3072) (d : Fin 1024) :
    (truncf (F := Ideal) .bf16 (transpose S3072x1024 [1, 0] y transposes_S1024x3072_S3072x1024_1_0) bitsLt_bf16_f32 : Vec Ideal S3072x1024 .bf16) (ix2 f d) = y (ix2 d f) := by
  pointwise

/-- The grid point of token block `i`. -/
def pt (i : Fin 16) : Fin cfg0.N := ⟨i.val, by have h : cfg0.N = 16 := N_0; omega⟩

theorem idx_all : ∀ i : Fin 16, win0_0.index (pt i) = ![0, i.val] ∧ win0_1.index (pt i) = ![0, i.val] ∧ win0_2.index (pt i) = ![0, i.val]
    ∧ win0_3.index (pt i) = ![0, 0] ∧ win0_4.index (pt i) = ![i.val, 0] ∧ win0_5.index (pt i) = ![i.val, 0] := by
  decide +kernel

/-- The token `s` of block `i`. -/
def tok (i : Fin 16) (s : Fin 512) : Fin 8192 := ⟨i.val * 512 + s.val, by omega⟩

theorem tok_mk (r : Fin 8192) : ∃ (i : Fin 16) (s : Fin 512), r = tok i s :=
  ⟨⟨r.val / 512, by omega⟩, ⟨r.val % 512, by omega⟩, Fin.ext (by show r.val = r.val / 512 * 512 + r.val % 512; omega)⟩

theorem blk0_at (i : Fin 16) (k : Fin 1024) (s : Fin 512) : iblk m c 0 (pt i) (ix2 k s) = dq m c (ix2 (tok i s) (col 0 k)) := by
  refine Eq.trans ?_ ((congrFun (V_0 m c) (ix2 k (tok i s))).trans (group0_at m c k (tok i s)))
  unfold iblk
  rw [View.read_apply, cast_eq]
  refine congrArg _ (funext fun q => Fin.ext ?_)
  have h := (idx_all i).1
  match q with
  | ⟨0, _⟩ =>
    show win0_0.index (pt i) 0 * 1024 + 1 * k.val = _
    rw [h]; show 0 * 1024 + 1 * k.val = k.val; omega
  | ⟨1, _⟩ =>
    show win0_0.index (pt i) 1 * 512 + 1 * s.val = _
    rw [h]; show i.val * 512 + 1 * s.val = i.val * 512 + s.val; omega

theorem blk1_at (i : Fin 16) (k : Fin 1024) (s : Fin 512) : iblk m c 1 (pt i) (ix2 k s) = dq m c (ix2 (tok i s) (col 1 k)) := by
  refine Eq.trans ?_ ((congrFun (V_1 m c) (ix2 k (tok i s))).trans (group1_at m c k (tok i s)))
  unfold iblk
  rw [View.read_apply, cast_eq]
  refine congrArg _ (funext fun q => Fin.ext ?_)
  have h := (idx_all i).2.1
  match q with
  | ⟨0, _⟩ =>
    show win0_1.index (pt i) 0 * 1024 + 1 * k.val = _
    rw [h]; show 0 * 1024 + 1 * k.val = k.val; omega
  | ⟨1, _⟩ =>
    show win0_1.index (pt i) 1 * 512 + 1 * s.val = _
    rw [h]; show i.val * 512 + 1 * s.val = i.val * 512 + s.val; omega

theorem blk2_at (i : Fin 16) (k : Fin 1024) (s : Fin 512) : iblk m c 2 (pt i) (ix2 k s) = dq m c (ix2 (tok i s) (col 2 k)) := by
  refine Eq.trans ?_ ((congrFun (V_2 m c) (ix2 k (tok i s))).trans (group2_at m c k (tok i s)))
  unfold iblk
  rw [View.read_apply, cast_eq]
  refine congrArg _ (funext fun q => Fin.ext ?_)
  have h := (idx_all i).2.2.1
  match q with
  | ⟨0, _⟩ =>
    show win0_2.index (pt i) 0 * 1024 + 1 * k.val = _
    rw [h]; show 0 * 1024 + 1 * k.val = k.val; omega
  | ⟨1, _⟩ =>
    show win0_2.index (pt i) 1 * 512 + 1 * s.val = _
    rw [h]; show i.val * 512 + 1 * s.val = i.val * 512 + s.val; omega

theorem blk3_at (i : Fin 16) (f : Fin 3072) (d : Fin 1024) : iblk m c 3 (pt i) (ix2 f d) = w m c (ix2 d f) := by
  refine Eq.trans ?_ ((congrFun (V_w m c) (ix2 f d)).trans (turned _ f d))
  unfold iblk
  rw [View.read_apply, cast_eq]
  refine congrArg _ (funext fun q => Fin.ext ?_)
  have h := (idx_all i).2.2.2.1
  match q with
  | ⟨0, _⟩ =>
    show win0_3.index (pt i) 0 * 3072 + 1 * f.val = _
    rw [h]; show 0 * 3072 + 1 * f.val = f.val; omega
  | ⟨1, _⟩ =>
    show win0_3.index (pt i) 1 * 1024 + 1 * d.val = _
    rw [h]; show 0 * 1024 + 1 * d.val = d.val; omega

theorem blk4_at (i : Fin 16) (s : Fin 512) (d : Fin 1024) : iblk m c 4 (pt i) (ix2 s d) = res m c (ix2 (tok i s) d) := by
  refine Eq.trans ?_ (congrFun (V_main_arg3 m c) (ix2 (tok i s) d))
  unfold iblk
  rw [View.read_apply, cast_eq]
  refine congrArg _ (funext fun q => Fin.ext ?_)
  have h := (idx_all i).2.2.2.2.1
  match q with
  | ⟨0, _⟩ =>
    show win0_4.index (pt i) 0 * 512 + 1 * s.val = _
    rw [h]; show i.val * 512 + 1 * s.val = i.val * 512 + s.val; omega
  | ⟨1, _⟩ =>
    show win0_4.index (pt i) 1 * 1024 + 1 * d.val = _
    rw [h]; show 0 * 1024 + 1 * d.val = d.val; omega

theorem hz2 : (![0, 0] : Fin 2 → Nat) = fun _ => 0 := funext fun a => by fin_cases a <;> rfl

theorem ldr (x : Vec Ideal S512x1024 .f32) : View.ld x r0_0 = x := by rw [View.ld_unit_zero hz2]
theorem ldx (x : Vec Ideal S1024x512 .bf16) : View.ld x r0_1 = x := by rw [View.ld_unit_zero hz2]

theorem ld0_at (x : Vec Ideal S3072x1024 .bf16) (k d : Fin 1024) : View.ld x r0_2 (ix2 k d) = x (ix2 (col 0 k) d) :=
  congrArg x (funext fun a => Fin.ext (by
    match a with
    | ⟨0, _⟩ => show 0 + 1 * k.val = 0 * 1024 + k.val; omega
    | ⟨1, _⟩ => show 0 + 1 * d.val = d.val; omega))
theorem ld1_at (x : Vec Ideal S3072x1024 .bf16) (k d : Fin 1024) : View.ld x r0_3 (ix2 k d) = x (ix2 (col 1 k) d) :=
  congrArg x (funext fun a => Fin.ext (by
    match a with
    | ⟨0, _⟩ => show 1024 + 1 * k.val = 1 * 1024 + k.val; omega
    | ⟨1, _⟩ => show 0 + 1 * d.val = d.val; omega))
theorem ld2_at (x : Vec Ideal S3072x1024 .bf16) (k d : Fin 1024) : View.ld x r0_4 (ix2 k d) = x (ix2 (col 2 k) d) :=
  congrArg x (funext fun a => Fin.ext (by
    match a with
    | ⟨0, _⟩ => show 2048 + 1 * k.val = 2 * 1024 + k.val; omega
    | ⟨1, _⟩ => show 0 + 1 * d.val = d.val; omega))

theorem out5_eq (t : Fin cfg0.N) : out0_5 (iblk m c 0 t) (iblk m c 1 t) (iblk m c 2 t) (iblk m c 3 t) (iblk m c 4 t)
    = k0_pay1 (iblk m c 4 t) (iblk m c 0 t) (View.ld (iblk m c 3 t) r0_2) (iblk m c 1 t) (View.ld (iblk m c 3 t) r0_3)
        (iblk m c 2 t) (View.ld (iblk m c 3 t) r0_4) := by
  unfold out0_5
  rw [View.canon_unit_zero hz2, ldr, ldx, ldx, ldx]
  rfl

theorem out_at (i : Fin 16) (s : Fin 512) (d : Fin 1024) :
    k0_pay1 (iblk m c 4 (pt i)) (iblk m c 0 (pt i)) (View.ld (iblk m c 3 (pt i)) r0_2) (iblk m c 1 (pt i)) (View.ld (iblk m c 3 (pt i)) r0_3)
        (iblk m c 2 (pt i)) (View.ld (iblk m c 3 (pt i)) r0_4) (ix2 s d)
      = val_main_v6 (F := Ideal) (w m c) (dq m c) (res m c) (ix2 (tok i s) d) := by
  refine (pay1_at _ _ _ _ _ _ _ s d).trans ((ref_at _ _ _ (tok i s) d).trans ?_).symm
  rw [Fin.sum_univ_three, ← add_assoc, ← add_assoc]
  refine (congrArg₂ (· + ·) (congrArg₂ (· + ·) (congrArg₂ (· + ·) (congrArg _ (blk4_at m c i s d)) ?_) ?_) ?_).symm
  · exact Finset.sum_congr rfl fun k _ => congrArg₂ (· * ·) (blk0_at m c i k s) ((ld0_at _ k d).trans (blk3_at m c i (col 0 k) d))
  · exact Finset.sum_congr rfl fun k _ => congrArg₂ (· * ·) (blk1_at m c i k s) ((ld1_at _ k d).trans (blk3_at m c i (col 1 k) d))
  · exact Finset.sum_congr rfl fun k _ => congrArg₂ (· * ·) (blk2_at m c i k s) ((ld2_at _ k d).trans (blk3_at m c i (col 2 k) d))

/-- The kernel's result is the reference's. -/
theorem final : (dats m 0 c).arrAt 5 cfg0.N = val_main_v6 (F := Ideal) (w m c) (dq m c) (res m c) := by
  have key : ∀ (s : Fin 8192) (d : Fin 1024), (dats m 0 c).arrAt 5 cfg0.N (ix2 s d) = val_main_v6 (F := Ideal) (w m c) (dq m c) (res m c) (ix2 s d) := fun s d => by
    obtain ⟨i, s, rfl⟩ := tok_mk s
    have h := congrFun (Value.blocks5 m c (pt i) (flush0_5 _)) (ix2 s d)
    rw [Value.flushed5, View.read_apply, cast_eq, out5_eq] at h
    refine (Eq.trans (congrArg _ (funext fun q => Fin.ext ?_)) h).trans (out_at m c i s d)
    have h := (idx_all i).2.2.2.2.2
    match q with
    | ⟨0, _⟩ =>
      show _ = win0_5.index (pt i) 0 * 512 + 1 * s.val
      rw [h]; show i.val * 512 + s.val = i.val * 512 + 1 * s.val; omega
    | ⟨1, _⟩ =>
      show _ = win0_5.index (pt i) 1 * 1024 + 1 * d.val
      rw [h]; show d.val = 0 * 1024 + 1 * d.val; omega
  funext p
  have e : p = (ix2 (p 0) (p 1) : S8192x1024.Idx) := funext fun q => by fin_cases q <;> rfl
  rw [e]
  exact key (p 0) (p 1)

end Cert.Proof.Query

end
-- ==== Proof.ProjClaim.lean ====
/-
  The claims about the attention's projections: the references' runs, and the equations of the programs.
-/
module

public import proofs.«01_k».proof.Defs
public import proofs.«01_k».proof.Proof.OutWeight
public import proofs.«01_k».proof.Proof.OutGrad
public import proofs.«01_k».proof.Proof.Query
public import proofs.«01_k».proof.Proof.Gen.OReferenceIdeal.Run
public import proofs.«01_k».proof.Proof.Gen.TReferenceIdeal.Run
public import proofs.«01_k».proof.Proof.Gen.QReferenceIdeal.Run
public import Idealize.ShloMosaic.Lib.Quiescent
public import Idealize.ShloMosaic.Adequacy
public import Idealize.ShloMosaic.Init

@[expose] public section

set_option maxRecDepth 16384

noncomputable section

namespace Cert.Proof.ProjClaim

open Idealize.ShloMosaic Idealize.SL.Sem Idealize.ShloMosaic.TcCoe

/-- The reference runs and leaves its arguments as they were. -/
theorem frame_out_weight (m : (ℓ : Loc Cert.OReferenceIdeal.nD Cert.OReferenceIdeal.τ Cert.OReferenceIdeal.sig) → Buf (Elt Ideal) ℓ) (ρ : Dev Cert.OReferenceIdeal.nD → PrngReg) :
    θ_run Cert.OReferenceIdeal.defs (onTc (τ := Cert.OReferenceIdeal.τ) (Cert.OReferenceIdeal.main (F := Ideal))) ⟨m, fun _ => 0, ρ⟩ (fun r =>
      (∀ c : Dev Cert.OReferenceIdeal.nD,
        r.2.mem ((c : Thread Cert.OReferenceIdeal.nD Cert.OReferenceIdeal.τ).loc Cert.OReferenceIdeal.main_arg0) = m ((c : Thread Cert.OReferenceIdeal.nD Cert.OReferenceIdeal.τ).loc Cert.OReferenceIdeal.main_arg0)
        ∧ r.2.mem ((c : Thread Cert.OReferenceIdeal.nD Cert.OReferenceIdeal.τ).loc Cert.OReferenceIdeal.main_arg1) = m ((c : Thread Cert.OReferenceIdeal.nD Cert.OReferenceIdeal.τ).loc Cert.OReferenceIdeal.main_arg1)
        ∧ r.2.mem ((c : Thread Cert.OReferenceIdeal.nD Cert.OReferenceIdeal.τ).loc Cert.OReferenceIdeal.main_arg2) = m ((c : Thread Cert.OReferenceIdeal.nD Cert.OReferenceIdeal.τ).loc Cert.OReferenceIdeal.main_arg2))
      ∧ r.2.sem = fun _ => 0) :=
  (θ_run Cert.OReferenceIdeal.defs _ _).mono (fun r h => ⟨fun c => (h c).2, sem_eq_zero_of_no_sems (by decide) r.2⟩)
    (Cert.OReferenceIdeal.Value.run m ρ)

/-- The kernel's array is the reference's, over the reals. -/
theorem equal_out_weight : Cert.algebraic_OKernelIdeal_OReferenceIdeal (hOKernelIdeal := Cert.OKernelIdeal.Gen.facts) (hOReferenceIdeal := Cert.OReferenceIdeal.Gen.facts) := by
  intro m ρ m' ρ' _ agree
  refine ⟨_, Cert.OKernelIdeal.Value.run m ρ, (θ_run Cert.OReferenceIdeal.defs _ _).mono (fun r h c => ?_) (Cert.OReferenceIdeal.Value.run m' ρ')⟩
  obtain ⟨h0, hk⟩ := h c
  obtain ⟨a0, _, a2⟩ := agree c
  exact ⟨h0.trans (((Cert.OReferenceIdeal.Read.val_main_v3_eq _ _).trans (congrArg₂ Cert.OReferenceIdeal.Read.val_main_v3 a0 a2)).trans (OutWeight.final m c).symm), hk⟩

/-- The reference runs and leaves its arguments as they were. -/
theorem frame_out_grad (m : (ℓ : Loc Cert.TReferenceIdeal.nD Cert.TReferenceIdeal.τ Cert.TReferenceIdeal.sig) → Buf (Elt Ideal) ℓ) (ρ : Dev Cert.TReferenceIdeal.nD → PrngReg) :
    θ_run Cert.TReferenceIdeal.defs (onTc (τ := Cert.TReferenceIdeal.τ) (Cert.TReferenceIdeal.main (F := Ideal))) ⟨m, fun _ => 0, ρ⟩ (fun r =>
      (∀ c : Dev Cert.TReferenceIdeal.nD,
        r.2.mem ((c : Thread Cert.TReferenceIdeal.nD Cert.TReferenceIdeal.τ).loc Cert.TReferenceIdeal.main_arg0) = m ((c : Thread Cert.TReferenceIdeal.nD Cert.TReferenceIdeal.τ).loc Cert.TReferenceIdeal.main_arg0)
        ∧ r.2.mem ((c : Thread Cert.TReferenceIdeal.nD Cert.TReferenceIdeal.τ).loc Cert.TReferenceIdeal.main_arg1) = m ((c : Thread Cert.TReferenceIdeal.nD Cert.TReferenceIdeal.τ).loc Cert.TReferenceIdeal.main_arg1)
        ∧ r.2.mem ((c : Thread Cert.TReferenceIdeal.nD Cert.TReferenceIdeal.τ).loc Cert.TReferenceIdeal.main_arg2) = m ((c : Thread Cert.TReferenceIdeal.nD Cert.TReferenceIdeal.τ).loc Cert.TReferenceIdeal.main_arg2))
      ∧ r.2.sem = fun _ => 0) :=
  (θ_run Cert.TReferenceIdeal.defs _ _).mono (fun r h => ⟨fun c => (h c).2, sem_eq_zero_of_no_sems (by decide) r.2⟩)
    (Cert.TReferenceIdeal.Value.run m ρ)

/-- The kernel's array is the reference's, over the reals. -/
theorem equal_out_grad : Cert.algebraic_TKernelIdeal_TReferenceIdeal (hTKernelIdeal := Cert.TKernelIdeal.Gen.facts) (hTReferenceIdeal := Cert.TReferenceIdeal.Gen.facts) := by
  intro m ρ m' ρ' _ agree
  refine ⟨_, Cert.TKernelIdeal.Value.run_blocks m ρ, (θ_run Cert.TReferenceIdeal.defs _ _).mono (fun r h c => ?_) (Cert.TReferenceIdeal.Value.run m' ρ')⟩
  obtain ⟨h0, hk⟩ := h c
  obtain ⟨_, a1, a2⟩ := agree c
  exact ⟨h0.trans (((Cert.TReferenceIdeal.Read.val_main_v3_eq _ _).trans (congrArg₂ Cert.TReferenceIdeal.Read.val_main_v3 a1 a2)).trans (OutGrad.final m c).symm), hk⟩

theorem three {A0 A1 A2 B : Type} (f : A0 → A1 → A2 → B) {x0 y0 : A0} {x1 y1 : A1} {x2 y2 : A2} (e0 : x0 = y0) (e1 : x1 = y1) (e2 : x2 = y2) :
    f x0 x1 x2 = f y0 y1 y2 := by
  subst e0 e1 e2; rfl

/-- The reference runs and leaves its arguments as they were. -/
theorem frame_query (m : (ℓ : Loc Cert.QReferenceIdeal.nD Cert.QReferenceIdeal.τ Cert.QReferenceIdeal.sig) → Buf (Elt Ideal) ℓ) (ρ : Dev Cert.QReferenceIdeal.nD → PrngReg) :
    θ_run Cert.QReferenceIdeal.defs (onTc (τ := Cert.QReferenceIdeal.τ) (Cert.QReferenceIdeal.main (F := Ideal))) ⟨m, fun _ => 0, ρ⟩ (fun r =>
      (∀ c : Dev Cert.QReferenceIdeal.nD,
        r.2.mem ((c : Thread Cert.QReferenceIdeal.nD Cert.QReferenceIdeal.τ).loc Cert.QReferenceIdeal.main_arg0) = m ((c : Thread Cert.QReferenceIdeal.nD Cert.QReferenceIdeal.τ).loc Cert.QReferenceIdeal.main_arg0)
        ∧ r.2.mem ((c : Thread Cert.QReferenceIdeal.nD Cert.QReferenceIdeal.τ).loc Cert.QReferenceIdeal.main_arg1) = m ((c : Thread Cert.QReferenceIdeal.nD Cert.QReferenceIdeal.τ).loc Cert.QReferenceIdeal.main_arg1)
        ∧ r.2.mem ((c : Thread Cert.QReferenceIdeal.nD Cert.QReferenceIdeal.τ).loc Cert.QReferenceIdeal.main_arg2) = m ((c : Thread Cert.QReferenceIdeal.nD Cert.QReferenceIdeal.τ).loc Cert.QReferenceIdeal.main_arg2)
        ∧ r.2.mem ((c : Thread Cert.QReferenceIdeal.nD Cert.QReferenceIdeal.τ).loc Cert.QReferenceIdeal.main_arg3) = m ((c : Thread Cert.QReferenceIdeal.nD Cert.QReferenceIdeal.τ).loc Cert.QReferenceIdeal.main_arg3))
      ∧ r.2.sem = fun _ => 0) :=
  (θ_run Cert.QReferenceIdeal.defs _ _).mono (fun r h => ⟨fun c => (h c).2, sem_eq_zero_of_no_sems (by decide) r.2⟩)
    (Cert.QReferenceIdeal.Value.run m ρ)

/-- The kernel's array is the reference's, over the reals. -/
theorem equal_query : Cert.algebraic_QKernelIdeal_QReferenceIdeal (hQKernelIdeal := Cert.QKernelIdeal.Gen.facts) (hQReferenceIdeal := Cert.QReferenceIdeal.Gen.facts) := by
  intro m ρ m' ρ' _ agree
  refine ⟨_, Cert.QKernelIdeal.Value.run_blocks m ρ, (θ_run Cert.QReferenceIdeal.defs _ _).mono (fun r h c => ?_) (Cert.QReferenceIdeal.Value.run m' ρ')⟩
  obtain ⟨h0, hk⟩ := h c
  obtain ⟨_, a1, a2, a3⟩ := agree c
  exact ⟨h0.trans (((Cert.QReferenceIdeal.Read.val_main_v6_eq _ _ _).trans (three Cert.QReferenceIdeal.Read.val_main_v6 a1 a2 a3)).trans (Query.final m c).symm), hk⟩

end Cert.Proof.ProjClaim

end
-- ==== Proof.Groups.lean ====
/-
  The order of the tokens in a dilation group: the tokens of a sequence by their residue first, and what the transposed
  arrays hold in that order. A sum over all tokens does not see the order.
-/
module

public import Idealize.ShloMosaic.Lib.Pointwise
public import Idealize.ShloMosaic.Lib.Pipeline.ValueKit.Acc
public import Idealize.ShloMosaic.Lib.StableHlo.RunRead

@[expose] public section

noncomputable section

namespace Cert.Proof.Groups

open Idealize.ShloMosaic Idealize.ShloMosaic.StableHlo

variable {n d : ℕ}

theorem below {a b x y : ℕ} (h : a * b = 2048) (hx : x < a) (hy : y < b) : x * b + y < 2048 := by
  have : (x + 1) * b ≤ a * b := Nat.mul_le_mul_right b hx
  have e : (x + 1) * b = x * b + b := Nat.succ_mul x b
  omega

/-- The token `l * d + r` of sequence `b`. -/
def tok (h : n * d = 2048) (b : Fin 4) (r : Fin d) (l : Fin n) : Fin 8192 :=
  ⟨b.val * 2048 + (l.val * d + r.val), by have := below h l.isLt r.isLt; have := b.isLt; omega⟩

/-- Where the group's order puts it. -/
def pos (h : n * d = 2048) (b : Fin 4) (r : Fin d) (l : Fin n) : Fin 8192 :=
  ⟨b.val * 2048 + (r.val * n + l.val), by have := below ((Nat.mul_comm d n).trans h) r.isLt l.isLt; have := b.isLt; omega⟩

/-- A sum over the group's order is the sum over the tokens. -/
theorem sum_perm (h : n * d = 2048) (f g : Fin 8192 → EReal) (e : ∀ b r l, f (pos h b r l) = g (tok h b r l)) :
    ∑ k, f k = ∑ k, g k := by
  rw [← Fin.sum_mul_add_fin 4 2048 f (by norm_num), ← Fin.sum_mul_add_fin 4 2048 g (by norm_num)]
  refine Finset.sum_congr rfl fun b _ => ?_
  rw [← Fin.sum_mul_add_fin d n (fun s : Fin 2048 => f ⟨b.val * 2048 + s.val, by omega⟩) (by rw [← h, Nat.mul_comm]),
    ← Fin.sum_mul_add_fin n d (fun s : Fin 2048 => g ⟨b.val * 2048 + s.val, by omega⟩) h.symm, Finset.sum_comm]
  exact Finset.sum_congr rfl fun l _ => Finset.sum_congr rfl fun r _ => e b r l

/-- Rows cut into residues and turned: column `pos` holds token `tok`. -/
theorem rows_at (h : n * d = 2048) (x : (⟨2, ![8192, 1024]⟩ : Shape).Idx → EReal)
    (h1 : (⟨2, ![8192, 1024]⟩ : Shape).ShapeCasts ⟨4, ![4, n, d, 1024]⟩)
    (h2 : (⟨4, ![4, n, d, 1024]⟩ : Shape).Transposes [3, 0, 2, 1] ⟨4, ![1024, 4, d, n]⟩)
    (h3 : (⟨4, ![1024, 4, d, n]⟩ : Shape).ShapeCasts ⟨2, ![1024, 8192]⟩) (j : Fin 1024) (b : Fin 4) (r : Fin d) (l : Fin n) :
    shapeCast ⟨2, ![1024, 8192]⟩ (transpose ⟨4, ![1024, 4, d, n]⟩ [3, 0, 2, 1] (shapeCast ⟨4, ![4, n, d, 1024]⟩ x h1) h2) h3 (ix2 j (pos h b r l))
      = x (ix2 (tok h b r l) j) := by
  rw [shapeCast_apply _ h3 _ (ix4 j b r l), transpose_apply _ _ _ _ (ix4 b l r j), shapeCast_apply _ h1 _ (ix2 (tok h b r l) j)]
  · rw [Shape.rowMajor_val_four, Shape.rowMajor_val_two]
    show (b.val * 2048 + (l.val * d + r.val)) * 1024 + j.val = ((b.val * n + l.val) * d + r.val) * 1024 + j.val
    rw [← h]; ring
  · intro q
    match q with
    | ⟨0, _⟩ => rfl
    | ⟨1, _⟩ => rfl
    | ⟨2, _⟩ => rfl
    | ⟨3, _⟩ => rfl
  · rw [Shape.rowMajor_val_four, Shape.rowMajor_val_two]
    show ((j.val * 4 + b.val) * d + r.val) * n + l.val = j.val * 8192 + (b.val * 2048 + (r.val * n + l.val))
    rw [show (8192 : ℕ) = 4 * (n * d) by rw [h], ← h]; ring

/-- Columns cut into residues: column `pos` holds column `tok`. -/
theorem cols_at (h : n * d = 2048) (x : (⟨2, ![1024, 8192]⟩ : Shape).Idx → EReal)
    (h1 : (⟨2, ![1024, 8192]⟩ : Shape).ShapeCasts ⟨4, ![1024, 4, n, d]⟩)
    (h2 : (⟨4, ![1024, 4, n, d]⟩ : Shape).Transposes [0, 1, 3, 2] ⟨4, ![1024, 4, d, n]⟩)
    (h3 : (⟨4, ![1024, 4, d, n]⟩ : Shape).ShapeCasts ⟨2, ![1024, 8192]⟩) (j : Fin 1024) (b : Fin 4) (r : Fin d) (l : Fin n) :
    shapeCast ⟨2, ![1024, 8192]⟩ (transpose ⟨4, ![1024, 4, d, n]⟩ [0, 1, 3, 2] (shapeCast ⟨4, ![1024, 4, n, d]⟩ x h1) h2) h3 (ix2 j (pos h b r l))
      = x (ix2 j (tok h b r l)) := by
  rw [shapeCast_apply _ h3 _ (ix4 j b r l), transpose_apply _ _ _ _ (ix4 j b l r), shapeCast_apply _ h1 _ (ix2 j (tok h b r l))]
  · rw [Shape.rowMajor_val_four, Shape.rowMajor_val_two]
    show j.val * 8192 + (b.val * 2048 + (l.val * d + r.val)) = ((j.val * 4 + b.val) * n + l.val) * d + r.val
    rw [show (8192 : ℕ) = 4 * (n * d) by rw [h], ← h]; ring
  · intro q
    match q with
    | ⟨0, _⟩ => rfl
    | ⟨1, _⟩ => rfl
    | ⟨2, _⟩ => rfl
    | ⟨3, _⟩ => rfl
  · rw [Shape.rowMajor_val_four, Shape.rowMajor_val_two]
    show ((j.val * 4 + b.val) * d + r.val) * n + l.val = j.val * 8192 + (b.val * 2048 + (r.val * n + l.val))
    rw [show (8192 : ℕ) = 4 * (n * d) by rw [h], ← h]; ring

/-- Three arrays set one above the other: layer `g` is the array `g`. -/
theorem layers_at (y : Fin 3 → (⟨2, ![1024, 8192]⟩ : Shape).Idx → EReal)
    (hb : (⟨2, ![1024, 8192]⟩ : Shape).BroadcastsInDim ⟨3, ![1, 1024, 8192]⟩ ![1, 2])
    (hc : Shape.Concatenates [⟨3, ![1, 1024, 8192]⟩, ⟨3, ![1, 1024, 8192]⟩, ⟨3, ![1, 1024, 8192]⟩] ⟨3, ![3, 1024, 8192]⟩ 0)
    (g : Fin 3) (j : Fin 1024) (k : Fin 8192) :
    concatenate ⟨3, ![3, 1024, 8192]⟩ 0 [⟨⟨3, ![1, 1024, 8192]⟩, broadcastInDim ⟨3, ![1, 1024, 8192]⟩ ![1, 2] hb (y 0)⟩,
        ⟨⟨3, ![1, 1024, 8192]⟩, broadcastInDim ⟨3, ![1, 1024, 8192]⟩ ![1, 2] hb (y 1)⟩,
        ⟨⟨3, ![1, 1024, 8192]⟩, broadcastInDim ⟨3, ![1, 1024, 8192]⟩ ![1, 2] hb (y 2)⟩] hc (ix3 g j k) = y g (ix2 j k) := by
  fin_cases g <;> pointwise

end Cert.Proof.Groups

end
-- ==== Proof.Group1.lean ====
/-
  The weight gradient of one dilation group's product, the group of dilation 1: four steps of 2048 tokens in the group's
  order, each adding a product to the running sum, so what the last step writes is the sum over all 8192 tokens, which is
  the reference's product.
-/
module

public import proofs.«01_k».proof.Proof.Gen.GKernelIdeal.Value
public import proofs.«01_k».proof.Proof.Gen.GReferenceIdeal.Read
public import proofs.«01_k».proof.Proof.Groups
public import Idealize.ShloMosaic.Lib.Pipeline.ReadBack

@[expose] public section

set_option maxRecDepth 16384

noncomputable section

namespace Cert.Proof.Group1

open Cert.GKernelIdeal Cert.GKernelIdeal.Gen Idealize.ShloMosaic Idealize.ShloMosaic.TcCoe Idealize.SL.Sem Idealize.ShloMosaic.StableHlo
open Idealize.ShloMosaic.Pipeline (Dat)
open Cert.GReferenceIdeal.Read

/-- The product of one step: 2048 tokens of the two arrays contracted. -/
def part (x : Vec Ideal S1024x2048 .bf16) (y : Vec Ideal S1x1024x2048 .bf16) (p : S1024x1024.Idx) : EReal :=
  ∑ k : Fin 2048, x (ix2 (p 0) k) * y (ix3 0 (p 1) k)

theorem pay2_at (acc : Vec Ideal S1024x1024 .f32) (x : Vec Ideal S1024x2048 .bf16) (y : Vec Ideal S1x1024x2048 .bf16)
    (i j : Fin 1024) : k0_pay2 acc x y (ix2 i j) = acc (ix2 i j) + part x y (ix2 i j) := by
  unfold part
  pointwise [k0_pay2]

theorem pay2_eq (acc : Vec Ideal S1024x1024 .f32) (x : Vec Ideal S1024x2048 .bf16) (y : Vec Ideal S1x1024x2048 .bf16)
    (p : S1024x1024.Idx) : k0_pay2 acc x y p = acc p + part x y p := by
  have e : p = ix2 (p 0) (p 1) := funext fun a => by fin_cases a <;> rfl
  rw [e]
  exact pay2_at acc x y (p 0) (p 1)

theorem pay1_eq (p : S1024x1024.Idx) : k0_pay1 (F := Ideal) p = 0 := by
  have e : p = ix2 (p 0) (p 1) := funext fun a => by fin_cases a <;> rfl
  rw [e]
  pointwise [k0_pay1]

variable (m : (ℓ : Loc nD τ sig) → Buf (Elt Ideal) ℓ) (c : Dev nD)

/-- The running sum after the last step. -/
theorem sum_at (t : Fin cfg0.N) (hr : t.val % 4 = 3) (p : S1024x1024.Idx) :
    (outsAt0 m c t.val t.isLt).2 p
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) p := by
  refine Pipeline.eq_sum_fin_of_reset_step_apply_of_flush (fun n h => (outsAt0 m c n h).2) 4 (fun _ => (0 : EReal))
    (fun t => part (iblk m c 0 t) (iblk m c 1 t)) (fun t h i => ?_) (fun t h i => ?_) t hr p
  · rw [outsAt0_A m c t h (by omega)]
    frame_out
    exact (pay2_eq _ _ _ i).trans (congrArg (· + _) (pay1_eq i))
  · by_cases h1 : t.val % 4 = 3
    · rw [outsAt0_C m c t h h1]
      frame_out
      refine (pay2_eq _ _ _ i).trans ?_
      rw [read_unread_whole]
    · rw [outsAt0_B m c t h h1]
      frame_out
      refine (pay2_eq _ _ _ i).trans ?_
      rw [read_unread_whole]

/-- What the last step writes is the running sum. -/
theorem out_at (t : Fin cfg0.N) (hr : t.val % 4 = 3) (p : S1024x1024.Idx) :
    (outsAt0 m c t.val t.isLt).1 p = (outsAt0 m c t.val t.isLt).2 p := by
  rw [outsAt0_C m c t (by omega) hr]
  frame_out
  rfl

/-- The grid point of step `s`. -/
def pt (s : Fin 4) : Fin cfg0.N := ⟨s.val, by have h : cfg0.N = 4 := N_0; omega⟩

theorem idx_all : ∀ s : Fin 4, win0_0.index (pt s) = ![0, s.val] ∧ win0_1.index (pt s) = ![0, 0, s.val] ∧ win0_2.index (pt s) = ![0, 0] := by
  decide +kernel

/-- The place `k` of step `s`. -/
def at4 (s : Fin 4) (k : Fin 2048) : Fin 8192 := ⟨s.val * 2048 + k.val, by omega⟩

/-- The two arguments the call reads, as the device holds them. -/
abbrev x : Vec Ideal S8192x1024 .f32 := m ((c : Thread nD τ).loc main_arg0)
abbrev dq : Vec Ideal S8192x1024 .f32 := m ((c : Thread nD τ).loc main_arg2)

/-- The two arrays the call is given. -/
abbrev dqs : Vec Ideal S1024x8192 .bf16 := V m c main_v1
abbrev xs : Vec Ideal S3x1024x8192 .bf16 := V m c main_v15

theorem blk0_at (s : Fin 4) (i : Fin 1024) (k : Fin 2048) : iblk m c 0 (pt s) (ix2 i k) = dqs m c (ix2 i (at4 s k)) := by
  unfold iblk
  rw [View.read_apply, cast_eq]
  refine congrArg (dqs m c) (funext fun q => Fin.ext ?_)
  have h := (idx_all s).1
  match q with
  | ⟨0, _⟩ =>
    show win0_0.index (pt s) 0 * 1024 + 1 * i.val = _
    rw [h]; show 0 * 1024 + 1 * i.val = i.val; omega
  | ⟨1, _⟩ =>
    show win0_0.index (pt s) 1 * 2048 + 1 * k.val = _
    rw [h]; show s.val * 2048 + 1 * k.val = s.val * 2048 + k.val; omega

theorem blk1_at (s : Fin 4) (j : Fin 1024) (k : Fin 2048) : iblk m c 1 (pt s) (ix3 0 j k) = xs m c (ix3 0 j (at4 s k)) := by
  unfold iblk
  rw [View.read_apply, cast_eq]
  refine congrArg (xs m c) (funext fun q => Fin.ext ?_)
  have h := (idx_all s).2.1
  match q with
  | ⟨0, _⟩ =>
    show win0_1.index (pt s) 0 * 1 + 1 * (0 : Fin 1).val = _
    rw [h]; rfl
  | ⟨1, _⟩ =>
    show win0_1.index (pt s) 1 * 1024 + 1 * j.val = _
    rw [h]; show 0 * 1024 + 1 * j.val = j.val; omega
  | ⟨2, _⟩ =>
    show win0_1.index (pt s) 2 * 2048 + 1 * k.val = _
    rw [h]; show s.val * 2048 + 1 * k.val = s.val * 2048 + k.val; omega

/-- The array the kernel leaves, from the arrays it is given. -/
theorem arr_at (i j : Fin 1024) : Value.G2 m c (ix2 i j) = ∑ k : Fin 8192, dqs m c (ix2 i k) * xs m c (ix3 0 j k) := by
  have hr : (pt 3).val % 4 = 3 := rfl
  have h := congrFun (Value.flushed2_eq m c (pt 3) ((flush0_2 _).mpr hr)) (ix2 i j)
  rw [Value.flushed2, View.read_apply, cast_eq] at h
  have h' : Value.G2 m c (ix2 i j) = (outsAt0 m c (pt 3).val (pt 3).isLt).1 (ix2 i j) := by
    refine Eq.trans (congrArg _ (funext fun q => Fin.ext ?_)) h.symm
    have h := (idx_all 3).2.2
    match q with
    | ⟨0, _⟩ =>
      show _ = win0_2.index (pt 3) 0 * 1024 + 1 * i.val
      rw [h]; show i.val = 0 * 1024 + 1 * i.val; omega
    | ⟨1, _⟩ =>
      show _ = win0_2.index (pt 3) 1 * 1024 + 1 * j.val
      rw [h]; show j.val = 0 * 1024 + 1 * j.val; omega
  rw [h', out_at m c _ hr, sum_at m c _ hr, zero_add]
  have e : ∀ s : Fin 4, (⟨4 * ((pt 3).val / 4) + s.val, Pipeline.run_point_lt_of_flush (pt 3) hr s⟩ : Fin cfg0.N) = pt s :=
    fun s => Fin.ext (by show 4 * (3 / 4) + s.val = s.val; omega)
  refine (Finset.sum_congr rfl fun s _ => (congrArg (fun t => part (iblk m c 0 t) (iblk m c 1 t) (ix2 i j)) (e s)).trans
    (Finset.sum_congr rfl fun k _ => congrArg₂ (· * ·) (blk0_at m c s i k) (blk1_at m c s j k))).trans ?_
  exact Fin.sum_mul_add_fin 4 2048 (fun k : Fin 8192 => dqs m c (ix2 i k) * xs m c (ix3 0 j k))

/-- Three ways the rows are laid out, one for each group. -/
def rows (y : Vec Ideal S8192x1024 .f32) : Fin 3 → Vec Ideal S1024x8192 .bf16 := ![
  shapeCast S1024x8192 (transpose S1024x4x1x2048 [3, 0, 2, 1] (shapeCast S4x2048x1x1024 (truncf (F := Ideal) .bf16 y bitsLt_bf16_f32)
    shapeCasts_S8192x1024_S4x2048x1x1024) transposes_S4x2048x1x1024_S1024x4x1x2048_3_0_2_1) shapeCasts_S1024x4x1x2048_S1024x8192,
  shapeCast S1024x8192 (transpose S1024x4x4x512 [3, 0, 2, 1] (shapeCast S4x512x4x1024 (truncf (F := Ideal) .bf16 y bitsLt_bf16_f32)
    shapeCasts_S8192x1024_S4x512x4x1024) transposes_S4x512x4x1024_S1024x4x4x512_3_0_2_1) shapeCasts_S1024x4x4x512_S1024x8192,
  shapeCast S1024x8192 (transpose S1024x4x16x128 [3, 0, 2, 1] (shapeCast S4x128x16x1024 (truncf (F := Ideal) .bf16 y bitsLt_bf16_f32)
    shapeCasts_S8192x1024_S4x128x16x1024) transposes_S4x128x16x1024_S1024x4x16x128_3_0_2_1) shapeCasts_S1024x4x16x128_S1024x8192]

theorem xs_eq : xs m c = (concatenate S3x1024x8192 0 [⟨S1x1024x8192, broadcastInDim S1x1024x8192 ![1, 2] bcast_S1024x8192_S1x1024x8192_1_2 (rows (x m c) 0)⟩,
    ⟨S1x1024x8192, broadcastInDim S1x1024x8192 ![1, 2] bcast_S1024x8192_S1x1024x8192_1_2 (rows (x m c) 1)⟩,
    ⟨S1x1024x8192, broadcastInDim S1x1024x8192 ![1, 2] bcast_S1024x8192_S1x1024x8192_1_2 (rows (x m c) 2)⟩]
    concatenates_S1x1024x8192_S1x1024x8192_S1x1024x8192_S3x1024x8192_d0 : Vec Ideal S3x1024x8192 .bf16) := by
  unfold xs V
  after_reads_simp
  rfl

theorem len : 2048 * 1 = 2048 := rfl

theorem xs_at (j : Fin 1024) (b : Fin 4) (r : Fin 1) (l : Fin 2048) :
    xs m c (ix3 0 j (Groups.pos len b r l)) = x m c (ix2 (Groups.tok len b r l) j) := by
  rw [xs_eq]
  exact (Groups.layers_at (rows (x m c)) _ _ 0 j _).trans (Groups.rows_at len _ _ _ _ j b r l)

theorem dqs_eq : dqs m c = (truncf (F := Ideal) .bf16 (transpose S1024x8192 [1, 0] (dq m c) transposes_S8192x1024_S1024x8192_1_0) bitsLt_bf16_f32 : Vec Ideal S1024x8192 .bf16) := by
  unfold dqs V
  after_reads_simp

theorem turned (x : Vec Ideal S8192x1024 .f32) (i : Fin 1024) (k : Fin 8192) :
    (truncf (F := Ideal) .bf16 (transpose S1024x8192 [1, 0] x transposes_S8192x1024_S1024x8192_1_0) bitsLt_bf16_f32 : Vec Ideal S1024x8192 .bf16) (ix2 i k) = x (ix2 k i) := by
  pointwise

theorem dqs_at (i : Fin 1024) (b : Fin 4) (r : Fin 1) (l : Fin 2048) :
    dqs m c (ix2 i (Groups.pos len b r l)) = dq m c (ix2 (Groups.tok len b r l) i) := by
  have e : Groups.pos len b r l = Groups.tok len b r l :=
    Fin.ext (by show b.val * 2048 + (r.val * 2048 + l.val) = b.val * 2048 + (l.val * 1 + r.val); omega)
  rw [dqs_eq, e]
  exact turned _ i _

theorem ref_at (x y : Vec Ideal S8192x1024 .f32) (i j : Fin 1024) :
    val_main_v4 (F := Ideal) x y (ix2 i j) = ∑ k : Fin 8192, y (ix2 k i) * x (ix2 k j) := by
  pointwise [val_main_v4, val_main_v3, val_main_v2, val_main_v1]

/-- The kernel's result is the reference's. -/
theorem final : Value.G2 m c = val_main_v4 (F := Ideal) (x m c) (dq m c) := by
  funext p
  have e : p = (ix2 (p 0) (p 1) : S1024x1024.Idx) := funext fun q => by fin_cases q <;> rfl
  rw [e]
  exact (arr_at m c (p 0) (p 1)).trans ((Groups.sum_perm len _ (fun k => dq m c (ix2 k (p 0)) * x m c (ix2 k (p 1)))
    fun b r l => congrArg₂ (· * ·) (dqs_at m c (p 0) b r l) (xs_at m c (p 1) b r l)).trans (ref_at _ _ _ _).symm)

end Cert.Proof.Group1

end
-- ==== Proof.Group4.lean ====
/-
  The weight gradient of one dilation group's product, the group of dilation 4: four steps of 2048 tokens in the group's
  order, each adding a product to the running sum, so what the last step writes is the sum over all 8192 tokens, which is
  the reference's product.
-/
module

public import proofs.«01_k».proof.Proof.Gen.HKernelIdeal.Value
public import proofs.«01_k».proof.Proof.Gen.HReferenceIdeal.Read
public import proofs.«01_k».proof.Proof.Groups
public import Idealize.ShloMosaic.Lib.Pipeline.ReadBack

@[expose] public section

set_option maxRecDepth 16384

noncomputable section

namespace Cert.Proof.Group4

open Cert.HKernelIdeal Cert.HKernelIdeal.Gen Idealize.ShloMosaic Idealize.ShloMosaic.TcCoe Idealize.SL.Sem Idealize.ShloMosaic.StableHlo
open Idealize.ShloMosaic.Pipeline (Dat)
open Cert.HReferenceIdeal.Read

/-- The product of one step: 2048 tokens of the two arrays contracted. -/
def part (x : Vec Ideal S1024x2048 .bf16) (y : Vec Ideal S1x1024x2048 .bf16) (p : S1024x1024.Idx) : EReal :=
  ∑ k : Fin 2048, x (ix2 (p 0) k) * y (ix3 0 (p 1) k)

theorem pay2_at (acc : Vec Ideal S1024x1024 .f32) (x : Vec Ideal S1024x2048 .bf16) (y : Vec Ideal S1x1024x2048 .bf16)
    (i j : Fin 1024) : k0_pay2 acc x y (ix2 i j) = acc (ix2 i j) + part x y (ix2 i j) := by
  unfold part
  pointwise [k0_pay2]

theorem pay2_eq (acc : Vec Ideal S1024x1024 .f32) (x : Vec Ideal S1024x2048 .bf16) (y : Vec Ideal S1x1024x2048 .bf16)
    (p : S1024x1024.Idx) : k0_pay2 acc x y p = acc p + part x y p := by
  have e : p = ix2 (p 0) (p 1) := funext fun a => by fin_cases a <;> rfl
  rw [e]
  exact pay2_at acc x y (p 0) (p 1)

theorem pay1_eq (p : S1024x1024.Idx) : k0_pay1 (F := Ideal) p = 0 := by
  have e : p = ix2 (p 0) (p 1) := funext fun a => by fin_cases a <;> rfl
  rw [e]
  pointwise [k0_pay1]

variable (m : (ℓ : Loc nD τ sig) → Buf (Elt Ideal) ℓ) (c : Dev nD)

/-- The running sum after the last step. -/
theorem sum_at (t : Fin cfg0.N) (hr : t.val % 4 = 3) (p : S1024x1024.Idx) :
    (outsAt0 m c t.val t.isLt).2 p
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) p := by
  refine Pipeline.eq_sum_fin_of_reset_step_apply_of_flush (fun n h => (outsAt0 m c n h).2) 4 (fun _ => (0 : EReal))
    (fun t => part (iblk m c 0 t) (iblk m c 1 t)) (fun t h i => ?_) (fun t h i => ?_) t hr p
  · rw [outsAt0_A m c t h (by omega)]
    frame_out
    exact (pay2_eq _ _ _ i).trans (congrArg (· + _) (pay1_eq i))
  · by_cases h1 : t.val % 4 = 3
    · rw [outsAt0_C m c t h h1]
      frame_out
      refine (pay2_eq _ _ _ i).trans ?_
      rw [read_unread_whole]
    · rw [outsAt0_B m c t h h1]
      frame_out
      refine (pay2_eq _ _ _ i).trans ?_
      rw [read_unread_whole]

/-- What the last step writes is the running sum. -/
theorem out_at (t : Fin cfg0.N) (hr : t.val % 4 = 3) (p : S1024x1024.Idx) :
    (outsAt0 m c t.val t.isLt).1 p = (outsAt0 m c t.val t.isLt).2 p := by
  rw [outsAt0_C m c t (by omega) hr]
  frame_out
  rfl

/-- The grid point of step `s`. -/
def pt (s : Fin 4) : Fin cfg0.N := ⟨s.val, by have h : cfg0.N = 4 := N_0; omega⟩

theorem idx_all : ∀ s : Fin 4, win0_0.index (pt s) = ![0, s.val] ∧ win0_1.index (pt s) = ![1, 0, s.val] ∧ win0_2.index (pt s) = ![0, 0] := by
  decide +kernel

/-- The place `k` of step `s`. -/
def at4 (s : Fin 4) (k : Fin 2048) : Fin 8192 := ⟨s.val * 2048 + k.val, by omega⟩

/-- The two arguments the call reads, as the device holds them. -/
abbrev x : Vec Ideal S8192x1024 .f32 := m ((c : Thread nD τ).loc main_arg0)
abbrev dq : Vec Ideal S8192x1024 .f32 := m ((c : Thread nD τ).loc main_arg2)

/-- The two arrays the call is given. -/
abbrev dqs : Vec Ideal S1024x8192 .bf16 := V m c main_v4
abbrev xs : Vec Ideal S3x1024x8192 .bf16 := V m c main_v18

theorem blk0_at (s : Fin 4) (i : Fin 1024) (k : Fin 2048) : iblk m c 0 (pt s) (ix2 i k) = dqs m c (ix2 i (at4 s k)) := by
  unfold iblk
  rw [View.read_apply, cast_eq]
  refine congrArg (dqs m c) (funext fun q => Fin.ext ?_)
  have h := (idx_all s).1
  match q with
  | ⟨0, _⟩ =>
    show win0_0.index (pt s) 0 * 1024 + 1 * i.val = _
    rw [h]; show 0 * 1024 + 1 * i.val = i.val; omega
  | ⟨1, _⟩ =>
    show win0_0.index (pt s) 1 * 2048 + 1 * k.val = _
    rw [h]; show s.val * 2048 + 1 * k.val = s.val * 2048 + k.val; omega

theorem blk1_at (s : Fin 4) (j : Fin 1024) (k : Fin 2048) : iblk m c 1 (pt s) (ix3 0 j k) = xs m c (ix3 1 j (at4 s k)) := by
  unfold iblk
  rw [View.read_apply, cast_eq]
  refine congrArg (xs m c) (funext fun q => Fin.ext ?_)
  have h := (idx_all s).2.1
  match q with
  | ⟨0, _⟩ =>
    show win0_1.index (pt s) 0 * 1 + 1 * (0 : Fin 1).val = _
    rw [h]; rfl
  | ⟨1, _⟩ =>
    show win0_1.index (pt s) 1 * 1024 + 1 * j.val = _
    rw [h]; show 0 * 1024 + 1 * j.val = j.val; omega
  | ⟨2, _⟩ =>
    show win0_1.index (pt s) 2 * 2048 + 1 * k.val = _
    rw [h]; show s.val * 2048 + 1 * k.val = s.val * 2048 + k.val; omega

/-- The array the kernel leaves, from the arrays it is given. -/
theorem arr_at (i j : Fin 1024) : Value.G2 m c (ix2 i j) = ∑ k : Fin 8192, dqs m c (ix2 i k) * xs m c (ix3 1 j k) := by
  have hr : (pt 3).val % 4 = 3 := rfl
  have h := congrFun (Value.flushed2_eq m c (pt 3) ((flush0_2 _).mpr hr)) (ix2 i j)
  rw [Value.flushed2, View.read_apply, cast_eq] at h
  have h' : Value.G2 m c (ix2 i j) = (outsAt0 m c (pt 3).val (pt 3).isLt).1 (ix2 i j) := by
    refine Eq.trans (congrArg _ (funext fun q => Fin.ext ?_)) h.symm
    have h := (idx_all 3).2.2
    match q with
    | ⟨0, _⟩ =>
      show _ = win0_2.index (pt 3) 0 * 1024 + 1 * i.val
      rw [h]; show i.val = 0 * 1024 + 1 * i.val; omega
    | ⟨1, _⟩ =>
      show _ = win0_2.index (pt 3) 1 * 1024 + 1 * j.val
      rw [h]; show j.val = 0 * 1024 + 1 * j.val; omega
  rw [h', out_at m c _ hr, sum_at m c _ hr, zero_add]
  have e : ∀ s : Fin 4, (⟨4 * ((pt 3).val / 4) + s.val, Pipeline.run_point_lt_of_flush (pt 3) hr s⟩ : Fin cfg0.N) = pt s :=
    fun s => Fin.ext (by show 4 * (3 / 4) + s.val = s.val; omega)
  refine (Finset.sum_congr rfl fun s _ => (congrArg (fun t => part (iblk m c 0 t) (iblk m c 1 t) (ix2 i j)) (e s)).trans
    (Finset.sum_congr rfl fun k _ => congrArg₂ (· * ·) (blk0_at m c s i k) (blk1_at m c s j k))).trans ?_
  exact Fin.sum_mul_add_fin 4 2048 (fun k : Fin 8192 => dqs m c (ix2 i k) * xs m c (ix3 1 j k))

/-- Three ways the rows are laid out, one for each group. -/
def rows (y : Vec Ideal S8192x1024 .f32) : Fin 3 → Vec Ideal S1024x8192 .bf16 := ![
  shapeCast S1024x8192 (transpose S1024x4x1x2048 [3, 0, 2, 1] (shapeCast S4x2048x1x1024 (truncf (F := Ideal) .bf16 y bitsLt_bf16_f32)
    shapeCasts_S8192x1024_S4x2048x1x1024) transposes_S4x2048x1x1024_S1024x4x1x2048_3_0_2_1) shapeCasts_S1024x4x1x2048_S1024x8192,
  shapeCast S1024x8192 (transpose S1024x4x4x512 [3, 0, 2, 1] (shapeCast S4x512x4x1024 (truncf (F := Ideal) .bf16 y bitsLt_bf16_f32)
    shapeCasts_S8192x1024_S4x512x4x1024) transposes_S4x512x4x1024_S1024x4x4x512_3_0_2_1) shapeCasts_S1024x4x4x512_S1024x8192,
  shapeCast S1024x8192 (transpose S1024x4x16x128 [3, 0, 2, 1] (shapeCast S4x128x16x1024 (truncf (F := Ideal) .bf16 y bitsLt_bf16_f32)
    shapeCasts_S8192x1024_S4x128x16x1024) transposes_S4x128x16x1024_S1024x4x16x128_3_0_2_1) shapeCasts_S1024x4x16x128_S1024x8192]

theorem xs_eq : xs m c = (concatenate S3x1024x8192 0 [⟨S1x1024x8192, broadcastInDim S1x1024x8192 ![1, 2] bcast_S1024x8192_S1x1024x8192_1_2 (rows (x m c) 0)⟩,
    ⟨S1x1024x8192, broadcastInDim S1x1024x8192 ![1, 2] bcast_S1024x8192_S1x1024x8192_1_2 (rows (x m c) 1)⟩,
    ⟨S1x1024x8192, broadcastInDim S1x1024x8192 ![1, 2] bcast_S1024x8192_S1x1024x8192_1_2 (rows (x m c) 2)⟩]
    concatenates_S1x1024x8192_S1x1024x8192_S1x1024x8192_S3x1024x8192_d0 : Vec Ideal S3x1024x8192 .bf16) := by
  unfold xs V
  after_reads_simp
  rfl

theorem len : 512 * 4 = 2048 := rfl

theorem xs_at (j : Fin 1024) (b : Fin 4) (r : Fin 4) (l : Fin 512) :
    xs m c (ix3 1 j (Groups.pos len b r l)) = x m c (ix2 (Groups.tok len b r l) j) := by
  rw [xs_eq]
  exact (Groups.layers_at (rows (x m c)) _ _ 1 j _).trans (Groups.rows_at len _ _ _ _ j b r l)

theorem dqs_eq : dqs m c = (shapeCast S1024x8192 (transpose S1024x4x4x512 [0, 1, 3, 2] (shapeCast S1024x4x512x4
    (truncf (F := Ideal) .bf16 (transpose S1024x8192 [1, 0] (dq m c) transposes_S8192x1024_S1024x8192_1_0) bitsLt_bf16_f32)
    shapeCasts_S1024x8192_S1024x4x512x4) transposes_S1024x4x512x4_S1024x4x4x512_0_1_3_2) shapeCasts_S1024x4x4x512_S1024x8192 : Vec Ideal S1024x8192 .bf16) := by
  unfold dqs V
  after_reads_simp
  rfl

theorem turned (x : Vec Ideal S8192x1024 .f32) (i : Fin 1024) (k : Fin 8192) :
    (truncf (F := Ideal) .bf16 (transpose S1024x8192 [1, 0] x transposes_S8192x1024_S1024x8192_1_0) bitsLt_bf16_f32 : Vec Ideal S1024x8192 .bf16) (ix2 i k) = x (ix2 k i) := by
  pointwise

theorem dqs_at (i : Fin 1024) (b : Fin 4) (r : Fin 4) (l : Fin 512) :
    dqs m c (ix2 i (Groups.pos len b r l)) = dq m c (ix2 (Groups.tok len b r l) i) := by
  rw [dqs_eq]
  exact (Groups.cols_at len _ _ _ _ i b r l).trans (turned _ i _)

theorem ref_at (x y : Vec Ideal S8192x1024 .f32) (i j : Fin 1024) :
    val_main_v4 (F := Ideal) x y (ix2 i j) = ∑ k : Fin 8192, y (ix2 k i) * x (ix2 k j) := by
  pointwise [val_main_v4, val_main_v3, val_main_v2, val_main_v1]

/-- The kernel's result is the reference's. -/
theorem final : Value.G2 m c = val_main_v4 (F := Ideal) (x m c) (dq m c) := by
  funext p
  have e : p = (ix2 (p 0) (p 1) : S1024x1024.Idx) := funext fun q => by fin_cases q <;> rfl
  rw [e]
  exact (arr_at m c (p 0) (p 1)).trans ((Groups.sum_perm len _ (fun k => dq m c (ix2 k (p 0)) * x m c (ix2 k (p 1)))
    fun b r l => congrArg₂ (· * ·) (dqs_at m c (p 0) b r l) (xs_at m c (p 1) b r l)).trans (ref_at _ _ _ _).symm)

end Cert.Proof.Group4

end
-- ==== Proof.Group16.lean ====
/-
  The weight gradient of one dilation group's product, the group of dilation 16: four steps of 2048 tokens in the group's
  order, each adding a product to the running sum, so what the last step writes is the sum over all 8192 tokens, which is
  the reference's product.
-/
module

public import proofs.«01_k».proof.Proof.Gen.JKernelIdeal.Value
public import proofs.«01_k».proof.Proof.Gen.JReferenceIdeal.Read
public import proofs.«01_k».proof.Proof.Groups
public import Idealize.ShloMosaic.Lib.Pipeline.ReadBack

@[expose] public section

set_option maxRecDepth 16384

noncomputable section

namespace Cert.Proof.Group16

open Cert.JKernelIdeal Cert.JKernelIdeal.Gen Idealize.ShloMosaic Idealize.ShloMosaic.TcCoe Idealize.SL.Sem Idealize.ShloMosaic.StableHlo
open Idealize.ShloMosaic.Pipeline (Dat)
open Cert.JReferenceIdeal.Read

/-- The product of one step: 2048 tokens of the two arrays contracted. -/
def part (x : Vec Ideal S1024x2048 .bf16) (y : Vec Ideal S1x1024x2048 .bf16) (p : S1024x1024.Idx) : EReal :=
  ∑ k : Fin 2048, x (ix2 (p 0) k) * y (ix3 0 (p 1) k)

theorem pay2_at (acc : Vec Ideal S1024x1024 .f32) (x : Vec Ideal S1024x2048 .bf16) (y : Vec Ideal S1x1024x2048 .bf16)
    (i j : Fin 1024) : k0_pay2 acc x y (ix2 i j) = acc (ix2 i j) + part x y (ix2 i j) := by
  unfold part
  pointwise [k0_pay2]

theorem pay2_eq (acc : Vec Ideal S1024x1024 .f32) (x : Vec Ideal S1024x2048 .bf16) (y : Vec Ideal S1x1024x2048 .bf16)
    (p : S1024x1024.Idx) : k0_pay2 acc x y p = acc p + part x y p := by
  have e : p = ix2 (p 0) (p 1) := funext fun a => by fin_cases a <;> rfl
  rw [e]
  exact pay2_at acc x y (p 0) (p 1)

theorem pay1_eq (p : S1024x1024.Idx) : k0_pay1 (F := Ideal) p = 0 := by
  have e : p = ix2 (p 0) (p 1) := funext fun a => by fin_cases a <;> rfl
  rw [e]
  pointwise [k0_pay1]

variable (m : (ℓ : Loc nD τ sig) → Buf (Elt Ideal) ℓ) (c : Dev nD)

/-- The running sum after the last step. -/
theorem sum_at (t : Fin cfg0.N) (hr : t.val % 4 = 3) (p : S1024x1024.Idx) :
    (outsAt0 m c t.val t.isLt).2 p
      = 0 + ∑ s : Fin 4, part (iblk m c 0 ⟨4 * (t.val / 4) + s.val, Pipeline.run_point_lt_of_flush t hr s⟩)
          (iblk m c 1 ⟨4 * (t.val / 4) + s.val, Pipeline.run_point_lt_of_flush t hr s⟩) p := by
  refine Pipeline.eq_sum_fin_of_reset_step_apply_of_flush (fun n h => (outsAt0 m c n h).2) 4 (fun _ => (0 : EReal))
    (fun t => part (iblk m c 0 t) (iblk m c 1 t)) (fun t h i => ?_) (fun t h i => ?_) t hr p
  · rw [outsAt0_A m c t h (by omega)]
    frame_out
    exact (pay2_eq _ _ _ i).trans (congrArg (· + _) (pay1_eq i))
  · by_cases h1 : t.val % 4 = 3
    · rw [outsAt0_C m c t h h1]
      frame_out
      refine (pay2_eq _ _ _ i).trans ?_
      rw [read_unread_whole]
    · rw [outsAt0_B m c t h h1]
      frame_out
      refine (pay2_eq _ _ _ i).trans ?_
      rw [read_unread_whole]

/-- What the last step writes is the running sum. -/
theorem out_at (t : Fin cfg0.N) (hr : t.val % 4 = 3) (p : S1024x1024.Idx) :
    (outsAt0 m c t.val t.isLt).1 p = (outsAt0 m c t.val t.isLt).2 p := by
  rw [outsAt0_C m c t (by omega) hr]
  frame_out
  rfl

/-- The grid point of step `s`. -/
def pt (s : Fin 4) : Fin cfg0.N := ⟨s.val, by have h : cfg0.N = 4 := N_0; omega⟩

theorem idx_all : ∀ s : Fin 4, win0_0.index (pt s) = ![0, s.val] ∧ win0_1.index (pt s) = ![2, 0, s.val] ∧ win0_2.index (pt s) = ![0, 0] := by
  decide +kernel

/-- The place `k` of step `s`. -/
def at4 (s : Fin 4) (k : Fin 2048) : Fin 8192 := ⟨s.val * 2048 + k.val, by omega⟩

/-- The two arguments the call reads, as the device holds them. -/
abbrev x : Vec Ideal S8192x1024 .f32 := m ((c : Thread nD τ).loc main_arg0)
abbrev dq : Vec Ideal S8192x1024 .f32 := m ((c : Thread nD τ).loc main_arg2)

/-- The two arrays the call is given. -/
abbrev dqs : Vec Ideal S1024x8192 .bf16 := V m c main_v4
abbrev xs : Vec Ideal S3x1024x8192 .bf16 := V m c main_v18

theorem blk0_at (s : Fin 4) (i : Fin 1024) (k : Fin 2048) : iblk m c 0 (pt s) (ix2 i k) = dqs m c (ix2 i (at4 s k)) := by
  unfold iblk
  rw [View.read_apply, cast_eq]
  refine congrArg (dqs m c) (funext fun q => Fin.ext ?_)
  have h := (idx_all s).1
  match q with
  | ⟨0, _⟩ =>
    show win0_0.index (pt s) 0 * 1024 + 1 * i.val = _
    rw [h]; show 0 * 1024 + 1 * i.val = i.val; omega
  | ⟨1, _⟩ =>
    show win0_0.index (pt s) 1 * 2048 + 1 * k.val = _
    rw [h]; show s.val * 2048 + 1 * k.val = s.val * 2048 + k.val; omega

theorem blk1_at (s : Fin 4) (j : Fin 1024) (k : Fin 2048) : iblk m c 1 (pt s) (ix3 0 j k) = xs m c (ix3 2 j (at4 s k)) := by
  unfold iblk
  rw [View.read_apply, cast_eq]
  refine congrArg (xs m c) (funext fun q => Fin.ext ?_)
  have h := (idx_all s).2.1
  match q with
  | ⟨0, _⟩ =>
    show win0_1.index (pt s) 0 * 1 + 1 * (0 : Fin 1).val = _
    rw [h]; rfl
  | ⟨1, _⟩ =>
    show win0_1.index (pt s) 1 * 1024 + 1 * j.val = _
    rw [h]; show 0 * 1024 + 1 * j.val = j.val; omega
  | ⟨2, _⟩ =>
    show win0_1.index (pt s) 2 * 2048 + 1 * k.val = _
    rw [h]; show s.val * 2048 + 1 * k.val = s.val * 2048 + k.val; omega

/-- The array the kernel leaves, from the arrays it is given. -/
theorem arr_at (i j : Fin 1024) : Value.G2 m c (ix2 i j) = ∑ k : Fin 8192, dqs m c (ix2 i k) * xs m c (ix3 2 j k) := by
  have hr : (pt 3).val % 4 = 3 := rfl
  have h := congrFun (Value.flushed2_eq m c (pt 3) ((flush0_2 _).mpr hr)) (ix2 i j)
  rw [Value.flushed2, View.read_apply, cast_eq] at h
  have h' : Value.G2 m c (ix2 i j) = (outsAt0 m c (pt 3).val (pt 3).isLt).1 (ix2 i j) := by
    refine Eq.trans (congrArg _ (funext fun q => Fin.ext ?_)) h.symm
    have h := (idx_all 3).2.2
    match q with
    | ⟨0, _⟩ =>
      show _ = win0_2.index (pt 3) 0 * 1024 + 1 * i.val
      rw [h]; show i.val = 0 * 1024 + 1 * i.val; omega
    | ⟨1, _⟩ =>
      show _ = win0_2.index (pt 3) 1 * 1024 + 1 * j.val
      rw [h]; show j.val = 0 * 1024 + 1 * j.val; omega
  rw [h', out_at m c _ hr, sum_at m c _ hr, zero_add]
  have e : ∀ s : Fin 4, (⟨4 * ((pt 3).val / 4) + s.val, Pipeline.run_point_lt_of_flush (pt 3) hr s⟩ : Fin cfg0.N) = pt s :=
    fun s => Fin.ext (by show 4 * (3 / 4) + s.val = s.val; omega)
  refine (Finset.sum_congr rfl fun s _ => (congrArg (fun t => part (iblk m c 0 t) (iblk m c 1 t) (ix2 i j)) (e s)).trans
    (Finset.sum_congr rfl fun k _ => congrArg₂ (· * ·) (blk0_at m c s i k) (blk1_at m c s j k))).trans ?_
  exact Fin.sum_mul_add_fin 4 2048 (fun k : Fin 8192 => dqs m c (ix2 i k) * xs m c (ix3 2 j k))

/-- Three ways the rows are laid out, one for each group. -/
def rows (y : Vec Ideal S8192x1024 .f32) : Fin 3 → Vec Ideal S1024x8192 .bf16 := ![
  shapeCast S1024x8192 (transpose S1024x4x1x2048 [3, 0, 2, 1] (shapeCast S4x2048x1x1024 (truncf (F := Ideal) .bf16 y bitsLt_bf16_f32)
    shapeCasts_S8192x1024_S4x2048x1x1024) transposes_S4x2048x1x1024_S1024x4x1x2048_3_0_2_1) shapeCasts_S1024x4x1x2048_S1024x8192,
  shapeCast S1024x8192 (transpose S1024x4x4x512 [3, 0, 2, 1] (shapeCast S4x512x4x1024 (truncf (F := Ideal) .bf16 y bitsLt_bf16_f32)
    shapeCasts_S8192x1024_S4x512x4x1024) transposes_S4x512x4x1024_S1024x4x4x512_3_0_2_1) shapeCasts_S1024x4x4x512_S1024x8192,
  shapeCast S1024x8192 (transpose S1024x4x16x128 [3, 0, 2, 1] (shapeCast S4x128x16x1024 (truncf (F := Ideal) .bf16 y bitsLt_bf16_f32)
    shapeCasts_S8192x1024_S4x128x16x1024) transposes_S4x128x16x1024_S1024x4x16x128_3_0_2_1) shapeCasts_S1024x4x16x128_S1024x8192]

theorem xs_eq : xs m c = (concatenate S3x1024x8192 0 [⟨S1x1024x8192, broadcastInDim S1x1024x8192 ![1, 2] bcast_S1024x8192_S1x1024x8192_1_2 (rows (x m c) 0)⟩,
    ⟨S1x1024x8192, broadcastInDim S1x1024x8192 ![1, 2] bcast_S1024x8192_S1x1024x8192_1_2 (rows (x m c) 1)⟩,
    ⟨S1x1024x8192, broadcastInDim S1x1024x8192 ![1, 2] bcast_S1024x8192_S1x1024x8192_1_2 (rows (x m c) 2)⟩]
    concatenates_S1x1024x8192_S1x1024x8192_S1x1024x8192_S3x1024x8192_d0 : Vec Ideal S3x1024x8192 .bf16) := by
  unfold xs V
  after_reads_simp
  rfl

theorem len : 128 * 16 = 2048 := rfl

theorem xs_at (j : Fin 1024) (b : Fin 4) (r : Fin 16) (l : Fin 128) :
    xs m c (ix3 2 j (Groups.pos len b r l)) = x m c (ix2 (Groups.tok len b r l) j) := by
  rw [xs_eq]
  exact (Groups.layers_at (rows (x m c)) _ _ 2 j _).trans (Groups.rows_at len _ _ _ _ j b r l)

theorem dqs_eq : dqs m c = (shapeCast S1024x8192 (transpose S1024x4x16x128 [0, 1, 3, 2] (shapeCast S1024x4x128x16
    (truncf (F := Ideal) .bf16 (transpose S1024x8192 [1, 0] (dq m c) transposes_S8192x1024_S1024x8192_1_0) bitsLt_bf16_f32)
    shapeCasts_S1024x8192_S1024x4x128x16) transposes_S1024x4x128x16_S1024x4x16x128_0_1_3_2) shapeCasts_S1024x4x16x128_S1024x8192 : Vec Ideal S1024x8192 .bf16) := by
  unfold dqs V
  after_reads_simp
  rfl

theorem turned (x : Vec Ideal S8192x1024 .f32) (i : Fin 1024) (k : Fin 8192) :
    (truncf (F := Ideal) .bf16 (transpose S1024x8192 [1, 0] x transposes_S8192x1024_S1024x8192_1_0) bitsLt_bf16_f32 : Vec Ideal S1024x8192 .bf16) (ix2 i k) = x (ix2 k i) := by
  pointwise

theorem dqs_at (i : Fin 1024) (b : Fin 4) (r : Fin 16) (l : Fin 128) :
    dqs m c (ix2 i (Groups.pos len b r l)) = dq m c (ix2 (Groups.tok len b r l) i) := by
  rw [dqs_eq]
  exact (Groups.cols_at len _ _ _ _ i b r l).trans (turned _ i _)

theorem ref_at (x y : Vec Ideal S8192x1024 .f32) (i j : Fin 1024) :
    val_main_v4 (F := Ideal) x y (ix2 i j) = ∑ k : Fin 8192, y (ix2 k i) * x (ix2 k j) := by
  pointwise [val_main_v4, val_main_v3, val_main_v2, val_main_v1]

/-- The kernel's result is the reference's. -/
theorem final : Value.G2 m c = val_main_v4 (F := Ideal) (x m c) (dq m c) := by
  funext p
  have e : p = (ix2 (p 0) (p 1) : S1024x1024.Idx) := funext fun q => by fin_cases q <;> rfl
  rw [e]
  exact (arr_at m c (p 0) (p 1)).trans ((Groups.sum_perm len _ (fun k => dq m c (ix2 k (p 0)) * x m c (ix2 k (p 1)))
    fun b r l => congrArg₂ (· * ·) (dqs_at m c (p 0) b r l) (xs_at m c (p 1) b r l)).trans (ref_at _ _ _ _).symm)

end Cert.Proof.Group16

end
-- ==== Proof.GroupClaim.lean ====
/-
  The claims about the weight gradients of the three dilation groups: the references' runs, and the equations of the programs.
-/
module

public import proofs.«01_k».proof.Defs
public import proofs.«01_k».proof.Proof.Group1
public import proofs.«01_k».proof.Proof.Group4
public import proofs.«01_k».proof.Proof.Group16
public import proofs.«01_k».proof.Proof.Gen.GReferenceIdeal.Run
public import proofs.«01_k».proof.Proof.Gen.HReferenceIdeal.Run
public import proofs.«01_k».proof.Proof.Gen.JReferenceIdeal.Run
public import Idealize.ShloMosaic.Lib.Quiescent
public import Idealize.ShloMosaic.Adequacy
public import Idealize.ShloMosaic.Init

@[expose] public section

set_option maxRecDepth 16384

noncomputable section

namespace Cert.Proof.GroupClaim

open Idealize.ShloMosaic Idealize.SL.Sem Idealize.ShloMosaic.TcCoe

/-- The reference runs and leaves its arguments as they were. -/
theorem frame_group1 (m : (ℓ : Loc Cert.GReferenceIdeal.nD Cert.GReferenceIdeal.τ Cert.GReferenceIdeal.sig) → Buf (Elt Ideal) ℓ) (ρ : Dev Cert.GReferenceIdeal.nD → PrngReg) :
    θ_run Cert.GReferenceIdeal.defs (onTc (τ := Cert.GReferenceIdeal.τ) (Cert.GReferenceIdeal.main (F := Ideal))) ⟨m, fun _ => 0, ρ⟩ (fun r =>
      (∀ c : Dev Cert.GReferenceIdeal.nD,
        r.2.mem ((c : Thread Cert.GReferenceIdeal.nD Cert.GReferenceIdeal.τ).loc Cert.GReferenceIdeal.main_arg0) = m ((c : Thread Cert.GReferenceIdeal.nD Cert.GReferenceIdeal.τ).loc Cert.GReferenceIdeal.main_arg0)
        ∧ r.2.mem ((c : Thread Cert.GReferenceIdeal.nD Cert.GReferenceIdeal.τ).loc Cert.GReferenceIdeal.main_arg1) = m ((c : Thread Cert.GReferenceIdeal.nD Cert.GReferenceIdeal.τ).loc Cert.GReferenceIdeal.main_arg1)
        ∧ r.2.mem ((c : Thread Cert.GReferenceIdeal.nD Cert.GReferenceIdeal.τ).loc Cert.GReferenceIdeal.main_arg2) = m ((c : Thread Cert.GReferenceIdeal.nD Cert.GReferenceIdeal.τ).loc Cert.GReferenceIdeal.main_arg2))
      ∧ r.2.sem = fun _ => 0) :=
  (θ_run Cert.GReferenceIdeal.defs _ _).mono (fun r h => ⟨fun c => (h c).2, sem_eq_zero_of_no_sems (by decide) r.2⟩)
    (Cert.GReferenceIdeal.Value.run m ρ)

/-- The kernel's array is the reference's, over the reals. -/
theorem equal_group1 : Cert.algebraic_GKernelIdeal_GReferenceIdeal (hGKernelIdeal := Cert.GKernelIdeal.Gen.facts) (hGReferenceIdeal := Cert.GReferenceIdeal.Gen.facts) := by
  intro m ρ m' ρ' _ agree
  refine ⟨_, Cert.GKernelIdeal.Value.run m ρ, (θ_run Cert.GReferenceIdeal.defs _ _).mono (fun r h c => ?_) (Cert.GReferenceIdeal.Value.run m' ρ')⟩
  obtain ⟨h0, hk⟩ := h c
  obtain ⟨a0, _, a2⟩ := agree c
  exact ⟨h0.trans (((Cert.GReferenceIdeal.Read.val_main_v4_eq _ _).trans (congrArg₂ Cert.GReferenceIdeal.Read.val_main_v4 a0 a2)).trans (Group1.final m c).symm), hk⟩

/-- The reference runs and leaves its arguments as they were. -/
theorem frame_group4 (m : (ℓ : Loc Cert.HReferenceIdeal.nD Cert.HReferenceIdeal.τ Cert.HReferenceIdeal.sig) → Buf (Elt Ideal) ℓ) (ρ : Dev Cert.HReferenceIdeal.nD → PrngReg) :
    θ_run Cert.HReferenceIdeal.defs (onTc (τ := Cert.HReferenceIdeal.τ) (Cert.HReferenceIdeal.main (F := Ideal))) ⟨m, fun _ => 0, ρ⟩ (fun r =>
      (∀ c : Dev Cert.HReferenceIdeal.nD,
        r.2.mem ((c : Thread Cert.HReferenceIdeal.nD Cert.HReferenceIdeal.τ).loc Cert.HReferenceIdeal.main_arg0) = m ((c : Thread Cert.HReferenceIdeal.nD Cert.HReferenceIdeal.τ).loc Cert.HReferenceIdeal.main_arg0)
        ∧ r.2.mem ((c : Thread Cert.HReferenceIdeal.nD Cert.HReferenceIdeal.τ).loc Cert.HReferenceIdeal.main_arg1) = m ((c : Thread Cert.HReferenceIdeal.nD Cert.HReferenceIdeal.τ).loc Cert.HReferenceIdeal.main_arg1)
        ∧ r.2.mem ((c : Thread Cert.HReferenceIdeal.nD Cert.HReferenceIdeal.τ).loc Cert.HReferenceIdeal.main_arg2) = m ((c : Thread Cert.HReferenceIdeal.nD Cert.HReferenceIdeal.τ).loc Cert.HReferenceIdeal.main_arg2))
      ∧ r.2.sem = fun _ => 0) :=
  (θ_run Cert.HReferenceIdeal.defs _ _).mono (fun r h => ⟨fun c => (h c).2, sem_eq_zero_of_no_sems (by decide) r.2⟩)
    (Cert.HReferenceIdeal.Value.run m ρ)

/-- The kernel's array is the reference's, over the reals. -/
theorem equal_group4 : Cert.algebraic_HKernelIdeal_HReferenceIdeal (hHKernelIdeal := Cert.HKernelIdeal.Gen.facts) (hHReferenceIdeal := Cert.HReferenceIdeal.Gen.facts) := by
  intro m ρ m' ρ' _ agree
  refine ⟨_, Cert.HKernelIdeal.Value.run m ρ, (θ_run Cert.HReferenceIdeal.defs _ _).mono (fun r h c => ?_) (Cert.HReferenceIdeal.Value.run m' ρ')⟩
  obtain ⟨h0, hk⟩ := h c
  obtain ⟨a0, _, a2⟩ := agree c
  exact ⟨h0.trans (((Cert.HReferenceIdeal.Read.val_main_v4_eq _ _).trans (congrArg₂ Cert.HReferenceIdeal.Read.val_main_v4 a0 a2)).trans (Group4.final m c).symm), hk⟩

/-- The reference runs and leaves its arguments as they were. -/
theorem frame_group16 (m : (ℓ : Loc Cert.JReferenceIdeal.nD Cert.JReferenceIdeal.τ Cert.JReferenceIdeal.sig) → Buf (Elt Ideal) ℓ) (ρ : Dev Cert.JReferenceIdeal.nD → PrngReg) :
    θ_run Cert.JReferenceIdeal.defs (onTc (τ := Cert.JReferenceIdeal.τ) (Cert.JReferenceIdeal.main (F := Ideal))) ⟨m, fun _ => 0, ρ⟩ (fun r =>
      (∀ c : Dev Cert.JReferenceIdeal.nD,
        r.2.mem ((c : Thread Cert.JReferenceIdeal.nD Cert.JReferenceIdeal.τ).loc Cert.JReferenceIdeal.main_arg0) = m ((c : Thread Cert.JReferenceIdeal.nD Cert.JReferenceIdeal.τ).loc Cert.JReferenceIdeal.main_arg0)
        ∧ r.2.mem ((c : Thread Cert.JReferenceIdeal.nD Cert.JReferenceIdeal.τ).loc Cert.JReferenceIdeal.main_arg1) = m ((c : Thread Cert.JReferenceIdeal.nD Cert.JReferenceIdeal.τ).loc Cert.JReferenceIdeal.main_arg1)
        ∧ r.2.mem ((c : Thread Cert.JReferenceIdeal.nD Cert.JReferenceIdeal.τ).loc Cert.JReferenceIdeal.main_arg2) = m ((c : Thread Cert.JReferenceIdeal.nD Cert.JReferenceIdeal.τ).loc Cert.JReferenceIdeal.main_arg2))
      ∧ r.2.sem = fun _ => 0) :=
  (θ_run Cert.JReferenceIdeal.defs _ _).mono (fun r h => ⟨fun c => (h c).2, sem_eq_zero_of_no_sems (by decide) r.2⟩)
    (Cert.JReferenceIdeal.Value.run m ρ)

/-- The kernel's array is the reference's, over the reals. -/
theorem equal_group16 : Cert.algebraic_JKernelIdeal_JReferenceIdeal (hJKernelIdeal := Cert.JKernelIdeal.Gen.facts) (hJReferenceIdeal := Cert.JReferenceIdeal.Gen.facts) := by
  intro m ρ m' ρ' _ agree
  refine ⟨_, Cert.JKernelIdeal.Value.run m ρ, (θ_run Cert.JReferenceIdeal.defs _ _).mono (fun r h c => ?_) (Cert.JReferenceIdeal.Value.run m' ρ')⟩
  obtain ⟨h0, hk⟩ := h c
  obtain ⟨a0, _, a2⟩ := agree c
  exact ⟨h0.trans (((Cert.JReferenceIdeal.Read.val_main_v4_eq _ _).trans (congrArg₂ Cert.JReferenceIdeal.Read.val_main_v4 a0 a2)).trans (Group16.final m c).symm), hk⟩

end Cert.Proof.GroupClaim

end
-- ==== Proof.Sums.lean ====
/-
  Sums and quotients of reals among the extended reals.
-/
module

public import proofs.«01_k».proof.Proof.Reals
public import Idealize.ShloMosaic.PureOps.Reduce

@[expose] public section

noncomputable section

namespace Cert.Proof.Sums

open Idealize.ShloMosaic Cert.Proof.Reals

/-- A sum of reals among the extended reals. -/
theorem coe_sum {ι : Type} [Fintype ι] (f : ι → ℝ) : ∑ i, ((f i : ℝ) : EReal) = ((∑ i, f i : ℝ) : EReal) := by
  classical
  refine Finset.induction_on (motive := fun S : Finset ι => ∑ i ∈ S, ((f i : ℝ) : EReal) = ((∑ i ∈ S, f i : ℝ) : EReal)) Finset.univ rfl ?_
  intro a S ha ih
  rw [Finset.sum_insert ha, Finset.sum_insert ha, ih, EReal.coe_add]

theorem div_real {a b : ℝ} (h : b ≠ 0) : Ideal.div (a : EReal) (b : EReal) = ((a / b : ℝ) : EReal) := by
  rw [Ideal.div_coe h, ← EReal.coe_mul]
  congr 1
  ring

end Cert.Proof.Sums

end
-- ==== Proof.NormSpec.lean ====
/-
  The gradient of a layer norm over the reals: the closed form the kernel computes, the chain rule's own form, and the
  algebra that joins them.
-/
module

public import proofs.«01_k».proof.Proof.Sums

@[expose] public section

noncomputable section

namespace Cert.Proof.NormSpec

open Idealize.ShloMosaic Cert.Proof.Reals

/-- The constants of the two programs among the reals. -/
def eps : ℝ := (Ideal.ofBits .f32 0x3727C5AC#32).toReal

theorem eps_coe : Ideal.ofBits .f32 0x3727C5AC#32 = (eps : EReal) := by
  obtain ⟨r, h⟩ := fin_ofBits (w := 0x3727C5AC#32) (by decide)
  unfold eps
  rw [h]
  rfl

theorem eps_pos : 0 < eps := by
  unfold eps
  simp [Ideal.ofBits, Ideal.ieee, -EReal.coe_mul]

def alpha : ℝ := (Ideal.ofBits .f32 0x3FD744FD#32).toReal

theorem alpha_coe : Ideal.ofBits .f32 0x3FD744FD#32 = (alpha : EReal) := by
  obtain ⟨r, h⟩ := fin_ofBits (w := 0x3FD744FD#32) (by decide)
  unfold alpha
  rw [h]
  rfl

theorem width_coe : Ideal.ofBits .f32 0x44800000#32 = ((1024 : ℝ) : EReal) := by
  simp [Ideal.ofBits, Ideal.ieee, -EReal.coe_mul]; norm_num

theorem two_coe : Ideal.ofBits .f32 0x40000000#32 = ((2 : ℝ) : EReal) := by
  simp [Ideal.ofBits, Ideal.ieee, -EReal.coe_mul]; norm_num

theorem half_coe : Ideal.ofBits .f32 0xBF000000#32 = ((-(1 / 2) : ℝ) : EReal) := by
  simp [Ideal.ofBits, Ideal.ieee, -EReal.coe_mul, -EReal.coe_neg]; norm_num

/-- The mean of a row. -/
def mean (f : Fin 1024 → ℝ) : ℝ := (∑ e, f e) / 1024

variable (a t : Fin 1024 → ℝ)

/-- A row less its mean, its variance with the norm's constant, and the reciprocal root of that. -/
def cen (d : Fin 1024) : ℝ := a d - mean a
def var : ℝ := mean (fun e => cen a e * cen a e) + eps
def root : ℝ := (Real.sqrt (var a))⁻¹

/-- The normalised row. -/
def unit (d : Fin 1024) : ℝ := cen a d * root a

theorem var_pos : 0 < var a := by
  unfold var mean
  have h : 0 ≤ ∑ e, cen a e * cen a e := Finset.sum_nonneg fun e _ => mul_self_nonneg _
  have := eps_pos
  positivity

theorem rsqrt_var : Ideal.rsqrt (var a : EReal) = (root a : EReal) := by
  have h := var_pos a
  rw [Ideal.rsqrt_coe, if_neg (not_lt.mpr h.le), if_neg h.ne']
  rfl

theorem root_sq : root a * root a = 1 / var a := by
  unfold root
  rw [← mul_inv, Real.mul_self_sqrt (var_pos a).le, one_div]

theorem sum_cen : ∑ d, cen a d = 0 := by
  unfold cen mean
  rw [Finset.sum_sub_distrib, Finset.sum_const, Finset.card_univ, Fintype.card_fin, nsmul_eq_mul]
  push_cast
  ring

/-- The row's gradient from the gradient `t` of the normalised row, in closed form. -/
def closed (d : Fin 1024) : ℝ := root a * ((t d - mean t) - unit a d * mean (fun e => t e * unit a e))

/-- The gradient of the variance. -/
def slope : ℝ := (∑ e, cen a e * t e) * (-(1 / 2) * (root a / var a)) / 1024

/-- The same gradient as the chain rule writes it. -/
def chain (d : Fin 1024) : ℝ :=
  (t d * root a + slope a t * (2 * cen a d)) + (∑ e, -(t e * root a) + ∑ e, -(slope a t * (2 * cen a e))) / 1024

theorem chain_eq (d : Fin 1024) : chain a t d = closed a t d := by
  have h1 : ∑ e, -(t e * root a) = -((∑ e, t e) * root a) := by rw [Finset.sum_neg_distrib, ← Finset.sum_mul]
  have h2 : ∑ e, -(slope a t * (2 * cen a e)) = 0 := by
    rw [Finset.sum_neg_distrib, ← Finset.mul_sum, ← Finset.mul_sum, sum_cen]; ring
  have h3 : ∑ e, t e * unit a e = (∑ e, cen a e * t e) * root a := by
    rw [Finset.sum_mul]; exact Finset.sum_congr rfl fun e _ => by unfold unit; ring
  unfold chain closed
  rw [h1, h2]
  unfold mean
  rw [h3]
  unfold slope unit
  have h4 := root_sq a
  have h5 : root a / var a = root a * (root a * root a) := by rw [h4]; ring
  rw [h5]
  ring

end Cert.Proof.NormSpec

end
-- ==== Proof.NormBlock.lean ====
/-
  What one block of the kernel computes from reals: 256 rows of the gradient of the layer norm, and the block's terms of
  the gradients of the norm's scale and shift.
-/
module

public import proofs.«01_k».proof.Proof.Gen.NKernelIdeal.Frame
public import proofs.«01_k».proof.Proof.NormSpec
public import Idealize.ShloMosaic.Lib.Pointwise

@[expose] public section

set_option maxRecDepth 16384

noncomputable section

namespace Cert.Proof.NormBlock

open Cert.NKernelIdeal Cert.NKernelIdeal.Gen Idealize.ShloMosaic Idealize.ShloMosaic.TcCoe Cert.Proof.NormSpec Cert.Proof.Sums

theorem pay1_at (d : Fin 1024) : k0_pay1 (F := Ideal) (ix2 0 d) = 0 := by
  pointwise [k0_pay1]

theorem pay2_at (d : Fin 1024) : k0_pay2 (F := Ideal) (ix2 0 d) = 0 := by
  pointwise [k0_pay2]

theorem pay3_at (res : Vec Ideal S256x1024 .f32) (dg du : Vec Ideal S256x2816 .bf16) (wg wu : Vec Ideal S2816x1024 .bf16) (s : Fin 256) (d : Fin 1024) :
    k0_pay3 res dg wg du wu (ix2 s d)
      = Ideal.ofBits .f32 0x3FD744FD#32 * res (ix2 s d) + (∑ f : Fin 2816, dg (ix2 s f) * wg (ix2 f d)) + ∑ f : Fin 2816, du (ix2 s f) * wu (ix2 f d) := by
  pointwise [k0_pay3]

theorem pay4_at (x : Vec Ideal S1x1024 .f32) (d : Fin 1024) : k0_pay4 x (ix2 0 d) = x (ix2 0 d) := by
  pointwise [k0_pay4]

variable {x : Vec Ideal S256x1024 .f32} {g : Vec Ideal S256x1024 .f32} {w : Vec Ideal S1x1024 .f32} {a G : Fin 256 → Fin 1024 → ℝ} {γ : Fin 1024 → ℝ}
variable (hx : ∀ s d, x (ix2 s d) = ((a s d : ℝ) : EReal)) (hg : ∀ s d, g (ix2 s d) = ((G s d : ℝ) : EReal)) (hw : ∀ d, w (ix2 0 d) = ((γ d : ℝ) : EReal))

include hx in
theorem pay5_at (s : Fin 256) (d : Fin 1024) : k0_pay5 x (ix2 s d) = ((cen (a s) d : ℝ) : EReal) := by
  pointwise [k0_pay5]
  simp only [hx, coe_sum, width_coe]
  rw [div_real (by norm_num)]
  exact (EReal.coe_sub _ _).symm

include hx in
theorem pay6_at (s : Fin 256) : k0_pay6 x (ix2 s 0) = ((var (a s) : ℝ) : EReal) := by
  pointwise [k0_pay6]
  simp only [pay5_at hx, ← EReal.coe_mul, coe_sum, width_coe, eps_coe]
  rw [div_real (by norm_num)]
  exact (EReal.coe_add _ _).symm

include hx in
theorem pay7_at (s : Fin 256) : k0_pay7 (k0_pay6 x) (ix2 s 0) = ((root (a s) : ℝ) : EReal) := by
  pointwise [k0_pay7]
  rw [pay6_at hx]
  exact rsqrt_var _

include hx in
theorem pay8_at (s : Fin 256) (d : Fin 1024) : k0_pay8 (k0_pay5 x) (k0_pay6 x) (ix2 s d) = ((unit (a s) d : ℝ) : EReal) := by
  pointwise [k0_pay8]
  rw [pay5_at hx, pay7_at hx]
  exact (EReal.coe_mul _ _).symm

include hx hg hw in
theorem pay9_at (s : Fin 256) (d : Fin 1024) : k0_pay9 g (k0_pay4 w) (k0_pay5 x) (k0_pay6 x) (ix2 s d) = ((closed (a s) (fun d => G s d * γ d) d : ℝ) : EReal) := by
  pointwise [k0_pay9]
  simp only [pay4_at, pay7_at hx, pay8_at hx, hg, hw, ← EReal.coe_mul, coe_sum, width_coe]
  rw [div_real (by norm_num), div_real (by norm_num)]
  simp only [← EReal.coe_mul, ← EReal.coe_sub]
  rfl

include hx hg hw in
theorem pay10_at (s : Fin 256) (d : Fin 1024) : k0_pay10 g (k0_pay4 w) (k0_pay5 x) (k0_pay6 x) (ix2 s d) = ((closed (a s) (fun d => G s d * γ d) d : ℝ) : EReal) :=
  pay9_at hx hg hw s d

include hx hg in
theorem pay11_at (acc : Vec Ideal S1x1024 .f32) (d : Fin 1024) : k0_pay11 g (k0_pay5 x) (k0_pay6 x) acc (ix2 0 d)
    = acc (ix2 0 d) + ((∑ s, G s d * unit (a s) d : ℝ) : EReal) := by
  pointwise [k0_pay11]
  simp only [pay8_at hx, hg, ← EReal.coe_mul, coe_sum]

include hg in
theorem pay12_at (acc : Vec Ideal S1x1024 .f32) (d : Fin 1024) : k0_pay12 g acc (ix2 0 d)
    = acc (ix2 0 d) + ((∑ s, G s d : ℝ) : EReal) := by
  pointwise [k0_pay12]
  simp only [hg, coe_sum]

end Cert.Proof.NormBlock

end
-- ==== Proof.KvBlock.lean ====
/-
  The block of the kernel for the shared keys and values computes the layer norm's gradient as the feed-forward layer's
  does, from its own gradient of the normalised rows.
-/
module

public import proofs.«01_k».proof.Proof.Gen.KKernelIdeal.Value
public import proofs.«01_k».proof.Proof.NormBlock

@[expose] public section

set_option maxRecDepth 16384

noncomputable section

namespace Cert.Proof.KvBlock

open Cert.KKernelIdeal Cert.KKernelIdeal.Gen Idealize.ShloMosaic Idealize.ShloMosaic.TcCoe

/-- The gradient of the normalised rows: the residual's and six products'. -/
abbrev grad (r : Vec Ideal S256x1024 .f32) (x0 x1 x2 x3 x4 x5 : Vec Ideal S1024x256 .bf16) (w0 w1 w2 w3 w4 w5 : Vec Ideal S1024x1024 .bf16) : Vec Ideal S256x1024 .f32 :=
  k0_pay8 (k0_pay5 r x0 w0 x1 w1 x2 w2 x3 w3) (k0_pay6 x4) (k0_pay7 w4) (constant S256x1024 .f32 0x00000000#32) x5 w5

theorem grad_at (r : Vec Ideal S256x1024 .f32) (x0 x1 x2 x3 x4 x5 : Vec Ideal S1024x256 .bf16) (w0 w1 w2 w3 w4 w5 : Vec Ideal S1024x1024 .bf16) (s : Fin 256) (d : Fin 1024) :
    grad r x0 x1 x2 x3 x4 x5 w0 w1 w2 w3 w4 w5 (ix2 s d) = Ideal.ofBits .f32 0x3F800000#32 * r (ix2 s d) + ∑ k : Fin 1024, x0 (ix2 k s) * w0 (ix2 k d)
      + ∑ k : Fin 1024, x1 (ix2 k s) * w1 (ix2 k d) + ∑ k : Fin 1024, x2 (ix2 k s) * w2 (ix2 k d) + ∑ k : Fin 1024, x3 (ix2 k s) * w3 (ix2 k d)
      + ∑ k : Fin 1024, x4 (ix2 k s) * w4 (ix2 k d) + ∑ k : Fin 1024, x5 (ix2 k s) * w5 (ix2 k d) := by
  pointwise [k0_pay8, k0_pay5, k0_pay6, k0_pay7]

theorem one_coe : Ideal.ofBits .f32 0x3F800000#32 = (1 : EReal) := by
  rw [← EReal.coe_one]
  simp [Ideal.ofBits, Ideal.ieee, -EReal.coe_mul, -EReal.coe_one]; norm_num

theorem pay9_at (d : Fin 1024) : k0_pay9 (F := Ideal) (ix2 0 d) = 0 := by
  pointwise [k0_pay9]

theorem pay10_at (d : Fin 1024) : k0_pay10 (F := Ideal) (ix2 0 d) = 0 := by
  pointwise [k0_pay10]

variable (a : Vec Ideal S256x1024 .f32) (y : Vec Ideal S256x1024 .f32) (v26 : Vec Ideal S256x1024 .f32) (v28 : Vec Ideal S1024x256 .bf16)
  (v30 : Vec Ideal S1024x1024 .bf16) (z : Vec Ideal S256x1024 .f32) (v33 : Vec Ideal S1024x256 .bf16) (v35 : Vec Ideal S1024x1024 .bf16) (w : Vec Ideal S1x1024 .f32) (acc : Vec Ideal S1x1024 .f32)

theorem rows_eq : k0_pay1 (F := Ideal) (k0_pay12 a) (k0_pay13 a) (k0_pay14 v26 v28 v30 z v33 v35 w) (k0_pay15 v26 v28 v30 z v33 v35 w) (k0_pay16 v26 v28 v30 z v33 v35 a w)
      (Scalar.ofBits .f32 0x44800000#32)
    = Cert.NKernelIdeal.Gen.k0_pay9 (F := Ideal) (k0_pay8 v26 v28 v30 z v33 v35) (Cert.NKernelIdeal.Gen.k0_pay4 w) (Cert.NKernelIdeal.Gen.k0_pay5 a) (Cert.NKernelIdeal.Gen.k0_pay6 a) := rfl

theorem rows_cast_eq : k0_pay2 (F := Ideal) (k0_pay12 a) (k0_pay13 a) (k0_pay14 v26 v28 v30 z v33 v35 w) (k0_pay15 v26 v28 v30 z v33 v35 w) (k0_pay16 v26 v28 v30 z v33 v35 a w)
      (Scalar.ofBits .f32 0x44800000#32)
    = Cert.NKernelIdeal.Gen.k0_pay10 (F := Ideal) (k0_pay8 v26 v28 v30 z v33 v35) (Cert.NKernelIdeal.Gen.k0_pay4 w) (Cert.NKernelIdeal.Gen.k0_pay5 a) (Cert.NKernelIdeal.Gen.k0_pay6 a) := rfl

theorem scale_eq : k0_pay3 (F := Ideal) y (k0_pay13 a) acc = Cert.NKernelIdeal.Gen.k0_pay11 (F := Ideal) y (Cert.NKernelIdeal.Gen.k0_pay5 a) (Cert.NKernelIdeal.Gen.k0_pay6 a) acc := rfl

theorem shift_eq : k0_pay4 (F := Ideal) y acc = Cert.NKernelIdeal.Gen.k0_pay12 (F := Ideal) y acc := rfl

end Cert.Proof.KvBlock

end
-- ==== Proof.KvRefs.lean ====
/-
  The reference's arrays for the backward of the shared keys and values, element by element, when its arguments are reals.
-/
module

public import proofs.«01_k».proof.Proof.Gen.KReferenceIdeal.Read
public import proofs.«01_k».proof.Proof.NormSpec
public import Idealize.ShloMosaic.Lib.Pointwise

@[expose] public section

set_option maxRecDepth 16384

noncomputable section

namespace Cert.Proof.KvRefs

open Cert.KReferenceIdeal Idealize.ShloMosaic Idealize.ShloMosaic.TcCoe Cert.KReferenceIdeal.Read Cert.Proof.NormSpec Cert.Proof.Sums

/-- The gradient that reaches the normalised rows: the queries' part and the product with the keys' and values' weight. -/
def back (x3 : Vec Ideal S1024x6144 .f32) (x4 : Vec Ideal S8192x6144 .f32) (x5 : Vec Ideal S8192x1024 .f32) (s : Fin 8192) (d : Fin 1024) : EReal :=
  x5 (ix2 s d) + ∑ f : Fin 6144, x4 (ix2 s f) * x3 (ix2 d f)

variable (x0 x5 : Vec Ideal S8192x1024 .f32) (x1 : Vec Ideal S1024 .f32) (x3 : Vec Ideal S1024x6144 .f32) (x4 : Vec Ideal S8192x6144 .f32)

theorem v32_at (s : Fin 8192) (d : Fin 1024) : val_main_v32 (F := Ideal) x3 x4 x5 (ix2 s d) = back x3 x4 x5 s d := by
  unfold back
  pointwise [val_main_v32, val_main_v31, val_main_v30]

theorem v31_at (s : Fin 8192) (d : Fin 1024) : val_main_v31 (F := Ideal) x3 x4 x5 (ix2 s d) = back x3 x4 x5 s d := by
  unfold back
  pointwise [val_main_v31, val_main_v30]

variable {x0 x1 x3 x4 x5} {a G : Fin 8192 → Fin 1024 → ℝ} {γ : Fin 1024 → ℝ}
variable (h0 : ∀ s d, x0 (ix2 s d) = ((a s d : ℝ) : EReal)) (h1 : ∀ d, x1 (ix1 d) = ((γ d : ℝ) : EReal))
  (hG : ∀ s d, back x3 x4 x5 s d = ((G s d : ℝ) : EReal))

include h0 in
theorem v3_at (s : Fin 8192) : val_main_v3 (F := Ideal) x0 (ix2 s 0) = ((mean (a s) : ℝ) : EReal) := by
  pointwise [val_main_v3, val_main_v2, val_main_v1, val_main_v0, val_main_cst, val_main_cst_0]
  simp only [h0, coe_sum, width_coe]
  exact div_real (by norm_num)

include h0 in
theorem v5_at (s : Fin 8192) (d : Fin 1024) : val_main_v5 (F := Ideal) x0 (ix2 s d) = ((cen (a s) d : ℝ) : EReal) := by
  pointwise [val_main_v5, val_main_v4]
  rw [v3_at h0, h0]
  exact (EReal.coe_sub _ _).symm

include h0 in
theorem v14_at (s : Fin 8192) (d : Fin 1024) : val_main_v14 (F := Ideal) x0 (ix2 s d) = ((cen (a s) d : ℝ) : EReal) := v5_at h0 s d

include h0 in
theorem v16_at (s : Fin 8192) : val_main_v16 (F := Ideal) x0 (ix2 s 0) = ((var (a s) : ℝ) : EReal) := by
  pointwise [val_main_v16, val_main_v15, val_main_v12, val_main_v11, val_main_v10, val_main_v9, val_main_v6, val_main_cst_2, val_main_cst_3, val_main_cst_4]
  simp only [v5_at h0, ← EReal.coe_mul, coe_sum, width_coe, eps_coe]
  rw [div_real (by norm_num)]
  exact (EReal.coe_add _ _).symm

include h0 in
theorem v17_at (s : Fin 8192) : val_main_v17 (F := Ideal) x0 (ix2 s 0) = ((root (a s) : ℝ) : EReal) := by
  pointwise [val_main_v17]
  rw [v16_at h0]
  exact rsqrt_var _

include h0 in
theorem v20_at (s : Fin 8192) : val_main_v20 (F := Ideal) x0 (ix2 s 0) = ((-(1 / 2) * (root (a s) / var (a s)) : ℝ) : EReal) := by
  pointwise [val_main_v20, val_main_v19, val_main_v18, val_main_cst_5]
  rw [v16_at h0, v17_at h0, div_real (var_pos _).ne', half_coe]
  exact (EReal.coe_mul _ _).symm

include h0 in
theorem v22_at (s : Fin 8192) (d : Fin 1024) : val_main_v22 (F := Ideal) x0 (ix2 s d) = ((unit (a s) d : ℝ) : EReal) := by
  pointwise [val_main_v22, val_main_v21]
  rw [v14_at h0, v17_at h0]
  exact (EReal.coe_mul _ _).symm

include h1 hG in
theorem v40_at (s : Fin 8192) (d : Fin 1024) : val_main_v40 (F := Ideal) x1 x3 x4 x5 (ix2 s d) = ((G s d * γ d : ℝ) : EReal) := by
  pointwise [val_main_v40, val_main_v39, val_main_v23]
  rw [v32_at, hG, h1]
  exact (EReal.coe_mul _ _).symm

include h0 h1 hG in
theorem v53_at (s : Fin 8192) : val_main_v53 (F := Ideal) x0 x1 x3 x4 x5 (ix1 s) = ((slope (a s) (fun d => G s d * γ d) : ℝ) : EReal) := by
  pointwise [val_main_v53, val_main_v52, val_main_v51, val_main_v47, val_main_v44, val_main_v43, val_main_v42, val_main_cst_10, val_main_cst_12, val_main_cst_13]
  rw [Fin.sum_univ_one]
  simp only [v14_at h0, v40_at h1 hG, v20_at h0, ← EReal.coe_mul, coe_sum, width_coe]
  rw [div_real (by norm_num)]
  rfl

include h0 in
theorem v8_at (s : Fin 8192) (d : Fin 1024) : val_main_v8 (F := Ideal) x0 (ix2 s d) = ((2 * cen (a s) d : ℝ) : EReal) := by
  pointwise [val_main_v8, val_main_v7, val_main_cst_1]
  rw [v5_at h0, two_coe]
  exact (EReal.coe_mul _ _).symm

include h0 h1 hG in
theorem v55_at (s : Fin 8192) (d : Fin 1024) : val_main_v55 (F := Ideal) x0 x1 x3 x4 x5 (ix2 s d)
    = ((slope (a s) (fun d => G s d * γ d) * (2 * cen (a s) d) : ℝ) : EReal) := by
  pointwise [val_main_v55, val_main_v54]
  rw [v53_at h0 h1 hG, v8_at h0]
  exact (EReal.coe_mul _ _).symm

include h0 h1 hG in
theorem v46_at (s : Fin 8192) (d : Fin 1024) : val_main_v46 (F := Ideal) x0 x1 x3 x4 x5 (ix2 s d)
    = ((G s d * γ d * root (a s) : ℝ) : EReal) := by
  pointwise [val_main_v46, val_main_v45]
  rw [v40_at h1 hG, v17_at h0]
  exact (EReal.coe_mul _ _).symm

include h0 h1 hG in
theorem v63_at (s : Fin 8192) : val_main_v63 (F := Ideal) x0 x1 x3 x4 x5 (ix1 s)
    = (((∑ e, -(G s e * γ e * root (a s)) + ∑ e, -(slope (a s) (fun d => G s d * γ d) * (2 * cen (a s) e))) / 1024 : ℝ) : EReal) := by
  pointwise [val_main_v63, val_main_v62, val_main_v61, val_main_v60, val_main_v58, val_main_v57, val_main_v56, val_main_v50, val_main_v49, val_main_v48,
    val_main_cst_11, val_main_cst_14, val_main_cst_15, val_main_cst_16]
  rw [Fin.sum_univ_one]
  simp only [v55_at h0 h1 hG, v46_at h0 h1 hG, ← EReal.coe_neg, coe_sum, width_coe, ← EReal.coe_add]
  exact div_real (by norm_num)

include h0 h1 hG in
/-- The rows' gradient. -/
theorem v65_at (s : Fin 8192) (d : Fin 1024) : val_main_v65 (F := Ideal) x0 x1 x3 x4 x5 (ix2 s d)
    = ((closed (a s) (fun d => G s d * γ d) d : ℝ) : EReal) := by
  rw [← chain_eq]
  pointwise [val_main_v65, val_main_v64, val_main_v59]
  rw [v63_at h0 h1 hG, v55_at h0 h1 hG, v46_at h0 h1 hG, ← EReal.coe_add, ← EReal.coe_add]
  rfl

include h0 h1 hG in
theorem v66_at (s : Fin 8192) (d : Fin 1024) : val_main_v66 (F := Ideal) x0 x1 x3 x4 x5 (ix2 s d)
    = ((closed (a s) (fun d => G s d * γ d) d : ℝ) : EReal) := v65_at h0 h1 hG s d

include h0 hG in
/-- The scale's gradient. -/
theorem v67_at (d : Fin 1024) : val_main_v67 (F := Ideal) x0 x3 x4 x5 (ix2 0 d) = ((∑ s, G s d * unit (a s) d : ℝ) : EReal) := by
  pointwise [val_main_v67, val_main_v41, val_main_v38, val_main_v37, val_main_v36, val_main_cst_8, val_main_cst_9]
  simp only [v22_at h0, v32_at, hG, ← EReal.coe_mul, coe_sum, Fin.sum_univ_one, mul_comm]

include hG in
/-- The shift's gradient. -/
theorem v68_at (d : Fin 1024) : val_main_v68 (F := Ideal) x3 x4 x5 (ix2 0 d) = ((∑ s, G s d : ℝ) : EReal) := by
  pointwise [val_main_v68, val_main_v35, val_main_v34, val_main_v33, val_main_cst_6, val_main_cst_7]
  simp only [v31_at, hG, coe_sum, Fin.sum_univ_one]

end Cert.Proof.KvRefs

end
-- ==== Proof.KvArrays.lean ====
/-
  The four arrays of the backward of the shared keys and values when its arguments are reals: each of the 32 grid points
  adds six products, one for each column group, to the queries' part, and writes 256 rows of the layer norm's gradient;
  the gradients of the scale and the shift gather the points' terms.
-/
module

public import proofs.«01_k».proof.Proof.Gen.KKernelIdeal.Value
public import proofs.«01_k».proof.Proof.KvBlock
public import proofs.«01_k».proof.Proof.KvRefs
public import Idealize.ShloMosaic.Lib.Pipeline.ValueKit.Acc
public import Idealize.ShloMosaic.Lib.Pipeline.ValueKit.Geometry
public import Idealize.ShloMosaic.Lib.Pipeline.ReadBack
public import Idealize.ShloMosaic.Lib.StableHlo.RunRead

@[expose] public section

set_option maxRecDepth 16384

noncomputable section

namespace Cert.Proof.KvArrays

open Cert.KKernelIdeal Cert.KKernelIdeal.Gen Idealize.ShloMosaic Idealize.ShloMosaic.TcCoe Idealize.SL.Sem Idealize.ShloMosaic.StableHlo
open Idealize.ShloMosaic.Pipeline (Dat)
open Cert.Proof.NormSpec Cert.Proof.KvBlock

variable (m : (ℓ : Loc nD τ sig) → Buf (Elt Ideal) ℓ) (c : Dev nD)

/-- The arguments as the device holds them. -/
abbrev x : Vec Ideal S8192x1024 .f32 := m ((c : Thread nD τ).loc main_arg0)
abbrev scale : Vec Ideal S1024 .f32 := m ((c : Thread nD τ).loc main_arg1)
abbrev w : Vec Ideal S1024x6144 .f32 := m ((c : Thread nD τ).loc main_arg3)
abbrev dkv : Vec Ideal S8192x6144 .f32 := m ((c : Thread nD τ).loc main_arg4)
abbrev res : Vec Ideal S8192x1024 .f32 := m ((c : Thread nD τ).loc main_arg5)

/-- One group's columns, transposed. -/
def group (o : Fin 2 → Nat) (h : S8192x6144.Slices o S8192x1024) : Vec Ideal S1024x8192 .bf16 :=
  truncf (F := Ideal) .bf16 (transpose S1024x8192 [1, 0] (extractStridedSlice S8192x1024 o (dkv m c) h) transposes_S8192x1024_S1024x8192_1_0) bitsLt_bf16_f32

theorem V_0 : V m c main_v2 = group m c ![0, 0] slices_S8192x6144_S8192x1024_0_0 := by
  unfold V group
  after_reads_simp

theorem V_1 : V m c main_v5 = group m c ![0, 1024] slices_S8192x6144_S8192x1024_0_1024 := by
  unfold V group
  after_reads_simp

theorem V_2 : V m c main_v8 = group m c ![0, 2048] slices_S8192x6144_S8192x1024_0_2048 := by
  unfold V group
  after_reads_simp

theorem V_3 : V m c main_v11 = group m c ![0, 3072] slices_S8192x6144_S8192x1024_0_3072 := by
  unfold V group
  after_reads_simp

theorem V_4 : V m c main_v14 = group m c ![0, 4096] slices_S8192x6144_S8192x1024_0_4096 := by
  unfold V group
  after_reads_simp

theorem V_5 : V m c main_v17 = group m c ![0, 5120] slices_S8192x6144_S8192x1024_0_5120 := by
  unfold V group
  after_reads_simp

theorem V_w : V m c main_v19 = (truncf (F := Ideal) .bf16 (transpose S6144x1024 [1, 0] (w m c) transposes_S1024x6144_S6144x1024_1_0) bitsLt_bf16_f32 : Vec Ideal S6144x1024 .bf16) := by
  unfold V
  after_reads_simp

theorem V_scale : V m c main_v20 = (shapeCast S1x1024 (scale m c) shapeCasts_S1024_S1x1024 : Vec Ideal S1x1024 .f32) := by
  unfold V
  after_reads_simp
  rfl

/-- The column `k` of group `g`. -/
def col (g : Fin 6) (k : Fin 1024) : Fin 6144 := ⟨g.val * 1024 + k.val, by omega⟩

theorem group_at (g : Fin 6) {o : Nat} (e : o = g.val * 1024) (h : S8192x6144.Slices ![0, o] S8192x1024) (k : Fin 1024) (s : Fin 8192) :
    group m c ![0, o] h (ix2 k s) = dkv m c (ix2 s (col g k)) := by
  subst e
  unfold group
  pointwise
  exact congrArg _ (funext fun q => Fin.ext (by match q with | ⟨0, _⟩ => rfl | ⟨1, _⟩ => rfl))

theorem turned (y : Vec Ideal S1024x6144 .f32) (f : Fin 6144) (d : Fin 1024) :
    (truncf (F := Ideal) .bf16 (transpose S6144x1024 [1, 0] y transposes_S1024x6144_S6144x1024_1_0) bitsLt_bf16_f32 : Vec Ideal S6144x1024 .bf16) (ix2 f d) = y (ix2 d f) := by
  pointwise

/-- A group's rows of the weight. -/
theorem piece_at (g : Fin 6) {o : Nat} (e : o = g.val * 1024) (y : Vec Ideal S6144x1024 .bf16) (h : ∀ a, (![o, 0] : Fin 2 → Nat) a + S1024x1024.size a ≤ S6144x1024.size a) (k d : Fin 1024) :
    View.ld y (Rect.unit (s := S6144x1024) ![o, 0] S1024x1024.size h) (ix2 k d) = y (ix2 (col g k) d) :=
  congrArg y (funext fun a => Fin.ext (by
    match a with
    | ⟨0, _⟩ => show o + 1 * k.val = g.val * 1024 + k.val; omega
    | ⟨1, _⟩ => show 0 + 1 * d.val = d.val; omega))

/-- The grid point of row block `i`. -/
def pt (i : Fin 32) : Fin cfg0.N := ⟨i.val, by have h : cfg0.N = 32 := N_0; omega⟩

theorem idx_all : ∀ i : Fin 32,
    win0_0.index (pt i) = ![0, i.val] ∧ win0_1.index (pt i) = ![0, i.val] ∧ win0_2.index (pt i) = ![0, i.val] ∧ win0_3.index (pt i) = ![0, i.val]
    ∧ win0_4.index (pt i) = ![0, i.val] ∧ win0_5.index (pt i) = ![0, i.val] ∧ win0_6.index (pt i) = ![0, 0] ∧ win0_7.index (pt i) = ![i.val, 0]
    ∧ win0_8.index (pt i) = ![i.val, 0] ∧ win0_9.index (pt i) = ![0, 0] ∧ win0_10.index (pt i) = ![i.val, 0] ∧ win0_11.index (pt i) = ![i.val, 0] := by
  decide +kernel

/-- The row `s` of block `i`. -/
def row (i : Fin 32) (s : Fin 256) : Fin 8192 := ⟨i.val * 256 + s.val, by omega⟩

theorem row_mk (r : Fin 8192) : ∃ (i : Fin 32) (s : Fin 256), r = row i s :=
  ⟨⟨r.val / 256, by omega⟩, ⟨r.val % 256, by omega⟩, Fin.ext (by show r.val = r.val / 256 * 256 + r.val % 256; omega)⟩

theorem blk0_at (i : Fin 32) (k : Fin 1024) (s : Fin 256) : iblk m c 0 (pt i) (ix2 k s) = dkv m c (ix2 (row i s) (col 0 k)) := by
  refine Eq.trans ?_ ((congrFun (V_0 m c) (ix2 k (row i s))).trans (group_at m c 0 rfl _ k (row i s)))
  unfold iblk
  rw [View.read_apply, cast_eq]
  refine congrArg _ (funext fun q => Fin.ext ?_)
  have h := (idx_all i).1
  match q with
  | ⟨0, _⟩ =>
    show win0_0.index (pt i) 0 * 1024 + 1 * k.val = _
    rw [h]; show 0 * 1024 + 1 * k.val = k.val; omega
  | ⟨1, _⟩ =>
    show win0_0.index (pt i) 1 * 256 + 1 * s.val = _
    rw [h]; show i.val * 256 + 1 * s.val = i.val * 256 + s.val; omega

theorem blk1_at (i : Fin 32) (k : Fin 1024) (s : Fin 256) : iblk m c 1 (pt i) (ix2 k s) = dkv m c (ix2 (row i s) (col 1 k)) := by
  refine Eq.trans ?_ ((congrFun (V_1 m c) (ix2 k (row i s))).trans (group_at m c 1 rfl _ k (row i s)))
  unfold iblk
  rw [View.read_apply, cast_eq]
  refine congrArg _ (funext fun q => Fin.ext ?_)
  have h := (idx_all i).2.1
  match q with
  | ⟨0, _⟩ =>
    show win0_1.index (pt i) 0 * 1024 + 1 * k.val = _
    rw [h]; show 0 * 1024 + 1 * k.val = k.val; omega
  | ⟨1, _⟩ =>
    show win0_1.index (pt i) 1 * 256 + 1 * s.val = _
    rw [h]; show i.val * 256 + 1 * s.val = i.val * 256 + s.val; omega

theorem blk2_at (i : Fin 32) (k : Fin 1024) (s : Fin 256) : iblk m c 2 (pt i) (ix2 k s) = dkv m c (ix2 (row i s) (col 2 k)) := by
  refine Eq.trans ?_ ((congrFun (V_2 m c) (ix2 k (row i s))).trans (group_at m c 2 rfl _ k (row i s)))
  unfold iblk
  rw [View.read_apply, cast_eq]
  refine congrArg _ (funext fun q => Fin.ext ?_)
  have h := (idx_all i).2.2.1
  match q with
  | ⟨0, _⟩ =>
    show win0_2.index (pt i) 0 * 1024 + 1 * k.val = _
    rw [h]; show 0 * 1024 + 1 * k.val = k.val; omega
  | ⟨1, _⟩ =>
    show win0_2.index (pt i) 1 * 256 + 1 * s.val = _
    rw [h]; show i.val * 256 + 1 * s.val = i.val * 256 + s.val; omega

theorem blk3_at (i : Fin 32) (k : Fin 1024) (s : Fin 256) : iblk m c 3 (pt i) (ix2 k s) = dkv m c (ix2 (row i s) (col 3 k)) := by
  refine Eq.trans ?_ ((congrFun (V_3 m c) (ix2 k (row i s))).trans (group_at m c 3 rfl _ k (row i s)))
  unfold iblk
  rw [View.read_apply, cast_eq]
  refine congrArg _ (funext fun q => Fin.ext ?_)
  have h := (idx_all i).2.2.2.1
  match q with
  | ⟨0, _⟩ =>
    show win0_3.index (pt i) 0 * 1024 + 1 * k.val = _
    rw [h]; show 0 * 1024 + 1 * k.val = k.val; omega
  | ⟨1, _⟩ =>
    show win0_3.index (pt i) 1 * 256 + 1 * s.val = _
    rw [h]; show i.val * 256 + 1 * s.val = i.val * 256 + s.val; omega

theorem blk4_at (i : Fin 32) (k : Fin 1024) (s : Fin 256) : iblk m c 4 (pt i) (ix2 k s) = dkv m c (ix2 (row i s) (col 4 k)) := by
  refine Eq.trans ?_ ((congrFun (V_4 m c) (ix2 k (row i s))).trans (group_at m c 4 rfl _ k (row i s)))
  unfold iblk
  rw [View.read_apply, cast_eq]
  refine congrArg _ (funext fun q => Fin.ext ?_)
  have h := (idx_all i).2.2.2.2.1
  match q with
  | ⟨0, _⟩ =>
    show win0_4.index (pt i) 0 * 1024 + 1 * k.val = _
    rw [h]; show 0 * 1024 + 1 * k.val = k.val; omega
  | ⟨1, _⟩ =>
    show win0_4.index (pt i) 1 * 256 + 1 * s.val = _
    rw [h]; show i.val * 256 + 1 * s.val = i.val * 256 + s.val; omega

theorem blk5_at (i : Fin 32) (k : Fin 1024) (s : Fin 256) : iblk m c 5 (pt i) (ix2 k s) = dkv m c (ix2 (row i s) (col 5 k)) := by
  refine Eq.trans ?_ ((congrFun (V_5 m c) (ix2 k (row i s))).trans (group_at m c 5 rfl _ k (row i s)))
  unfold iblk
  rw [View.read_apply, cast_eq]
  refine congrArg _ (funext fun q => Fin.ext ?_)
  have h := (idx_all i).2.2.2.2.2.1
  match q with
  | ⟨0, _⟩ =>
    show win0_5.index (pt i) 0 * 1024 + 1 * k.val = _
    rw [h]; show 0 * 1024 + 1 * k.val = k.val; omega
  | ⟨1, _⟩ =>
    show win0_5.index (pt i) 1 * 256 + 1 * s.val = _
    rw [h]; show i.val * 256 + 1 * s.val = i.val * 256 + s.val; omega

theorem blk6_at (i : Fin 32) (f : Fin 6144) (d : Fin 1024) : iblk m c 6 (pt i) (ix2 f d) = w m c (ix2 d f) := by
  refine Eq.trans ?_ ((congrFun (V_w m c) (ix2 f d)).trans (turned _ f d))
  unfold iblk
  rw [View.read_apply, cast_eq]
  refine congrArg _ (funext fun q => Fin.ext ?_)
  have h := (idx_all i).2.2.2.2.2.2.1
  match q with
  | ⟨0, _⟩ =>
    show win0_6.index (pt i) 0 * 6144 + 1 * f.val = _
    rw [h]; show 0 * 6144 + 1 * f.val = f.val; omega
  | ⟨1, _⟩ =>
    show win0_6.index (pt i) 1 * 1024 + 1 * d.val = _
    rw [h]; show 0 * 1024 + 1 * d.val = d.val; omega

theorem blk7_at (i : Fin 32) (s : Fin 256) (d : Fin 1024) : iblk m c 7 (pt i) (ix2 s d) = res m c (ix2 (row i s) d) := by
  refine Eq.trans ?_ (congrFun (V_main_arg5 m c) (ix2 (row i s) d))
  unfold iblk
  rw [View.read_apply, cast_eq]
  refine congrArg _ (funext fun q => Fin.ext ?_)
  have h := (idx_all i).2.2.2.2.2.2.2.1
  match q with
  | ⟨0, _⟩ =>
    show win0_7.index (pt i) 0 * 256 + 1 * s.val = _
    rw [h]; show i.val * 256 + 1 * s.val = i.val * 256 + s.val; omega
  | ⟨1, _⟩ =>
    show win0_7.index (pt i) 1 * 1024 + 1 * d.val = _
    rw [h]; show 0 * 1024 + 1 * d.val = d.val; omega

theorem blk8_at (i : Fin 32) (s : Fin 256) (d : Fin 1024) : iblk m c 8 (pt i) (ix2 s d) = x m c (ix2 (row i s) d) := by
  refine Eq.trans ?_ (congrFun (V_main_arg0 m c) (ix2 (row i s) d))
  unfold iblk
  rw [View.read_apply, cast_eq]
  refine congrArg _ (funext fun q => Fin.ext ?_)
  have h := (idx_all i).2.2.2.2.2.2.2.2.1
  match q with
  | ⟨0, _⟩ =>
    show win0_8.index (pt i) 0 * 256 + 1 * s.val = _
    rw [h]; show i.val * 256 + 1 * s.val = i.val * 256 + s.val; omega
  | ⟨1, _⟩ =>
    show win0_8.index (pt i) 1 * 1024 + 1 * d.val = _
    rw [h]; show 0 * 1024 + 1 * d.val = d.val; omega

theorem line (y : Vec Ideal S1024 .f32) (d : Fin 1024) : (shapeCast S1x1024 y shapeCasts_S1024_S1x1024 : Vec Ideal S1x1024 .f32) (ix2 0 d) = y (ix1 d) := by
  pointwise

theorem blk9_at (i : Fin 32) (d : Fin 1024) : iblk m c 9 (pt i) (ix2 0 d) = scale m c (ix1 d) := by
  refine Eq.trans ?_ ((congrFun (V_scale m c) (ix2 0 d)).trans (line _ d))
  unfold iblk
  rw [View.read_apply, cast_eq]
  refine congrArg _ (funext fun q => Fin.ext ?_)
  have h := (idx_all i).2.2.2.2.2.2.2.2.2.1
  match q with
  | ⟨0, _⟩ =>
    show win0_9.index (pt i) 0 * 1 + 1 * (0 : Fin 1).val = _
    rw [h]; rfl
  | ⟨1, _⟩ =>
    show win0_9.index (pt i) 1 * 1024 + 1 * d.val = _
    rw [h]; show 0 * 1024 + 1 * d.val = d.val; omega

/-! ## What the grid points leave -/

/-- The piece of the weight that starts at row `o`. -/
abbrev piece (t : Fin cfg0.N) {o : Nat} (h : ∀ a, (![o, 0] : Fin 2 → Nat) a + S1024x1024.size a ≤ S6144x1024.size a) : Vec Ideal S1024x1024 .bf16 :=
  View.ld (iblk m c 6 t : Vec Ideal S6144x1024 .bf16) (Rect.unit (s := S6144x1024) ![o, 0] S1024x1024.size h)

/-- The gradient of the normalised rows at a grid point. -/
abbrev grad (t : Fin cfg0.N) : Vec Ideal S256x1024 .f32 :=
  KvBlock.grad (iblk m c 7 t) (iblk m c 0 t) (iblk m c 1 t) (iblk m c 2 t) (iblk m c 3 t) (iblk m c 4 t) (iblk m c 5 t)
    (piece m c t inb_S6144x1024_S1024x1024_0_0) (piece m c t inb_S6144x1024_S1024x1024_1024_0) (piece m c t inb_S6144x1024_S1024x1024_2048_0)
    (piece m c t inb_S6144x1024_S1024x1024_3072_0) (piece m c t inb_S6144x1024_S1024x1024_4096_0) (piece m c t inb_S6144x1024_S1024x1024_5120_0)

theorem out10_eq (t : Fin cfg0.N) : (outsAt0 m c t.val t.isLt).1
    = Cert.NKernelIdeal.Gen.k0_pay9 (F := Ideal) (grad m c t) (Cert.NKernelIdeal.Gen.k0_pay4 (iblk m c 9 t)) (Cert.NKernelIdeal.Gen.k0_pay5 (iblk m c 8 t)) (Cert.NKernelIdeal.Gen.k0_pay6 (iblk m c 8 t)) := by
  refine Eq.trans ?_ (rows_eq _ _ _ _ _ _ _ _)
  by_cases h : t.val % 32 = 0
  · rw [outsAt0_A m c t h]; frame_out; rfl
  · rw [outsAt0_B m c t h]; frame_out; rfl

theorem out11_eq (t : Fin cfg0.N) : (outsAt0 m c t.val t.isLt).2.1
    = Cert.NKernelIdeal.Gen.k0_pay10 (F := Ideal) (grad m c t) (Cert.NKernelIdeal.Gen.k0_pay4 (iblk m c 9 t)) (Cert.NKernelIdeal.Gen.k0_pay5 (iblk m c 8 t)) (Cert.NKernelIdeal.Gen.k0_pay6 (iblk m c 8 t)) := by
  refine Eq.trans ?_ (rows_cast_eq _ _ _ _ _ _ _ _)
  by_cases h : t.val % 32 = 0
  · rw [outsAt0_A m c t h]; frame_out; rfl
  · rw [outsAt0_B m c t h]; frame_out; rfl

theorem out12_first (t : Fin cfg0.N) (h : t.val % 32 = 0) : (outsAt0 m c t.val t.isLt).2.2.1
    = Cert.NKernelIdeal.Gen.k0_pay11 (F := Ideal) (grad m c t) (Cert.NKernelIdeal.Gen.k0_pay5 (iblk m c 8 t)) (Cert.NKernelIdeal.Gen.k0_pay6 (iblk m c 8 t)) (k0_pay9 (F := Ideal)) := by
  refine Eq.trans ?_ (scale_eq _ _ _)
  rw [outsAt0_A m c t h]; frame_out; rfl

theorem out12_next (t : Fin cfg0.N) (h : ¬t.val % 32 = 0) : (outsAt0 m c t.val t.isLt).2.2.1
    = Cert.NKernelIdeal.Gen.k0_pay11 (F := Ideal) (grad m c t) (Cert.NKernelIdeal.Gen.k0_pay5 (iblk m c 8 t)) (Cert.NKernelIdeal.Gen.k0_pay6 (iblk m c 8 t))
        (outsAt0 m c (t.val - 1) (Nat.lt_of_le_of_lt (Nat.sub_le _ _) t.isLt)).2.2.1 := by
  refine Eq.trans ?_ (scale_eq _ _ _)
  rw [outsAt0_B m c t h]; frame_out; rfl

theorem out13_first (t : Fin cfg0.N) (h : t.val % 32 = 0) : (outsAt0 m c t.val t.isLt).2.2.2
    = Cert.NKernelIdeal.Gen.k0_pay12 (F := Ideal) (grad m c t) (k0_pay10 (F := Ideal)) := by
  refine Eq.trans ?_ (shift_eq _ _)
  rw [outsAt0_A m c t h]; frame_out; rfl

theorem out13_next (t : Fin cfg0.N) (h : ¬t.val % 32 = 0) : (outsAt0 m c t.val t.isLt).2.2.2
    = Cert.NKernelIdeal.Gen.k0_pay12 (F := Ideal) (grad m c t) (outsAt0 m c (t.val - 1) (Nat.lt_of_le_of_lt (Nat.sub_le _ _) t.isLt)).2.2.2 := by
  refine Eq.trans ?_ (shift_eq _ _)
  rw [outsAt0_B m c t h]; frame_out; rfl

/-- The kernel's gradient of the normalised rows is the reference's: its six products are one product over all columns. -/
theorem grad_back (i : Fin 32) (s : Fin 256) (d : Fin 1024) : grad m c (pt i) (ix2 s d) = KvRefs.back (w m c) (dkv m c) (res m c) (row i s) d := by
  refine (grad_at _ _ _ _ _ _ _ _ _ _ _ _ _ s d).trans ?_
  unfold KvRefs.back
  rw [← Fin.sum_mul_add_fin 6 1024 fun f : Fin 6144 => dkv m c (ix2 (row i s) f) * w m c (ix2 d f)]
  rw [Fin.sum_univ_six]
  simp only [← add_assoc]
  refine congrArg₂ (· + ·) (congrArg₂ (· + ·) (congrArg₂ (· + ·) (congrArg₂ (· + ·) (congrArg₂ (· + ·) (congrArg₂ (· + ·) ?_ ?_) ?_) ?_) ?_) ?_) ?_
  · rw [one_coe, one_mul]; exact blk7_at m c i s d
  · exact Finset.sum_congr rfl fun k _ => congrArg₂ (· * ·) (blk0_at m c i k s) ((piece_at 0 rfl _ _ k d).trans (blk6_at m c i (col 0 k) d))
  · exact Finset.sum_congr rfl fun k _ => congrArg₂ (· * ·) (blk1_at m c i k s) ((piece_at 1 rfl _ _ k d).trans (blk6_at m c i (col 1 k) d))
  · exact Finset.sum_congr rfl fun k _ => congrArg₂ (· * ·) (blk2_at m c i k s) ((piece_at 2 rfl _ _ k d).trans (blk6_at m c i (col 2 k) d))
  · exact Finset.sum_congr rfl fun k _ => congrArg₂ (· * ·) (blk3_at m c i k s) ((piece_at 3 rfl _ _ k d).trans (blk6_at m c i (col 3 k) d))
  · exact Finset.sum_congr rfl fun k _ => congrArg₂ (· * ·) (blk4_at m c i k s) ((piece_at 4 rfl _ _ k d).trans (blk6_at m c i (col 4 k) d))
  · exact Finset.sum_congr rfl fun k _ => congrArg₂ (· * ·) (blk5_at m c i k s) ((piece_at 5 rfl _ _ k d).trans (blk6_at m c i (col 5 k) d))

/-! ## Among the reals -/

variable {m c} {a G : Fin 8192 → Fin 1024 → ℝ} {γ : Fin 1024 → ℝ}
variable (h0 : ∀ s d, x m c (ix2 s d) = ((a s d : ℝ) : EReal)) (h1 : ∀ d, scale m c (ix1 d) = ((γ d : ℝ) : EReal))
  (hG : ∀ s d, KvRefs.back (w m c) (dkv m c) (res m c) s d = ((G s d : ℝ) : EReal))

include h0 in
theorem bx (i : Fin 32) (s : Fin 256) (d : Fin 1024) : iblk m c 8 (pt i) (ix2 s d) = ((a (row i s) d : ℝ) : EReal) :=
  (blk8_at m c i s d).trans (h0 _ _)

include h1 in
theorem bw (i : Fin 32) (d : Fin 1024) : iblk m c 9 (pt i) (ix2 0 d) = ((γ d : ℝ) : EReal) :=
  (blk9_at m c i d).trans (h1 _)

include hG in
theorem bg (i : Fin 32) (s : Fin 256) (d : Fin 1024) : grad m c (pt i) (ix2 s d) = ((G (row i s) d : ℝ) : EReal) := by
  exact (grad_back m c i s d).trans (hG _ _)

include h0 h1 hG in
theorem arr10_at (i : Fin 32) (s : Fin 256) (d : Fin 1024) : (dats m 0 c).arrAt 10 cfg0.N (ix2 (row i s) d)
    = ((closed (a (row i s)) (fun d => G (row i s) d * γ d) d : ℝ) : EReal) := by
  have h := congrFun (Value.blocks10 m c (pt i) (flush0_10 _)) (ix2 s d)
  rw [Value.flushed10, View.read_apply, cast_eq, out10_eq] at h
  refine (Eq.trans (congrArg _ (funext fun q => Fin.ext ?_)) h).trans (NormBlock.pay9_at (bx h0 i) (bg hG i) (bw h1 i) s d)
  have h := (idx_all i).2.2.2.2.2.2.2.2.2.2.1
  match q with
  | ⟨0, _⟩ =>
    show _ = win0_10.index (pt i) 0 * 256 + 1 * s.val
    rw [h]; show i.val * 256 + s.val = i.val * 256 + 1 * s.val; omega
  | ⟨1, _⟩ =>
    show _ = win0_10.index (pt i) 1 * 1024 + 1 * d.val
    rw [h]; show d.val = 0 * 1024 + 1 * d.val; omega

include h0 h1 hG in
theorem arr11_at (i : Fin 32) (s : Fin 256) (d : Fin 1024) : (dats m 0 c).arrAt 11 cfg0.N (ix2 (row i s) d)
    = ((closed (a (row i s)) (fun d => G (row i s) d * γ d) d : ℝ) : EReal) := by
  have h := congrFun (Value.blocks11 m c (pt i) (flush0_11 _)) (ix2 s d)
  rw [Value.flushed11, View.read_apply, cast_eq, out11_eq] at h
  refine (Eq.trans (congrArg _ (funext fun q => Fin.ext ?_)) h).trans (NormBlock.pay10_at (bx h0 i) (bg hG i) (bw h1 i) s d)
  have h := (idx_all i).2.2.2.2.2.2.2.2.2.2.2
  match q with
  | ⟨0, _⟩ =>
    show _ = win0_11.index (pt i) 0 * 256 + 1 * s.val
    rw [h]; show i.val * 256 + s.val = i.val * 256 + 1 * s.val; omega
  | ⟨1, _⟩ =>
    show _ = win0_11.index (pt i) 1 * 1024 + 1 * d.val
    rw [h]; show d.val = 0 * 1024 + 1 * d.val; omega

/-- The point's block of rows. -/
theorem pt_mk (t : Fin cfg0.N) : ∃ i : Fin 32, t = pt i :=
  ⟨⟨t.val, by have h : cfg0.N = 32 := N_0; have := t.isLt; omega⟩, rfl⟩

include h0 hG in
theorem sum12 (d : Fin 1024) : (outsAt0 m c (pt 31).val (pt 31).isLt).2.2.1 (ix2 0 d)
    = ((∑ s, G s d * unit (a s) d : ℝ) : EReal) := by
  have hN : cfg0.N = 32 := N_0
  have h := Pipeline.eq_sum_fin_of_reset_step_last (fun n h => (outsAt0 m c n h).2.2.1 (ix2 0 d)) 32 (0 : EReal)
    (fun t => ((∑ s : Fin 256, G (row ⟨t.val, by omega⟩ s) d * unit (a (row ⟨t.val, by omega⟩ s)) d : ℝ) : EReal))
    (fun t h => by
      obtain ⟨i, rfl⟩ := pt_mk t
      refine (congrFun (out12_first m c _ h) (ix2 0 d)).trans ((NormBlock.pay11_at (bx h0 i) (bg hG i) _ d).trans ?_)
      rw [pay9_at]; rfl)
    (fun t h => by
      obtain ⟨i, rfl⟩ := pt_mk t
      exact (congrFun (out12_next m c _ h) (ix2 0 d)).trans (NormBlock.pay11_at (bx h0 i) (bg hG i) _ d))
    (le_of_eq hN) (pt 31) hN.symm
  refine h.trans ?_
  rw [zero_add, Sums.coe_sum]
  refine congrArg _ ?_
  rw [← Fin.sum_mul_add_fin 32 256 (fun s : Fin 8192 => G s d * unit (a s) d)]
  exact Fintype.sum_equiv (finCongr hN) _ _ fun t => rfl

include hG in
theorem sum13 (d : Fin 1024) : (outsAt0 m c (pt 31).val (pt 31).isLt).2.2.2 (ix2 0 d) = ((∑ s, G s d : ℝ) : EReal) := by
  have hN : cfg0.N = 32 := N_0
  have h := Pipeline.eq_sum_fin_of_reset_step_last (fun n h => (outsAt0 m c n h).2.2.2 (ix2 0 d)) 32 (0 : EReal)
    (fun t => ((∑ s : Fin 256, G (row ⟨t.val, by omega⟩ s) d : ℝ) : EReal))
    (fun t h => by
      obtain ⟨i, rfl⟩ := pt_mk t
      refine (congrFun (out13_first m c _ h) (ix2 0 d)).trans ((NormBlock.pay12_at (bg hG i) _ d).trans ?_)
      rw [pay10_at]; rfl)
    (fun t h => by
      obtain ⟨i, rfl⟩ := pt_mk t
      exact (congrFun (out13_next m c _ h) (ix2 0 d)).trans (NormBlock.pay12_at (bg hG i) _ d))
    (le_of_eq hN) (pt 31) hN.symm
  refine h.trans ?_
  rw [zero_add, Sums.coe_sum]
  refine congrArg _ ?_
  rw [← Fin.sum_mul_add_fin 32 256 (fun s : Fin 8192 => G s d)]
  exact Fintype.sum_equiv (finCongr hN) _ _ fun t => rfl

end Cert.Proof.KvArrays

end
-- ==== Proof.KvEquation.lean ====
/-
  The backward of the shared keys' and values' product and the layer norm below it: what the kernel leaves is what the reference gives,
  when every argument holds reals.
-/
module

public import proofs.«01_k».proof.Proof.KvArrays
public import proofs.«01_k».proof.Proof.Reals

@[expose] public section

set_option maxRecDepth 16384

noncomputable section

namespace Cert.Proof.KvEquation

open Cert.KKernelIdeal Cert.KKernelIdeal.Gen Idealize.ShloMosaic Idealize.ShloMosaic.TcCoe Idealize.SL.Sem
open Idealize.ShloMosaic.Pipeline (Dat)
open Cert.Proof.NormSpec Cert.Proof.KvArrays Cert.Proof.Reals

/-- The arguments the results depend on hold reals. -/
structure AllReal (x0 x5 : Vec Ideal S8192x1024 .f32) (x1 : Vec Ideal S1024 .f32) (x3 : Vec Ideal S1024x6144 .f32)
    (x4 : Vec Ideal S8192x6144 .f32) : Prop where
  r0 : ∀ i, IsReal (x0 i)
  r1 : ∀ i, IsReal (x1 i)
  r3 : ∀ i, IsReal (x3 i)
  r4 : ∀ i, IsReal (x4 i)
  r5 : ∀ i, IsReal (x5 i)

theorem back_real {x0 x5 : Vec Ideal S8192x1024 .f32} {x1 : Vec Ideal S1024 .f32} {x3 : Vec Ideal S1024x6144 .f32}
    {x4 : Vec Ideal S8192x6144 .f32} (H : AllReal x0 x5 x1 x3 x4) (s : Fin 8192) (d : Fin 1024) :
    IsReal (KvRefs.back x3 x4 x5 s d) :=
  fin_add (H.r5 _) (fin_sum _ fun _ => fin_mul (H.r4 _) (H.r3 _))

/-- The real arrays behind the arguments. -/
theorem reals {x0 x5 : Vec Ideal S8192x1024 .f32} {x1 : Vec Ideal S1024 .f32} {x3 : Vec Ideal S1024x6144 .f32}
    {x4 : Vec Ideal S8192x6144 .f32} (H : AllReal x0 x5 x1 x3 x4) :
    ∃ (a G : Fin 8192 → Fin 1024 → ℝ) (γ : Fin 1024 → ℝ), (∀ s d, x0 (ix2 s d) = ((a s d : ℝ) : EReal))
      ∧ (∀ d, x1 (ix1 d) = ((γ d : ℝ) : EReal)) ∧ ∀ s d, KvRefs.back x3 x4 x5 s d = ((G s d : ℝ) : EReal) := by
  have h0 : ∀ s d, ∃ r : ℝ, x0 (ix2 s d) = (r : EReal) := fun s d => H.r0 _
  have h1 : ∀ d, ∃ r : ℝ, x1 (ix1 d) = (r : EReal) := fun d => H.r1 _
  have hG : ∀ s d, ∃ r : ℝ, KvRefs.back x3 x4 x5 s d = (r : EReal) := fun s d => back_real H s d
  choose a ha using h0
  choose γ hγ using h1
  choose G hG using hG
  exact ⟨a, G, γ, ha, hγ, hG⟩

theorem ext2 {n k : Nat} {P Q : (⟨2, ![n, k]⟩ : Shape).Idx → EReal} (h : ∀ (s : Fin n) (d : Fin k), P (ix2 s d) = Q (ix2 s d)) : P = Q := by
  funext p
  have e : p = (ix2 (p 0) (p 1) : (⟨2, ![n, k]⟩ : Shape).Idx) := funext fun q => by fin_cases q <;> rfl
  rw [e]
  exact h (p 0) (p 1)

variable (m : (ℓ : Loc nD τ sig) → Buf (Elt Ideal) ℓ) (c : Dev nD)
variable (H : AllReal (x m c) (res m c) (scale m c) (w m c) (dkv m c))

include H

/-- The gradient of the rows. -/
theorem final10 : (dats m 0 c).arrAt 10 cfg0.N
    = Cert.KReferenceIdeal.Read.val_main_v65 (F := Ideal) (x m c) (scale m c) (w m c) (dkv m c) (res m c) := by
  obtain ⟨a, G, γ, h0, h1, hG⟩ := reals H
  refine ext2 (n := 8192) (k := 1024) fun s d => ?_
  obtain ⟨i, s, rfl⟩ := row_mk s
  exact (arr10_at h0 h1 hG i s d).trans (KvRefs.v65_at h0 h1 hG _ d).symm

/-- The gradient of the rows, cast. -/
theorem final11 : (dats m 0 c).arrAt 11 cfg0.N
    = Cert.KReferenceIdeal.Read.val_main_v66 (F := Ideal) (x m c) (scale m c) (w m c) (dkv m c) (res m c) := by
  obtain ⟨a, G, γ, h0, h1, hG⟩ := reals H
  refine ext2 (n := 8192) (k := 1024) fun s d => ?_
  obtain ⟨i, s, rfl⟩ := row_mk s
  exact (arr11_at h0 h1 hG i s d).trans (KvRefs.v66_at h0 h1 hG _ d).symm

/-- The gradient of the scale. -/
theorem final12 : (dats m 0 c).arrAt 12 cfg0.N
    = Cert.KReferenceIdeal.Read.val_main_v67 (F := Ideal) (x m c) (w m c) (dkv m c) (res m c) := by
  obtain ⟨a, G, γ, h0, h1, hG⟩ := reals H
  have e : (outsAt0 m c (pt 31).val (pt 31).isLt).2.2.1
      = Cert.KReferenceIdeal.Read.val_main_v67 (F := Ideal) (x m c) (w m c) (dkv m c) (res m c) :=
    ext2 (n := 1) (k := 1024) fun s d => by
      rw [Subsingleton.elim s 0]
      exact (sum12 h0 hG d).trans (KvRefs.v67_at h0 hG d).symm
  refine Dat.arrAt_eq_of_after_last _ 12 (pt 31) (by decide +kernel) _ fun j => ?_
  rw [cast_eq, after0_12, e]
  rfl

/-- The gradient of the shift. -/
theorem final13 : (dats m 0 c).arrAt 13 cfg0.N
    = Cert.KReferenceIdeal.Read.val_main_v68 (F := Ideal) (w m c) (dkv m c) (res m c) := by
  obtain ⟨a, G, γ, h0, h1, hG⟩ := reals H
  have e : (outsAt0 m c (pt 31).val (pt 31).isLt).2.2.2
      = Cert.KReferenceIdeal.Read.val_main_v68 (F := Ideal) (w m c) (dkv m c) (res m c) :=
    ext2 (n := 1) (k := 1024) fun s d => by
      rw [Subsingleton.elim s 0]
      exact (sum13 hG d).trans (KvRefs.v68_at hG d).symm
  refine Dat.arrAt_eq_of_after_last _ 13 (pt 31) (by decide +kernel) _ fun j => ?_
  rw [cast_eq, after0_13, e]
  rfl

end Cert.Proof.KvEquation

end
-- ==== Proof.KvClaim.lean ====
/-
  The claims about the backward of the shared keys' and values' product and the layer norm below it: the precondition read, the
  reference's run, and the equation of the two programs.
-/
module

public import proofs.«01_k».proof.Defs
public import proofs.«01_k».proof.Proof.KvEquation
public import proofs.«01_k».proof.Proof.Finite
public import proofs.«01_k».proof.Proof.Gen.KReferenceIdeal.Run
public import Idealize.ShloMosaic.Lib.Quiescent
public import Idealize.ShloMosaic.Adequacy
public import Idealize.ShloMosaic.Init

@[expose] public section

set_option maxRecDepth 16384

noncomputable section

namespace Cert.Proof.KvClaim

open Idealize.ShloMosaic Idealize.SL.Sem Idealize.ShloMosaic.TcCoe

theorem facts : Cert.Pre_finite_kv.Facts where
  bcast_S_S8192x1024 := by decide
  bcast_S_S1024 := by decide
  bcast_S_S1024x6144 := by decide
  bcast_S_S8192x6144 := by decide

open KvArrays in
theorem all_real [Cert.Pre_finite_kv.Facts] (m : (ℓ : Loc Cert.KKernelIdeal.nD Cert.KKernelIdeal.τ Cert.KKernelIdeal.sig) → Buf (Elt Ideal) ℓ)
    (h : Cert.Pre_KKernelIdeal_finite_kv m) (c : Dev Cert.KKernelIdeal.nD) :
    KvEquation.AllReal (x m c) (res m c) (scale m c) (w m c) (dkv m c) where
  r0 := Finite.real_of _ _ (h c).1
  r1 := Finite.real_of _ _ (h c).2.1
  r3 := Finite.real_of _ _ (h c).2.2.2.1
  r4 := Finite.real_of _ _ (h c).2.2.2.2.1
  r5 := Finite.real_of _ _ (h c).2.2.2.2.2

/-- The reference runs and leaves its arguments as they were. -/
theorem frame_reference (m : (ℓ : Loc Cert.KReferenceIdeal.nD Cert.KReferenceIdeal.τ Cert.KReferenceIdeal.sig) → Buf (Elt Ideal) ℓ)
    (ρ : Dev Cert.KReferenceIdeal.nD → PrngReg) :
    θ_run Cert.KReferenceIdeal.defs (onTc (τ := Cert.KReferenceIdeal.τ) (Cert.KReferenceIdeal.main (F := Ideal))) ⟨m, fun _ => 0, ρ⟩ (fun r =>
      (∀ c : Dev Cert.KReferenceIdeal.nD,
        r.2.mem ((c : Thread Cert.KReferenceIdeal.nD Cert.KReferenceIdeal.τ).loc Cert.KReferenceIdeal.main_arg0) = m ((c : Thread Cert.KReferenceIdeal.nD Cert.KReferenceIdeal.τ).loc Cert.KReferenceIdeal.main_arg0)
        ∧ r.2.mem ((c : Thread Cert.KReferenceIdeal.nD Cert.KReferenceIdeal.τ).loc Cert.KReferenceIdeal.main_arg1) = m ((c : Thread Cert.KReferenceIdeal.nD Cert.KReferenceIdeal.τ).loc Cert.KReferenceIdeal.main_arg1)
        ∧ r.2.mem ((c : Thread Cert.KReferenceIdeal.nD Cert.KReferenceIdeal.τ).loc Cert.KReferenceIdeal.main_arg2) = m ((c : Thread Cert.KReferenceIdeal.nD Cert.KReferenceIdeal.τ).loc Cert.KReferenceIdeal.main_arg2)
        ∧ r.2.mem ((c : Thread Cert.KReferenceIdeal.nD Cert.KReferenceIdeal.τ).loc Cert.KReferenceIdeal.main_arg3) = m ((c : Thread Cert.KReferenceIdeal.nD Cert.KReferenceIdeal.τ).loc Cert.KReferenceIdeal.main_arg3)
        ∧ r.2.mem ((c : Thread Cert.KReferenceIdeal.nD Cert.KReferenceIdeal.τ).loc Cert.KReferenceIdeal.main_arg4) = m ((c : Thread Cert.KReferenceIdeal.nD Cert.KReferenceIdeal.τ).loc Cert.KReferenceIdeal.main_arg4)
        ∧ r.2.mem ((c : Thread Cert.KReferenceIdeal.nD Cert.KReferenceIdeal.τ).loc Cert.KReferenceIdeal.main_arg5) = m ((c : Thread Cert.KReferenceIdeal.nD Cert.KReferenceIdeal.τ).loc Cert.KReferenceIdeal.main_arg5))
      ∧ r.2.sem = fun _ => 0) :=
  (θ_run Cert.KReferenceIdeal.defs _ _).mono (fun r h => ⟨fun c => (h c).2.2.2.2, sem_eq_zero_of_no_sems (by decide) r.2⟩)
    (Cert.KReferenceIdeal.Value.run m ρ)

theorem five {A0 A1 A3 A4 A5 B : Type} (f : A0 → A1 → A3 → A4 → A5 → B) {x0 y0 : A0} {x1 y1 : A1} {x3 y3 : A3} {x4 y4 : A4}
    {x5 y5 : A5} (e0 : x0 = y0) (e1 : x1 = y1) (e3 : x3 = y3) (e4 : x4 = y4) (e5 : x5 = y5) :
    f x0 x1 x3 x4 x5 = f y0 y1 y3 y4 y5 := by
  subst e0 e1 e3 e4 e5; rfl

/-- The kernel's four arrays are the reference's, over the reals. -/
theorem equal : Cert.algebraic_KKernelIdeal_KReferenceIdeal_pre_finite_kv (hKKernelIdeal := Cert.KKernelIdeal.Gen.facts)
    (hKReferenceIdeal := Cert.KReferenceIdeal.Gen.facts) (hPre_finite_kv := facts) := by
  intro m ρ m' ρ' hpre agree
  refine ⟨_, _, _, _, Cert.KKernelIdeal.Value.run_blocks m ρ, (θ_run Cert.KReferenceIdeal.defs _ _).mono (fun r h c => ?_) (Cert.KReferenceIdeal.Value.run m' ρ')⟩
  have H := @all_real facts m hpre c
  obtain ⟨h0, h1, h2, h3, hk⟩ := h c
  obtain ⟨a0, a1, _, a3, a4, a5⟩ := agree c
  refine ⟨h0.trans ?_, h1.trans ?_, h2.trans ?_, h3.trans ?_, hk⟩
  · exact ((Cert.KReferenceIdeal.Read.val_main_v65_eq _ _).trans (five _ a0 a1 a3 a4 a5)).trans (KvEquation.final10 m c H).symm
  · exact ((Cert.KReferenceIdeal.Read.val_main_v66_eq _ _).trans (five _ a0 a1 a3 a4 a5)).trans (KvEquation.final11 m c H).symm
  · exact ((Cert.KReferenceIdeal.Read.val_main_v67_eq _ _ _ _).trans
      (five (fun x0 _ => Cert.KReferenceIdeal.Read.val_main_v67 x0) a0 a1 a3 a4 a5)).trans (KvEquation.final12 m c H).symm
  · exact ((Cert.KReferenceIdeal.Read.val_main_v68_eq _ _ _).trans
      (five (fun _ _ => Cert.KReferenceIdeal.Read.val_main_v68) a0 a1 a3 a4 a5)).trans (KvEquation.final13 m c H).symm

end Cert.Proof.KvClaim

end
-- ==== Proof.Weight.lean ====
/-
  The weight gradient of the output product: the kernel walks each tile of rows of the result in eight steps of 1024
  tokens, adding a product in each, so what it leaves is the sum over all 8192 tokens, which is the reference's product.
-/
module

public import proofs.«01_k».proof.Proof.Gen.WKernelIdeal.Value
public import proofs.«01_k».proof.Proof.Gen.WReferenceIdeal.Read
public import Idealize.ShloMosaic.Lib.Pointwise
public import Idealize.ShloMosaic.Lib.Pipeline.ValueKit.Acc
public import Idealize.ShloMosaic.Lib.Pipeline.ReadBack
public import Idealize.ShloMosaic.Lib.StableHlo.RunRead

@[expose] public section

set_option maxRecDepth 16384

noncomputable section

namespace Cert.Proof.Weight

open Cert.WKernelIdeal Cert.WKernelIdeal.Gen Idealize.ShloMosaic Idealize.ShloMosaic.TcCoe Idealize.SL.Sem Idealize.ShloMosaic.StableHlo
open Idealize.ShloMosaic.Pipeline (Dat)

/-- The product of one step: 1024 tokens of the two arrays contracted. -/
def part (x : Vec Ideal S1024x1408 .bf16) (y : Vec Ideal S1024x1024 .bf16) (p : S1408x1024.Idx) : EReal :=
  ∑ k : Fin 1024, x (ix2 k (p 0)) * y (ix2 k (p 1))

theorem pay2_at (acc : Vec Ideal S1408x1024 .f32) (x : Vec Ideal S1024x1408 .bf16) (y : Vec Ideal S1024x1024 .bf16)
    (i : Fin 1408) (j : Fin 1024) : k0_pay2 acc x y (ix2 i j) = acc (ix2 i j) + part x y (ix2 i j) := by
  unfold part
  pointwise [k0_pay2]

theorem pay2_eq (acc : Vec Ideal S1408x1024 .f32) (x : Vec Ideal S1024x1408 .bf16) (y : Vec Ideal S1024x1024 .bf16)
    (p : S1408x1024.Idx) : k0_pay2 acc x y p = acc p + part x y p := by
  have e : p = ix2 (p 0) (p 1) := funext fun a => by fin_cases a <;> rfl
  rw [e]
  exact pay2_at acc x y (p 0) (p 1)

theorem pay1_eq (p : S1408x1024.Idx) : k0_pay1 (F := Ideal) p = 0 := by
  have e : p = ix2 (p 0) (p 1) := funext fun a => by fin_cases a <;> rfl
  rw [e]
  pointwise [k0_pay1]

variable (m : (ℓ : Loc nD τ sig) → Buf (Elt Ideal) ℓ) (c : Dev nD)

/-- The running sum after the last step of a tile. -/
theorem sum_at (t : Fin cfg0.N) (hr : t.val % 8 = 7) (p : S1408x1024.Idx) :
    (outsAt0 m c t.val t.isLt).2 p
      = 0 + ∑ s : Fin 8, part (iblk m c 0 ⟨8 * (t.val / 8) + s.val, Pipeline.run_point_lt_of_flush t hr s⟩)
          (iblk m c 1 ⟨8 * (t.val / 8) + s.val, Pipeline.run_point_lt_of_flush t hr s⟩) p := by
  refine Pipeline.eq_sum_fin_of_reset_step_apply_of_flush (fun n h => (outsAt0 m c n h).2) 8 (fun _ => (0 : EReal))
    (fun t => part (iblk m c 0 t) (iblk m c 1 t)) (fun t h i => ?_) (fun t h i => ?_) t hr p
  · rw [outsAt0_A m c t h (by omega)]
    frame_out
    rw [pay2_eq, pay1_eq]
  · by_cases h1 : t.val % 8 = 7
    · rw [outsAt0_C m c t h h1]
      frame_out
      rw [pay2_eq, read_unread_whole]
    · rw [outsAt0_B m c t h h1]
      frame_out
      rw [pay2_eq, read_unread_whole]

/-- What a tile's last step writes is its running sum. -/
theorem out_at (t : Fin cfg0.N) (hr : t.val % 8 = 7) (p : S1408x1024.Idx) :
    (outsAt0 m c t.val t.isLt).1 p = (outsAt0 m c t.val t.isLt).2 p := by
  rw [outsAt0_C m c t (by omega) hr]
  frame_out
  rfl

/-- The grid point of tile `a` and step `s`. -/
def pt (a : Fin 2) (s : Fin 8) : Fin cfg0.N := ⟨8 * a.val + s.val, by have h : cfg0.N = 16 := N_0; omega⟩

theorem idx_all : ∀ a : Fin 2, ∀ s : Fin 8,
    win0_0.index (pt a s) = ![s.val, a.val] ∧ win0_1.index (pt a s) = ![s.val, 0] ∧ win0_2.index (pt a s) = ![a.val, 0] := by
  decide +kernel

/-- The token `k` of step `s`, and the row `i` of tile `a`. -/
def tok (s : Fin 8) (k : Fin 1024) : Fin 8192 := ⟨s.val * 1024 + k.val, by omega⟩
def row (a : Fin 2) (i : Fin 1408) : Fin 2816 := ⟨a.val * 1408 + i.val, by omega⟩

theorem blk0_at (a : Fin 2) (s : Fin 8) (k : Fin 1024) (i : Fin 1408) : iblk m c 0 (pt a s) (ix2 k i) = V m c main_v0 (ix2 (tok s k) (row a i)) := by
  unfold iblk
  rw [View.read_apply, cast_eq]
  refine congrArg _ (funext fun q => Fin.ext ?_)
  have h := (idx_all a s).1
  match q with
  | ⟨0, _⟩ =>
    show win0_0.index (pt a s) 0 * 1024 + 1 * k.val = _
    rw [h]; show s.val * 1024 + 1 * k.val = s.val * 1024 + k.val; omega
  | ⟨1, _⟩ =>
    show win0_0.index (pt a s) 1 * 1408 + 1 * i.val = _
    rw [h]; show a.val * 1408 + 1 * i.val = a.val * 1408 + i.val; omega

theorem blk1_at (a : Fin 2) (s : Fin 8) (k j : Fin 1024) : iblk m c 1 (pt a s) (ix2 k j) = V m c main_v1 (ix2 (tok s k) j) := by
  unfold iblk
  rw [View.read_apply, cast_eq]
  refine congrArg _ (funext fun q => Fin.ext ?_)
  have h := (idx_all a s).2.1
  match q with
  | ⟨0, _⟩ =>
    show win0_1.index (pt a s) 0 * 1024 + 1 * k.val = _
    rw [h]; show s.val * 1024 + 1 * k.val = s.val * 1024 + k.val; omega
  | ⟨1, _⟩ =>
    show win0_1.index (pt a s) 1 * 1024 + 1 * j.val = _
    rw [h]; show 0 * 1024 + 1 * j.val = j.val; omega

/-- The three arguments as the device holds them. -/
abbrev x : Vec Ideal S8192x2816 .f32 := m ((c : Thread nD τ).loc main_arg0)
abbrev ct : Vec Ideal S8192x1024 .f32 := m ((c : Thread nD τ).loc main_arg2)

theorem V_x : V m c main_v0 = (truncf (F := Ideal) .bf16 (x m c) bitsLt_bf16_f32 : Vec Ideal S8192x2816 .bf16) := by
  unfold V
  after_reads_simp

theorem V_ct : V m c main_v1 = (truncf (F := Ideal) .bf16 (ct m c) bitsLt_bf16_f32 : Vec Ideal S8192x1024 .bf16) := by
  unfold V
  after_reads_simp

theorem part_at (a : Fin 2) (s : Fin 8) (i : Fin 1408) (j : Fin 1024) :
    part (iblk m c 0 (pt a s)) (iblk m c 1 (pt a s)) (ix2 i j) = ∑ k : Fin 1024, x m c (ix2 (tok s k) (row a i)) * ct m c (ix2 (tok s k) j) := by
  refine Finset.sum_congr rfl fun k _ => ?_
  refine congrArg₂ (· * ·) ((blk0_at m c a s k i).trans ?_) ((blk1_at m c a s k j).trans ?_)
  · rw [V_x]; rfl
  · rw [V_ct]; rfl

/-- The array the kernel leaves, element by element. -/
theorem arr_at (a : Fin 2) (i : Fin 1408) (j : Fin 1024) :
    Value.G2 m c (ix2 (row a i) j) = ∑ k : Fin 8192, x m c (ix2 k (row a i)) * ct m c (ix2 k j) := by
  have hr : (pt a 7).val % 8 = 7 := by show (8 * a.val + 7) % 8 = 7; omega
  have h := congrFun (Value.flushed2_eq m c (pt a 7) ((flush0_2 _).mpr hr)) (ix2 i j)
  rw [Value.flushed2, View.read_apply, cast_eq] at h
  have h' : Value.G2 m c (ix2 (row a i) j) = (outsAt0 m c (pt a 7).val (pt a 7).isLt).1 (ix2 i j) := by
    refine Eq.trans (congrArg _ (funext fun q => Fin.ext ?_)) h.symm
    have h := (idx_all a 7).2.2
    match q with
    | ⟨0, _⟩ =>
      show _ = win0_2.index (pt a 7) 0 * 1408 + 1 * i.val
      rw [h]; show a.val * 1408 + i.val = a.val * 1408 + 1 * i.val; omega
    | ⟨1, _⟩ =>
      show _ = win0_2.index (pt a 7) 1 * 1024 + 1 * j.val
      rw [h]; show j.val = 0 * 1024 + 1 * j.val; omega
  rw [h', out_at m c _ hr, sum_at m c _ hr, zero_add]
  have e : ∀ s : Fin 8, (⟨8 * ((pt a 7).val / 8) + s.val, Pipeline.run_point_lt_of_flush (pt a 7) hr s⟩ : Fin cfg0.N) = pt a s :=
    fun s => Fin.ext (by show 8 * ((8 * a.val + 7) / 8) + s.val = 8 * a.val + s.val; omega)
  refine (Finset.sum_congr rfl fun s _ =>
    (congrArg (fun t => part (iblk m c 0 t) (iblk m c 1 t) (ix2 i j)) (e s)).trans (part_at m c a s i j)).trans ?_
  exact Fin.sum_mul_add_fin 8 1024 (fun k : Fin 8192 => x m c (ix2 k (row a i)) * ct m c (ix2 k j))

theorem row_mk (r : Fin 2816) : ∃ (a : Fin 2) (i : Fin 1408), r = row a i :=
  ⟨⟨r.val / 1408, by omega⟩, ⟨r.val % 1408, by omega⟩, Fin.ext (by show r.val = r.val / 1408 * 1408 + r.val % 1408; omega)⟩

theorem ref_at (x : Vec Ideal S8192x2816 .f32) (ct : Vec Ideal S8192x1024 .f32) (r : Fin 2816) (j : Fin 1024) :
    Cert.WReferenceIdeal.Read.val_main_v3 (F := Ideal) x ct (ix2 r j) = ∑ k : Fin 8192, x (ix2 k r) * ct (ix2 k j) := by
  pointwise [Cert.WReferenceIdeal.Read.val_main_v3, Cert.WReferenceIdeal.Read.val_main_v2, Cert.WReferenceIdeal.Read.val_main_v1]
  exact Finset.sum_congr rfl fun k _ => mul_comm _ _

theorem final_at (r : Fin 2816) (j : Fin 1024) :
    Value.G2 m c (ix2 r j) = Cert.WReferenceIdeal.Read.val_main_v3 (F := Ideal) (x m c) (ct m c) (ix2 r j) := by
  obtain ⟨a, i, rfl⟩ := row_mk r
  exact (arr_at m c a i j).trans (ref_at _ _ _ _).symm

/-- The kernel's result is the reference's. -/
theorem final : Value.G2 m c = Cert.WReferenceIdeal.Read.val_main_v3 (F := Ideal) (x m c) (ct m c) := by
  funext p
  have e : p = (ix2 (p 0) (p 1) : S2816x1024.Idx) := funext fun q => by fin_cases q <;> rfl
  rw [e]
  exact final_at m c (p 0) (p 1)

end Cert.Proof.Weight

end
-- ==== Proof.WeightClaim.lean ====
/-
  The claims about the gradient of a weight: the reference's run, and the equation of the two programs.
-/
module

public import proofs.«01_k».proof.Defs
public import proofs.«01_k».proof.Proof.Weight
public import proofs.«01_k».proof.Proof.Gen.WReferenceIdeal.Run
public import Idealize.ShloMosaic.Lib.Quiescent
public import Idealize.ShloMosaic.Adequacy
public import Idealize.ShloMosaic.Init

@[expose] public section

set_option maxRecDepth 16384

noncomputable section

namespace Cert.Proof.WeightClaim

open Idealize.ShloMosaic Idealize.SL.Sem Idealize.ShloMosaic.TcCoe

/-- The reference runs and leaves its arguments as they were. -/
theorem frame_reference (m : (ℓ : Loc Cert.WReferenceIdeal.nD Cert.WReferenceIdeal.τ Cert.WReferenceIdeal.sig) → Buf (Elt Ideal) ℓ)
    (ρ : Dev Cert.WReferenceIdeal.nD → PrngReg) :
    θ_run Cert.WReferenceIdeal.defs (onTc (τ := Cert.WReferenceIdeal.τ) (Cert.WReferenceIdeal.main (F := Ideal))) ⟨m, fun _ => 0, ρ⟩ (fun r =>
      (∀ c : Dev Cert.WReferenceIdeal.nD,
        r.2.mem ((c : Thread Cert.WReferenceIdeal.nD Cert.WReferenceIdeal.τ).loc Cert.WReferenceIdeal.main_arg0) = m ((c : Thread Cert.WReferenceIdeal.nD Cert.WReferenceIdeal.τ).loc Cert.WReferenceIdeal.main_arg0)
        ∧ r.2.mem ((c : Thread Cert.WReferenceIdeal.nD Cert.WReferenceIdeal.τ).loc Cert.WReferenceIdeal.main_arg1) = m ((c : Thread Cert.WReferenceIdeal.nD Cert.WReferenceIdeal.τ).loc Cert.WReferenceIdeal.main_arg1)
        ∧ r.2.mem ((c : Thread Cert.WReferenceIdeal.nD Cert.WReferenceIdeal.τ).loc Cert.WReferenceIdeal.main_arg2) = m ((c : Thread Cert.WReferenceIdeal.nD Cert.WReferenceIdeal.τ).loc Cert.WReferenceIdeal.main_arg2))
      ∧ r.2.sem = fun _ => 0) :=
  (θ_run Cert.WReferenceIdeal.defs _ _).mono (fun r h => ⟨fun c => (h c).2, sem_eq_zero_of_no_sems (by decide) r.2⟩)
    (Cert.WReferenceIdeal.Value.run m ρ)

/-- The kernel's array is the reference's, over the reals. -/
theorem equal : Cert.algebraic_WKernelIdeal_WReferenceIdeal (hWKernelIdeal := Cert.WKernelIdeal.Gen.facts)
    (hWReferenceIdeal := Cert.WReferenceIdeal.Gen.facts) := by
  intro m ρ m' ρ' _ agree
  refine ⟨_, Cert.WKernelIdeal.Value.run m ρ, (θ_run Cert.WReferenceIdeal.defs _ _).mono (fun r h c => ?_) (Cert.WReferenceIdeal.Value.run m' ρ')⟩
  obtain ⟨h0, hk⟩ := h c
  obtain ⟨a0, _, a2⟩ := agree c
  exact ⟨h0.trans (((Cert.WReferenceIdeal.Read.val_main_v3_eq _ _).trans (congrArg₂ Cert.WReferenceIdeal.Read.val_main_v3 a0 a2)).trans (Weight.final m c).symm), hk⟩

end Cert.Proof.WeightClaim

end
-- ==== Proof.NormRefs.lean ====
/-
  The reference's arrays, element by element, when its arguments are reals.
-/
module

public import proofs.«01_k».proof.Proof.Gen.NReferenceIdeal.Read
public import proofs.«01_k».proof.Proof.NormSpec
public import Idealize.ShloMosaic.Lib.Pointwise

@[expose] public section

set_option maxRecDepth 16384

noncomputable section

namespace Cert.Proof.NormRefs

open Cert.NReferenceIdeal Idealize.ShloMosaic Idealize.ShloMosaic.TcCoe Cert.NReferenceIdeal.Read Cert.Proof.NormSpec Cert.Proof.Sums

/-- The gradient that reaches the normalised rows: the residual's and the two products'. -/
def back (x3 x4 : Vec Ideal S1024x2816 .f32) (x5 x6 : Vec Ideal S8192x2816 .f32) (x7 : Vec Ideal S8192x1024 .f32) (s : Fin 8192) (d : Fin 1024) : EReal :=
  Ideal.ofBits .f32 0x3FD744FD#32 * x7 (ix2 s d) + (∑ f : Fin 2816, x6 (ix2 s f) * x4 (ix2 d f)) + ∑ f : Fin 2816, x5 (ix2 s f) * x3 (ix2 d f)

variable (x0 x7 : Vec Ideal S8192x1024 .f32) (x1 : Vec Ideal S1024 .f32) (x3 x4 : Vec Ideal S1024x2816 .f32) (x5 x6 : Vec Ideal S8192x2816 .f32)

theorem v38_at (s : Fin 8192) (d : Fin 1024) : val_main_v38 (F := Ideal) x3 x4 x5 x6 x7 (ix2 s d) = back x3 x4 x5 x6 x7 s d := by
  unfold back
  pointwise [val_main_v38, val_main_v37, val_main_v36, val_main_v35, val_main_v34, val_main_v33, val_main_cst_7]

variable {x0 x1 x3 x4 x5 x6 x7} {a G : Fin 8192 → Fin 1024 → ℝ} {γ : Fin 1024 → ℝ}
variable (h0 : ∀ s d, x0 (ix2 s d) = ((a s d : ℝ) : EReal)) (h1 : ∀ d, x1 (ix1 d) = ((γ d : ℝ) : EReal))
  (hG : ∀ s d, back x3 x4 x5 x6 x7 s d = ((G s d : ℝ) : EReal))

include h0 in
theorem v3_at (s : Fin 8192) : val_main_v3 (F := Ideal) x0 (ix2 s 0) = ((mean (a s) : ℝ) : EReal) := by
  pointwise [val_main_v3, val_main_v2, val_main_v1, val_main_v0, val_main_cst, val_main_cst_0]
  simp only [h0, coe_sum, width_coe]
  exact div_real (by norm_num)

include h0 in
theorem v5_at (s : Fin 8192) (d : Fin 1024) : val_main_v5 (F := Ideal) x0 (ix2 s d) = ((cen (a s) d : ℝ) : EReal) := by
  pointwise [val_main_v5, val_main_v4]
  rw [v3_at h0, h0]
  exact (EReal.coe_sub _ _).symm

include h0 in
theorem v14_at (s : Fin 8192) (d : Fin 1024) : val_main_v14 (F := Ideal) x0 (ix2 s d) = ((cen (a s) d : ℝ) : EReal) := v5_at h0 s d

include h0 in
theorem v16_at (s : Fin 8192) : val_main_v16 (F := Ideal) x0 (ix2 s 0) = ((var (a s) : ℝ) : EReal) := by
  pointwise [val_main_v16, val_main_v15, val_main_v12, val_main_v11, val_main_v10, val_main_v9, val_main_v6, val_main_cst_2, val_main_cst_3, val_main_cst_4]
  simp only [v5_at h0, ← EReal.coe_mul, coe_sum, width_coe, eps_coe]
  rw [div_real (by norm_num)]
  exact (EReal.coe_add _ _).symm

include h0 in
theorem v17_at (s : Fin 8192) : val_main_v17 (F := Ideal) x0 (ix2 s 0) = ((root (a s) : ℝ) : EReal) := by
  pointwise [val_main_v17]
  rw [v16_at h0]
  exact rsqrt_var _

include h0 in
theorem v20_at (s : Fin 8192) : val_main_v20 (F := Ideal) x0 (ix2 s 0) = ((-(1 / 2) * (root (a s) / var (a s)) : ℝ) : EReal) := by
  pointwise [val_main_v20, val_main_v19, val_main_v18, val_main_cst_5]
  rw [v16_at h0, v17_at h0, div_real (var_pos _).ne', half_coe]
  exact (EReal.coe_mul _ _).symm

include h0 in
theorem v22_at (s : Fin 8192) (d : Fin 1024) : val_main_v22 (F := Ideal) x0 (ix2 s d) = ((unit (a s) d : ℝ) : EReal) := by
  pointwise [val_main_v22, val_main_v21]
  rw [v14_at h0, v17_at h0]
  exact (EReal.coe_mul _ _).symm

include h1 hG in
theorem v46_at (s : Fin 8192) (d : Fin 1024) : val_main_v46 (F := Ideal) x1 x3 x4 x5 x6 x7 (ix2 s d) = ((G s d * γ d : ℝ) : EReal) := by
  pointwise [val_main_v46, val_main_v45, val_main_v23]
  rw [v38_at, hG, h1]
  exact (EReal.coe_mul _ _).symm

include h0 h1 hG in
theorem v59_at (s : Fin 8192) : val_main_v59 (F := Ideal) x0 x1 x3 x4 x5 x6 x7 (ix1 s) = ((slope (a s) (fun d => G s d * γ d) : ℝ) : EReal) := by
  pointwise [val_main_v59, val_main_v58, val_main_v57, val_main_v53, val_main_v50, val_main_v49, val_main_v48, val_main_cst_12, val_main_cst_14, val_main_cst_15]
  rw [Fin.sum_univ_one]
  simp only [v14_at h0, v46_at h1 hG, v20_at h0, ← EReal.coe_mul, coe_sum, width_coe]
  rw [div_real (by norm_num)]
  rfl

include h0 in
theorem v8_at (s : Fin 8192) (d : Fin 1024) : val_main_v8 (F := Ideal) x0 (ix2 s d) = ((2 * cen (a s) d : ℝ) : EReal) := by
  pointwise [val_main_v8, val_main_v7, val_main_cst_1]
  rw [v5_at h0, two_coe]
  exact (EReal.coe_mul _ _).symm

include h0 h1 hG in
theorem v61_at (s : Fin 8192) (d : Fin 1024) : val_main_v61 (F := Ideal) x0 x1 x3 x4 x5 x6 x7 (ix2 s d)
    = ((slope (a s) (fun d => G s d * γ d) * (2 * cen (a s) d) : ℝ) : EReal) := by
  pointwise [val_main_v61, val_main_v60]
  rw [v59_at h0 h1 hG, v8_at h0]
  exact (EReal.coe_mul _ _).symm

include h0 h1 hG in
theorem v52_at (s : Fin 8192) (d : Fin 1024) : val_main_v52 (F := Ideal) x0 x1 x3 x4 x5 x6 x7 (ix2 s d)
    = ((G s d * γ d * root (a s) : ℝ) : EReal) := by
  pointwise [val_main_v52, val_main_v51]
  rw [v46_at h1 hG, v17_at h0]
  exact (EReal.coe_mul _ _).symm

include h0 h1 hG in
theorem v69_at (s : Fin 8192) : val_main_v69 (F := Ideal) x0 x1 x3 x4 x5 x6 x7 (ix1 s)
    = (((∑ e, -(G s e * γ e * root (a s)) + ∑ e, -(slope (a s) (fun d => G s d * γ d) * (2 * cen (a s) e))) / 1024 : ℝ) : EReal) := by
  pointwise [val_main_v69, val_main_v68, val_main_v67, val_main_v66, val_main_v64, val_main_v63, val_main_v62, val_main_v56, val_main_v55, val_main_v54,
    val_main_cst_13, val_main_cst_16, val_main_cst_17, val_main_cst_18]
  rw [Fin.sum_univ_one]
  simp only [v61_at h0 h1 hG, v52_at h0 h1 hG, ← EReal.coe_neg, coe_sum, width_coe, ← EReal.coe_add]
  exact div_real (by norm_num)

include h0 h1 hG in
/-- The rows' gradient. -/
theorem v71_at (s : Fin 8192) (d : Fin 1024) : val_main_v71 (F := Ideal) x0 x1 x3 x4 x5 x6 x7 (ix2 s d)
    = ((closed (a s) (fun d => G s d * γ d) d : ℝ) : EReal) := by
  rw [← chain_eq]
  pointwise [val_main_v71, val_main_v70, val_main_v65]
  rw [v69_at h0 h1 hG, v61_at h0 h1 hG, v52_at h0 h1 hG, ← EReal.coe_add, ← EReal.coe_add]
  rfl

include h0 h1 hG in
theorem v72_at (s : Fin 8192) (d : Fin 1024) : val_main_v72 (F := Ideal) x0 x1 x3 x4 x5 x6 x7 (ix2 s d)
    = ((closed (a s) (fun d => G s d * γ d) d : ℝ) : EReal) := v71_at h0 h1 hG s d

include h0 hG in
/-- The scale's gradient. -/
theorem v73_at (d : Fin 1024) : val_main_v73 (F := Ideal) x0 x3 x4 x5 x6 x7 (ix2 0 d) = ((∑ s, G s d * unit (a s) d : ℝ) : EReal) := by
  pointwise [val_main_v73, val_main_v47, val_main_v44, val_main_v43, val_main_v42, val_main_cst_10, val_main_cst_11]
  simp only [v22_at h0, v38_at, hG, ← EReal.coe_mul, coe_sum, Fin.sum_univ_one, mul_comm]

include hG in
/-- The shift's gradient. -/
theorem v74_at (d : Fin 1024) : val_main_v74 (F := Ideal) x3 x4 x5 x6 x7 (ix2 0 d) = ((∑ s, G s d : ℝ) : EReal) := by
  pointwise [val_main_v74, val_main_v41, val_main_v40, val_main_v39, val_main_cst_8, val_main_cst_9]
  simp only [v38_at, hG, coe_sum, Fin.sum_univ_one]

end Cert.Proof.NormRefs

end
-- ==== Proof.NormArrays.lean ====
/-
  The kernel's four arrays when its arguments are reals: each of the 32 grid points writes 256 rows of the gradient, and
  the gradients of the scale and the shift gather the points' terms.
-/
module

public import proofs.«01_k».proof.Proof.Gen.NKernelIdeal.Value
public import proofs.«01_k».proof.Proof.NormBlock
public import proofs.«01_k».proof.Proof.NormRefs
public import Idealize.ShloMosaic.Lib.Pipeline.ValueKit.Acc
public import Idealize.ShloMosaic.Lib.Pipeline.ValueKit.Geometry
public import Idealize.ShloMosaic.Lib.Pipeline.ReadBack
public import Idealize.ShloMosaic.Lib.StableHlo.RunRead

@[expose] public section

set_option maxRecDepth 16384

noncomputable section

namespace Cert.Proof.NormArrays

open Cert.NKernelIdeal Cert.NKernelIdeal.Gen Idealize.ShloMosaic Idealize.ShloMosaic.TcCoe Idealize.SL.Sem Idealize.ShloMosaic.StableHlo
open Idealize.ShloMosaic.Pipeline (Dat)
open Cert.Proof.NormSpec Cert.Proof.NormBlock

variable (m : (ℓ : Loc nD τ sig) → Buf (Elt Ideal) ℓ) (c : Dev nD)

/-- The arguments as the device holds them. -/
abbrev x : Vec Ideal S8192x1024 .f32 := m ((c : Thread nD τ).loc main_arg0)
abbrev scale : Vec Ideal S1024 .f32 := m ((c : Thread nD τ).loc main_arg1)
abbrev wg : Vec Ideal S1024x2816 .f32 := m ((c : Thread nD τ).loc main_arg3)
abbrev wu : Vec Ideal S1024x2816 .f32 := m ((c : Thread nD τ).loc main_arg4)
abbrev dg : Vec Ideal S8192x2816 .f32 := m ((c : Thread nD τ).loc main_arg5)
abbrev du : Vec Ideal S8192x2816 .f32 := m ((c : Thread nD τ).loc main_arg6)
abbrev res : Vec Ideal S8192x1024 .f32 := m ((c : Thread nD τ).loc main_arg7)

theorem V_dg : V m c main_v0 = (truncf (F := Ideal) .bf16 (dg m c) bitsLt_bf16_f32 : Vec Ideal S8192x2816 .bf16) := by
  unfold V
  after_reads_simp

theorem V_du : V m c main_v1 = (truncf (F := Ideal) .bf16 (du m c) bitsLt_bf16_f32 : Vec Ideal S8192x2816 .bf16) := by
  unfold V
  after_reads_simp

theorem V_wg : V m c main_v3 = (truncf (F := Ideal) .bf16 (transpose S2816x1024 [1, 0] (wg m c) transposes_S1024x2816_S2816x1024_1_0) bitsLt_bf16_f32 : Vec Ideal S2816x1024 .bf16) := by
  unfold V
  after_reads_simp

theorem V_wu : V m c main_v5 = (truncf (F := Ideal) .bf16 (transpose S2816x1024 [1, 0] (wu m c) transposes_S1024x2816_S2816x1024_1_0) bitsLt_bf16_f32 : Vec Ideal S2816x1024 .bf16) := by
  unfold V
  after_reads_simp

theorem V_scale : V m c main_v6 = (shapeCast S1x1024 (scale m c) shapeCasts_S1024_S1x1024 : Vec Ideal S1x1024 .f32) := by
  unfold V
  after_reads_simp
  rfl

/-- The grid point of row block `i`. -/
def pt (i : Fin 32) : Fin cfg0.N := ⟨i.val, by have h : cfg0.N = 32 := N_0; omega⟩

theorem idx_all : ∀ i : Fin 32,
    win0_0.index (pt i) = ![i.val, 0] ∧ win0_1.index (pt i) = ![i.val, 0] ∧ win0_2.index (pt i) = ![0, 0] ∧ win0_3.index (pt i) = ![0, 0]
    ∧ win0_4.index (pt i) = ![i.val, 0] ∧ win0_5.index (pt i) = ![i.val, 0] ∧ win0_6.index (pt i) = ![0, 0]
    ∧ win0_7.index (pt i) = ![i.val, 0] ∧ win0_8.index (pt i) = ![i.val, 0] ∧ win0_9.index (pt i) = ![0, 0] ∧ win0_10.index (pt i) = ![0, 0] := by
  decide +kernel

/-- The row `s` of block `i`. -/
def row (i : Fin 32) (s : Fin 256) : Fin 8192 := ⟨i.val * 256 + s.val, by omega⟩

theorem row_mk (r : Fin 8192) : ∃ (i : Fin 32) (s : Fin 256), r = row i s :=
  ⟨⟨r.val / 256, by omega⟩, ⟨r.val % 256, by omega⟩, Fin.ext (by show r.val = r.val / 256 * 256 + r.val % 256; omega)⟩

theorem blk0_at (i : Fin 32) (s : Fin 256) (f : Fin 2816) : iblk m c 0 (pt i) (ix2 s f) = dg m c (ix2 (row i s) f) := by
  refine Eq.trans ?_ (congrFun (V_dg m c) (ix2 (row i s) f))
  unfold iblk
  rw [View.read_apply, cast_eq]
  refine congrArg _ (funext fun q => Fin.ext ?_)
  have h := (idx_all i).1
  match q with
  | ⟨0, _⟩ =>
    show win0_0.index (pt i) 0 * 256 + 1 * s.val = _
    rw [h]; show i.val * 256 + 1 * s.val = i.val * 256 + s.val; omega
  | ⟨1, _⟩ =>
    show win0_0.index (pt i) 1 * 2816 + 1 * f.val = _
    rw [h]; show 0 * 2816 + 1 * f.val = f.val; omega

theorem blk1_at (i : Fin 32) (s : Fin 256) (f : Fin 2816) : iblk m c 1 (pt i) (ix2 s f) = du m c (ix2 (row i s) f) := by
  refine Eq.trans ?_ (congrFun (V_du m c) (ix2 (row i s) f))
  unfold iblk
  rw [View.read_apply, cast_eq]
  refine congrArg _ (funext fun q => Fin.ext ?_)
  have h := (idx_all i).2.1
  match q with
  | ⟨0, _⟩ =>
    show win0_1.index (pt i) 0 * 256 + 1 * s.val = _
    rw [h]; show i.val * 256 + 1 * s.val = i.val * 256 + s.val; omega
  | ⟨1, _⟩ =>
    show win0_1.index (pt i) 1 * 2816 + 1 * f.val = _
    rw [h]; show 0 * 2816 + 1 * f.val = f.val; omega

theorem turned (y : Vec Ideal S1024x2816 .f32) (f : Fin 2816) (d : Fin 1024) :
    (truncf (F := Ideal) .bf16 (transpose S2816x1024 [1, 0] y transposes_S1024x2816_S2816x1024_1_0) bitsLt_bf16_f32 : Vec Ideal S2816x1024 .bf16) (ix2 f d) = y (ix2 d f) := by
  pointwise

theorem blk2_at (i : Fin 32) (f : Fin 2816) (d : Fin 1024) : iblk m c 2 (pt i) (ix2 f d) = wg m c (ix2 d f) := by
  refine Eq.trans ?_ ((congrFun (V_wg m c) (ix2 f d)).trans (turned _ f d))
  unfold iblk
  rw [View.read_apply, cast_eq]
  refine congrArg _ (funext fun q => Fin.ext ?_)
  have h := (idx_all i).2.2.1
  match q with
  | ⟨0, _⟩ =>
    show win0_2.index (pt i) 0 * 2816 + 1 * f.val = _
    rw [h]; show 0 * 2816 + 1 * f.val = f.val; omega
  | ⟨1, _⟩ =>
    show win0_2.index (pt i) 1 * 1024 + 1 * d.val = _
    rw [h]; show 0 * 1024 + 1 * d.val = d.val; omega

theorem blk3_at (i : Fin 32) (f : Fin 2816) (d : Fin 1024) : iblk m c 3 (pt i) (ix2 f d) = wu m c (ix2 d f) := by
  refine Eq.trans ?_ ((congrFun (V_wu m c) (ix2 f d)).trans (turned _ f d))
  unfold iblk
  rw [View.read_apply, cast_eq]
  refine congrArg _ (funext fun q => Fin.ext ?_)
  have h := (idx_all i).2.2.2.1
  match q with
  | ⟨0, _⟩ =>
    show win0_3.index (pt i) 0 * 2816 + 1 * f.val = _
    rw [h]; show 0 * 2816 + 1 * f.val = f.val; omega
  | ⟨1, _⟩ =>
    show win0_3.index (pt i) 1 * 1024 + 1 * d.val = _
    rw [h]; show 0 * 1024 + 1 * d.val = d.val; omega

theorem blk4_at (i : Fin 32) (s : Fin 256) (d : Fin 1024) : iblk m c 4 (pt i) (ix2 s d) = res m c (ix2 (row i s) d) := by
  refine Eq.trans ?_ (congrFun (V_main_arg7 m c) (ix2 (row i s) d))
  unfold iblk
  rw [View.read_apply, cast_eq]
  refine congrArg _ (funext fun q => Fin.ext ?_)
  have h := (idx_all i).2.2.2.2.1
  match q with
  | ⟨0, _⟩ =>
    show win0_4.index (pt i) 0 * 256 + 1 * s.val = _
    rw [h]; show i.val * 256 + 1 * s.val = i.val * 256 + s.val; omega
  | ⟨1, _⟩ =>
    show win0_4.index (pt i) 1 * 1024 + 1 * d.val = _
    rw [h]; show 0 * 1024 + 1 * d.val = d.val; omega

theorem blk5_at (i : Fin 32) (s : Fin 256) (d : Fin 1024) : iblk m c 5 (pt i) (ix2 s d) = x m c (ix2 (row i s) d) := by
  refine Eq.trans ?_ (congrFun (V_main_arg0 m c) (ix2 (row i s) d))
  unfold iblk
  rw [View.read_apply, cast_eq]
  refine congrArg _ (funext fun q => Fin.ext ?_)
  have h := (idx_all i).2.2.2.2.2.1
  match q with
  | ⟨0, _⟩ =>
    show win0_5.index (pt i) 0 * 256 + 1 * s.val = _
    rw [h]; show i.val * 256 + 1 * s.val = i.val * 256 + s.val; omega
  | ⟨1, _⟩ =>
    show win0_5.index (pt i) 1 * 1024 + 1 * d.val = _
    rw [h]; show 0 * 1024 + 1 * d.val = d.val; omega

theorem line (y : Vec Ideal S1024 .f32) (d : Fin 1024) : (shapeCast S1x1024 y shapeCasts_S1024_S1x1024 : Vec Ideal S1x1024 .f32) (ix2 0 d) = y (ix1 d) := by
  pointwise

theorem blk6_at (i : Fin 32) (d : Fin 1024) : iblk m c 6 (pt i) (ix2 0 d) = scale m c (ix1 d) := by
  refine Eq.trans ?_ ((congrFun (V_scale m c) (ix2 0 d)).trans (line _ d))
  unfold iblk
  rw [View.read_apply, cast_eq]
  refine congrArg _ (funext fun q => Fin.ext ?_)
  have h := (idx_all i).2.2.2.2.2.2.1
  match q with
  | ⟨0, _⟩ =>
    show win0_6.index (pt i) 0 * 1 + 1 * (0 : Fin 1).val = _
    rw [h]; rfl
  | ⟨1, _⟩ =>
    show win0_6.index (pt i) 1 * 1024 + 1 * d.val = _
    rw [h]; show 0 * 1024 + 1 * d.val = d.val; omega

/-! ## What the grid points leave -/

/-- The gradient of the normalised rows at a grid point. -/
abbrev grad (t : Fin cfg0.N) : Vec Ideal S256x1024 .f32 := k0_pay3 (iblk m c 4 t) (iblk m c 0 t) (iblk m c 2 t) (iblk m c 1 t) (iblk m c 3 t)

theorem out7_eq (t : Fin cfg0.N) : (outsAt0 m c t.val t.isLt).1
    = k0_pay9 (grad m c t) (k0_pay4 (iblk m c 6 t)) (k0_pay5 (iblk m c 5 t)) (k0_pay6 (iblk m c 5 t)) := by
  by_cases h : t.val % 32 = 0
  · rw [outsAt0_A m c t h]; frame_out
  · rw [outsAt0_B m c t h]; frame_out

theorem out8_eq (t : Fin cfg0.N) : (outsAt0 m c t.val t.isLt).2.1
    = k0_pay10 (grad m c t) (k0_pay4 (iblk m c 6 t)) (k0_pay5 (iblk m c 5 t)) (k0_pay6 (iblk m c 5 t)) := by
  by_cases h : t.val % 32 = 0
  · rw [outsAt0_A m c t h]; frame_out
  · rw [outsAt0_B m c t h]; frame_out

theorem out9_first (t : Fin cfg0.N) (h : t.val % 32 = 0) : (outsAt0 m c t.val t.isLt).2.2.1
    = k0_pay11 (grad m c t) (k0_pay5 (iblk m c 5 t)) (k0_pay6 (iblk m c 5 t)) (k0_pay1 (F := Ideal)) := by
  rw [outsAt0_A m c t h]; frame_out

theorem out9_next (t : Fin cfg0.N) (h : ¬t.val % 32 = 0) : (outsAt0 m c t.val t.isLt).2.2.1
    = k0_pay11 (grad m c t) (k0_pay5 (iblk m c 5 t)) (k0_pay6 (iblk m c 5 t)) (outsAt0 m c (t.val - 1) (Nat.lt_of_le_of_lt (Nat.sub_le _ _) t.isLt)).2.2.1 := by
  rw [outsAt0_B m c t h]; frame_out

theorem out10_first (t : Fin cfg0.N) (h : t.val % 32 = 0) : (outsAt0 m c t.val t.isLt).2.2.2
    = k0_pay12 (F := Ideal) (grad m c t) (k0_pay2 (F := Ideal)) := by
  rw [outsAt0_A m c t h]; frame_out

theorem out10_next (t : Fin cfg0.N) (h : ¬t.val % 32 = 0) : (outsAt0 m c t.val t.isLt).2.2.2
    = k0_pay12 (F := Ideal) (grad m c t) (outsAt0 m c (t.val - 1) (Nat.lt_of_le_of_lt (Nat.sub_le _ _) t.isLt)).2.2.2 := by
  rw [outsAt0_B m c t h]; frame_out

/-! ## Among the reals -/

variable {m c} {a G : Fin 8192 → Fin 1024 → ℝ} {γ : Fin 1024 → ℝ}
variable (h0 : ∀ s d, x m c (ix2 s d) = ((a s d : ℝ) : EReal)) (h1 : ∀ d, scale m c (ix1 d) = ((γ d : ℝ) : EReal))
  (hG : ∀ s d, NormRefs.back (wg m c) (wu m c) (dg m c) (du m c) (res m c) s d = ((G s d : ℝ) : EReal))

include h0 in
theorem bx (i : Fin 32) (s : Fin 256) (d : Fin 1024) : iblk m c 5 (pt i) (ix2 s d) = ((a (row i s) d : ℝ) : EReal) :=
  (blk5_at m c i s d).trans (h0 _ _)

include h1 in
theorem bw (i : Fin 32) (d : Fin 1024) : iblk m c 6 (pt i) (ix2 0 d) = ((γ d : ℝ) : EReal) :=
  (blk6_at m c i d).trans (h1 _)

include hG in
theorem bg (i : Fin 32) (s : Fin 256) (d : Fin 1024) : grad m c (pt i) (ix2 s d) = ((G (row i s) d : ℝ) : EReal) := by
  rw [← hG]
  refine (pay3_at _ _ _ _ _ s d).trans ?_
  unfold NormRefs.back
  rw [add_right_comm]
  refine congrArg₂ (· + ·) (congrArg₂ (· + ·) (congrArg _ (blk4_at m c i s d)) (Finset.sum_congr rfl fun f _ => ?_)) (Finset.sum_congr rfl fun f _ => ?_)
  · exact congrArg₂ (· * ·) (blk1_at m c i s f) (blk3_at m c i f d)
  · exact congrArg₂ (· * ·) (blk0_at m c i s f) (blk2_at m c i f d)

include h0 h1 hG in
theorem arr7_at (i : Fin 32) (s : Fin 256) (d : Fin 1024) : (dats m 0 c).arrAt 7 cfg0.N (ix2 (row i s) d)
    = ((closed (a (row i s)) (fun d => G (row i s) d * γ d) d : ℝ) : EReal) := by
  have h := congrFun (Value.blocks7 m c (pt i) (flush0_7 _)) (ix2 s d)
  rw [Value.flushed7, View.read_apply, cast_eq, out7_eq] at h
  refine (Eq.trans (congrArg _ (funext fun q => Fin.ext ?_)) h).trans (pay9_at (bx h0 i) (bg hG i) (bw h1 i) s d)
  have h := (idx_all i).2.2.2.2.2.2.2.1
  match q with
  | ⟨0, _⟩ =>
    show _ = win0_7.index (pt i) 0 * 256 + 1 * s.val
    rw [h]; show i.val * 256 + s.val = i.val * 256 + 1 * s.val; omega
  | ⟨1, _⟩ =>
    show _ = win0_7.index (pt i) 1 * 1024 + 1 * d.val
    rw [h]; show d.val = 0 * 1024 + 1 * d.val; omega

include h0 h1 hG in
theorem arr8_at (i : Fin 32) (s : Fin 256) (d : Fin 1024) : (dats m 0 c).arrAt 8 cfg0.N (ix2 (row i s) d)
    = ((closed (a (row i s)) (fun d => G (row i s) d * γ d) d : ℝ) : EReal) := by
  have h := congrFun (Value.blocks8 m c (pt i) (flush0_8 _)) (ix2 s d)
  rw [Value.flushed8, View.read_apply, cast_eq, out8_eq] at h
  refine (Eq.trans (congrArg _ (funext fun q => Fin.ext ?_)) h).trans (pay10_at (bx h0 i) (bg hG i) (bw h1 i) s d)
  have h := (idx_all i).2.2.2.2.2.2.2.2.1
  match q with
  | ⟨0, _⟩ =>
    show _ = win0_8.index (pt i) 0 * 256 + 1 * s.val
    rw [h]; show i.val * 256 + s.val = i.val * 256 + 1 * s.val; omega
  | ⟨1, _⟩ =>
    show _ = win0_8.index (pt i) 1 * 1024 + 1 * d.val
    rw [h]; show d.val = 0 * 1024 + 1 * d.val; omega

/-- The point's block of rows. -/
theorem pt_mk (t : Fin cfg0.N) : ∃ i : Fin 32, t = pt i :=
  ⟨⟨t.val, by have h : cfg0.N = 32 := N_0; have := t.isLt; omega⟩, rfl⟩

include h0 hG in
theorem sum9 (d : Fin 1024) : (outsAt0 m c (pt 31).val (pt 31).isLt).2.2.1 (ix2 0 d)
    = ((∑ s, G s d * unit (a s) d : ℝ) : EReal) := by
  have hN : cfg0.N = 32 := N_0
  have h := Pipeline.eq_sum_fin_of_reset_step_last (fun n h => (outsAt0 m c n h).2.2.1 (ix2 0 d)) 32 (0 : EReal)
    (fun t => ((∑ s : Fin 256, G (row ⟨t.val, by omega⟩ s) d * unit (a (row ⟨t.val, by omega⟩ s)) d : ℝ) : EReal))
    (fun t h => by
      obtain ⟨i, rfl⟩ := pt_mk t
      refine (congrFun (out9_first m c _ h) (ix2 0 d)).trans ((pay11_at (bx h0 i) (bg hG i) _ d).trans ?_)
      rw [pay1_at]; rfl)
    (fun t h => by
      obtain ⟨i, rfl⟩ := pt_mk t
      exact (congrFun (out9_next m c _ h) (ix2 0 d)).trans (pay11_at (bx h0 i) (bg hG i) _ d))
    (le_of_eq hN) (pt 31) hN.symm
  refine h.trans ?_
  rw [zero_add, Sums.coe_sum]
  refine congrArg _ ?_
  rw [← Fin.sum_mul_add_fin 32 256 (fun s : Fin 8192 => G s d * unit (a s) d)]
  exact Fintype.sum_equiv (finCongr hN) _ _ fun t => rfl

include hG in
theorem sum10 (d : Fin 1024) : (outsAt0 m c (pt 31).val (pt 31).isLt).2.2.2 (ix2 0 d) = ((∑ s, G s d : ℝ) : EReal) := by
  have hN : cfg0.N = 32 := N_0
  have h := Pipeline.eq_sum_fin_of_reset_step_last (fun n h => (outsAt0 m c n h).2.2.2 (ix2 0 d)) 32 (0 : EReal)
    (fun t => ((∑ s : Fin 256, G (row ⟨t.val, by omega⟩ s) d : ℝ) : EReal))
    (fun t h => by
      obtain ⟨i, rfl⟩ := pt_mk t
      refine (congrFun (out10_first m c _ h) (ix2 0 d)).trans ((pay12_at (bg hG i) _ d).trans ?_)
      rw [pay2_at]; rfl)
    (fun t h => by
      obtain ⟨i, rfl⟩ := pt_mk t
      exact (congrFun (out10_next m c _ h) (ix2 0 d)).trans (pay12_at (bg hG i) _ d))
    (le_of_eq hN) (pt 31) hN.symm
  refine h.trans ?_
  rw [zero_add, Sums.coe_sum]
  refine congrArg _ ?_
  rw [← Fin.sum_mul_add_fin 32 256 (fun s : Fin 8192 => G s d)]
  exact Fintype.sum_equiv (finCongr hN) _ _ fun t => rfl

end Cert.Proof.NormArrays

end
-- ==== Proof.NormEquation.lean ====
/-
  The backward of the input products and the layer norm below them: what the kernel leaves is what the reference gives,
  when every argument holds reals.
-/
module

public import proofs.«01_k».proof.Proof.NormArrays
public import proofs.«01_k».proof.Proof.Reals

@[expose] public section

set_option maxRecDepth 16384

noncomputable section

namespace Cert.Proof.NormEquation

open Cert.NKernelIdeal Cert.NKernelIdeal.Gen Idealize.ShloMosaic Idealize.ShloMosaic.TcCoe Idealize.SL.Sem
open Idealize.ShloMosaic.Pipeline (Dat)
open Cert.Proof.NormSpec Cert.Proof.NormArrays Cert.Proof.Reals

/-- The arguments the results depend on hold reals. -/
structure AllReal (x0 x7 : Vec Ideal S8192x1024 .f32) (x1 : Vec Ideal S1024 .f32) (x3 x4 : Vec Ideal S1024x2816 .f32)
    (x5 x6 : Vec Ideal S8192x2816 .f32) : Prop where
  r0 : ∀ i, IsReal (x0 i)
  r1 : ∀ i, IsReal (x1 i)
  r3 : ∀ i, IsReal (x3 i)
  r4 : ∀ i, IsReal (x4 i)
  r5 : ∀ i, IsReal (x5 i)
  r6 : ∀ i, IsReal (x6 i)
  r7 : ∀ i, IsReal (x7 i)

theorem back_real {x0 x7 : Vec Ideal S8192x1024 .f32} {x1 : Vec Ideal S1024 .f32} {x3 x4 : Vec Ideal S1024x2816 .f32}
    {x5 x6 : Vec Ideal S8192x2816 .f32} (H : AllReal x0 x7 x1 x3 x4 x5 x6) (s : Fin 8192) (d : Fin 1024) :
    IsReal (NormRefs.back x3 x4 x5 x6 x7 s d) :=
  fin_add (fin_add (fin_mul (fin_ofBits (by decide)) (H.r7 _)) (fin_sum _ fun _ => fin_mul (H.r6 _) (H.r4 _)))
    (fin_sum _ fun _ => fin_mul (H.r5 _) (H.r3 _))

/-- The real arrays behind the arguments. -/
theorem reals {x0 x7 : Vec Ideal S8192x1024 .f32} {x1 : Vec Ideal S1024 .f32} {x3 x4 : Vec Ideal S1024x2816 .f32}
    {x5 x6 : Vec Ideal S8192x2816 .f32} (H : AllReal x0 x7 x1 x3 x4 x5 x6) :
    ∃ (a G : Fin 8192 → Fin 1024 → ℝ) (γ : Fin 1024 → ℝ), (∀ s d, x0 (ix2 s d) = ((a s d : ℝ) : EReal))
      ∧ (∀ d, x1 (ix1 d) = ((γ d : ℝ) : EReal)) ∧ ∀ s d, NormRefs.back x3 x4 x5 x6 x7 s d = ((G s d : ℝ) : EReal) := by
  have h0 : ∀ s d, ∃ r : ℝ, x0 (ix2 s d) = (r : EReal) := fun s d => H.r0 _
  have h1 : ∀ d, ∃ r : ℝ, x1 (ix1 d) = (r : EReal) := fun d => H.r1 _
  have hG : ∀ s d, ∃ r : ℝ, NormRefs.back x3 x4 x5 x6 x7 s d = (r : EReal) := fun s d => back_real H s d
  choose a ha using h0
  choose γ hγ using h1
  choose G hG using hG
  exact ⟨a, G, γ, ha, hγ, hG⟩

theorem ext2 {n k : Nat} {P Q : (⟨2, ![n, k]⟩ : Shape).Idx → EReal} (h : ∀ (s : Fin n) (d : Fin k), P (ix2 s d) = Q (ix2 s d)) : P = Q := by
  funext p
  have e : p = (ix2 (p 0) (p 1) : (⟨2, ![n, k]⟩ : Shape).Idx) := funext fun q => by fin_cases q <;> rfl
  rw [e]
  exact h (p 0) (p 1)

variable (m : (ℓ : Loc nD τ sig) → Buf (Elt Ideal) ℓ) (c : Dev nD)
variable (H : AllReal (x m c) (res m c) (scale m c) (wg m c) (wu m c) (dg m c) (du m c))

include H

/-- The gradient of the rows. -/
theorem final7 : (dats m 0 c).arrAt 7 cfg0.N
    = Cert.NReferenceIdeal.Read.val_main_v71 (F := Ideal) (x m c) (scale m c) (wg m c) (wu m c) (dg m c) (du m c) (res m c) := by
  obtain ⟨a, G, γ, h0, h1, hG⟩ := reals H
  refine ext2 (n := 8192) (k := 1024) fun s d => ?_
  obtain ⟨i, s, rfl⟩ := row_mk s
  exact (arr7_at h0 h1 hG i s d).trans (NormRefs.v71_at h0 h1 hG _ d).symm

/-- The gradient of the rows, cast. -/
theorem final8 : (dats m 0 c).arrAt 8 cfg0.N
    = Cert.NReferenceIdeal.Read.val_main_v72 (F := Ideal) (x m c) (scale m c) (wg m c) (wu m c) (dg m c) (du m c) (res m c) := by
  obtain ⟨a, G, γ, h0, h1, hG⟩ := reals H
  refine ext2 (n := 8192) (k := 1024) fun s d => ?_
  obtain ⟨i, s, rfl⟩ := row_mk s
  exact (arr8_at h0 h1 hG i s d).trans (NormRefs.v72_at h0 h1 hG _ d).symm

/-- The gradient of the scale. -/
theorem final9 : (dats m 0 c).arrAt 9 cfg0.N
    = Cert.NReferenceIdeal.Read.val_main_v73 (F := Ideal) (x m c) (wg m c) (wu m c) (dg m c) (du m c) (res m c) := by
  obtain ⟨a, G, γ, h0, h1, hG⟩ := reals H
  have e : (outsAt0 m c (pt 31).val (pt 31).isLt).2.2.1
      = Cert.NReferenceIdeal.Read.val_main_v73 (F := Ideal) (x m c) (wg m c) (wu m c) (dg m c) (du m c) (res m c) :=
    ext2 (n := 1) (k := 1024) fun s d => by
      rw [Subsingleton.elim s 0]
      exact (sum9 h0 hG d).trans (NormRefs.v73_at h0 hG d).symm
  refine Dat.arrAt_eq_of_after_last _ 9 (pt 31) (by decide +kernel) _ fun j => ?_
  rw [cast_eq, after0_9, e]
  rfl

/-- The gradient of the shift. -/
theorem final10 : (dats m 0 c).arrAt 10 cfg0.N
    = Cert.NReferenceIdeal.Read.val_main_v74 (F := Ideal) (wg m c) (wu m c) (dg m c) (du m c) (res m c) := by
  obtain ⟨a, G, γ, h0, h1, hG⟩ := reals H
  have e : (outsAt0 m c (pt 31).val (pt 31).isLt).2.2.2
      = Cert.NReferenceIdeal.Read.val_main_v74 (F := Ideal) (wg m c) (wu m c) (dg m c) (du m c) (res m c) :=
    ext2 (n := 1) (k := 1024) fun s d => by
      rw [Subsingleton.elim s 0]
      exact (sum10 hG d).trans (NormRefs.v74_at hG d).symm
  refine Dat.arrAt_eq_of_after_last _ 10 (pt 31) (by decide +kernel) _ fun j => ?_
  rw [cast_eq, after0_10, e]
  rfl

end Cert.Proof.NormEquation

end
-- ==== Proof.NormClaim.lean ====
/-
  The claims about the backward of the input products and the layer norm below them: the precondition read, the
  reference's run, and the equation of the two programs.
-/
module

public import proofs.«01_k».proof.Defs
public import proofs.«01_k».proof.Proof.NormEquation
public import proofs.«01_k».proof.Proof.Finite
public import proofs.«01_k».proof.Proof.Gen.NReferenceIdeal.Run
public import Idealize.ShloMosaic.Lib.Quiescent
public import Idealize.ShloMosaic.Adequacy
public import Idealize.ShloMosaic.Init

@[expose] public section

set_option maxRecDepth 16384

noncomputable section

namespace Cert.Proof.NormClaim

open Idealize.ShloMosaic Idealize.SL.Sem Idealize.ShloMosaic.TcCoe

theorem facts : Cert.Pre_finite_norm.Facts where
  bcast_S_S8192x1024 := by decide
  bcast_S_S1024 := by decide
  bcast_S_S1024x2816 := by decide
  bcast_S_S8192x2816 := by decide

open NormArrays in
theorem all_real [Cert.Pre_finite_norm.Facts] (m : (ℓ : Loc Cert.NKernelIdeal.nD Cert.NKernelIdeal.τ Cert.NKernelIdeal.sig) → Buf (Elt Ideal) ℓ)
    (h : Cert.Pre_NKernelIdeal_finite_norm m) (c : Dev Cert.NKernelIdeal.nD) :
    NormEquation.AllReal (x m c) (res m c) (scale m c) (wg m c) (wu m c) (dg m c) (du m c) where
  r0 := Finite.real_of _ _ (h c).1
  r1 := Finite.real_of _ _ (h c).2.1
  r3 := Finite.real_of _ _ (h c).2.2.2.1
  r4 := Finite.real_of _ _ (h c).2.2.2.2.1
  r5 := Finite.real_of _ _ (h c).2.2.2.2.2.1
  r6 := Finite.real_of _ _ (h c).2.2.2.2.2.2.1
  r7 := Finite.real_of _ _ (h c).2.2.2.2.2.2.2

/-- The reference runs and leaves its arguments as they were. -/
theorem frame_reference (m : (ℓ : Loc Cert.NReferenceIdeal.nD Cert.NReferenceIdeal.τ Cert.NReferenceIdeal.sig) → Buf (Elt Ideal) ℓ)
    (ρ : Dev Cert.NReferenceIdeal.nD → PrngReg) :
    θ_run Cert.NReferenceIdeal.defs (onTc (τ := Cert.NReferenceIdeal.τ) (Cert.NReferenceIdeal.main (F := Ideal))) ⟨m, fun _ => 0, ρ⟩ (fun r =>
      (∀ c : Dev Cert.NReferenceIdeal.nD,
        r.2.mem ((c : Thread Cert.NReferenceIdeal.nD Cert.NReferenceIdeal.τ).loc Cert.NReferenceIdeal.main_arg0) = m ((c : Thread Cert.NReferenceIdeal.nD Cert.NReferenceIdeal.τ).loc Cert.NReferenceIdeal.main_arg0)
        ∧ r.2.mem ((c : Thread Cert.NReferenceIdeal.nD Cert.NReferenceIdeal.τ).loc Cert.NReferenceIdeal.main_arg1) = m ((c : Thread Cert.NReferenceIdeal.nD Cert.NReferenceIdeal.τ).loc Cert.NReferenceIdeal.main_arg1)
        ∧ r.2.mem ((c : Thread Cert.NReferenceIdeal.nD Cert.NReferenceIdeal.τ).loc Cert.NReferenceIdeal.main_arg2) = m ((c : Thread Cert.NReferenceIdeal.nD Cert.NReferenceIdeal.τ).loc Cert.NReferenceIdeal.main_arg2)
        ∧ r.2.mem ((c : Thread Cert.NReferenceIdeal.nD Cert.NReferenceIdeal.τ).loc Cert.NReferenceIdeal.main_arg3) = m ((c : Thread Cert.NReferenceIdeal.nD Cert.NReferenceIdeal.τ).loc Cert.NReferenceIdeal.main_arg3)
        ∧ r.2.mem ((c : Thread Cert.NReferenceIdeal.nD Cert.NReferenceIdeal.τ).loc Cert.NReferenceIdeal.main_arg4) = m ((c : Thread Cert.NReferenceIdeal.nD Cert.NReferenceIdeal.τ).loc Cert.NReferenceIdeal.main_arg4)
        ∧ r.2.mem ((c : Thread Cert.NReferenceIdeal.nD Cert.NReferenceIdeal.τ).loc Cert.NReferenceIdeal.main_arg5) = m ((c : Thread Cert.NReferenceIdeal.nD Cert.NReferenceIdeal.τ).loc Cert.NReferenceIdeal.main_arg5)
        ∧ r.2.mem ((c : Thread Cert.NReferenceIdeal.nD Cert.NReferenceIdeal.τ).loc Cert.NReferenceIdeal.main_arg6) = m ((c : Thread Cert.NReferenceIdeal.nD Cert.NReferenceIdeal.τ).loc Cert.NReferenceIdeal.main_arg6)
        ∧ r.2.mem ((c : Thread Cert.NReferenceIdeal.nD Cert.NReferenceIdeal.τ).loc Cert.NReferenceIdeal.main_arg7) = m ((c : Thread Cert.NReferenceIdeal.nD Cert.NReferenceIdeal.τ).loc Cert.NReferenceIdeal.main_arg7))
      ∧ r.2.sem = fun _ => 0) :=
  (θ_run Cert.NReferenceIdeal.defs _ _).mono (fun r h => ⟨fun c => (h c).2.2.2.2, sem_eq_zero_of_no_sems (by decide) r.2⟩)
    (Cert.NReferenceIdeal.Value.run m ρ)

theorem seven {A0 A1 A3 A4 A5 A6 A7 B : Type} (f : A0 → A1 → A3 → A4 → A5 → A6 → A7 → B) {x0 y0 : A0} {x1 y1 : A1} {x3 y3 : A3} {x4 y4 : A4}
    {x5 y5 : A5} {x6 y6 : A6} {x7 y7 : A7} (e0 : x0 = y0) (e1 : x1 = y1) (e3 : x3 = y3) (e4 : x4 = y4) (e5 : x5 = y5) (e6 : x6 = y6) (e7 : x7 = y7) :
    f x0 x1 x3 x4 x5 x6 x7 = f y0 y1 y3 y4 y5 y6 y7 := by
  subst e0 e1 e3 e4 e5 e6 e7; rfl

/-- The kernel's four arrays are the reference's, over the reals. -/
theorem equal : Cert.algebraic_NKernelIdeal_NReferenceIdeal_pre_finite_norm (hNKernelIdeal := Cert.NKernelIdeal.Gen.facts)
    (hNReferenceIdeal := Cert.NReferenceIdeal.Gen.facts) (hPre_finite_norm := facts) := by
  intro m ρ m' ρ' hpre agree
  refine ⟨_, _, _, _, Cert.NKernelIdeal.Value.run_blocks m ρ, (θ_run Cert.NReferenceIdeal.defs _ _).mono (fun r h c => ?_) (Cert.NReferenceIdeal.Value.run m' ρ')⟩
  have H := @all_real facts m hpre c
  obtain ⟨h0, h1, h2, h3, hk⟩ := h c
  obtain ⟨a0, a1, _, a3, a4, a5, a6, a7⟩ := agree c
  refine ⟨h0.trans ?_, h1.trans ?_, h2.trans ?_, h3.trans ?_, hk⟩
  · exact ((Cert.NReferenceIdeal.Read.val_main_v71_eq _ _).trans (seven _ a0 a1 a3 a4 a5 a6 a7)).trans (NormEquation.final7 m c H).symm
  · exact ((Cert.NReferenceIdeal.Read.val_main_v72_eq _ _).trans (seven _ a0 a1 a3 a4 a5 a6 a7)).trans (NormEquation.final8 m c H).symm
  · exact ((Cert.NReferenceIdeal.Read.val_main_v73_eq _ _ _ _ _ _).trans
      (seven (fun x0 _ => Cert.NReferenceIdeal.Read.val_main_v73 x0) a0 a1 a3 a4 a5 a6 a7)).trans (NormEquation.final9 m c H).symm
  · exact ((Cert.NReferenceIdeal.Read.val_main_v74_eq _ _ _ _ _).trans
      (seven (fun _ _ => Cert.NReferenceIdeal.Read.val_main_v74) a0 a1 a3 a4 a5 a6 a7)).trans (NormEquation.final10 m c H).symm

end Cert.Proof.NormClaim

end
-- ==== Proof.UpSpec.lean ====
/-
  The gate's activation, as the kernel writes it and as the derivative of the tanh form of GELU writes it: the same among reals.
-/
module

public import proofs.«01_k».proof.UKernelIdeal
public import proofs.«01_k».proof.Proof.Reals

@[expose] public section

noncomputable section

namespace Cert.Proof.UpSpec

open Cert.UKernelIdeal Idealize.ShloMosaic Cert.Proof.Reals

/-- The constants the two programs spell, as reals. -/
theorem half_eq : Ideal.ofBits .f32 0x3F000000#32 = ((1 / 2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem three_eq : Ideal.ofBits .f32 0x40400000#32 = ((3 : ℝ) : EReal) := by
  simp [Ideal.ofBits, Ideal.ieee, -EReal.coe_mul]; norm_num

theorem lin_eq : Ideal.ofBits .f32 0x3F4C422A#32 = ((13386282 / 16777216 : ℝ) : EReal) := by
  simp [Ideal.ofBits, Ideal.ieee, -EReal.coe_mul]; norm_num

theorem halflin_eq : Ideal.ofBits .f32 0x3ECC422A#32 = ((13386282 / 33554432 : ℝ) : EReal) := by
  simp [Ideal.ofBits, Ideal.ieee, -EReal.coe_mul]; norm_num

theorem cub_eq : Ideal.ofBits .f32 0x3D372713#32 = ((12003091 / 268435456 : ℝ) : EReal) := by
  simp [Ideal.ofBits, Ideal.ieee, -EReal.coe_mul]; norm_num

theorem cubic_eq : (Named.named (F := Ideal) (φ := .f32) κ "cubic" 0x3D122279#32 : EReal) = ((80338380498831 / 2251799813685248 : ℝ) : EReal) := rfl

theorem slope_eq : (Named.named (F := Ideal) (φ := .f32) κ "cubic_slope" 0x3D5B33B6#32 : EReal) = ((241015141496493 / 4503599627370496 : ℝ) : EReal) := rfl

/-! ## As the kernel writes it -/

def th (c : EReal) : EReal :=
  Ideal.tanh (c * (Ideal.ofBits .f32 0x3F4C422A#32 + Named.named (F := Ideal) (φ := .f32) κ "cubic" 0x3D122279#32 * (c * c)))

def cdf (c : EReal) : EReal := Ideal.ofBits .f32 0x3F000000#32 * th c + Ideal.ofBits .f32 0x3F000000#32

def gain (c : EReal) : EReal :=
  cdf c + c * (Ideal.ofBits .f32 0x3F800000#32 - th c * th c)
    * (Ideal.ofBits .f32 0x3ECC422A#32 + Named.named (F := Ideal) (φ := .f32) κ "cubic_slope" 0x3D5B33B6#32 * (c * c))

/-! ## As the reference writes it -/

def rth (c : EReal) : EReal :=
  Ideal.tanh (Ideal.ofBits .f32 0x3F4C422A#32 * (c + Ideal.ofBits .f32 0x3D372713#32 * (c * c * c)))

def rcdf (c : EReal) : EReal := Ideal.ofBits .f32 0x3F000000#32 * (1 + rth c)

def rdir (c u : EReal) : EReal :=
  u * rcdf c + c * (Ideal.ofBits .f32 0x3F000000#32
    * (Ideal.ofBits .f32 0x3F4C422A#32 * (u + Ideal.ofBits .f32 0x3D372713#32 * (u * (Ideal.ofBits .f32 0x40400000#32 * (c * c))))
      * ((1 + rth c) * (1 - rth c))))

theorem th_eq {c : EReal} (hc : IsReal c) : th c = rth c := by
  obtain ⟨c, rfl⟩ := hc
  unfold th rth
  rw [lin_eq, cubic_eq, cub_eq]
  norm_cast
  congr 2
  ring

theorem fin_rth {c : EReal} (hc : IsReal c) : IsReal (rth c) := by
  unfold rth
  exact fin_tanh (fin_mul (fin_ofBits (by decide)) (fin_add hc (fin_mul (fin_ofBits (by decide)) (fin_mul (fin_mul hc hc) hc))))

theorem cdf_eq {c : EReal} (hc : IsReal c) : cdf c = rcdf c := by
  unfold cdf rcdf
  rw [th_eq hc, half_eq]
  obtain ⟨t, h⟩ := fin_rth hc
  rw [h]
  norm_cast
  ring

theorem gain_dir {c u : EReal} (hc : IsReal c) (hu : IsReal u) : u * gain c = rdir c u := by
  unfold gain rdir
  rw [cdf_eq hc, th_eq hc]
  unfold rcdf
  rw [half_eq, one_eq, halflin_eq, slope_eq, lin_eq, cub_eq, three_eq]
  obtain ⟨t, h⟩ := fin_rth hc
  rw [h]
  obtain ⟨c, rfl⟩ := hc
  obtain ⟨u, rfl⟩ := hu
  norm_cast
  ring

end Cert.Proof.UpSpec
end
-- ==== Proof.UpBlock.lean ====
/-
  One grid point of the up projections: four chunks of 512 rows, each with the 16 rows before it kept back for the causal
  convolution, read as one block of 2048 rows.
-/
module

public import proofs.«01_k».proof.Proof.Gen.UKernelIdeal.Value
public import proofs.«01_k».proof.Proof.UpSpec
public import Idealize.ShloMosaic.Lib.Pointwise
public import Idealize.ShloMosaic.Lib.Pipeline.ReadBack

@[expose] public section

set_option maxRecDepth 16384

noncomputable section

namespace Cert.Proof.UpBlock

open Cert.UKernelIdeal Cert.UKernelIdeal.Gen Idealize.ShloMosaic Idealize.ShloMosaic.TcCoe Idealize.SL.Sem Cert.Proof.UpSpec

/-! ## One chunk's arithmetic, over any rows -/

/-- The rows kept for the next chunk. -/
def keep (g : FVec Ideal S512x256 .f32) : FVec Ideal S16x256 .f32 :=
  extractStridedSlice S16x256 ![496, 0] g slices_S512x256_o496_0_S16x256

/-- What the first chunk finds before it. -/
def none16 : FVec Ideal S16x256 .f32 := broadcast S16x256 (Scalar.ofBits .f32 0x00000000#32)

/-- A chunk's rows, the 16 before them in front. -/
def ext (h : FVec Ideal S16x256 .f32) (g : FVec Ideal S512x256 .f32) : FVec Ideal S528x256 .f32 :=
  concatenate S528x256 0 [⟨S16x256, h⟩, ⟨S512x256, g⟩] concatenates_S16x256_S512x256_S528x256_d0

/-- The causal convolution of a chunk. -/
def conv (h : FVec Ideal S16x256 .f32) (g : FVec Ideal S512x256 .f32) (w : Vec Ideal S3x256 .f32) (b : Vec Ideal S1x256 .f32) : FVec Ideal S512x256 .f32 :=
  addf (addf (addf (broadcastTo S512x256 (k0_pay9 b) broadcasts_S1x256_S512x256)
      (mulf (broadcastTo S512x256 (extractStridedSlice S1x256 ![0, 0] w slices_S3x256_o0_0_S1x256) broadcasts_S1x256_S512x256)
        (extractStridedSlice S512x256 ![16, 0] (dynamicRotate 0 2#32 none (ext h g) rotates_S528x256_d0) slices_S528x256_o16_0_S512x256)))
      (mulf (broadcastTo S512x256 (extractStridedSlice S1x256 ![1, 0] w slices_S3x256_o1_0_S1x256) broadcasts_S1x256_S512x256)
        (extractStridedSlice S512x256 ![16, 0] (dynamicRotate 0 1#32 none (ext h g) rotates_S528x256_d0) slices_S528x256_o16_0_S512x256)))
    (mulf (broadcastTo S512x256 (extractStridedSlice S1x256 ![2, 0] w slices_S3x256_o2_0_S1x256) broadcasts_S1x256_S512x256) g)

/-- The element `k` rows up in a chunk, in the rows before it once the chunk's own end. -/
def back (h : FVec Ideal S16x256 .f32) (g : FVec Ideal S512x256 .f32) (k : Nat) (hk : k ≤ 16) (r : Fin 512) (f : Fin 256) : EReal :=
  if e : k ≤ r.val then g (ix2 ⟨r.val - k, by omega⟩ f) else h (ix2 ⟨16 + r.val - k, by omega⟩ f)

theorem ext_at (h : FVec Ideal S16x256 .f32) (g : FVec Ideal S512x256 .f32) (k : Nat) (hk : k ≤ 16) (r : Fin 512) (f : Fin 256)
    (l : (16 + r.val + 528 - k) % 528 < 528) : ext h g (ix2 ⟨(16 + r.val + 528 - k) % 528, l⟩ f) = back h g k hk r f := by
  have e : (16 + r.val + 528 - k) % 528 = 16 + r.val - k := by omega
  simp only [e]
  unfold back
  pointwise [ext]
  by_cases c : k ≤ r.val
  · rw [dif_neg (by omega), dif_pos c]
    exact congrArg (fun q => g (ix2 q f)) (Fin.ext (by show 16 + r.val - k - 16 = r.val - k; omega))
  · rw [dif_pos (by omega), dif_neg c]

theorem conv_at (h : FVec Ideal S16x256 .f32) (g : FVec Ideal S512x256 .f32) (w : Vec Ideal S3x256 .f32) (b : Vec Ideal S1x256 .f32) (r : Fin 512) (f : Fin 256) :
    conv h g w b (ix2 r f) = b (ix2 0 f) + w (ix2 0 f) * back h g 2 (by norm_num) r f + w (ix2 1 f) * back h g 1 (by norm_num) r f + w (ix2 2 f) * g (ix2 r f) := by
  pointwise [conv, k0_pay9]
  rw [ext_at h g 2 (by norm_num), ext_at h g 1 (by norm_num)]

/-- A chunk's activation, its derivative's product with `u`, and its own product with `u`. -/
def act (c : FVec Ideal S512x256 .f32) : FVec Ideal S512x256 .f32 := k0_pay19 c (mulf (broadcast S512x256 (Scalar.ofBits .f32 0x3F000000#32))
  (tanh (mulf c (addf (broadcast S512x256 (Scalar.ofBits .f32 0x3F4C422A#32)) (mulf (broadcast S512x256 (Named.named κ "cubic" 0x3D122279#32)) (mulf c c))))))
def der (u c : FVec Ideal S512x256 .f32) : FVec Ideal S512x256 .bf16 := k0_pay22 u c (mulf c c)
  (tanh (mulf c (addf (broadcast S512x256 (Scalar.ofBits .f32 0x3F4C422A#32)) (mulf (broadcast S512x256 (Named.named κ "cubic" 0x3D122279#32)) (mulf c c)))))
  (mulf (broadcast S512x256 (Scalar.ofBits .f32 0x3F000000#32))
  (tanh (mulf c (addf (broadcast S512x256 (Scalar.ofBits .f32 0x3F4C422A#32)) (mulf (broadcast S512x256 (Named.named κ "cubic" 0x3D122279#32)) (mulf c c))))))

theorem act_at (c : FVec Ideal S512x256 .f32) (r : Fin 512) (f : Fin 256) : act c (ix2 r f) = c (ix2 r f) * cdf (c (ix2 r f)) := by
  unfold cdf th
  pointwise [act, k0_pay19, k0_pay18]

theorem der_at (u c : FVec Ideal S512x256 .f32) (r : Fin 512) (f : Fin 256) : der u c (ix2 r f) = u (ix2 r f) * gain (c (ix2 r f)) := by
  unfold gain cdf th
  pointwise [der, k0_pay22, k0_pay18]

/-! ## The four chunks -/

variable (x0 : Vec Ideal S2048x1024 .bf16) (x1 x2 : Vec Ideal S256x1024 .bf16) (x3 : Vec Ideal S3x256 .f32) (x4 : Vec Ideal S1x256 .f32)

/-- Row `r` of chunk `i`. -/
def tok (i : Fin 4) (r : Fin 512) : Fin 2048 := ⟨i.val * 512 + r.val, by omega⟩

theorem tok_mk (s : Fin 2048) : ∃ (i : Fin 4) (r : Fin 512), s = tok i r :=
  ⟨⟨s.val / 512, by omega⟩, ⟨s.val % 512, by omega⟩, Fin.ext (by show s.val = s.val / 512 * 512 + s.val % 512; omega)⟩

theorem inbX (i : Fin 4) : ∀ a, (![i.val * 512, 0] : Fin 2 → Nat) a + S512x1024.size a ≤ S2048x1024.size a := fun a => by
  match a with
  | ⟨0, _⟩ => show i.val * 512 + 512 ≤ 2048; omega
  | ⟨1, _⟩ => show 0 + 1024 ≤ 1024; omega

theorem inbO (i : Fin 4) : ∀ a, (![i.val * 512, 0] : Fin 2 → Nat) a + S512x256.size a ≤ S2048x256.size a := fun a => by
  match a with
  | ⟨0, _⟩ => show i.val * 512 + 512 ≤ 2048; omega
  | ⟨1, _⟩ => show 0 + 256 ≤ 256; omega

abbrev rX (i : Fin 4) : Rect S2048x1024 := Rect.unit (s := S2048x1024) ![i.val * 512, 0] S512x1024.size (inbX i)
abbrev rO (i : Fin 4) : Rect S2048x256 := Rect.unit (s := S2048x256) ![i.val * 512, 0] S512x256.size (inbO i)

/-- A product of a chunk's rows with a weight's columns. -/
def mul (w : Vec Ideal S256x1024 .bf16) (i : Fin 4) : FVec Ideal S512x256 .f32 := k0_pay11 w (View.ld x0 (rX i))

def halo (i : Fin 4) : FVec Ideal S16x256 .f32 :=
  match i with
  | 0 => none16
  | 1 => keep (mul x0 x1 0)
  | 2 => keep (mul x0 x1 1)
  | 3 => keep (mul x0 x1 2)

def cv (i : Fin 4) : FVec Ideal S512x256 .f32 := conv (halo x0 x1 i) (mul x0 x1 i) x3 x4

/-- The four chunks put together. -/
def four (p : Fin 4 → Vec Ideal S512x256 .bf16) : Vec Ideal S2048x256 .bf16 :=
  View.canon [⟨rO 3, p 3⟩, ⟨rO 2, p 2⟩, ⟨rO 1, p 1⟩, ⟨rO 0, p 0⟩]

theorem emb_eq (i : Fin 4) (r : Fin 512) (f : Fin 256) : (ix2 (tok i r) f : S2048x256.Idx) = (rO i).emb (ix2 r f) := by
  refine funext fun a => Fin.ext ?_
  match a with
  | ⟨0, _⟩ => show i.val * 512 + r.val = i.val * 512 + 1 * r.val; omega
  | ⟨1, _⟩ => show f.val = 0 + 1 * f.val; omega

theorem apart (i j : Fin 4) (h : j ≠ i) (r : Fin 512) (f : Fin 256) : (ix2 (tok i r) f : S2048x256.Idx) ∉ (rO j).set := fun m => by
  have a := (Rect.mem_set_unit.mp m) 0
  have a' : j.val * 512 ≤ i.val * 512 + r.val ∧ i.val * 512 + r.val < j.val * 512 + 512 := a
  exact h (Fin.ext (by omega))

theorem skip (p : Vec Ideal S512x256 .bf16) (L : List (View.Piece (Elt Ideal) S2048x256 .bf16)) (i j : Fin 4) (h : j ≠ i) (r : Fin 512) (f : Fin 256) :
    View.canon (⟨rO j, p⟩ :: L) (ix2 (tok i r) f) = View.canon L (ix2 (tok i r) f) :=
  View.canon_cons_of_not_mem _ _ (apart i j h r f)

theorem take (p : Vec Ideal S512x256 .bf16) (L : List (View.Piece (Elt Ideal) S2048x256 .bf16)) (i : Fin 4) (r : Fin 512) (f : Fin 256) :
    View.canon (⟨rO i, p⟩ :: L) (ix2 (tok i r) f) = p (ix2 r f) := by
  rw [emb_eq]
  exact View.canon_cons_emb _ _ _ _

theorem four_at (p : Fin 4 → Vec Ideal S512x256 .bf16) (i : Fin 4) (r : Fin 512) (f : Fin 256) : four p (ix2 (tok i r) f) = p i (ix2 r f) := by
  unfold four
  have d : i = 0 ∨ i = 1 ∨ i = 2 ∨ i = 3 := by omega
  rcases d with rfl | rfl | rfl | rfl
  · rw [skip _ _ 0 3 (by decide), skip _ _ 0 2 (by decide), skip _ _ 0 1 (by decide), take]
  · rw [skip _ _ 1 3 (by decide), skip _ _ 1 2 (by decide), take]
  · rw [skip _ _ 2 3 (by decide), take]
  · rw [take]

theorem hz2 : (![0, 0] : Fin 2 → Nat) = fun _ => 0 := funext fun a => by fin_cases a <;> rfl

theorem ld0 (x : Vec Ideal S256x1024 .bf16) : View.ld x r0_0 = x := by rw [View.ld_unit_zero hz2]
theorem ld1 (x : Vec Ideal S3x256 .f32) : View.ld x r0_1 = x := by rw [View.ld_unit_zero hz2]
theorem ld2 (x : Vec Ideal S1x256 .f32) : View.ld x r0_2 = x := by rw [View.ld_unit_zero hz2]

theorem out5_eq : out0_5 x0 x1 x2 x3 x4 = four fun i => truncf .bf16 (mul x0 x1 i) bitsLt_bf16_f32 := by
  unfold_out out0_5
  simp only [ld0, ld1, ld2]
  rfl

theorem out6_eq : out0_6 x0 x1 x2 x3 x4 = four fun i => truncf .bf16 (act (cv x0 x1 x3 x4 i)) bitsLt_bf16_f32 := by
  unfold_out out0_6
  simp only [ld0, ld1, ld2]
  rfl

theorem out7_eq : out0_7 x0 x1 x2 x3 x4 = four fun i => der (mul x0 x2 i) (cv x0 x1 x3 x4 i) := by
  unfold_out out0_7
  simp only [ld0, ld1, ld2]
  rfl

theorem out8_eq : out0_8 x0 x1 x2 x3 x4 = four fun i => truncf .bf16 (mulf (act (cv x0 x1 x3 x4 i)) (mul x0 x2 i)) bitsLt_bf16_f32 := by
  unfold_out out0_8
  simp only [ld0, ld1, ld2]
  rfl

/-! ## The block's values -/

/-- The product at a row of the block, that product `k` rows up (zero before the sequence begins), and the convolution. -/
def G (w : Vec Ideal S256x1024 .bf16) (s : Fin 2048) (f : Fin 256) : EReal := ∑ k : Fin 1024, x0 (ix2 s k) * w (ix2 f k)

def P (k : Nat) (s : Fin 2048) (f : Fin 256) : EReal := if k ≤ s.val then G x0 x1 ⟨s.val - k, by omega⟩ f else 0

def C (s : Fin 2048) (f : Fin 256) : EReal :=
  x4 (ix2 0 f) + x3 (ix2 0 f) * P x0 x1 2 s f + x3 (ix2 1 f) * P x0 x1 1 s f + x3 (ix2 2 f) * P x0 x1 0 s f

theorem ldX (i : Fin 4) (r : Fin 512) (k : Fin 1024) : View.ld x0 (rX i) (ix2 r k) = x0 (ix2 (tok i r) k) := by
  refine congrArg x0 (funext fun a => Fin.ext ?_)
  match a with
  | ⟨0, _⟩ => show i.val * 512 + 1 * r.val = i.val * 512 + r.val; omega
  | ⟨1, _⟩ => show 0 + 1 * k.val = k.val; omega

theorem mul_at (w : Vec Ideal S256x1024 .bf16) (i : Fin 4) (r : Fin 512) (f : Fin 256) : mul x0 w i (ix2 r f) = G x0 w (tok i r) f := by
  have h : ∀ v : Vec Ideal S512x1024 .bf16, k0_pay11 w v (ix2 r f) = ∑ k : Fin 1024, v (ix2 r k) * w (ix2 f k) := fun v => by
    pointwise [k0_pay11, k0_pay10, k0_pay7]
  exact (h _).trans (Finset.sum_congr rfl fun k _ => congrArg (· * _) (ldX x0 i r k))

theorem keep_at (w : Vec Ideal S256x1024 .bf16) (i : Fin 4) (q : Fin 16) (f : Fin 256) :
    keep (mul x0 w i) (ix2 q f) = G x0 w ⟨i.val * 512 + (496 + q.val), by omega⟩ f := by
  refine Eq.trans ?_ (mul_at x0 w i ⟨496 + q.val, by omega⟩ f)
  generalize mul x0 w i = g
  pointwise [keep]

theorem back_at (k : Nat) (hk : k ≤ 16) (i : Fin 4) (r : Fin 512) (f : Fin 256) :
    back (halo x0 x1 i) (mul x0 x1 i) k hk r f = P x0 x1 k (tok i r) f := by
  unfold back P
  by_cases e : k ≤ r.val
  · rw [dif_pos e, if_pos (show k ≤ (tok i r).val by show k ≤ i.val * 512 + r.val; omega), mul_at]
    exact congrArg (G x0 x1 · f) (Fin.ext (by show i.val * 512 + (r.val - k) = i.val * 512 + r.val - k; omega))
  · rw [dif_neg e]
    have nx : ∀ j : Fin 4, j.val + 1 = i.val → keep (mul x0 x1 j) (ix2 ⟨16 + r.val - k, by omega⟩ f)
        = if k ≤ (tok i r).val then G x0 x1 ⟨(tok i r).val - k, by omega⟩ f else 0 := fun j hj => by
      rw [if_pos (show k ≤ (tok i r).val by show k ≤ i.val * 512 + r.val; omega), keep_at]
      exact congrArg (G x0 x1 · f) (Fin.ext (by show j.val * 512 + (496 + (16 + r.val - k)) = i.val * 512 + r.val - k; omega))
    match i, nx with
    | 0, _ =>
      rw [if_neg (show ¬ k ≤ (tok 0 r).val by show ¬ k ≤ 0 * 512 + r.val; omega)]
      show none16 _ = 0
      pointwise [none16]
    | 1, nx => exact nx 0 rfl
    | 2, nx => exact nx 1 rfl
    | 3, nx => exact nx 2 rfl

theorem P_zero (s : Fin 2048) (f : Fin 256) : P x0 x1 0 s f = G x0 x1 s f := if_pos (Nat.zero_le _)

theorem cv_at (i : Fin 4) (r : Fin 512) (f : Fin 256) : cv x0 x1 x3 x4 i (ix2 r f) = C x0 x1 x3 x4 (tok i r) f := by
  unfold cv C
  rw [conv_at, back_at, back_at, mul_at, P_zero]

theorem out5_at (s : Fin 2048) (f : Fin 256) : out0_5 x0 x1 x2 x3 x4 (ix2 s f) = G x0 x1 s f := by
  obtain ⟨i, r, rfl⟩ := tok_mk s
  rw [out5_eq, four_at]
  exact mul_at x0 x1 i r f

theorem out6_at (s : Fin 2048) (f : Fin 256) : out0_6 x0 x1 x2 x3 x4 (ix2 s f) = C x0 x1 x3 x4 s f * cdf (C x0 x1 x3 x4 s f) := by
  obtain ⟨i, r, rfl⟩ := tok_mk s
  rw [out6_eq, four_at]
  refine (act_at _ r f).trans ?_
  rw [cv_at]

theorem out7_at (s : Fin 2048) (f : Fin 256) : out0_7 x0 x1 x2 x3 x4 (ix2 s f) = G x0 x2 s f * gain (C x0 x1 x3 x4 s f) := by
  obtain ⟨i, r, rfl⟩ := tok_mk s
  rw [out7_eq, four_at, der_at, cv_at, mul_at]

theorem out8_at (s : Fin 2048) (f : Fin 256) : out0_8 x0 x1 x2 x3 x4 (ix2 s f)
    = C x0 x1 x3 x4 s f * cdf (C x0 x1 x3 x4 s f) * G x0 x2 s f := by
  obtain ⟨i, r, rfl⟩ := tok_mk s
  rw [out8_eq, four_at]
  show act _ (ix2 r f) * mul _ _ _ (ix2 r f) = _
  rw [act_at, cv_at, mul_at]

end Cert.Proof.UpBlock
end
-- ==== Proof.UpRefs.lean ====
/-
  The reference of the up projections, element by element.
-/
module

public import proofs.«01_k».proof.Proof.Gen.UReferenceIdeal.Read
public import Idealize.ShloMosaic.Lib.Pointwise
public import Idealize.ShloMosaic.Lib.IdealHost
public import proofs.«01_k».proof.Proof.UpSpec

@[expose] public section

set_option maxRecDepth 16384

noncomputable section

namespace Cert.Proof.UpRefs

open Cert.UReferenceIdeal Cert.UReferenceIdeal.Gen Cert.UReferenceIdeal.Read Idealize.ShloMosaic Idealize.ShloMosaic.TcCoe Idealize.SL.Sem
open Cert.Proof.Reals Cert.Proof.UpSpec

variable (x0 : Vec Ideal S4x2048x1024 .f32) (x1 x2 : Vec Ideal S1024x2816 .f32) (x3 : Vec Ideal S3x2816 .f32) (x4 : Vec Ideal S2816 .f32)

/-- A projection at a position, that projection `k` positions earlier (zero before the sequence begins), and the causal convolution. -/
def proj (w : Vec Ideal S1024x2816 .f32) (b : Fin 4) (s : Fin 2048) (f : Fin 2816) : EReal := ∑ k : Fin 1024, x0 (ix3 b s k) * w (ix2 k f)

def prev (k : Nat) (b : Fin 4) (s : Fin 2048) (f : Fin 2816) : EReal := if k ≤ s.val then proj x0 x1 b ⟨s.val - k, by omega⟩ f else 0

def conv (b : Fin 4) (s : Fin 2048) (f : Fin 2816) : EReal :=
  x4 (ix1 f) + x3 (ix2 0 f) * prev x0 x1 2 b s f + x3 (ix2 1 f) * prev x0 x1 1 b s f + x3 (ix2 2 f) * prev x0 x1 0 b s f

theorem v0_at (b : Fin 4) (s : Fin 2048) (f : Fin 2816) : val_main_v0 x0 x1 (ix3 b s f) = proj x0 x1 b s f := by
  unfold proj
  pointwise [val_main_v0]

theorem v1_at (b : Fin 4) (s : Fin 2048) (f : Fin 2816) : val_main_v1 x0 x2 (ix3 b s f) = proj x0 x2 b s f := by
  unfold proj
  pointwise [val_main_v1]

theorem v26_at (b : Fin 4) (s : Fin 2048) (f : Fin 2816) : val_main_v26 x0 x1 (ix3 b s f) = prev x0 x1 0 b s f := by
  unfold prev
  simp only [← v0_at]
  pointwise [val_main_v26, val_main_v4, val_main_v3, val_main_v2, val_main_cst]

theorem v18_at (b : Fin 4) (s : Fin 2048) (f : Fin 2816) : val_main_v18 x0 x1 (ix3 b s f) = prev x0 x1 1 b s f := by
  unfold prev
  simp only [← v0_at]
  pointwise [val_main_v18, val_main_v4, val_main_v3, val_main_v2, val_main_cst]
  by_cases h : 1 ≤ s.val
  · have e : 1 + s.val - 2 = s.val - 1 := by omega
    rw [dif_neg (by omega), if_pos h]
    simp only [e]
  · rw [dif_pos (by omega), if_neg h]

theorem v7_at (b : Fin 4) (s : Fin 2048) (f : Fin 2816) : val_main_v7 x0 x1 (ix3 b s f) = prev x0 x1 2 b s f := by
  unfold prev
  simp only [← v0_at]
  pointwise [val_main_v7, val_main_v4, val_main_v3, val_main_v2, val_main_cst]
  by_cases h : 2 ≤ s.val
  · rw [dif_neg (by omega), if_pos h]
  · rw [dif_pos (by omega), if_neg h]

theorem v31_at (b : Fin 4) (s : Fin 2048) (f : Fin 2816) : val_main_v31 x0 x1 x3 x4 (ix3 b s f) = conv x0 x1 x3 x4 b s f := by
  unfold conv
  pointwise [val_main_v31, val_main_v30, val_main_v29, val_main_v28, val_main_v27, val_main_v25, val_main_v24, val_main_v23, val_main_v22, val_main_v21,
    val_main_v20, val_main_v19, val_main_v17, val_main_v16, val_main_v15, val_main_v14, val_main_v13, val_main_v12, val_main_v11, val_main_v10, val_main_v9,
    val_main_v8, val_main_v6, val_main_v5]
  rw [v26_at, v18_at, v7_at]

theorem v48_at (b : Fin 4) (s : Fin 2048) (f : Fin 2816) : val_main_v48 x0 x1 x3 x4 (ix3 b s f) = rth (conv x0 x1 x3 x4 b s f) := by
  unfold rth
  rw [← v31_at]
  pointwise [val_main_v48, val_main_v45, val_main_v44, val_main_v42, val_main_v39, val_main_v38, val_main_v33, val_main_v32, val_main_cst_3, val_main_cst_1]

theorem v58_at (b : Fin 4) (s : Fin 2048) (f : Fin 2816) : val_main_v58 x0 x1 x3 x4 (ix3 b s f) = rcdf (conv x0 x1 x3 x4 b s f) := by
  unfold rcdf
  rw [← v48_at]
  pointwise [val_main_v58, val_main_v57, val_main_v56, val_main_v55, val_main_cst_8, val_main_cst_7]

theorem v61_at (b : Fin 4) (s : Fin 2048) (f : Fin 2816) : val_main_v61 x0 x1 x3 x4 (ix3 b s f) = conv x0 x1 x3 x4 b s f * rcdf (conv x0 x1 x3 x4 b s f) := by
  pointwise [val_main_v61]
  rw [v31_at, v58_at]

theorem v64_at (b : Fin 4) (s : Fin 2048) (f : Fin 2816) : val_main_v64 x0 x1 x2 x3 x4 (ix3 b s f) = rdir (conv x0 x1 x3 x4 b s f) (proj x0 x2 b s f) := by
  unfold rdir
  rw [← v58_at, ← v48_at, ← v31_at, ← v1_at]
  pointwise [val_main_v64, val_main_v63, val_main_v62, val_main_v60, val_main_v59, val_main_v54, val_main_v53, val_main_v52, val_main_v51, val_main_v50, val_main_v49,
    val_main_v47, val_main_v46, val_main_v43, val_main_v41, val_main_v40, val_main_v37, val_main_v36, val_main_v35, val_main_v34, val_main_cst_0, val_main_cst_2,
    val_main_cst_4, val_main_cst_5, val_main_cst_6, val_main_cst_9]

theorem v67_at (b : Fin 4) (s : Fin 2048) (f : Fin 2816) (h : b.val * 2048 + s.val < 8192) :
    val_main_v67 x0 x1 (ix2 ⟨b.val * 2048 + s.val, h⟩ f) = proj x0 x1 b s f := by
  pointwise [val_main_v67, val_main_v66]
  rw [v0_at]

theorem v69_at (b : Fin 4) (s : Fin 2048) (f : Fin 2816) (h : b.val * 2048 + s.val < 8192) :
    val_main_v69 x0 x1 x3 x4 (ix2 ⟨b.val * 2048 + s.val, h⟩ f) = conv x0 x1 x3 x4 b s f * rcdf (conv x0 x1 x3 x4 b s f) := by
  pointwise [val_main_v69, val_main_v68]
  rw [v61_at]

theorem v71_at (b : Fin 4) (s : Fin 2048) (f : Fin 2816) (h : b.val * 2048 + s.val < 8192) :
    val_main_v71 x0 x1 x2 x3 x4 (ix2 ⟨b.val * 2048 + s.val, h⟩ f) = rdir (conv x0 x1 x3 x4 b s f) (proj x0 x2 b s f) := by
  pointwise [val_main_v71, val_main_v70]
  rw [v64_at]

theorem v73_at (b : Fin 4) (s : Fin 2048) (f : Fin 2816) (h : b.val * 2048 + s.val < 8192) :
    val_main_v73 x0 x1 x2 x3 x4 (ix2 ⟨b.val * 2048 + s.val, h⟩ f)
      = conv x0 x1 x3 x4 b s f * rcdf (conv x0 x1 x3 x4 b s f) * proj x0 x2 b s f := by
  pointwise [val_main_v73, val_main_v72, val_main_v65]
  rw [v61_at, v1_at]

/-- Every element of every argument is a real. -/
structure Reals : Prop where
  h : ∀ i, IsReal (x0 i)
  wg : ∀ i, IsReal (x1 i)
  wu : ∀ i, IsReal (x2 i)
  cw : ∀ i, IsReal (x3 i)
  cb : ∀ i, IsReal (x4 i)

variable {x0 x1 x2 x3 x4} (H : Reals x0 x1 x2 x3 x4)
include H

theorem fin_gate (b : Fin 4) (s : Fin 2048) (f : Fin 2816) : IsReal (proj x0 x1 b s f) := fin_sum _ fun _ => fin_mul (H.h _) (H.wg _)

theorem fin_up (b : Fin 4) (s : Fin 2048) (f : Fin 2816) : IsReal (proj x0 x2 b s f) := fin_sum _ fun _ => fin_mul (H.h _) (H.wu _)

theorem fin_prev (k : Nat) (b : Fin 4) (s : Fin 2048) (f : Fin 2816) : IsReal (prev x0 x1 k b s f) := by
  unfold prev
  split
  · exact fin_gate H _ _ _
  · exact fin_zero

theorem fin_conv (b : Fin 4) (s : Fin 2048) (f : Fin 2816) : IsReal (conv x0 x1 x3 x4 b s f) :=
  fin_add (fin_add (fin_add (H.cb _) (fin_mul (H.cw _) (fin_prev H 2 b s f))) (fin_mul (H.cw _) (fin_prev H 1 b s f)))
    (fin_mul (H.cw _) (fin_prev H 0 b s f))

end Cert.Proof.UpRefs
end
-- ==== Proof.Up.lean ====
/-
  The up projections' arrays: what each grid point finds, what it leaves, and the four arrays the kernel leaves, as the reference gives them.
-/
module

public import proofs.«01_k».proof.Proof.UpBlock
public import proofs.«01_k».proof.Proof.UpRefs
public import Idealize.ShloMosaic.Lib.StableHlo.RunRead

@[expose] public section

set_option maxRecDepth 16384

noncomputable section

namespace Cert.Proof.Up

open Cert.UKernelIdeal Cert.UKernelIdeal.Gen Idealize.ShloMosaic Idealize.ShloMosaic.TcCoe Idealize.SL.Sem Idealize.ShloMosaic.StableHlo
open Idealize.ShloMosaic.Pipeline (Dat)
open Cert.UReferenceIdeal.Read Cert.Proof.UpSpec Cert.Proof.UpBlock
open Cert.Proof.UpRefs (proj prev Reals)

variable (m : (ℓ : Loc nD τ sig) → Buf (Elt Ideal) ℓ) (c : Dev nD)

/-- The arguments as the device holds them. -/
abbrev hid : Vec Ideal S4x2048x1024 .f32 := m ((c : Thread nD τ).loc main_arg0)
abbrev wg : Vec Ideal S1024x2816 .f32 := m ((c : Thread nD τ).loc main_arg1)
abbrev wu : Vec Ideal S1024x2816 .f32 := m ((c : Thread nD τ).loc main_arg2)
abbrev cw : Vec Ideal S3x2816 .f32 := m ((c : Thread nD τ).loc main_arg3)
abbrev cb : Vec Ideal S2816 .f32 := m ((c : Thread nD τ).loc main_arg4)

theorem V_hid : V m c main_v1 = (truncf (F := Ideal) .bf16 (shapeCast S8192x1024 (hid m c) shapeCasts_S4x2048x1024_S8192x1024) bitsLt_bf16_f32 : Vec Ideal S8192x1024 .bf16) := by
  unfold V
  after_reads_simp
  rfl

theorem V_wg : V m c main_v3 = (truncf (F := Ideal) .bf16 (transpose S2816x1024 [1, 0] (wg m c) transposes_S1024x2816_S2816x1024_1_0) bitsLt_bf16_f32 : Vec Ideal S2816x1024 .bf16) := by
  unfold V
  after_reads_simp

theorem V_wu : V m c main_v5 = (truncf (F := Ideal) .bf16 (transpose S2816x1024 [1, 0] (wu m c) transposes_S1024x2816_S2816x1024_1_0) bitsLt_bf16_f32 : Vec Ideal S2816x1024 .bf16) := by
  unfold V
  after_reads_simp

theorem V_cb : V m c main_v6 = (shapeCast S1x2816 (cb m c) shapeCasts_S2816_S1x2816 : Vec Ideal S1x2816 .f32) := by
  unfold V
  after_reads_simp
  rfl

/-- The grid point of sequence `b` and column tile `j`. -/
def pt (b : Fin 4) (j : Fin 11) : Fin cfg0.N := ⟨b.val * 11 + j.val, by have h : cfg0.N = 44 := N_0; omega⟩

theorem idx_all : ∀ b : Fin 4, ∀ j : Fin 11,
    win0_0.index (pt b j) = ![b.val, 0] ∧ win0_1.index (pt b j) = ![j.val, 0] ∧ win0_2.index (pt b j) = ![j.val, 0]
    ∧ win0_3.index (pt b j) = ![0, j.val] ∧ win0_4.index (pt b j) = ![0, j.val] ∧ win0_5.index (pt b j) = ![b.val, j.val]
    ∧ win0_6.index (pt b j) = ![b.val, j.val] ∧ win0_7.index (pt b j) = ![b.val, j.val] ∧ win0_8.index (pt b j) = ![b.val, j.val] := by
  decide +kernel

/-- The row of position `s` of sequence `b`, and the column `f` of tile `j`. -/
def row (b : Fin 4) (s : Fin 2048) : Fin 8192 := ⟨b.val * 2048 + s.val, by omega⟩
def col (j : Fin 11) (f : Fin 256) : Fin 2816 := ⟨j.val * 256 + f.val, by omega⟩

theorem row_mk (r : Fin 8192) : ∃ (b : Fin 4) (s : Fin 2048), r = row b s :=
  ⟨⟨r.val / 2048, by omega⟩, ⟨r.val % 2048, by omega⟩, Fin.ext (by show r.val = r.val / 2048 * 2048 + r.val % 2048; omega)⟩

theorem col_mk (f : Fin 2816) : ∃ (j : Fin 11) (f' : Fin 256), f = col j f' :=
  ⟨⟨f.val / 256, by omega⟩, ⟨f.val % 256, by omega⟩, Fin.ext (by show f.val = f.val / 256 * 256 + f.val % 256; omega)⟩

theorem cast_hid (x : Vec Ideal S4x2048x1024 .f32) (b : Fin 4) (s : Fin 2048) (k : Fin 1024) :
    (truncf (F := Ideal) .bf16 (shapeCast S8192x1024 x shapeCasts_S4x2048x1024_S8192x1024) bitsLt_bf16_f32 : Vec Ideal S8192x1024 .bf16) (ix2 (row b s) k) = x (ix3 b s k) := by
  unfold row
  pointwise

theorem turn (x : Vec Ideal S1024x2816 .f32) (f : Fin 2816) (k : Fin 1024) :
    (truncf (F := Ideal) .bf16 (transpose S2816x1024 [1, 0] x transposes_S1024x2816_S2816x1024_1_0) bitsLt_bf16_f32 : Vec Ideal S2816x1024 .bf16) (ix2 f k) = x (ix2 k f) := by
  pointwise

theorem line (x : Vec Ideal S2816 .f32) (f : Fin 2816) : (shapeCast S1x2816 x shapeCasts_S2816_S1x2816 : Vec Ideal S1x2816 .f32) (ix2 0 f) = x (ix1 f) := by
  pointwise

/-! ## What a grid point finds -/

theorem blk0_at (b : Fin 4) (j : Fin 11) (s : Fin 2048) (k : Fin 1024) : iblk m c 0 (pt b j) (ix2 s k) = hid m c (ix3 b s k) := by
  refine Eq.trans ?_ ((congrFun (V_hid m c) (ix2 (row b s) k)).trans (cast_hid _ b s k))
  unfold iblk
  rw [View.read_apply, cast_eq]
  refine congrArg _ (funext fun q => Fin.ext ?_)
  have h := (idx_all b j).1
  match q with
  | ⟨0, _⟩ =>
    show win0_0.index (pt b j) 0 * 2048 + 1 * s.val = _
    rw [h]; show b.val * 2048 + 1 * s.val = b.val * 2048 + s.val; omega
  | ⟨1, _⟩ =>
    show win0_0.index (pt b j) 1 * 1024 + 1 * k.val = _
    rw [h]; show 0 * 1024 + 1 * k.val = k.val; omega

theorem blk1_at (b : Fin 4) (j : Fin 11) (f : Fin 256) (k : Fin 1024) : iblk m c 1 (pt b j) (ix2 f k) = wg m c (ix2 k (col j f)) := by
  refine Eq.trans ?_ ((congrFun (V_wg m c) (ix2 (col j f) k)).trans (turn _ _ _))
  unfold iblk
  rw [View.read_apply, cast_eq]
  refine congrArg _ (funext fun q => Fin.ext ?_)
  have h := (idx_all b j).2.1
  match q with
  | ⟨0, _⟩ =>
    show win0_1.index (pt b j) 0 * 256 + 1 * f.val = _
    rw [h]; show j.val * 256 + 1 * f.val = j.val * 256 + f.val; omega
  | ⟨1, _⟩ =>
    show win0_1.index (pt b j) 1 * 1024 + 1 * k.val = _
    rw [h]; show 0 * 1024 + 1 * k.val = k.val; omega

theorem blk2_at (b : Fin 4) (j : Fin 11) (f : Fin 256) (k : Fin 1024) : iblk m c 2 (pt b j) (ix2 f k) = wu m c (ix2 k (col j f)) := by
  refine Eq.trans ?_ ((congrFun (V_wu m c) (ix2 (col j f) k)).trans (turn _ _ _))
  unfold iblk
  rw [View.read_apply, cast_eq]
  refine congrArg _ (funext fun q => Fin.ext ?_)
  have h := (idx_all b j).2.2.1
  match q with
  | ⟨0, _⟩ =>
    show win0_2.index (pt b j) 0 * 256 + 1 * f.val = _
    rw [h]; show j.val * 256 + 1 * f.val = j.val * 256 + f.val; omega
  | ⟨1, _⟩ =>
    show win0_2.index (pt b j) 1 * 1024 + 1 * k.val = _
    rw [h]; show 0 * 1024 + 1 * k.val = k.val; omega

theorem blk3_at (b : Fin 4) (j : Fin 11) (i : Fin 3) (f : Fin 256) : iblk m c 3 (pt b j) (ix2 i f) = cw m c (ix2 i (col j f)) := by
  refine Eq.trans ?_ (congrFun (V_main_arg3 m c) (ix2 i (col j f)))
  unfold iblk
  rw [View.read_apply, cast_eq]
  refine congrArg _ (funext fun q => Fin.ext ?_)
  have h := (idx_all b j).2.2.2.1
  match q with
  | ⟨0, _⟩ =>
    show win0_3.index (pt b j) 0 * 3 + 1 * i.val = _
    rw [h]; show 0 * 3 + 1 * i.val = i.val; omega
  | ⟨1, _⟩ =>
    show win0_3.index (pt b j) 1 * 256 + 1 * f.val = _
    rw [h]; show j.val * 256 + 1 * f.val = j.val * 256 + f.val; omega

theorem blk4_at (b : Fin 4) (j : Fin 11) (f : Fin 256) : iblk m c 4 (pt b j) (ix2 0 f) = cb m c (ix1 (col j f)) := by
  refine Eq.trans ?_ ((congrFun (V_cb m c) (ix2 0 (col j f))).trans (line _ _))
  unfold iblk
  rw [View.read_apply, cast_eq]
  refine congrArg _ (funext fun q => Fin.ext ?_)
  have h := (idx_all b j).2.2.2.2.1
  match q with
  | ⟨0, _⟩ =>
    show win0_4.index (pt b j) 0 * 1 + 1 * (0 : Fin 1).val = _
    rw [h]; show 0 * 1 + 1 * (0 : Fin 1).val = 0; omega
  | ⟨1, _⟩ =>
    show win0_4.index (pt b j) 1 * 256 + 1 * f.val = _
    rw [h]; show j.val * 256 + 1 * f.val = j.val * 256 + f.val; omega

theorem G_gate (b : Fin 4) (j : Fin 11) (s : Fin 2048) (f : Fin 256) :
    G (iblk m c 0 (pt b j)) (iblk m c 1 (pt b j)) s f = proj (hid m c) (wg m c) b s (col j f) :=
  Finset.sum_congr rfl fun k _ => congrArg₂ (· * ·) (blk0_at m c b j s k) (blk1_at m c b j f k)

theorem G_up (b : Fin 4) (j : Fin 11) (s : Fin 2048) (f : Fin 256) :
    G (iblk m c 0 (pt b j)) (iblk m c 2 (pt b j)) s f = proj (hid m c) (wu m c) b s (col j f) :=
  Finset.sum_congr rfl fun k _ => congrArg₂ (· * ·) (blk0_at m c b j s k) (blk2_at m c b j f k)

theorem P_gate (k : Nat) (b : Fin 4) (j : Fin 11) (s : Fin 2048) (f : Fin 256) :
    P (iblk m c 0 (pt b j)) (iblk m c 1 (pt b j)) k s f = prev (hid m c) (wg m c) k b s (col j f) := by
  unfold P prev
  simp only [G_gate]

theorem C_at (b : Fin 4) (j : Fin 11) (s : Fin 2048) (f : Fin 256) :
    C (iblk m c 0 (pt b j)) (iblk m c 1 (pt b j)) (iblk m c 3 (pt b j)) (iblk m c 4 (pt b j)) s f = UpRefs.conv (hid m c) (wg m c) (cw m c) (cb m c) b s (col j f) := by
  unfold C UpRefs.conv
  rw [P_gate, P_gate, P_gate]
  exact congrArg₂ (· + ·) (congrArg₂ (· + ·) (congrArg₂ (· + ·) (blk4_at m c b j f) (congrArg (· * _) (blk3_at m c b j 0 f)))
    (congrArg (· * _) (blk3_at m c b j 1 f))) (congrArg (· * _) (blk3_at m c b j 2 f))

/-! ## What it leaves -/

theorem ext2 {n k : Nat} {P Q : (⟨2, ![n, k]⟩ : Shape).Idx → EReal} (h : ∀ (s : Fin n) (d : Fin k), P (ix2 s d) = Q (ix2 s d)) : P = Q := by
  funext p
  have e : p = (ix2 (p 0) (p 1) : (⟨2, ![n, k]⟩ : Shape).Idx) := funext fun q => by fin_cases q <;> rfl
  rw [e]
  exact h (p 0) (p 1)

theorem point5 (b : Fin 4) (j : Fin 11) (s : Fin 2048) (f : Fin 256) : out0_5 (iblk m c 0 (pt b j)) (iblk m c 1 (pt b j)) (iblk m c 2 (pt b j)) (iblk m c 3 (pt b j)) (iblk m c 4 (pt b j)) (ix2 s f)
    = val_main_v67 (F := Ideal) (hid m c) (wg m c) (ix2 (row b s) (col j f)) := by
  rw [out5_at, G_gate]
  exact (UpRefs.v67_at _ _ b s (col j f) _).symm

theorem point6 (H : Reals (hid m c) (wg m c) (wu m c) (cw m c) (cb m c)) (b : Fin 4) (j : Fin 11) (s : Fin 2048) (f : Fin 256) : out0_6 (iblk m c 0 (pt b j)) (iblk m c 1 (pt b j)) (iblk m c 2 (pt b j)) (iblk m c 3 (pt b j)) (iblk m c 4 (pt b j)) (ix2 s f)
    = val_main_v69 (F := Ideal) (hid m c) (wg m c) (cw m c) (cb m c) (ix2 (row b s) (col j f)) := by
  rw [out6_at, C_at, cdf_eq (UpRefs.fin_conv H b s (col j f))]
  exact (UpRefs.v69_at _ _ _ _ b s (col j f) _).symm

theorem point7 (H : Reals (hid m c) (wg m c) (wu m c) (cw m c) (cb m c)) (b : Fin 4) (j : Fin 11) (s : Fin 2048) (f : Fin 256) : out0_7 (iblk m c 0 (pt b j)) (iblk m c 1 (pt b j)) (iblk m c 2 (pt b j)) (iblk m c 3 (pt b j)) (iblk m c 4 (pt b j)) (ix2 s f)
    = val_main_v71 (F := Ideal) (hid m c) (wg m c) (wu m c) (cw m c) (cb m c) (ix2 (row b s) (col j f)) := by
  rw [out7_at, C_at, G_up, gain_dir (UpRefs.fin_conv H b s (col j f)) (UpRefs.fin_up H b s (col j f))]
  exact (UpRefs.v71_at _ _ _ _ _ b s (col j f) _).symm

theorem point8 (H : Reals (hid m c) (wg m c) (wu m c) (cw m c) (cb m c)) (b : Fin 4) (j : Fin 11) (s : Fin 2048) (f : Fin 256) : out0_8 (iblk m c 0 (pt b j)) (iblk m c 1 (pt b j)) (iblk m c 2 (pt b j)) (iblk m c 3 (pt b j)) (iblk m c 4 (pt b j)) (ix2 s f)
    = val_main_v73 (F := Ideal) (hid m c) (wg m c) (wu m c) (cw m c) (cb m c) (ix2 (row b s) (col j f)) := by
  rw [out8_at, C_at, G_up, cdf_eq (UpRefs.fin_conv H b s (col j f))]
  exact (UpRefs.v73_at _ _ _ _ _ b s (col j f) _).symm

theorem final5 : (dats m 0 c).arrAt 5 cfg0.N = val_main_v67 (F := Ideal) (hid m c) (wg m c) := by
  refine ext2 (n := 8192) (k := 2816) fun s d => ?_
  obtain ⟨b, s, rfl⟩ := row_mk s
  obtain ⟨j, f, rfl⟩ := col_mk d
  have h := congrFun (Value.blocks5 m c (pt b j) (flush0_5 _)) (ix2 s f)
  rw [Value.flushed5, View.read_apply, cast_eq] at h
  refine (Eq.trans (congrArg _ (funext fun q => Fin.ext ?_)) h).trans (point5 m c b j s f)
  have h := (idx_all b j).2.2.2.2.2.1
  match q with
  | ⟨0, _⟩ =>
    show _ = win0_5.index (pt b j) 0 * 2048 + 1 * s.val
    rw [h]; show b.val * 2048 + s.val = b.val * 2048 + 1 * s.val; omega
  | ⟨1, _⟩ =>
    show _ = win0_5.index (pt b j) 1 * 256 + 1 * f.val
    rw [h]; show j.val * 256 + f.val = j.val * 256 + 1 * f.val; omega

theorem final6 (H : Reals (hid m c) (wg m c) (wu m c) (cw m c) (cb m c)) : (dats m 0 c).arrAt 6 cfg0.N = val_main_v69 (F := Ideal) (hid m c) (wg m c) (cw m c) (cb m c) := by
  refine ext2 (n := 8192) (k := 2816) fun s d => ?_
  obtain ⟨b, s, rfl⟩ := row_mk s
  obtain ⟨j, f, rfl⟩ := col_mk d
  have h := congrFun (Value.blocks6 m c (pt b j) (flush0_6 _)) (ix2 s f)
  rw [Value.flushed6, View.read_apply, cast_eq] at h
  refine (Eq.trans (congrArg _ (funext fun q => Fin.ext ?_)) h).trans (point6 m c H b j s f)
  have h := (idx_all b j).2.2.2.2.2.2.1
  match q with
  | ⟨0, _⟩ =>
    show _ = win0_6.index (pt b j) 0 * 2048 + 1 * s.val
    rw [h]; show b.val * 2048 + s.val = b.val * 2048 + 1 * s.val; omega
  | ⟨1, _⟩ =>
    show _ = win0_6.index (pt b j) 1 * 256 + 1 * f.val
    rw [h]; show j.val * 256 + f.val = j.val * 256 + 1 * f.val; omega

theorem final7 (H : Reals (hid m c) (wg m c) (wu m c) (cw m c) (cb m c)) : (dats m 0 c).arrAt 7 cfg0.N = val_main_v71 (F := Ideal) (hid m c) (wg m c) (wu m c) (cw m c) (cb m c) := by
  refine ext2 (n := 8192) (k := 2816) fun s d => ?_
  obtain ⟨b, s, rfl⟩ := row_mk s
  obtain ⟨j, f, rfl⟩ := col_mk d
  have h := congrFun (Value.blocks7 m c (pt b j) (flush0_7 _)) (ix2 s f)
  rw [Value.flushed7, View.read_apply, cast_eq] at h
  refine (Eq.trans (congrArg _ (funext fun q => Fin.ext ?_)) h).trans (point7 m c H b j s f)
  have h := (idx_all b j).2.2.2.2.2.2.2.1
  match q with
  | ⟨0, _⟩ =>
    show _ = win0_7.index (pt b j) 0 * 2048 + 1 * s.val
    rw [h]; show b.val * 2048 + s.val = b.val * 2048 + 1 * s.val; omega
  | ⟨1, _⟩ =>
    show _ = win0_7.index (pt b j) 1 * 256 + 1 * f.val
    rw [h]; show j.val * 256 + f.val = j.val * 256 + 1 * f.val; omega

theorem final8 (H : Reals (hid m c) (wg m c) (wu m c) (cw m c) (cb m c)) : (dats m 0 c).arrAt 8 cfg0.N = val_main_v73 (F := Ideal) (hid m c) (wg m c) (wu m c) (cw m c) (cb m c) := by
  refine ext2 (n := 8192) (k := 2816) fun s d => ?_
  obtain ⟨b, s, rfl⟩ := row_mk s
  obtain ⟨j, f, rfl⟩ := col_mk d
  have h := congrFun (Value.blocks8 m c (pt b j) (flush0_8 _)) (ix2 s f)
  rw [Value.flushed8, View.read_apply, cast_eq] at h
  refine (Eq.trans (congrArg _ (funext fun q => Fin.ext ?_)) h).trans (point8 m c H b j s f)
  have h := (idx_all b j).2.2.2.2.2.2.2.2
  match q with
  | ⟨0, _⟩ =>
    show _ = win0_8.index (pt b j) 0 * 2048 + 1 * s.val
    rw [h]; show b.val * 2048 + s.val = b.val * 2048 + 1 * s.val; omega
  | ⟨1, _⟩ =>
    show _ = win0_8.index (pt b j) 1 * 256 + 1 * f.val
    rw [h]; show j.val * 256 + f.val = j.val * 256 + 1 * f.val; omega

end Cert.Proof.Up
end
-- ==== Proof.UpClaim.lean ====
/-
  The claims about the up projections with the convolution and the gate, forward: the reference's run, the precondition, the named constants, and the equation of the two programs.
-/
module

public import proofs.«01_k».proof.Defs
public import proofs.«01_k».proof.Proof.Up
public import proofs.«01_k».proof.Proof.Finite
public import proofs.«01_k».proof.Proof.Gen.UReferenceIdeal.Run
public import Idealize.ShloMosaic.Lib.Quiescent
public import Idealize.ShloMosaic.Adequacy
public import Idealize.ShloMosaic.Init

@[expose] public section

set_option maxRecDepth 16384

noncomputable section

namespace Cert.Proof.UpClaim

open Idealize.ShloMosaic Idealize.SL.Sem Idealize.ShloMosaic.TcCoe

/-- The reference runs and leaves its arguments as they were. -/
theorem frame_reference (m : (ℓ : Loc Cert.UReferenceIdeal.nD Cert.UReferenceIdeal.τ Cert.UReferenceIdeal.sig) → Buf (Elt Ideal) ℓ)
    (ρ : Dev Cert.UReferenceIdeal.nD → PrngReg) :
    θ_run Cert.UReferenceIdeal.defs (onTc (τ := Cert.UReferenceIdeal.τ) (Cert.UReferenceIdeal.main (F := Ideal))) ⟨m, fun _ => 0, ρ⟩ (fun r =>
      (∀ c : Dev Cert.UReferenceIdeal.nD,
        r.2.mem ((c : Thread Cert.UReferenceIdeal.nD Cert.UReferenceIdeal.τ).loc Cert.UReferenceIdeal.main_arg0) = m ((c : Thread Cert.UReferenceIdeal.nD Cert.UReferenceIdeal.τ).loc Cert.UReferenceIdeal.main_arg0)
        ∧ r.2.mem ((c : Thread Cert.UReferenceIdeal.nD Cert.UReferenceIdeal.τ).loc Cert.UReferenceIdeal.main_arg1) = m ((c : Thread Cert.UReferenceIdeal.nD Cert.UReferenceIdeal.τ).loc Cert.UReferenceIdeal.main_arg1)
        ∧ r.2.mem ((c : Thread Cert.UReferenceIdeal.nD Cert.UReferenceIdeal.τ).loc Cert.UReferenceIdeal.main_arg2) = m ((c : Thread Cert.UReferenceIdeal.nD Cert.UReferenceIdeal.τ).loc Cert.UReferenceIdeal.main_arg2)
        ∧ r.2.mem ((c : Thread Cert.UReferenceIdeal.nD Cert.UReferenceIdeal.τ).loc Cert.UReferenceIdeal.main_arg3) = m ((c : Thread Cert.UReferenceIdeal.nD Cert.UReferenceIdeal.τ).loc Cert.UReferenceIdeal.main_arg3)
        ∧ r.2.mem ((c : Thread Cert.UReferenceIdeal.nD Cert.UReferenceIdeal.τ).loc Cert.UReferenceIdeal.main_arg4) = m ((c : Thread Cert.UReferenceIdeal.nD Cert.UReferenceIdeal.τ).loc Cert.UReferenceIdeal.main_arg4))
      ∧ r.2.sem = fun _ => 0) :=
  (θ_run Cert.UReferenceIdeal.defs _ _).mono (fun r h => ⟨fun c => (h c).2.2.2.2, sem_eq_zero_of_no_sems (by decide) r.2⟩)
    (Cert.UReferenceIdeal.Value.run m ρ)

theorem five {A0 A1 A2 A3 A4 B : Type} (f : A0 → A1 → A2 → A3 → A4 → B) {x0 y0 : A0} {x1 y1 : A1} {x2 y2 : A2} {x3 y3 : A3} {x4 y4 : A4}
    (e0 : x0 = y0) (e1 : x1 = y1) (e2 : x2 = y2) (e3 : x3 = y3) (e4 : x4 = y4) : f x0 x1 x2 x3 x4 = f y0 y1 y2 y3 y4 := by
  subst e0 e1 e2 e3 e4; rfl

theorem facts : Cert.Pre_finite_up.Facts where
  bcast_S_S4x2048x1024 := by decide
  bcast_S_S1024x2816 := by decide
  bcast_S_S3x2816 := by decide
  bcast_S_S2816 := by decide

theorem reals [Cert.Pre_finite_up.Facts] (m : (ℓ : Loc Cert.UKernelIdeal.nD Cert.UKernelIdeal.τ Cert.UKernelIdeal.sig) → Buf (Elt Ideal) ℓ)
    (h : Cert.Pre_UKernelIdeal_finite_up m) (c : Dev Cert.UKernelIdeal.nD) : UpRefs.Reals (Up.hid m c) (Up.wg m c) (Up.wu m c) (Up.cw m c) (Up.cb m c) where
  h := Finite.real_of _ _ (h c).1
  wg := Finite.real_of _ _ (h c).2.1
  wu := Finite.real_of _ _ (h c).2.2.1
  cw := Finite.real_of _ _ (h c).2.2.2.1
  cb := Finite.real_of _ _ (h c).2.2.2.2

/-- The two named constants are the values the printed constants round. -/
theorem preserves : Cert.preserves_UKernel_UKernelIdeal :=
  ⟨IdealRules.named_const.statement Cert.UKernelIdeal.κ "cubic" .f32 0x3D122279#32 ((80338380498831 / 2251799813685248 : ℝ) : EReal) rfl,
    IdealRules.named_const.statement Cert.UKernelIdeal.κ "cubic_slope" .f32 0x3D5B33B6#32 ((241015141496493 / 4503599627370496 : ℝ) : EReal) rfl⟩

/-- The kernel's four arrays are the reference's, over the reals. -/
theorem equal : Cert.algebraic_UKernelIdeal_UReferenceIdeal_pre_finite_up (hUKernelIdeal := Cert.UKernelIdeal.Gen.facts)
    (hUReferenceIdeal := Cert.UReferenceIdeal.Gen.facts) (hPre_finite_up := facts) := by
  letI := facts
  intro m ρ m' ρ' pre agree
  refine ⟨_, _, _, _, Cert.UKernelIdeal.Value.run_blocks m ρ, (θ_run Cert.UReferenceIdeal.defs _ _).mono (fun r h c => ?_) (Cert.UReferenceIdeal.Value.run m' ρ')⟩
  obtain ⟨h0, h1, h2, h3, hk⟩ := h c
  obtain ⟨a0, a1, a2, a3, a4⟩ := agree c
  have H := reals m pre c
  refine ⟨h0.trans ?_, h1.trans ?_, h2.trans ?_, h3.trans ?_, hk⟩
  · exact ((Cert.UReferenceIdeal.Read.val_main_v67_eq _ _).trans
      (five (fun x0 x1 _ _ _ => Cert.UReferenceIdeal.Read.val_main_v67 x0 x1) a0 a1 a2 a3 a4)).trans (Up.final5 m c).symm
  · exact ((Cert.UReferenceIdeal.Read.val_main_v69_eq _ _).trans
      (five (fun x0 x1 _ x3 x4 => Cert.UReferenceIdeal.Read.val_main_v69 x0 x1 x3 x4) a0 a1 a2 a3 a4)).trans (Up.final6 m c H).symm
  · exact ((Cert.UReferenceIdeal.Read.val_main_v71_eq _ _).trans (five _ a0 a1 a2 a3 a4)).trans (Up.final7 m c H).symm
  · exact ((Cert.UReferenceIdeal.Read.val_main_v73_eq _ _).trans (five _ a0 a1 a2 a3 a4)).trans (Up.final8 m c H).symm

end Cert.Proof.UpClaim

end
-- ==== Proof.Down.lean ====
/-
  The output product of one block's second half and the layer norm above it, forward: each of the 16 grid points computes
  512 rows by the reference's own formula, so what the kernel leaves is what the reference gives, whatever the arguments.
-/
module

public import proofs.«01_k».proof.Proof.Gen.DKernelIdeal.Value
public import proofs.«01_k».proof.Proof.Gen.DReferenceIdeal.Read
public import Idealize.ShloMosaic.Lib.Pointwise
public import Idealize.ShloMosaic.Lib.Pipeline.ReadBack
public import Idealize.ShloMosaic.Lib.StableHlo.RunRead

@[expose] public section

set_option maxRecDepth 16384

noncomputable section

namespace Cert.Proof.Down

open Cert.DKernelIdeal Cert.DKernelIdeal.Gen Idealize.ShloMosaic Idealize.ShloMosaic.TcCoe Idealize.SL.Sem Idealize.ShloMosaic.StableHlo
open Idealize.ShloMosaic.Pipeline (Dat)
open Cert.DReferenceIdeal.Read

/-- A row's mean, the row less its mean, and the row normalised, scaled and shifted. -/
def mean (r : Fin 1024 → EReal) : EReal := Ideal.div (∑ e, r e) (Ideal.ofBits .f32 0x44800000#32)
def cen (r : Fin 1024 → EReal) (d : Fin 1024) : EReal := r d - mean r
def norm (r w b : Fin 1024 → EReal) (d : Fin 1024) : EReal :=
  cen r d * Ideal.rsqrt (mean (fun e => cen r e * cen r e) + Ideal.ofBits .f32 0x3727C5AC#32) * w d + b d

/-! ## One block -/

theorem pay1_at (h : Vec Ideal S512x1024 .f32) (x : Vec Ideal S512x2816 .bf16) (w : Vec Ideal S2816x1024 .bf16) (s : Fin 512) (d : Fin 1024) :
    k0_pay1 h x w (ix2 s d) = Ideal.ofBits .f32 0x3FD744FD#32 * h (ix2 s d) + ∑ f : Fin 2816, x (ix2 s f) * w (ix2 f d) := by
  pointwise [k0_pay1]

theorem pay2_at (h : Vec Ideal S512x1024 .f32) (x : Vec Ideal S512x2816 .bf16) (w : Vec Ideal S2816x1024 .bf16) (g b : Vec Ideal S1x1024 .f32)
    (s : Fin 512) (d : Fin 1024) :
    k0_pay2 h x w g b (ix2 s d) = norm (fun d => k0_pay1 h x w (ix2 s d)) (fun d => g (ix2 0 d)) (fun d => b (ix2 0 d)) d := by
  pointwise [k0_pay2]
  rfl

/-! ## The reference -/

theorem v3_at (x0 : Vec Ideal S8192x2816 .f32) (x1 : Vec Ideal S2816x1024 .f32) (x2 : Vec Ideal S8192x1024 .f32) (s : Fin 8192) (d : Fin 1024) :
    val_main_v3 (F := Ideal) x0 x1 x2 (ix2 s d) = Ideal.ofBits .f32 0x3FD744FD#32 * x2 (ix2 s d) + ∑ f : Fin 2816, x0 (ix2 s f) * x1 (ix2 f d) := by
  pointwise [val_main_v3, val_main_v2, val_main_v1, val_main_v0, val_main_cst]

theorem v7_at (x0 : Vec Ideal S8192x2816 .f32) (x1 : Vec Ideal S2816x1024 .f32) (x2 : Vec Ideal S8192x1024 .f32) (s : Fin 8192) :
    val_main_v7 (F := Ideal) x0 x1 x2 (ix2 s 0) = mean (fun d => val_main_v3 (F := Ideal) x0 x1 x2 (ix2 s d)) := by
  pointwise [val_main_v7, val_main_v6, val_main_v5, val_main_v4, val_main_cst_0, val_main_cst_1]
  rfl

theorem v9_at (x0 : Vec Ideal S8192x2816 .f32) (x1 : Vec Ideal S2816x1024 .f32) (x2 : Vec Ideal S8192x1024 .f32) (s : Fin 8192) (d : Fin 1024) :
    val_main_v9 (F := Ideal) x0 x1 x2 (ix2 s d) = cen (fun d => val_main_v3 (F := Ideal) x0 x1 x2 (ix2 s d)) d := by
  pointwise [val_main_v9, val_main_v8]
  rw [v7_at]
  rfl

theorem v18_at (x0 : Vec Ideal S8192x2816 .f32) (x1 : Vec Ideal S2816x1024 .f32) (x2 : Vec Ideal S8192x1024 .f32) (s : Fin 8192) :
    val_main_v18 (F := Ideal) x0 x1 x2 (ix2 s 0)
      = mean (fun e => cen (fun d => val_main_v3 (F := Ideal) x0 x1 x2 (ix2 s d)) e * cen (fun d => val_main_v3 (F := Ideal) x0 x1 x2 (ix2 s d)) e)
        + Ideal.ofBits .f32 0x3727C5AC#32 := by
  pointwise [val_main_v18, val_main_v17, val_main_v14, val_main_v13, val_main_v12, val_main_v11, val_main_v10, val_main_cst_2, val_main_cst_3, val_main_cst_4]
  simp only [v9_at]
  rfl

theorem v27_at (x0 : Vec Ideal S8192x2816 .f32) (x1 : Vec Ideal S2816x1024 .f32) (x2 : Vec Ideal S8192x1024 .f32) (x3 x4 : Vec Ideal S1024 .f32)
    (s : Fin 8192) (d : Fin 1024) :
    val_main_v27 (F := Ideal) x0 x1 x2 x3 x4 (ix2 s d)
      = norm (fun d => val_main_v3 (F := Ideal) x0 x1 x2 (ix2 s d)) (fun d => x3 (ix1 d)) (fun d => x4 (ix1 d)) d := by
  pointwise [val_main_v27, val_main_v26, val_main_v25, val_main_v24, val_main_v23, val_main_v22, val_main_v21, val_main_v20, val_main_v19, val_main_v16, val_main_v15]
  rw [v7_at, v18_at]
  rfl

/-! ## The kernel's arrays -/

variable (m : (ℓ : Loc nD τ sig) → Buf (Elt Ideal) ℓ) (c : Dev nD)

/-- The arguments as the device holds them. -/
abbrev hh : Vec Ideal S8192x2816 .f32 := m ((c : Thread nD τ).loc main_arg0)
abbrev wd : Vec Ideal S2816x1024 .f32 := m ((c : Thread nD τ).loc main_arg1)
abbrev res : Vec Ideal S8192x1024 .f32 := m ((c : Thread nD τ).loc main_arg2)
abbrev scale : Vec Ideal S1024 .f32 := m ((c : Thread nD τ).loc main_arg3)
abbrev shift : Vec Ideal S1024 .f32 := m ((c : Thread nD τ).loc main_arg4)

theorem V_hh : V m c main_v0 = (truncf (F := Ideal) .bf16 (hh m c) bitsLt_bf16_f32 : Vec Ideal S8192x2816 .bf16) := by
  unfold V
  after_reads_simp

theorem V_wd : V m c main_v1 = (truncf (F := Ideal) .bf16 (wd m c) bitsLt_bf16_f32 : Vec Ideal S2816x1024 .bf16) := by
  unfold V
  after_reads_simp

theorem V_scale : V m c main_v2 = (shapeCast S1x1024 (scale m c) shapeCasts_S1024_S1x1024 : Vec Ideal S1x1024 .f32) := by
  unfold V
  after_reads_simp
  rfl

theorem V_shift : V m c main_v3 = (shapeCast S1x1024 (shift m c) shapeCasts_S1024_S1x1024 : Vec Ideal S1x1024 .f32) := by
  unfold V
  after_reads_simp
  rfl

/-- The grid point of row block `i`. -/
def pt (i : Fin 16) : Fin cfg0.N := ⟨i.val, by have h : cfg0.N = 16 := N_0; omega⟩

theorem idx_all : ∀ i : Fin 16,
    win0_0.index (pt i) = ![i.val, 0] ∧ win0_1.index (pt i) = ![0, 0] ∧ win0_2.index (pt i) = ![i.val, 0] ∧ win0_3.index (pt i) = ![0, 0]
    ∧ win0_4.index (pt i) = ![0, 0] ∧ win0_5.index (pt i) = ![i.val, 0] ∧ win0_6.index (pt i) = ![i.val, 0] ∧ win0_7.index (pt i) = ![i.val, 0] := by
  decide +kernel

/-- The row `s` of block `i`. -/
def row (i : Fin 16) (s : Fin 512) : Fin 8192 := ⟨i.val * 512 + s.val, by omega⟩

theorem row_mk (r : Fin 8192) : ∃ (i : Fin 16) (s : Fin 512), r = row i s :=
  ⟨⟨r.val / 512, by omega⟩, ⟨r.val % 512, by omega⟩, Fin.ext (by show r.val = r.val / 512 * 512 + r.val % 512; omega)⟩

theorem line (y : Vec Ideal S1024 .f32) (d : Fin 1024) : (shapeCast S1x1024 y shapeCasts_S1024_S1x1024 : Vec Ideal S1x1024 .f32) (ix2 0 d) = y (ix1 d) := by
  pointwise

theorem blk0_at (i : Fin 16) (s : Fin 512) (f : Fin 2816) : iblk m c 0 (pt i) (ix2 s f) = hh m c (ix2 (row i s) f) := by
  refine Eq.trans ?_ (congrFun (V_hh m c) (ix2 (row i s) f))
  unfold iblk
  rw [View.read_apply, cast_eq]
  refine congrArg _ (funext fun q => Fin.ext ?_)
  have h := (idx_all i).1
  match q with
  | ⟨0, _⟩ =>
    show win0_0.index (pt i) 0 * 512 + 1 * s.val = _
    rw [h]; show i.val * 512 + 1 * s.val = i.val * 512 + s.val; omega
  | ⟨1, _⟩ =>
    show win0_0.index (pt i) 1 * 2816 + 1 * f.val = _
    rw [h]; show 0 * 2816 + 1 * f.val = f.val; omega

theorem blk1_at (i : Fin 16) (f : Fin 2816) (d : Fin 1024) : iblk m c 1 (pt i) (ix2 f d) = wd m c (ix2 f d) := by
  refine Eq.trans ?_ (congrFun (V_wd m c) (ix2 f d))
  unfold iblk
  rw [View.read_apply, cast_eq]
  refine congrArg _ (funext fun q => Fin.ext ?_)
  have h := (idx_all i).2.1
  match q with
  | ⟨0, _⟩ =>
    show win0_1.index (pt i) 0 * 2816 + 1 * f.val = _
    rw [h]; show 0 * 2816 + 1 * f.val = f.val; omega
  | ⟨1, _⟩ =>
    show win0_1.index (pt i) 1 * 1024 + 1 * d.val = _
    rw [h]; show 0 * 1024 + 1 * d.val = d.val; omega

theorem blk2_at (i : Fin 16) (s : Fin 512) (d : Fin 1024) : iblk m c 2 (pt i) (ix2 s d) = res m c (ix2 (row i s) d) := by
  refine Eq.trans ?_ (congrFun (V_main_arg2 m c) (ix2 (row i s) d))
  unfold iblk
  rw [View.read_apply, cast_eq]
  refine congrArg _ (funext fun q => Fin.ext ?_)
  have h := (idx_all i).2.2.1
  match q with
  | ⟨0, _⟩ =>
    show win0_2.index (pt i) 0 * 512 + 1 * s.val = _
    rw [h]; show i.val * 512 + 1 * s.val = i.val * 512 + s.val; omega
  | ⟨1, _⟩ =>
    show win0_2.index (pt i) 1 * 1024 + 1 * d.val = _
    rw [h]; show 0 * 1024 + 1 * d.val = d.val; omega

theorem blk3_at (i : Fin 16) (d : Fin 1024) : iblk m c 3 (pt i) (ix2 0 d) = scale m c (ix1 d) := by
  refine Eq.trans ?_ ((congrFun (V_scale m c) (ix2 0 d)).trans (line _ d))
  unfold iblk
  rw [View.read_apply, cast_eq]
  refine congrArg _ (funext fun q => Fin.ext ?_)
  have h := (idx_all i).2.2.2.1
  match q with
  | ⟨0, _⟩ =>
    show win0_3.index (pt i) 0 * 1 + 1 * (0 : Fin 1).val = _
    rw [h]; show 0 * 1 + 1 * (0 : Fin 1).val = 0; omega
  | ⟨1, _⟩ =>
    show win0_3.index (pt i) 1 * 1024 + 1 * d.val = _
    rw [h]; show 0 * 1024 + 1 * d.val = d.val; omega

theorem blk4_at (i : Fin 16) (d : Fin 1024) : iblk m c 4 (pt i) (ix2 0 d) = shift m c (ix1 d) := by
  refine Eq.trans ?_ ((congrFun (V_shift m c) (ix2 0 d)).trans (line _ d))
  unfold iblk
  rw [View.read_apply, cast_eq]
  refine congrArg _ (funext fun q => Fin.ext ?_)
  have h := (idx_all i).2.2.2.2.1
  match q with
  | ⟨0, _⟩ =>
    show win0_4.index (pt i) 0 * 1 + 1 * (0 : Fin 1).val = _
    rw [h]; show 0 * 1 + 1 * (0 : Fin 1).val = 0; omega
  | ⟨1, _⟩ =>
    show win0_4.index (pt i) 1 * 1024 + 1 * d.val = _
    rw [h]; show 0 * 1024 + 1 * d.val = d.val; omega

theorem hz2 : (![0, 0] : Fin 2 → Nat) = fun _ => 0 := funext fun a => by fin_cases a <;> rfl

/-- The rows before the norm, at a grid point. -/
abbrev pre (t : Fin cfg0.N) : Vec Ideal S512x1024 .f32 := k0_pay1 (iblk m c 2 t) (iblk m c 0 t) (iblk m c 1 t)

theorem out5_eq (t : Fin cfg0.N) : out0_5 (iblk m c 0 t) (iblk m c 1 t) (iblk m c 2 t) (iblk m c 3 t) (iblk m c 4 t) = pre m c t := by
  unfold out0_5
  rw [View.canon_unit_zero hz2, View.ld_unit_zero hz2, View.ld_unit_zero hz2, View.ld_unit_zero hz2]

theorem out6_eq (t : Fin cfg0.N) : out0_6 (iblk m c 0 t) (iblk m c 1 t) (iblk m c 2 t) (iblk m c 3 t) (iblk m c 4 t)
    = k0_pay2 (iblk m c 2 t) (iblk m c 0 t) (iblk m c 1 t) (iblk m c 3 t) (iblk m c 4 t) := by
  unfold out0_6
  rw [View.canon_unit_zero hz2, View.ld_unit_zero hz2, View.ld_unit_zero hz2, View.ld_unit_zero hz2, View.ld_unit_zero hz2, View.ld_unit_zero hz2]

theorem out7_eq (t : Fin cfg0.N) : out0_7 (iblk m c 0 t) (iblk m c 1 t) (iblk m c 2 t) (iblk m c 3 t) (iblk m c 4 t)
    = k0_pay3 (iblk m c 2 t) (iblk m c 0 t) (iblk m c 1 t) (iblk m c 3 t) (iblk m c 4 t) := by
  unfold out0_7
  rw [View.canon_unit_zero hz2, View.ld_unit_zero hz2, View.ld_unit_zero hz2, View.ld_unit_zero hz2, View.ld_unit_zero hz2, View.ld_unit_zero hz2]

theorem pre_at (i : Fin 16) (s : Fin 512) (d : Fin 1024) :
    pre m c (pt i) (ix2 s d) = val_main_v3 (F := Ideal) (hh m c) (wd m c) (res m c) (ix2 (row i s) d) := by
  rw [v3_at]
  refine (pay1_at _ _ _ s d).trans ?_
  exact congrArg₂ (· + ·) (congrArg _ (blk2_at m c i s d)) (Finset.sum_congr rfl fun f _ => congrArg₂ (· * ·) (blk0_at m c i s f) (blk1_at m c i f d))

theorem out_at (i : Fin 16) (s : Fin 512) (d : Fin 1024) :
    k0_pay2 (iblk m c 2 (pt i)) (iblk m c 0 (pt i)) (iblk m c 1 (pt i)) (iblk m c 3 (pt i)) (iblk m c 4 (pt i)) (ix2 s d)
      = val_main_v27 (F := Ideal) (hh m c) (wd m c) (res m c) (scale m c) (shift m c) (ix2 (row i s) d) := by
  rw [v27_at]
  refine (pay2_at _ _ _ _ _ s d).trans ?_
  rw [show (fun d => k0_pay1 (iblk m c 2 (pt i)) (iblk m c 0 (pt i)) (iblk m c 1 (pt i)) (ix2 s d))
      = fun d => val_main_v3 (F := Ideal) (hh m c) (wd m c) (res m c) (ix2 (row i s) d) from funext fun d => pre_at m c i s d,
    show (fun d => iblk m c 3 (pt i) (ix2 0 d)) = fun d => scale m c (ix1 d) from funext fun d => blk3_at m c i d,
    show (fun d => iblk m c 4 (pt i) (ix2 0 d)) = fun d => shift m c (ix1 d) from funext fun d => blk4_at m c i d]

theorem ext2 {n k : Nat} {P Q : (⟨2, ![n, k]⟩ : Shape).Idx → EReal} (h : ∀ (s : Fin n) (d : Fin k), P (ix2 s d) = Q (ix2 s d)) : P = Q := by
  funext p
  have e : p = (ix2 (p 0) (p 1) : (⟨2, ![n, k]⟩ : Shape).Idx) := funext fun q => by fin_cases q <;> rfl
  rw [e]
  exact h (p 0) (p 1)

/-- The rows before the norm. -/
theorem final5 : (dats m 0 c).arrAt 5 cfg0.N = val_main_v3 (F := Ideal) (hh m c) (wd m c) (res m c) := by
  refine ext2 (n := 8192) (k := 1024) fun s d => ?_
  obtain ⟨i, s, rfl⟩ := row_mk s
  have h := congrFun (Value.blocks5 m c (pt i) (flush0_5 _)) (ix2 s d)
  rw [Value.flushed5, View.read_apply, cast_eq, out5_eq] at h
  refine (Eq.trans (congrArg _ (funext fun q => Fin.ext ?_)) h).trans (pre_at m c i s d)
  have h := (idx_all i).2.2.2.2.2.1
  match q with
  | ⟨0, _⟩ =>
    show _ = win0_5.index (pt i) 0 * 512 + 1 * s.val
    rw [h]; show i.val * 512 + s.val = i.val * 512 + 1 * s.val; omega
  | ⟨1, _⟩ =>
    show _ = win0_5.index (pt i) 1 * 1024 + 1 * d.val
    rw [h]; show d.val = 0 * 1024 + 1 * d.val; omega

/-- The rows after the norm. -/
theorem final6 : (dats m 0 c).arrAt 6 cfg0.N = val_main_v27 (F := Ideal) (hh m c) (wd m c) (res m c) (scale m c) (shift m c) := by
  refine ext2 (n := 8192) (k := 1024) fun s d => ?_
  obtain ⟨i, s, rfl⟩ := row_mk s
  have h := congrFun (Value.blocks6 m c (pt i) (flush0_6 _)) (ix2 s d)
  rw [Value.flushed6, View.read_apply, cast_eq, out6_eq] at h
  refine (Eq.trans (congrArg _ (funext fun q => Fin.ext ?_)) h).trans (out_at m c i s d)
  have h := (idx_all i).2.2.2.2.2.2.1
  match q with
  | ⟨0, _⟩ =>
    show _ = win0_6.index (pt i) 0 * 512 + 1 * s.val
    rw [h]; show i.val * 512 + s.val = i.val * 512 + 1 * s.val; omega
  | ⟨1, _⟩ =>
    show _ = win0_6.index (pt i) 1 * 1024 + 1 * d.val
    rw [h]; show d.val = 0 * 1024 + 1 * d.val; omega

/-- The rows after the norm, cast. -/
theorem final7 : (dats m 0 c).arrAt 7 cfg0.N = val_main_v28 (F := Ideal) (hh m c) (wd m c) (res m c) (scale m c) (shift m c) := by
  refine ext2 (n := 8192) (k := 1024) fun s d => ?_
  obtain ⟨i, s, rfl⟩ := row_mk s
  have h := congrFun (Value.blocks7 m c (pt i) (flush0_7 _)) (ix2 s d)
  rw [Value.flushed7, View.read_apply, cast_eq, out7_eq] at h
  refine (Eq.trans (congrArg _ (funext fun q => Fin.ext ?_)) h).trans (out_at m c i s d)
  have h := (idx_all i).2.2.2.2.2.2.2
  match q with
  | ⟨0, _⟩ =>
    show _ = win0_7.index (pt i) 0 * 512 + 1 * s.val
    rw [h]; show i.val * 512 + s.val = i.val * 512 + 1 * s.val; omega
  | ⟨1, _⟩ =>
    show _ = win0_7.index (pt i) 1 * 1024 + 1 * d.val
    rw [h]; show d.val = 0 * 1024 + 1 * d.val; omega

end Cert.Proof.Down

end
-- ==== Proof.DownClaim.lean ====
/-
  The claims about the output product of one block's second half and the layer norm above it, forward: the reference's run, and the equation of the two programs.
-/
module

public import proofs.«01_k».proof.Defs
public import proofs.«01_k».proof.Proof.Down
public import proofs.«01_k».proof.Proof.Gen.DReferenceIdeal.Run
public import Idealize.ShloMosaic.Lib.Quiescent
public import Idealize.ShloMosaic.Adequacy
public import Idealize.ShloMosaic.Init

@[expose] public section

set_option maxRecDepth 16384

noncomputable section

namespace Cert.Proof.DownClaim

open Idealize.ShloMosaic Idealize.SL.Sem Idealize.ShloMosaic.TcCoe

/-- The reference runs and leaves its arguments as they were. -/
theorem frame_reference (m : (ℓ : Loc Cert.DReferenceIdeal.nD Cert.DReferenceIdeal.τ Cert.DReferenceIdeal.sig) → Buf (Elt Ideal) ℓ)
    (ρ : Dev Cert.DReferenceIdeal.nD → PrngReg) :
    θ_run Cert.DReferenceIdeal.defs (onTc (τ := Cert.DReferenceIdeal.τ) (Cert.DReferenceIdeal.main (F := Ideal))) ⟨m, fun _ => 0, ρ⟩ (fun r =>
      (∀ c : Dev Cert.DReferenceIdeal.nD,
        r.2.mem ((c : Thread Cert.DReferenceIdeal.nD Cert.DReferenceIdeal.τ).loc Cert.DReferenceIdeal.main_arg0) = m ((c : Thread Cert.DReferenceIdeal.nD Cert.DReferenceIdeal.τ).loc Cert.DReferenceIdeal.main_arg0)
        ∧ r.2.mem ((c : Thread Cert.DReferenceIdeal.nD Cert.DReferenceIdeal.τ).loc Cert.DReferenceIdeal.main_arg1) = m ((c : Thread Cert.DReferenceIdeal.nD Cert.DReferenceIdeal.τ).loc Cert.DReferenceIdeal.main_arg1)
        ∧ r.2.mem ((c : Thread Cert.DReferenceIdeal.nD Cert.DReferenceIdeal.τ).loc Cert.DReferenceIdeal.main_arg2) = m ((c : Thread Cert.DReferenceIdeal.nD Cert.DReferenceIdeal.τ).loc Cert.DReferenceIdeal.main_arg2)
        ∧ r.2.mem ((c : Thread Cert.DReferenceIdeal.nD Cert.DReferenceIdeal.τ).loc Cert.DReferenceIdeal.main_arg3) = m ((c : Thread Cert.DReferenceIdeal.nD Cert.DReferenceIdeal.τ).loc Cert.DReferenceIdeal.main_arg3)
        ∧ r.2.mem ((c : Thread Cert.DReferenceIdeal.nD Cert.DReferenceIdeal.τ).loc Cert.DReferenceIdeal.main_arg4) = m ((c : Thread Cert.DReferenceIdeal.nD Cert.DReferenceIdeal.τ).loc Cert.DReferenceIdeal.main_arg4))
      ∧ r.2.sem = fun _ => 0) :=
  (θ_run Cert.DReferenceIdeal.defs _ _).mono (fun r h => ⟨fun c => (h c).2.2.2, sem_eq_zero_of_no_sems (by decide) r.2⟩)
    (Cert.DReferenceIdeal.Value.run m ρ)

theorem five {A0 A1 A2 A3 A4 B : Type} (f : A0 → A1 → A2 → A3 → A4 → B) {x0 y0 : A0} {x1 y1 : A1} {x2 y2 : A2} {x3 y3 : A3} {x4 y4 : A4}
    (e0 : x0 = y0) (e1 : x1 = y1) (e2 : x2 = y2) (e3 : x3 = y3) (e4 : x4 = y4) : f x0 x1 x2 x3 x4 = f y0 y1 y2 y3 y4 := by
  subst e0 e1 e2 e3 e4; rfl

/-- The kernel's three arrays are the reference's, over the reals. -/
theorem equal : Cert.algebraic_DKernelIdeal_DReferenceIdeal (hDKernelIdeal := Cert.DKernelIdeal.Gen.facts)
    (hDReferenceIdeal := Cert.DReferenceIdeal.Gen.facts) := by
  intro m ρ m' ρ' _ agree
  refine ⟨_, _, _, Cert.DKernelIdeal.Value.run_blocks m ρ, (θ_run Cert.DReferenceIdeal.defs _ _).mono (fun r h c => ?_) (Cert.DReferenceIdeal.Value.run m' ρ')⟩
  obtain ⟨h0, h1, h2, hk⟩ := h c
  obtain ⟨a0, a1, a2, a3, a4⟩ := agree c
  refine ⟨h0.trans ?_, h1.trans ?_, h2.trans ?_, hk⟩
  · exact ((Cert.DReferenceIdeal.Read.val_main_v3_eq _ _ _).trans
      (five (fun x0 x1 x2 _ _ => Cert.DReferenceIdeal.Read.val_main_v3 x0 x1 x2) a0 a1 a2 a3 a4)).trans (Down.final5 m c).symm
  · exact ((Cert.DReferenceIdeal.Read.val_main_v27_eq _ _ _ _ _).trans (five _ a0 a1 a2 a3 a4)).trans (Down.final6 m c).symm
  · exact ((Cert.DReferenceIdeal.Read.val_main_v28_eq _ _ _ _ _).trans (five _ a0 a1 a2 a3 a4)).trans (Down.final7 m c).symm

end Cert.Proof.DownClaim

end
-- ==== Proof.lean ====
/-
  The claims assembled.
-/
module

public import proofs.«01_k».proof.Defs
public import proofs.«01_k».proof.Proof.Gen.Kernel.Frame
public import proofs.«01_k».proof.Proof.Gen.ReferenceIdeal.Run
public import proofs.«01_k».proof.Proof.Finite
public import proofs.«01_k».proof.Proof.Gen.WKernel.Frame
public import proofs.«01_k».proof.Proof.Gen.NKernel.Frame
public import proofs.«01_k».proof.Proof.Gen.UKernel.Frame
public import proofs.«01_k».proof.Proof.Gen.DKernel.Frame
public import proofs.«01_k».proof.Proof.Gen.OKernel.Frame
public import proofs.«01_k».proof.Proof.Gen.TKernel.Frame
public import proofs.«01_k».proof.Proof.Gen.QKernel.Frame
public import proofs.«01_k».proof.Proof.ProjClaim
public import proofs.«01_k».proof.Proof.Gen.GKernel.Frame
public import proofs.«01_k».proof.Proof.Gen.HKernel.Frame
public import proofs.«01_k».proof.Proof.Gen.JKernel.Frame
public import proofs.«01_k».proof.Proof.GroupClaim
public import proofs.«01_k».proof.Proof.Gen.KKernel.Frame
public import proofs.«01_k».proof.Proof.KvClaim
public import proofs.«01_k».proof.Proof.WeightClaim
public import proofs.«01_k».proof.Proof.NormClaim
public import proofs.«01_k».proof.Proof.UpClaim
public import proofs.«01_k».proof.Proof.DownClaim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Idealize.ShloMosaic.TcCoe Cert.Proof.Equation

/-- The reference runs and leaves its arguments as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3)
        ∧ r.2.mem ((c : Thread Cert.ReferenceIdeal.nD Cert.ReferenceIdeal.τ).loc Cert.ReferenceIdeal.main_arg4) = m ((c : Thread Cert.ReferenceIdeal.nD Cert.ReferenceIdeal.τ).loc Cert.ReferenceIdeal.main_arg4)
        ∧ r.2.mem ((c : Thread Cert.ReferenceIdeal.nD Cert.ReferenceIdeal.τ).loc Cert.ReferenceIdeal.main_arg5) = m ((c : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2, sem_eq_zero_of_no_sems (by decide) r.2⟩)
    (Cert.ReferenceIdeal.Value.run m ρ)

theorem six {A0 A1 A2 A3 A4 A5 B : Type} (f : A0 → A1 → A2 → A3 → A4 → A5 → B) {x0 y0 : A0} {x1 y1 : A1} {x2 y2 : A2} {x3 y3 : A3} {x4 y4 : A4} {x5 y5 : A5}
    (e0 : x0 = y0) (e1 : x1 = y1) (e2 : x2 = y2) (e3 : x3 = y3) (e4 : x4 = y4) (e5 : x5 = y5) : f x0 x1 x2 x3 x4 x5 = f y0 y1 y2 y3 y4 y5 := by
  subst e0 e1 e2 e3 e4 e5; rfl

/-- The kernel's four arrays are the reference's, over the reals. -/
theorem equal : Cert.algebraic_KernelIdeal_ReferenceIdeal_pre_finite (hKernelIdeal := Cert.KernelIdeal.Gen.facts)
    (hReferenceIdeal := Cert.ReferenceIdeal.Gen.facts) (hPre_finite := Finite.facts) := by
  intro m ρ m' ρ' hpre agree
  have H := fun c => @Finite.reals Finite.facts m hpre c
  refine ⟨_, _, _, _, Cert.KernelIdeal.Value.run_blocks m ρ, (θ_run Cert.ReferenceIdeal.defs _ _).mono (fun r h c => ?_) (Cert.ReferenceIdeal.Value.run m' ρ')⟩
  obtain ⟨h0, h1, h2, h3, hk⟩ := h c
  obtain ⟨a0, a1, a2, a3, a4, a5⟩ := agree c
  refine ⟨h0.trans ?_, h1.trans ?_, h2.trans ?_, h3.trans ?_, hk⟩
  · exact ((Cert.ReferenceIdeal.Read.val_main_v109_eq _).trans (six _ a0 a1 a2 a3 a4 a5)).trans (final6 m c (H c)).symm
  · exact ((Cert.ReferenceIdeal.Read.val_main_v111_eq _).trans
      (six (fun x _ => Cert.ReferenceIdeal.Read.val_main_v111 x) a0 a1 a2 a3 a4 a5)).trans (final7 m c).symm
  · exact ((Cert.ReferenceIdeal.Read.val_main_v112_eq _).trans (six _ a0 a1 a2 a3 a4 a5)).trans (final8 m c (H c)).symm
  · exact ((Cert.ReferenceIdeal.Read.val_main_v105_eq _).trans (six _ a0 a1 a2 a3 a4 a5)).trans (final9 m c (H c)).symm

theorem claim : Cert.Claim :=
  ⟨Cert.Kernel.Gen.facts, Cert.KernelIdeal.Gen.facts, Cert.ReferenceIdeal.Gen.facts,
    Cert.WKernel.Gen.facts, Cert.WKernelIdeal.Gen.facts, Cert.WReferenceIdeal.Gen.facts,
    Cert.NKernel.Gen.facts, Cert.NKernelIdeal.Gen.facts, Cert.NReferenceIdeal.Gen.facts,
    Cert.UKernel.Gen.facts, Cert.UKernelIdeal.Gen.facts, Cert.UReferenceIdeal.Gen.facts,
    Cert.DKernel.Gen.facts, Cert.DKernelIdeal.Gen.facts, Cert.DReferenceIdeal.Gen.facts,
    Cert.OKernel.Gen.facts, Cert.OKernelIdeal.Gen.facts, Cert.OReferenceIdeal.Gen.facts,
    Cert.TKernel.Gen.facts, Cert.TKernelIdeal.Gen.facts, Cert.TReferenceIdeal.Gen.facts,
    Cert.QKernel.Gen.facts, Cert.QKernelIdeal.Gen.facts, Cert.QReferenceIdeal.Gen.facts,
    Cert.GKernel.Gen.facts, Cert.GKernelIdeal.Gen.facts, Cert.GReferenceIdeal.Gen.facts,
    Cert.HKernel.Gen.facts, Cert.HKernelIdeal.Gen.facts, Cert.HReferenceIdeal.Gen.facts,
    Cert.JKernel.Gen.facts, Cert.JKernelIdeal.Gen.facts, Cert.JReferenceIdeal.Gen.facts,
    Cert.KKernel.Gen.facts, Cert.KKernelIdeal.Gen.facts, Cert.KReferenceIdeal.Gen.facts,
    Finite.facts, NormClaim.facts, UpClaim.facts, KvClaim.facts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ,
    fun m ρ _ => Cert.WKernel.Gen.frame m ρ, fun m ρ _ => Cert.WKernelIdeal.Gen.frame m ρ, fun m ρ _ => WeightClaim.frame_reference m ρ,
    fun m ρ _ => Cert.NKernel.Gen.frame m ρ, fun m ρ _ => Cert.NKernelIdeal.Gen.frame m ρ, fun m ρ _ => Cert.NKernelIdeal.Gen.frame m ρ,
    fun m ρ _ => NormClaim.frame_reference m ρ, fun m ρ _ => NormClaim.frame_reference m ρ,
    fun m ρ _ => Cert.UKernel.Gen.frame m ρ, fun m ρ _ => Cert.UKernelIdeal.Gen.frame m ρ, fun m ρ _ => Cert.UKernelIdeal.Gen.frame m ρ,
    fun m ρ _ => UpClaim.frame_reference m ρ, fun m ρ _ => UpClaim.frame_reference m ρ,
    fun m ρ _ => Cert.DKernel.Gen.frame m ρ, fun m ρ _ => Cert.DKernelIdeal.Gen.frame m ρ, fun m ρ _ => DownClaim.frame_reference m ρ,
    fun m ρ _ => Cert.OKernel.Gen.frame m ρ, fun m ρ _ => Cert.OKernelIdeal.Gen.frame m ρ, fun m ρ _ => ProjClaim.frame_out_weight m ρ,
    fun m ρ _ => Cert.TKernel.Gen.frame m ρ, fun m ρ _ => Cert.TKernelIdeal.Gen.frame m ρ, fun m ρ _ => ProjClaim.frame_out_grad m ρ,
    fun m ρ _ => Cert.QKernel.Gen.frame m ρ, fun m ρ _ => Cert.QKernelIdeal.Gen.frame m ρ, fun m ρ _ => ProjClaim.frame_query m ρ,
    fun m ρ _ => Cert.GKernel.Gen.frame m ρ, fun m ρ _ => Cert.GKernelIdeal.Gen.frame m ρ, fun m ρ _ => GroupClaim.frame_group1 m ρ,
    fun m ρ _ => Cert.HKernel.Gen.frame m ρ, fun m ρ _ => Cert.HKernelIdeal.Gen.frame m ρ, fun m ρ _ => GroupClaim.frame_group4 m ρ,
    fun m ρ _ => Cert.JKernel.Gen.frame m ρ, fun m ρ _ => Cert.JKernelIdeal.Gen.frame m ρ, fun m ρ _ => GroupClaim.frame_group16 m ρ,
    fun m ρ _ => Cert.KKernel.Gen.frame m ρ, fun m ρ _ => Cert.KKernelIdeal.Gen.frame m ρ, fun m ρ _ => Cert.KKernelIdeal.Gen.frame m ρ,
    fun m ρ _ => KvClaim.frame_reference m ρ, fun m ρ _ => KvClaim.frame_reference m ρ,
    trivial, equal, trivial, WeightClaim.equal, trivial, NormClaim.equal, UpClaim.preserves, UpClaim.equal, trivial, DownClaim.equal,
    trivial, ProjClaim.equal_out_weight, trivial, ProjClaim.equal_out_grad, trivial, ProjClaim.equal_query,
    trivial, GroupClaim.equal_group1, trivial, GroupClaim.equal_group4, trivial, GroupClaim.equal_group16,
    trivial, KvClaim.equal⟩

end Cert.Proof

end
